-- ==== Defs.lean ====
def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_QkvoProj (m : (ℓ : Loc Cert.QkvoProj.nD Cert.QkvoProj.τ Cert.QkvoProj.sig) → Buf (Elt Bits) ℓ) : Prop :=
  True

def Pre_QkvoProjIdeal (m : (ℓ : Loc Cert.QkvoProjIdeal.nD Cert.QkvoProjIdeal.τ Cert.QkvoProjIdeal.sig) → Buf (Elt Ideal) ℓ) : Prop :=
  True

def Pre_QkvoReferenceIdeal (m : (ℓ : Loc Cert.QkvoReferenceIdeal.nD Cert.QkvoReferenceIdeal.τ Cert.QkvoReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_FfnTwo (m : (ℓ : Loc Cert.FfnTwo.nD Cert.FfnTwo.τ Cert.FfnTwo.sig) → Buf (Elt Bits) ℓ) : Prop :=
  True

def Pre_FfnTwoIdeal (m : (ℓ : Loc Cert.FfnTwoIdeal.nD Cert.FfnTwoIdeal.τ Cert.FfnTwoIdeal.sig) → Buf (Elt Ideal) ℓ) : Prop :=
  True

def Pre_FfnTwoReferenceIdeal (m : (ℓ : Loc Cert.FfnTwoReferenceIdeal.nD Cert.FfnTwoReferenceIdeal.τ Cert.FfnTwoReferenceIdeal.sig) → Buf (Elt Ideal) ℓ) : Prop :=
  True

def Pre_ZProj (m : (ℓ : Loc Cert.ZProj.nD Cert.ZProj.τ Cert.ZProj.sig) → Buf (Elt Bits) ℓ) : Prop :=
  True

def Pre_ZProjIdeal (m : (ℓ : Loc Cert.ZProjIdeal.nD Cert.ZProjIdeal.τ Cert.ZProjIdeal.sig) → Buf (Elt Ideal) ℓ) : Prop :=
  True

def Pre_ZReferenceIdeal (m : (ℓ : Loc Cert.ZReferenceIdeal.nD Cert.ZReferenceIdeal.τ Cert.ZReferenceIdeal.sig) → Buf (Elt Ideal) ℓ) : Prop :=
  True

def Pre_XbcProj (m : (ℓ : Loc Cert.XbcProj.nD Cert.XbcProj.τ Cert.XbcProj.sig) → Buf (Elt Bits) ℓ) : Prop :=
  True

def Pre_XbcProjIdeal (m : (ℓ : Loc Cert.XbcProjIdeal.nD Cert.XbcProjIdeal.τ Cert.XbcProjIdeal.sig) → Buf (Elt Ideal) ℓ) : Prop :=
  True

def Pre_XbcReferenceIdeal (m : (ℓ : Loc Cert.XbcReferenceIdeal.nD Cert.XbcReferenceIdeal.τ Cert.XbcReferenceIdeal.sig) → Buf (Elt Ideal) ℓ) : Prop :=
  True

def Pre_QkvProj (m : (ℓ : Loc Cert.QkvProj.nD Cert.QkvProj.τ Cert.QkvProj.sig) → Buf (Elt Bits) ℓ) : Prop :=
  True

def Pre_QkvProjIdeal (m : (ℓ : Loc Cert.QkvProjIdeal.nD Cert.QkvProjIdeal.τ Cert.QkvProjIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_FnProj (m : (ℓ : Loc Cert.FnProj.nD Cert.FnProj.τ Cert.FnProj.sig) → Buf (Elt Bits) ℓ) : Prop :=
  True

def Pre_FnProjIdeal (m : (ℓ : Loc Cert.FnProjIdeal.nD Cert.FnProjIdeal.τ Cert.FnProjIdeal.sig) → Buf (Elt Ideal) ℓ) : Prop :=
  True

def Pre_FnReferenceIdeal (m : (ℓ : Loc Cert.FnReferenceIdeal.nD Cert.FnReferenceIdeal.τ Cert.FnReferenceIdeal.sig) → Buf (Elt Ideal) ℓ) : Prop :=
  True

def Pre_OutTwo (m : (ℓ : Loc Cert.OutTwo.nD Cert.OutTwo.τ Cert.OutTwo.sig) → Buf (Elt Bits) ℓ) : Prop :=
  True

def Pre_OutTwoIdeal (m : (ℓ : Loc Cert.OutTwoIdeal.nD Cert.OutTwoIdeal.τ Cert.OutTwoIdeal.sig) → Buf (Elt Ideal) ℓ) : Prop :=
  True

def Pre_OutTwoReferenceIdeal (m : (ℓ : Loc Cert.OutTwoReferenceIdeal.nD Cert.OutTwoReferenceIdeal.τ Cert.OutTwoReferenceIdeal.sig) → Buf (Elt Ideal) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_finite [hPre_finite : Cert.Pre_finite.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2))).1 = (fun _ => 1#1)
    ∧ (Cert.Pre_finite.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2))).2.1 = (fun _ => 1#1)
    ∧ (Cert.Pre_finite.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2))).2.2 = (fun _ => 1#1)

def Pre_AttentionReferenceIdeal (m : (ℓ : Loc Cert.AttentionReferenceIdeal.nD Cert.AttentionReferenceIdeal.τ Cert.AttentionReferenceIdeal.sig) → Buf (Elt Ideal) ℓ) : Prop :=
  True

def Pre_AttentionReferenceIdeal_finite [hPre_finite : Cert.Pre_finite.Facts] (m : (ℓ : Loc Cert.AttentionReferenceIdeal.nD Cert.AttentionReferenceIdeal.τ Cert.AttentionReferenceIdeal.sig) → Buf (Elt Ideal) ℓ) : Prop :=
  ∀ c : Dev Cert.AttentionReferenceIdeal.nD,
    (Cert.Pre_finite.fn (F := Ideal) (m ((c.tc : Thread Cert.AttentionReferenceIdeal.nD Cert.AttentionReferenceIdeal.τ).loc Cert.AttentionReferenceIdeal.main_arg0)) (m ((c.tc : Thread Cert.AttentionReferenceIdeal.nD Cert.AttentionReferenceIdeal.τ).loc Cert.AttentionReferenceIdeal.main_arg1)) (m ((c.tc : Thread Cert.AttentionReferenceIdeal.nD Cert.AttentionReferenceIdeal.τ).loc Cert.AttentionReferenceIdeal.main_arg2))).1 = (fun _ => 1#1)
    ∧ (Cert.Pre_finite.fn (F := Ideal) (m ((c.tc : Thread Cert.AttentionReferenceIdeal.nD Cert.AttentionReferenceIdeal.τ).loc Cert.AttentionReferenceIdeal.main_arg0)) (m ((c.tc : Thread Cert.AttentionReferenceIdeal.nD Cert.AttentionReferenceIdeal.τ).loc Cert.AttentionReferenceIdeal.main_arg1)) (m ((c.tc : Thread Cert.AttentionReferenceIdeal.nD Cert.AttentionReferenceIdeal.τ).loc Cert.AttentionReferenceIdeal.main_arg2))).2.1 = (fun _ => 1#1)
    ∧ (Cert.Pre_finite.fn (F := Ideal) (m ((c.tc : Thread Cert.AttentionReferenceIdeal.nD Cert.AttentionReferenceIdeal.τ).loc Cert.AttentionReferenceIdeal.main_arg0)) (m ((c.tc : Thread Cert.AttentionReferenceIdeal.nD Cert.AttentionReferenceIdeal.τ).loc Cert.AttentionReferenceIdeal.main_arg1)) (m ((c.tc : Thread Cert.AttentionReferenceIdeal.nD Cert.AttentionReferenceIdeal.τ).loc Cert.AttentionReferenceIdeal.main_arg2))).2.2 = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_MlFinal (m : (ℓ : Loc Cert.MlFinal.nD Cert.MlFinal.τ Cert.MlFinal.sig) → Buf (Elt Bits) ℓ) : Prop :=
  True

def Pre_MlFinalIdeal (m : (ℓ : Loc Cert.MlFinalIdeal.nD Cert.MlFinalIdeal.τ Cert.MlFinalIdeal.sig) → Buf (Elt Ideal) ℓ) : Prop :=
  True

def Pre_MlFinalReferenceIdeal (m : (ℓ : Loc Cert.MlFinalReferenceIdeal.nD Cert.MlFinalReferenceIdeal.τ Cert.MlFinalReferenceIdeal.sig) → Buf (Elt Ideal) ℓ) : Prop :=
  True

def Pre_SsdFinal (m : (ℓ : Loc Cert.SsdFinal.nD Cert.SsdFinal.τ Cert.SsdFinal.sig) → Buf (Elt Bits) ℓ) : Prop :=
  True

def Pre_SsdFinalIdeal (m : (ℓ : Loc Cert.SsdFinalIdeal.nD Cert.SsdFinalIdeal.τ Cert.SsdFinalIdeal.sig) → Buf (Elt Ideal) ℓ) : Prop :=
  True

def Pre_SsdFinalReferenceIdeal (m : (ℓ : Loc Cert.SsdFinalReferenceIdeal.nD Cert.SsdFinalReferenceIdeal.τ Cert.SsdFinalReferenceIdeal.sig) → Buf (Elt Ideal) ℓ) : Prop :=
  True

def Pre_DtProj (m : (ℓ : Loc Cert.DtProj.nD Cert.DtProj.τ Cert.DtProj.sig) → Buf (Elt Bits) ℓ) : Prop :=
  True

def Pre_DtProjIdeal (m : (ℓ : Loc Cert.DtProjIdeal.nD Cert.DtProjIdeal.τ Cert.DtProjIdeal.sig) → Buf (Elt Ideal) ℓ) : Prop :=
  True

def Pre_DtReferenceIdeal (m : (ℓ : Loc Cert.DtReferenceIdeal.nD Cert.DtReferenceIdeal.τ Cert.DtReferenceIdeal.sig) → Buf (Elt Ideal) ℓ) : Prop :=
  True

def Pre_GatesProj (m : (ℓ : Loc Cert.GatesProj.nD Cert.GatesProj.τ Cert.GatesProj.sig) → Buf (Elt Bits) ℓ) : Prop :=
  True

def Pre_GatesProjIdeal (m : (ℓ : Loc Cert.GatesProjIdeal.nD Cert.GatesProjIdeal.τ Cert.GatesProjIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_finite_weights [hPre_finite_weights : Cert.Pre_finite_weights.Facts] (m : (ℓ : Loc Cert.RouterIdeal.nD Cert.RouterIdeal.τ Cert.RouterIdeal.sig) → Buf (Elt Ideal) ℓ) : Prop :=
  ∀ c : Dev Cert.RouterIdeal.nD,
    (Cert.Pre_finite_weights.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2))).1 = (fun _ => 1#1)
    ∧ (Cert.Pre_finite_weights.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2))).2 = (fun _ => 1#1)

def Pre_RouterReferenceIdeal (m : (ℓ : Loc Cert.RouterReferenceIdeal.nD Cert.RouterReferenceIdeal.τ Cert.RouterReferenceIdeal.sig) → Buf (Elt Ideal) ℓ) : Prop :=
  True

def Pre_RouterReferenceIdeal_finite_weights [hPre_finite_weights : Cert.Pre_finite_weights.Facts] (m : (ℓ : Loc Cert.RouterReferenceIdeal.nD Cert.RouterReferenceIdeal.τ Cert.RouterReferenceIdeal.sig) → Buf (Elt Ideal) ℓ) : Prop :=
  ∀ c : Dev Cert.RouterReferenceIdeal.nD,
    (Cert.Pre_finite_weights.fn (F := Ideal) (m ((c.tc : Thread Cert.RouterReferenceIdeal.nD Cert.RouterReferenceIdeal.τ).loc Cert.RouterReferenceIdeal.main_arg0)) (m ((c.tc : Thread Cert.RouterReferenceIdeal.nD Cert.RouterReferenceIdeal.τ).loc Cert.RouterReferenceIdeal.main_arg1)) (m ((c.tc : Thread Cert.RouterReferenceIdeal.nD Cert.RouterReferenceIdeal.τ).loc Cert.RouterReferenceIdeal.main_arg2))).1 = (fun _ => 1#1)
    ∧ (Cert.Pre_finite_weights.fn (F := Ideal) (m ((c.tc : Thread Cert.RouterReferenceIdeal.nD Cert.RouterReferenceIdeal.τ).loc Cert.RouterReferenceIdeal.main_arg0)) (m ((c.tc : Thread Cert.RouterReferenceIdeal.nD Cert.RouterReferenceIdeal.τ).loc Cert.RouterReferenceIdeal.main_arg1)) (m ((c.tc : Thread Cert.RouterReferenceIdeal.nD Cert.RouterReferenceIdeal.τ).loc Cert.RouterReferenceIdeal.main_arg2))).2 = (fun _ => 1#1)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_QkvoProj [hQkvoProj : Cert.QkvoProj.Facts] : Prop :=
  ∀ (m : (ℓ : Loc Cert.QkvoProj.nD Cert.QkvoProj.τ Cert.QkvoProj.sig) → Buf (Elt Bits) ℓ) (g : Dev Cert.QkvoProj.nD → PrngReg), Pre_QkvoProj m →
    θ_run (Cert.QkvoProj.defs (F := Bits)) (onTc (τ := Cert.QkvoProj.τ) (Cert.QkvoProj.main (F := Bits))) ⟨m, fun _ => 0, g⟩ (fun r => (∀ c : Dev Cert.QkvoProj.nD,
      r.2.mem ((c.tc : Thread Cert.QkvoProj.nD Cert.QkvoProj.τ).loc Cert.QkvoProj.main_arg0) = m ((c.tc : Thread Cert.QkvoProj.nD Cert.QkvoProj.τ).loc Cert.QkvoProj.main_arg0)
      ∧ r.2.mem ((c.tc : Thread Cert.QkvoProj.nD Cert.QkvoProj.τ).loc Cert.QkvoProj.main_arg1) = m ((c.tc : Thread Cert.QkvoProj.nD Cert.QkvoProj.τ).loc Cert.QkvoProj.main_arg1))
      ∧ r.2.sem = fun _ => 0)

def quiescent_QkvoProjIdeal [hQkvoProjIdeal : Cert.QkvoProjIdeal.Facts] : Prop :=
  ∀ (m : (ℓ : Loc Cert.QkvoProjIdeal.nD Cert.QkvoProjIdeal.τ Cert.QkvoProjIdeal.sig) → Buf (Elt Ideal) ℓ) (g : Dev Cert.QkvoProjIdeal.nD → PrngReg), Pre_QkvoProjIdeal m →
    θ_run (Cert.QkvoProjIdeal.defs (F := Ideal)) (onTc (τ := Cert.QkvoProjIdeal.τ) (Cert.QkvoProjIdeal.main (F := Ideal))) ⟨m, fun _ => 0, g⟩ (fun r => (∀ c : Dev Cert.QkvoProjIdeal.nD,
      r.2.mem ((c.tc : Thread Cert.QkvoProjIdeal.nD Cert.QkvoProjIdeal.τ).loc Cert.QkvoProjIdeal.main_arg0) = m ((c.tc : Thread Cert.QkvoProjIdeal.nD Cert.QkvoProjIdeal.τ).loc Cert.QkvoProjIdeal.main_arg0)
      ∧ r.2.mem ((c.tc : Thread Cert.QkvoProjIdeal.nD Cert.QkvoProjIdeal.τ).loc Cert.QkvoProjIdeal.main_arg1) = m ((c.tc : Thread Cert.QkvoProjIdeal.nD Cert.QkvoProjIdeal.τ).loc Cert.QkvoProjIdeal.main_arg1))
      ∧ r.2.sem = fun _ => 0)

def quiescent_QkvoReferenceIdeal [hQkvoReferenceIdeal : Cert.QkvoReferenceIdeal.Facts] : Prop :=
  ∀ (m : (ℓ : Loc Cert.QkvoReferenceIdeal.nD Cert.QkvoReferenceIdeal.τ Cert.QkvoReferenceIdeal.sig) → Buf (Elt Ideal) ℓ) (g : Dev Cert.QkvoReferenceIdeal.nD → PrngReg), Pre_QkvoReferenceIdeal m →
    θ_run (Cert.QkvoReferenceIdeal.defs (F := Ideal)) (onTc (τ := Cert.QkvoReferenceIdeal.τ) (Cert.QkvoReferenceIdeal.main (F := Ideal))) ⟨m, fun _ => 0, g⟩ (fun r => (∀ c : Dev Cert.QkvoReferenceIdeal.nD,
      r.2.mem ((c.tc : Thread Cert.QkvoReferenceIdeal.nD Cert.QkvoReferenceIdeal.τ).loc Cert.QkvoReferenceIdeal.main_arg0) = m ((c.tc : Thread Cert.QkvoReferenceIdeal.nD Cert.QkvoReferenceIdeal.τ).loc Cert.QkvoReferenceIdeal.main_arg0)
      ∧ r.2.mem ((c.tc : Thread Cert.QkvoReferenceIdeal.nD Cert.QkvoReferenceIdeal.τ).loc Cert.QkvoReferenceIdeal.main_arg1) = m ((c.tc : Thread Cert.QkvoReferenceIdeal.nD Cert.QkvoReferenceIdeal.τ).loc Cert.QkvoReferenceIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_FfnTwo [hFfnTwo : Cert.FfnTwo.Facts] : Prop :=
  ∀ (m : (ℓ : Loc Cert.FfnTwo.nD Cert.FfnTwo.τ Cert.FfnTwo.sig) → Buf (Elt Bits) ℓ) (g : Dev Cert.FfnTwo.nD → PrngReg), Pre_FfnTwo m →
    θ_run (Cert.FfnTwo.defs (F := Bits)) (onTc (τ := Cert.FfnTwo.τ) (Cert.FfnTwo.main (F := Bits))) ⟨m, fun _ => 0, g⟩ (fun r => (∀ c : Dev Cert.FfnTwo.nD,
      r.2.mem ((c.tc : Thread Cert.FfnTwo.nD Cert.FfnTwo.τ).loc Cert.FfnTwo.main_arg0) = m ((c.tc : Thread Cert.FfnTwo.nD Cert.FfnTwo.τ).loc Cert.FfnTwo.main_arg0)
      ∧ r.2.mem ((c.tc : Thread Cert.FfnTwo.nD Cert.FfnTwo.τ).loc Cert.FfnTwo.main_arg1) = m ((c.tc : Thread Cert.FfnTwo.nD Cert.FfnTwo.τ).loc Cert.FfnTwo.main_arg1)
      ∧ r.2.mem ((c.tc : Thread Cert.FfnTwo.nD Cert.FfnTwo.τ).loc Cert.FfnTwo.main_arg2) = m ((c.tc : Thread Cert.FfnTwo.nD Cert.FfnTwo.τ).loc Cert.FfnTwo.main_arg2)
      ∧ r.2.mem ((c.tc : Thread Cert.FfnTwo.nD Cert.FfnTwo.τ).loc Cert.FfnTwo.main_arg3) = m ((c.tc : Thread Cert.FfnTwo.nD Cert.FfnTwo.τ).loc Cert.FfnTwo.main_arg3))
      ∧ r.2.sem = fun _ => 0)

def quiescent_FfnTwoIdeal [hFfnTwoIdeal : Cert.FfnTwoIdeal.Facts] : Prop :=
  ∀ (m : (ℓ : Loc Cert.FfnTwoIdeal.nD Cert.FfnTwoIdeal.τ Cert.FfnTwoIdeal.sig) → Buf (Elt Ideal) ℓ) (g : Dev Cert.FfnTwoIdeal.nD → PrngReg), Pre_FfnTwoIdeal m →
    θ_run (Cert.FfnTwoIdeal.defs (F := Ideal)) (onTc (τ := Cert.FfnTwoIdeal.τ) (Cert.FfnTwoIdeal.main (F := Ideal))) ⟨m, fun _ => 0, g⟩ (fun r => (∀ c : Dev Cert.FfnTwoIdeal.nD,
      r.2.mem ((c.tc : Thread Cert.FfnTwoIdeal.nD Cert.FfnTwoIdeal.τ).loc Cert.FfnTwoIdeal.main_arg0) = m ((c.tc : Thread Cert.FfnTwoIdeal.nD Cert.FfnTwoIdeal.τ).loc Cert.FfnTwoIdeal.main_arg0)
      ∧ r.2.mem ((c.tc : Thread Cert.FfnTwoIdeal.nD Cert.FfnTwoIdeal.τ).loc Cert.FfnTwoIdeal.main_arg1) = m ((c.tc : Thread Cert.FfnTwoIdeal.nD Cert.FfnTwoIdeal.τ).loc Cert.FfnTwoIdeal.main_arg1)
      ∧ r.2.mem ((c.tc : Thread Cert.FfnTwoIdeal.nD Cert.FfnTwoIdeal.τ).loc Cert.FfnTwoIdeal.main_arg2) = m ((c.tc : Thread Cert.FfnTwoIdeal.nD Cert.FfnTwoIdeal.τ).loc Cert.FfnTwoIdeal.main_arg2)
      ∧ r.2.mem ((c.tc : Thread Cert.FfnTwoIdeal.nD Cert.FfnTwoIdeal.τ).loc Cert.FfnTwoIdeal.main_arg3) = m ((c.tc : Thread Cert.FfnTwoIdeal.nD Cert.FfnTwoIdeal.τ).loc Cert.FfnTwoIdeal.main_arg3))
      ∧ r.2.sem = fun _ => 0)

def quiescent_FfnTwoReferenceIdeal [hFfnTwoReferenceIdeal : Cert.FfnTwoReferenceIdeal.Facts] : Prop :=
  ∀ (m : (ℓ : Loc Cert.FfnTwoReferenceIdeal.nD Cert.FfnTwoReferenceIdeal.τ Cert.FfnTwoReferenceIdeal.sig) → Buf (Elt Ideal) ℓ) (g : Dev Cert.FfnTwoReferenceIdeal.nD → PrngReg), Pre_FfnTwoReferenceIdeal m →
    θ_run (Cert.FfnTwoReferenceIdeal.defs (F := Ideal)) (onTc (τ := Cert.FfnTwoReferenceIdeal.τ) (Cert.FfnTwoReferenceIdeal.main (F := Ideal))) ⟨m, fun _ => 0, g⟩ (fun r => (∀ c : Dev Cert.FfnTwoReferenceIdeal.nD,
      r.2.mem ((c.tc : Thread Cert.FfnTwoReferenceIdeal.nD Cert.FfnTwoReferenceIdeal.τ).loc Cert.FfnTwoReferenceIdeal.main_arg0) = m ((c.tc : Thread Cert.FfnTwoReferenceIdeal.nD Cert.FfnTwoReferenceIdeal.τ).loc Cert.FfnTwoReferenceIdeal.main_arg0)
      ∧ r.2.mem ((c.tc : Thread Cert.FfnTwoReferenceIdeal.nD Cert.FfnTwoReferenceIdeal.τ).loc Cert.FfnTwoReferenceIdeal.main_arg1) = m ((c.tc : Thread Cert.FfnTwoReferenceIdeal.nD Cert.FfnTwoReferenceIdeal.τ).loc Cert.FfnTwoReferenceIdeal.main_arg1)
      ∧ r.2.mem ((c.tc : Thread Cert.FfnTwoReferenceIdeal.nD Cert.FfnTwoReferenceIdeal.τ).loc Cert.FfnTwoReferenceIdeal.main_arg2) = m ((c.tc : Thread Cert.FfnTwoReferenceIdeal.nD Cert.FfnTwoReferenceIdeal.τ).loc Cert.FfnTwoReferenceIdeal.main_arg2)
      ∧ r.2.mem ((c.tc : Thread Cert.FfnTwoReferenceIdeal.nD Cert.FfnTwoReferenceIdeal.τ).loc Cert.FfnTwoReferenceIdeal.main_arg3) = m ((c.tc : Thread Cert.FfnTwoReferenceIdeal.nD Cert.FfnTwoReferenceIdeal.τ).loc Cert.FfnTwoReferenceIdeal.main_arg3))
      ∧ r.2.sem = fun _ => 0)

def quiescent_ZProj [hZProj : Cert.ZProj.Facts] : Prop :=
  ∀ (m : (ℓ : Loc Cert.ZProj.nD Cert.ZProj.τ Cert.ZProj.sig) → Buf (Elt Bits) ℓ) (g : Dev Cert.ZProj.nD → PrngReg), Pre_ZProj m →
    θ_run (Cert.ZProj.defs (F := Bits)) (onTc (τ := Cert.ZProj.τ) (Cert.ZProj.main (F := Bits))) ⟨m, fun _ => 0, g⟩ (fun r => (∀ c : Dev Cert.ZProj.nD,
      r.2.mem ((c.tc : Thread Cert.ZProj.nD Cert.ZProj.τ).loc Cert.ZProj.main_arg0) = m ((c.tc : Thread Cert.ZProj.nD Cert.ZProj.τ).loc Cert.ZProj.main_arg0)
      ∧ r.2.mem ((c.tc : Thread Cert.ZProj.nD Cert.ZProj.τ).loc Cert.ZProj.main_arg1) = m ((c.tc : Thread Cert.ZProj.nD Cert.ZProj.τ).loc Cert.ZProj.main_arg1))
      ∧ r.2.sem = fun _ => 0)

def quiescent_ZProjIdeal [hZProjIdeal : Cert.ZProjIdeal.Facts] : Prop :=
  ∀ (m : (ℓ : Loc Cert.ZProjIdeal.nD Cert.ZProjIdeal.τ Cert.ZProjIdeal.sig) → Buf (Elt Ideal) ℓ) (g : Dev Cert.ZProjIdeal.nD → PrngReg), Pre_ZProjIdeal m →
    θ_run (Cert.ZProjIdeal.defs (F := Ideal)) (onTc (τ := Cert.ZProjIdeal.τ) (Cert.ZProjIdeal.main (F := Ideal))) ⟨m, fun _ => 0, g⟩ (fun r => (∀ c : Dev Cert.ZProjIdeal.nD,
      r.2.mem ((c.tc : Thread Cert.ZProjIdeal.nD Cert.ZProjIdeal.τ).loc Cert.ZProjIdeal.main_arg0) = m ((c.tc : Thread Cert.ZProjIdeal.nD Cert.ZProjIdeal.τ).loc Cert.ZProjIdeal.main_arg0)
      ∧ r.2.mem ((c.tc : Thread Cert.ZProjIdeal.nD Cert.ZProjIdeal.τ).loc Cert.ZProjIdeal.main_arg1) = m ((c.tc : Thread Cert.ZProjIdeal.nD Cert.ZProjIdeal.τ).loc Cert.ZProjIdeal.main_arg1))
      ∧ r.2.sem = fun _ => 0)

def quiescent_ZReferenceIdeal [hZReferenceIdeal : Cert.ZReferenceIdeal.Facts] : Prop :=
  ∀ (m : (ℓ : Loc Cert.ZReferenceIdeal.nD Cert.ZReferenceIdeal.τ Cert.ZReferenceIdeal.sig) → Buf (Elt Ideal) ℓ) (g : Dev Cert.ZReferenceIdeal.nD → PrngReg), Pre_ZReferenceIdeal m →
    θ_run (Cert.ZReferenceIdeal.defs (F := Ideal)) (onTc (τ := Cert.ZReferenceIdeal.τ) (Cert.ZReferenceIdeal.main (F := Ideal))) ⟨m, fun _ => 0, g⟩ (fun r => (∀ c : Dev Cert.ZReferenceIdeal.nD,
      r.2.mem ((c.tc : Thread Cert.ZReferenceIdeal.nD Cert.ZReferenceIdeal.τ).loc Cert.ZReferenceIdeal.main_arg0) = m ((c.tc : Thread Cert.ZReferenceIdeal.nD Cert.ZReferenceIdeal.τ).loc Cert.ZReferenceIdeal.main_arg0)
      ∧ r.2.mem ((c.tc : Thread Cert.ZReferenceIdeal.nD Cert.ZReferenceIdeal.τ).loc Cert.ZReferenceIdeal.main_arg1) = m ((c.tc : Thread Cert.ZReferenceIdeal.nD Cert.ZReferenceIdeal.τ).loc Cert.ZReferenceIdeal.main_arg1))
      ∧ r.2.sem = fun _ => 0)

def quiescent_XbcProj [hXbcProj : Cert.XbcProj.Facts] : Prop :=
  ∀ (m : (ℓ : Loc Cert.XbcProj.nD Cert.XbcProj.τ Cert.XbcProj.sig) → Buf (Elt Bits) ℓ) (g : Dev Cert.XbcProj.nD → PrngReg), Pre_XbcProj m →
    θ_run (Cert.XbcProj.defs (F := Bits)) (onTc (τ := Cert.XbcProj.τ) (Cert.XbcProj.main (F := Bits))) ⟨m, fun _ => 0, g⟩ (fun r => (∀ c : Dev Cert.XbcProj.nD,
      r.2.mem ((c.tc : Thread Cert.XbcProj.nD Cert.XbcProj.τ).loc Cert.XbcProj.main_arg0) = m ((c.tc : Thread Cert.XbcProj.nD Cert.XbcProj.τ).loc Cert.XbcProj.main_arg0)
      ∧ r.2.mem ((c.tc : Thread Cert.XbcProj.nD Cert.XbcProj.τ).loc Cert.XbcProj.main_arg1) = m ((c.tc : Thread Cert.XbcProj.nD Cert.XbcProj.τ).loc Cert.XbcProj.main_arg1))
      ∧ r.2.sem = fun _ => 0)

def quiescent_XbcProjIdeal [hXbcProjIdeal : Cert.XbcProjIdeal.Facts] : Prop :=
  ∀ (m : (ℓ : Loc Cert.XbcProjIdeal.nD Cert.XbcProjIdeal.τ Cert.XbcProjIdeal.sig) → Buf (Elt Ideal) ℓ) (g : Dev Cert.XbcProjIdeal.nD → PrngReg), Pre_XbcProjIdeal m →
    θ_run (Cert.XbcProjIdeal.defs (F := Ideal)) (onTc (τ := Cert.XbcProjIdeal.τ) (Cert.XbcProjIdeal.main (F := Ideal))) ⟨m, fun _ => 0, g⟩ (fun r => (∀ c : Dev Cert.XbcProjIdeal.nD,
      r.2.mem ((c.tc : Thread Cert.XbcProjIdeal.nD Cert.XbcProjIdeal.τ).loc Cert.XbcProjIdeal.main_arg0) = m ((c.tc : Thread Cert.XbcProjIdeal.nD Cert.XbcProjIdeal.τ).loc Cert.XbcProjIdeal.main_arg0)
      ∧ r.2.mem ((c.tc : Thread Cert.XbcProjIdeal.nD Cert.XbcProjIdeal.τ).loc Cert.XbcProjIdeal.main_arg1) = m ((c.tc : Thread Cert.XbcProjIdeal.nD Cert.XbcProjIdeal.τ).loc Cert.XbcProjIdeal.main_arg1))
      ∧ r.2.sem = fun _ => 0)

def quiescent_XbcReferenceIdeal [hXbcReferenceIdeal : Cert.XbcReferenceIdeal.Facts] : Prop :=
  ∀ (m : (ℓ : Loc Cert.XbcReferenceIdeal.nD Cert.XbcReferenceIdeal.τ Cert.XbcReferenceIdeal.sig) → Buf (Elt Ideal) ℓ) (g : Dev Cert.XbcReferenceIdeal.nD → PrngReg), Pre_XbcReferenceIdeal m →
    θ_run (Cert.XbcReferenceIdeal.defs (F := Ideal)) (onTc (τ := Cert.XbcReferenceIdeal.τ) (Cert.XbcReferenceIdeal.main (F := Ideal))) ⟨m, fun _ => 0, g⟩ (fun r => (∀ c : Dev Cert.XbcReferenceIdeal.nD,
      r.2.mem ((c.tc : Thread Cert.XbcReferenceIdeal.nD Cert.XbcReferenceIdeal.τ).loc Cert.XbcReferenceIdeal.main_arg0) = m ((c.tc : Thread Cert.XbcReferenceIdeal.nD Cert.XbcReferenceIdeal.τ).loc Cert.XbcReferenceIdeal.main_arg0)
      ∧ r.2.mem ((c.tc : Thread Cert.XbcReferenceIdeal.nD Cert.XbcReferenceIdeal.τ).loc Cert.XbcReferenceIdeal.main_arg1) = m ((c.tc : Thread Cert.XbcReferenceIdeal.nD Cert.XbcReferenceIdeal.τ).loc Cert.XbcReferenceIdeal.main_arg1))
      ∧ r.2.sem = fun _ => 0)

def quiescent_QkvProj [hQkvProj : Cert.QkvProj.Facts] : Prop :=
  ∀ (m : (ℓ : Loc Cert.QkvProj.nD Cert.QkvProj.τ Cert.QkvProj.sig) → Buf (Elt Bits) ℓ) (g : Dev Cert.QkvProj.nD → PrngReg), Pre_QkvProj m →
    θ_run (Cert.QkvProj.defs (F := Bits)) (onTc (τ := Cert.QkvProj.τ) (Cert.QkvProj.main (F := Bits))) ⟨m, fun _ => 0, g⟩ (fun r => (∀ c : Dev Cert.QkvProj.nD,
      r.2.mem ((c.tc : Thread Cert.QkvProj.nD Cert.QkvProj.τ).loc Cert.QkvProj.main_arg0) = m ((c.tc : Thread Cert.QkvProj.nD Cert.QkvProj.τ).loc Cert.QkvProj.main_arg0)
      ∧ r.2.mem ((c.tc : Thread Cert.QkvProj.nD Cert.QkvProj.τ).loc Cert.QkvProj.main_arg1) = m ((c.tc : Thread Cert.QkvProj.nD Cert.QkvProj.τ).loc Cert.QkvProj.main_arg1))
      ∧ r.2.sem = fun _ => 0)

def quiescent_QkvProjIdeal [hQkvProjIdeal : Cert.QkvProjIdeal.Facts] : Prop :=
  ∀ (m : (ℓ : Loc Cert.QkvProjIdeal.nD Cert.QkvProjIdeal.τ Cert.QkvProjIdeal.sig) → Buf (Elt Ideal) ℓ) (g : Dev Cert.QkvProjIdeal.nD → PrngReg), Pre_QkvProjIdeal m →
    θ_run (Cert.QkvProjIdeal.defs (F := Ideal)) (onTc (τ := Cert.QkvProjIdeal.τ) (Cert.QkvProjIdeal.main (F := Ideal))) ⟨m, fun _ => 0, g⟩ (fun r => (∀ c : Dev Cert.QkvProjIdeal.nD,
      r.2.mem ((c.tc : Thread Cert.QkvProjIdeal.nD Cert.QkvProjIdeal.τ).loc Cert.QkvProjIdeal.main_arg0) = m ((c.tc : Thread Cert.QkvProjIdeal.nD Cert.QkvProjIdeal.τ).loc Cert.QkvProjIdeal.main_arg0)
      ∧ r.2.mem ((c.tc : Thread Cert.QkvProjIdeal.nD Cert.QkvProjIdeal.τ).loc Cert.QkvProjIdeal.main_arg1) = m ((c.tc : Thread Cert.QkvProjIdeal.nD Cert.QkvProjIdeal.τ).loc Cert.QkvProjIdeal.main_arg1))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1))
      ∧ r.2.sem = fun _ => 0)

def quiescent_FnProj [hFnProj : Cert.FnProj.Facts] : Prop :=
  ∀ (m : (ℓ : Loc Cert.FnProj.nD Cert.FnProj.τ Cert.FnProj.sig) → Buf (Elt Bits) ℓ) (g : Dev Cert.FnProj.nD → PrngReg), Pre_FnProj m →
    θ_run (Cert.FnProj.defs (F := Bits)) (onTc (τ := Cert.FnProj.τ) (Cert.FnProj.main (F := Bits))) ⟨m, fun _ => 0, g⟩ (fun r => (∀ c : Dev Cert.FnProj.nD,
      r.2.mem ((c.tc : Thread Cert.FnProj.nD Cert.FnProj.τ).loc Cert.FnProj.main_arg0) = m ((c.tc : Thread Cert.FnProj.nD Cert.FnProj.τ).loc Cert.FnProj.main_arg0)
      ∧ r.2.mem ((c.tc : Thread Cert.FnProj.nD Cert.FnProj.τ).loc Cert.FnProj.main_arg1) = m ((c.tc : Thread Cert.FnProj.nD Cert.FnProj.τ).loc Cert.FnProj.main_arg1))
      ∧ r.2.sem = fun _ => 0)

def quiescent_FnProjIdeal [hFnProjIdeal : Cert.FnProjIdeal.Facts] : Prop :=
  ∀ (m : (ℓ : Loc Cert.FnProjIdeal.nD Cert.FnProjIdeal.τ Cert.FnProjIdeal.sig) → Buf (Elt Ideal) ℓ) (g : Dev Cert.FnProjIdeal.nD → PrngReg), Pre_FnProjIdeal m →
    θ_run (Cert.FnProjIdeal.defs (F := Ideal)) (onTc (τ := Cert.FnProjIdeal.τ) (Cert.FnProjIdeal.main (F := Ideal))) ⟨m, fun _ => 0, g⟩ (fun r => (∀ c : Dev Cert.FnProjIdeal.nD,
      r.2.mem ((c.tc : Thread Cert.FnProjIdeal.nD Cert.FnProjIdeal.τ).loc Cert.FnProjIdeal.main_arg0) = m ((c.tc : Thread Cert.FnProjIdeal.nD Cert.FnProjIdeal.τ).loc Cert.FnProjIdeal.main_arg0)
      ∧ r.2.mem ((c.tc : Thread Cert.FnProjIdeal.nD Cert.FnProjIdeal.τ).loc Cert.FnProjIdeal.main_arg1) = m ((c.tc : Thread Cert.FnProjIdeal.nD Cert.FnProjIdeal.τ).loc Cert.FnProjIdeal.main_arg1))
      ∧ r.2.sem = fun _ => 0)

def quiescent_FnReferenceIdeal [hFnReferenceIdeal : Cert.FnReferenceIdeal.Facts] : Prop :=
  ∀ (m : (ℓ : Loc Cert.FnReferenceIdeal.nD Cert.FnReferenceIdeal.τ Cert.FnReferenceIdeal.sig) → Buf (Elt Ideal) ℓ) (g : Dev Cert.FnReferenceIdeal.nD → PrngReg), Pre_FnReferenceIdeal m →
    θ_run (Cert.FnReferenceIdeal.defs (F := Ideal)) (onTc (τ := Cert.FnReferenceIdeal.τ) (Cert.FnReferenceIdeal.main (F := Ideal))) ⟨m, fun _ => 0, g⟩ (fun r => (∀ c : Dev Cert.FnReferenceIdeal.nD,
      r.2.mem ((c.tc : Thread Cert.FnReferenceIdeal.nD Cert.FnReferenceIdeal.τ).loc Cert.FnReferenceIdeal.main_arg0) = m ((c.tc : Thread Cert.FnReferenceIdeal.nD Cert.FnReferenceIdeal.τ).loc Cert.FnReferenceIdeal.main_arg0)
      ∧ r.2.mem ((c.tc : Thread Cert.FnReferenceIdeal.nD Cert.FnReferenceIdeal.τ).loc Cert.FnReferenceIdeal.main_arg1) = m ((c.tc : Thread Cert.FnReferenceIdeal.nD Cert.FnReferenceIdeal.τ).loc Cert.FnReferenceIdeal.main_arg1))
      ∧ r.2.sem = fun _ => 0)

def quiescent_OutTwo [hOutTwo : Cert.OutTwo.Facts] : Prop :=
  ∀ (m : (ℓ : Loc Cert.OutTwo.nD Cert.OutTwo.τ Cert.OutTwo.sig) → Buf (Elt Bits) ℓ) (g : Dev Cert.OutTwo.nD → PrngReg), Pre_OutTwo m →
    θ_run (Cert.OutTwo.defs (F := Bits)) (onTc (τ := Cert.OutTwo.τ) (Cert.OutTwo.main (F := Bits))) ⟨m, fun _ => 0, g⟩ (fun r => (∀ c : Dev Cert.OutTwo.nD,
      r.2.mem ((c.tc : Thread Cert.OutTwo.nD Cert.OutTwo.τ).loc Cert.OutTwo.main_arg0) = m ((c.tc : Thread Cert.OutTwo.nD Cert.OutTwo.τ).loc Cert.OutTwo.main_arg0)
      ∧ r.2.mem ((c.tc : Thread Cert.OutTwo.nD Cert.OutTwo.τ).loc Cert.OutTwo.main_arg1) = m ((c.tc : Thread Cert.OutTwo.nD Cert.OutTwo.τ).loc Cert.OutTwo.main_arg1)
      ∧ r.2.mem ((c.tc : Thread Cert.OutTwo.nD Cert.OutTwo.τ).loc Cert.OutTwo.main_arg2) = m ((c.tc : Thread Cert.OutTwo.nD Cert.OutTwo.τ).loc Cert.OutTwo.main_arg2)
      ∧ r.2.mem ((c.tc : Thread Cert.OutTwo.nD Cert.OutTwo.τ).loc Cert.OutTwo.main_arg3) = m ((c.tc : Thread Cert.OutTwo.nD Cert.OutTwo.τ).loc Cert.OutTwo.main_arg3))
      ∧ r.2.sem = fun _ => 0)

def quiescent_OutTwoIdeal [hOutTwoIdeal : Cert.OutTwoIdeal.Facts] : Prop :=
  ∀ (m : (ℓ : Loc Cert.OutTwoIdeal.nD Cert.OutTwoIdeal.τ Cert.OutTwoIdeal.sig) → Buf (Elt Ideal) ℓ) (g : Dev Cert.OutTwoIdeal.nD → PrngReg), Pre_OutTwoIdeal m →
    θ_run (Cert.OutTwoIdeal.defs (F := Ideal)) (onTc (τ := Cert.OutTwoIdeal.τ) (Cert.OutTwoIdeal.main (F := Ideal))) ⟨m, fun _ => 0, g⟩ (fun r => (∀ c : Dev Cert.OutTwoIdeal.nD,
      r.2.mem ((c.tc : Thread Cert.OutTwoIdeal.nD Cert.OutTwoIdeal.τ).loc Cert.OutTwoIdeal.main_arg0) = m ((c.tc : Thread Cert.OutTwoIdeal.nD Cert.OutTwoIdeal.τ).loc Cert.OutTwoIdeal.main_arg0)
      ∧ r.2.mem ((c.tc : Thread Cert.OutTwoIdeal.nD Cert.OutTwoIdeal.τ).loc Cert.OutTwoIdeal.main_arg1) = m ((c.tc : Thread Cert.OutTwoIdeal.nD Cert.OutTwoIdeal.τ).loc Cert.OutTwoIdeal.main_arg1)
      ∧ r.2.mem ((c.tc : Thread Cert.OutTwoIdeal.nD Cert.OutTwoIdeal.τ).loc Cert.OutTwoIdeal.main_arg2) = m ((c.tc : Thread Cert.OutTwoIdeal.nD Cert.OutTwoIdeal.τ).loc Cert.OutTwoIdeal.main_arg2)
      ∧ r.2.mem ((c.tc : Thread Cert.OutTwoIdeal.nD Cert.OutTwoIdeal.τ).loc Cert.OutTwoIdeal.main_arg3) = m ((c.tc : Thread Cert.OutTwoIdeal.nD Cert.OutTwoIdeal.τ).loc Cert.OutTwoIdeal.main_arg3))
      ∧ r.2.sem = fun _ => 0)

def quiescent_OutTwoReferenceIdeal [hOutTwoReferenceIdeal : Cert.OutTwoReferenceIdeal.Facts] : Prop :=
  ∀ (m : (ℓ : Loc Cert.OutTwoReferenceIdeal.nD Cert.OutTwoReferenceIdeal.τ Cert.OutTwoReferenceIdeal.sig) → Buf (Elt Ideal) ℓ) (g : Dev Cert.OutTwoReferenceIdeal.nD → PrngReg), Pre_OutTwoReferenceIdeal m →
    θ_run (Cert.OutTwoReferenceIdeal.defs (F := Ideal)) (onTc (τ := Cert.OutTwoReferenceIdeal.τ) (Cert.OutTwoReferenceIdeal.main (F := Ideal))) ⟨m, fun _ => 0, g⟩ (fun r => (∀ c : Dev Cert.OutTwoReferenceIdeal.nD,
      r.2.mem ((c.tc : Thread Cert.OutTwoReferenceIdeal.nD Cert.OutTwoReferenceIdeal.τ).loc Cert.OutTwoReferenceIdeal.main_arg0) = m ((c.tc : Thread Cert.OutTwoReferenceIdeal.nD Cert.OutTwoReferenceIdeal.τ).loc Cert.OutTwoReferenceIdeal.main_arg0)
      ∧ r.2.mem ((c.tc : Thread Cert.OutTwoReferenceIdeal.nD Cert.OutTwoReferenceIdeal.τ).loc Cert.OutTwoReferenceIdeal.main_arg1) = m ((c.tc : Thread Cert.OutTwoReferenceIdeal.nD Cert.OutTwoReferenceIdeal.τ).loc Cert.OutTwoReferenceIdeal.main_arg1)
      ∧ r.2.mem ((c.tc : Thread Cert.OutTwoReferenceIdeal.nD Cert.OutTwoReferenceIdeal.τ).loc Cert.OutTwoReferenceIdeal.main_arg2) = m ((c.tc : Thread Cert.OutTwoReferenceIdeal.nD Cert.OutTwoReferenceIdeal.τ).loc Cert.OutTwoReferenceIdeal.main_arg2)
      ∧ r.2.mem ((c.tc : Thread Cert.OutTwoReferenceIdeal.nD Cert.OutTwoReferenceIdeal.τ).loc Cert.OutTwoReferenceIdeal.main_arg3) = m ((c.tc : Thread Cert.OutTwoReferenceIdeal.nD Cert.OutTwoReferenceIdeal.τ).loc Cert.OutTwoReferenceIdeal.main_arg3))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionIdeal_pre_finite [hAttentionIdeal : Cert.AttentionIdeal.Facts] [hPre_finite : Cert.Pre_finite.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionReferenceIdeal [hAttentionReferenceIdeal : Cert.AttentionReferenceIdeal.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1)
      ∧ r.2.mem ((c.tc : Thread Cert.AttentionReferenceIdeal.nD Cert.AttentionReferenceIdeal.τ).loc Cert.AttentionReferenceIdeal.main_arg2) = m ((c.tc : Thread Cert.AttentionReferenceIdeal.nD Cert.AttentionReferenceIdeal.τ).loc Cert.AttentionReferenceIdeal.main_arg2))
      ∧ r.2.sem = fun _ => 0)

def quiescent_AttentionReferenceIdeal_pre_finite [hAttentionReferenceIdeal : Cert.AttentionReferenceIdeal.Facts] [hPre_finite : Cert.Pre_finite.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal_finite m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1)
      ∧ r.2.mem ((c.tc : Thread Cert.AttentionReferenceIdeal.nD Cert.AttentionReferenceIdeal.τ).loc Cert.AttentionReferenceIdeal.main_arg2) = m ((c.tc : Thread Cert.AttentionReferenceIdeal.nD Cert.AttentionReferenceIdeal.τ).loc Cert.AttentionReferenceIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_MlFinal [hMlFinal : Cert.MlFinal.Facts] : Prop :=
  ∀ (m : (ℓ : Loc Cert.MlFinal.nD Cert.MlFinal.τ Cert.MlFinal.sig) → Buf (Elt Bits) ℓ) (g : Dev Cert.MlFinal.nD → PrngReg), Pre_MlFinal m →
    θ_run (Cert.MlFinal.defs (F := Bits)) (onTc (τ := Cert.MlFinal.τ) (Cert.MlFinal.main (F := Bits))) ⟨m, fun _ => 0, g⟩ (fun r => (∀ c : Dev Cert.MlFinal.nD,
      r.2.mem ((c.tc : Thread Cert.MlFinal.nD Cert.MlFinal.τ).loc Cert.MlFinal.main_arg0) = m ((c.tc : Thread Cert.MlFinal.nD Cert.MlFinal.τ).loc Cert.MlFinal.main_arg0)
      ∧ r.2.mem ((c.tc : Thread Cert.MlFinal.nD Cert.MlFinal.τ).loc Cert.MlFinal.main_arg1) = m ((c.tc : Thread Cert.MlFinal.nD Cert.MlFinal.τ).loc Cert.MlFinal.main_arg1)
      ∧ r.2.mem ((c.tc : Thread Cert.MlFinal.nD Cert.MlFinal.τ).loc Cert.MlFinal.main_arg2) = m ((c.tc : Thread Cert.MlFinal.nD Cert.MlFinal.τ).loc Cert.MlFinal.main_arg2)
      ∧ r.2.mem ((c.tc : Thread Cert.MlFinal.nD Cert.MlFinal.τ).loc Cert.MlFinal.main_arg3) = m ((c.tc : Thread Cert.MlFinal.nD Cert.MlFinal.τ).loc Cert.MlFinal.main_arg3))
      ∧ r.2.sem = fun _ => 0)

def quiescent_MlFinalIdeal [hMlFinalIdeal : Cert.MlFinalIdeal.Facts] : Prop :=
  ∀ (m : (ℓ : Loc Cert.MlFinalIdeal.nD Cert.MlFinalIdeal.τ Cert.MlFinalIdeal.sig) → Buf (Elt Ideal) ℓ) (g : Dev Cert.MlFinalIdeal.nD → PrngReg), Pre_MlFinalIdeal m →
    θ_run (Cert.MlFinalIdeal.defs (F := Ideal)) (onTc (τ := Cert.MlFinalIdeal.τ) (Cert.MlFinalIdeal.main (F := Ideal))) ⟨m, fun _ => 0, g⟩ (fun r => (∀ c : Dev Cert.MlFinalIdeal.nD,
      r.2.mem ((c.tc : Thread Cert.MlFinalIdeal.nD Cert.MlFinalIdeal.τ).loc Cert.MlFinalIdeal.main_arg0) = m ((c.tc : Thread Cert.MlFinalIdeal.nD Cert.MlFinalIdeal.τ).loc Cert.MlFinalIdeal.main_arg0)
      ∧ r.2.mem ((c.tc : Thread Cert.MlFinalIdeal.nD Cert.MlFinalIdeal.τ).loc Cert.MlFinalIdeal.main_arg1) = m ((c.tc : Thread Cert.MlFinalIdeal.nD Cert.MlFinalIdeal.τ).loc Cert.MlFinalIdeal.main_arg1)
      ∧ r.2.mem ((c.tc : Thread Cert.MlFinalIdeal.nD Cert.MlFinalIdeal.τ).loc Cert.MlFinalIdeal.main_arg2) = m ((c.tc : Thread Cert.MlFinalIdeal.nD Cert.MlFinalIdeal.τ).loc Cert.MlFinalIdeal.main_arg2)
      ∧ r.2.mem ((c.tc : Thread Cert.MlFinalIdeal.nD Cert.MlFinalIdeal.τ).loc Cert.MlFinalIdeal.main_arg3) = m ((c.tc : Thread Cert.MlFinalIdeal.nD Cert.MlFinalIdeal.τ).loc Cert.MlFinalIdeal.main_arg3))
      ∧ r.2.sem = fun _ => 0)

def quiescent_MlFinalReferenceIdeal [hMlFinalReferenceIdeal : Cert.MlFinalReferenceIdeal.Facts] : Prop :=
  ∀ (m : (ℓ : Loc Cert.MlFinalReferenceIdeal.nD Cert.MlFinalReferenceIdeal.τ Cert.MlFinalReferenceIdeal.sig) → Buf (Elt Ideal) ℓ) (g : Dev Cert.MlFinalReferenceIdeal.nD → PrngReg), Pre_MlFinalReferenceIdeal m →
    θ_run (Cert.MlFinalReferenceIdeal.defs (F := Ideal)) (onTc (τ := Cert.MlFinalReferenceIdeal.τ) (Cert.MlFinalReferenceIdeal.main (F := Ideal))) ⟨m, fun _ => 0, g⟩ (fun r => (∀ c : Dev Cert.MlFinalReferenceIdeal.nD,
      r.2.mem ((c.tc : Thread Cert.MlFinalReferenceIdeal.nD Cert.MlFinalReferenceIdeal.τ).loc Cert.MlFinalReferenceIdeal.main_arg0) = m ((c.tc : Thread Cert.MlFinalReferenceIdeal.nD Cert.MlFinalReferenceIdeal.τ).loc Cert.MlFinalReferenceIdeal.main_arg0)
      ∧ r.2.mem ((c.tc : Thread Cert.MlFinalReferenceIdeal.nD Cert.MlFinalReferenceIdeal.τ).loc Cert.MlFinalReferenceIdeal.main_arg1) = m ((c.tc : Thread Cert.MlFinalReferenceIdeal.nD Cert.MlFinalReferenceIdeal.τ).loc Cert.MlFinalReferenceIdeal.main_arg1)
      ∧ r.2.mem ((c.tc : Thread Cert.MlFinalReferenceIdeal.nD Cert.MlFinalReferenceIdeal.τ).loc Cert.MlFinalReferenceIdeal.main_arg2) = m ((c.tc : Thread Cert.MlFinalReferenceIdeal.nD Cert.MlFinalReferenceIdeal.τ).loc Cert.MlFinalReferenceIdeal.main_arg2)
      ∧ r.2.mem ((c.tc : Thread Cert.MlFinalReferenceIdeal.nD Cert.MlFinalReferenceIdeal.τ).loc Cert.MlFinalReferenceIdeal.main_arg3) = m ((c.tc : Thread Cert.MlFinalReferenceIdeal.nD Cert.MlFinalReferenceIdeal.τ).loc Cert.MlFinalReferenceIdeal.main_arg3))
      ∧ r.2.sem = fun _ => 0)

def quiescent_SsdFinal [hSsdFinal : Cert.SsdFinal.Facts] : Prop :=
  ∀ (m : (ℓ : Loc Cert.SsdFinal.nD Cert.SsdFinal.τ Cert.SsdFinal.sig) → Buf (Elt Bits) ℓ) (g : Dev Cert.SsdFinal.nD → PrngReg), Pre_SsdFinal m →
    θ_run (Cert.SsdFinal.defs (F := Bits)) (onTc (τ := Cert.SsdFinal.τ) (Cert.SsdFinal.main (F := Bits))) ⟨m, fun _ => 0, g⟩ (fun r => (∀ c : Dev Cert.SsdFinal.nD,
      r.2.mem ((c.tc : Thread Cert.SsdFinal.nD Cert.SsdFinal.τ).loc Cert.SsdFinal.main_arg0) = m ((c.tc : Thread Cert.SsdFinal.nD Cert.SsdFinal.τ).loc Cert.SsdFinal.main_arg0)
      ∧ r.2.mem ((c.tc : Thread Cert.SsdFinal.nD Cert.SsdFinal.τ).loc Cert.SsdFinal.main_arg1) = m ((c.tc : Thread Cert.SsdFinal.nD Cert.SsdFinal.τ).loc Cert.SsdFinal.main_arg1)
      ∧ r.2.mem ((c.tc : Thread Cert.SsdFinal.nD Cert.SsdFinal.τ).loc Cert.SsdFinal.main_arg2) = m ((c.tc : Thread Cert.SsdFinal.nD Cert.SsdFinal.τ).loc Cert.SsdFinal.main_arg2)
      ∧ r.2.mem ((c.tc : Thread Cert.SsdFinal.nD Cert.SsdFinal.τ).loc Cert.SsdFinal.main_arg3) = m ((c.tc : Thread Cert.SsdFinal.nD Cert.SsdFinal.τ).loc Cert.SsdFinal.main_arg3)
      ∧ r.2.mem ((c.tc : Thread Cert.SsdFinal.nD Cert.SsdFinal.τ).loc Cert.SsdFinal.main_arg4) = m ((c.tc : Thread Cert.SsdFinal.nD Cert.SsdFinal.τ).loc Cert.SsdFinal.main_arg4)
      ∧ r.2.mem ((c.tc : Thread Cert.SsdFinal.nD Cert.SsdFinal.τ).loc Cert.SsdFinal.main_arg5) = m ((c.tc : Thread Cert.SsdFinal.nD Cert.SsdFinal.τ).loc Cert.SsdFinal.main_arg5))
      ∧ r.2.sem = fun _ => 0)

def quiescent_SsdFinalIdeal [hSsdFinalIdeal : Cert.SsdFinalIdeal.Facts] : Prop :=
  ∀ (m : (ℓ : Loc Cert.SsdFinalIdeal.nD Cert.SsdFinalIdeal.τ Cert.SsdFinalIdeal.sig) → Buf (Elt Ideal) ℓ) (g : Dev Cert.SsdFinalIdeal.nD → PrngReg), Pre_SsdFinalIdeal m →
    θ_run (Cert.SsdFinalIdeal.defs (F := Ideal)) (onTc (τ := Cert.SsdFinalIdeal.τ) (Cert.SsdFinalIdeal.main (F := Ideal))) ⟨m, fun _ => 0, g⟩ (fun r => (∀ c : Dev Cert.SsdFinalIdeal.nD,
      r.2.mem ((c.tc : Thread Cert.SsdFinalIdeal.nD Cert.SsdFinalIdeal.τ).loc Cert.SsdFinalIdeal.main_arg0) = m ((c.tc : Thread Cert.SsdFinalIdeal.nD Cert.SsdFinalIdeal.τ).loc Cert.SsdFinalIdeal.main_arg0)
      ∧ r.2.mem ((c.tc : Thread Cert.SsdFinalIdeal.nD Cert.SsdFinalIdeal.τ).loc Cert.SsdFinalIdeal.main_arg1) = m ((c.tc : Thread Cert.SsdFinalIdeal.nD Cert.SsdFinalIdeal.τ).loc Cert.SsdFinalIdeal.main_arg1)
      ∧ r.2.mem ((c.tc : Thread Cert.SsdFinalIdeal.nD Cert.SsdFinalIdeal.τ).loc Cert.SsdFinalIdeal.main_arg2) = m ((c.tc : Thread Cert.SsdFinalIdeal.nD Cert.SsdFinalIdeal.τ).loc Cert.SsdFinalIdeal.main_arg2)
      ∧ r.2.mem ((c.tc : Thread Cert.SsdFinalIdeal.nD Cert.SsdFinalIdeal.τ).loc Cert.SsdFinalIdeal.main_arg3) = m ((c.tc : Thread Cert.SsdFinalIdeal.nD Cert.SsdFinalIdeal.τ).loc Cert.SsdFinalIdeal.main_arg3)
      ∧ r.2.mem ((c.tc : Thread Cert.SsdFinalIdeal.nD Cert.SsdFinalIdeal.τ).loc Cert.SsdFinalIdeal.main_arg4) = m ((c.tc : Thread Cert.SsdFinalIdeal.nD Cert.SsdFinalIdeal.τ).loc Cert.SsdFinalIdeal.main_arg4)
      ∧ r.2.mem ((c.tc : Thread Cert.SsdFinalIdeal.nD Cert.SsdFinalIdeal.τ).loc Cert.SsdFinalIdeal.main_arg5) = m ((c.tc : Thread Cert.SsdFinalIdeal.nD Cert.SsdFinalIdeal.τ).loc Cert.SsdFinalIdeal.main_arg5))
      ∧ r.2.sem = fun _ => 0)

def quiescent_SsdFinalReferenceIdeal [hSsdFinalReferenceIdeal : Cert.SsdFinalReferenceIdeal.Facts] : Prop :=
  ∀ (m : (ℓ : Loc Cert.SsdFinalReferenceIdeal.nD Cert.SsdFinalReferenceIdeal.τ Cert.SsdFinalReferenceIdeal.sig) → Buf (Elt Ideal) ℓ) (g : Dev Cert.SsdFinalReferenceIdeal.nD → PrngReg), Pre_SsdFinalReferenceIdeal m →
    θ_run (Cert.SsdFinalReferenceIdeal.defs (F := Ideal)) (onTc (τ := Cert.SsdFinalReferenceIdeal.τ) (Cert.SsdFinalReferenceIdeal.main (F := Ideal))) ⟨m, fun _ => 0, g⟩ (fun r => (∀ c : Dev Cert.SsdFinalReferenceIdeal.nD,
      r.2.mem ((c.tc : Thread Cert.SsdFinalReferenceIdeal.nD Cert.SsdFinalReferenceIdeal.τ).loc Cert.SsdFinalReferenceIdeal.main_arg0) = m ((c.tc : Thread Cert.SsdFinalReferenceIdeal.nD Cert.SsdFinalReferenceIdeal.τ).loc Cert.SsdFinalReferenceIdeal.main_arg0)
      ∧ r.2.mem ((c.tc : Thread Cert.SsdFinalReferenceIdeal.nD Cert.SsdFinalReferenceIdeal.τ).loc Cert.SsdFinalReferenceIdeal.main_arg1) = m ((c.tc : Thread Cert.SsdFinalReferenceIdeal.nD Cert.SsdFinalReferenceIdeal.τ).loc Cert.SsdFinalReferenceIdeal.main_arg1)
      ∧ r.2.mem ((c.tc : Thread Cert.SsdFinalReferenceIdeal.nD Cert.SsdFinalReferenceIdeal.τ).loc Cert.SsdFinalReferenceIdeal.main_arg2) = m ((c.tc : Thread Cert.SsdFinalReferenceIdeal.nD Cert.SsdFinalReferenceIdeal.τ).loc Cert.SsdFinalReferenceIdeal.main_arg2)
      ∧ r.2.mem ((c.tc : Thread Cert.SsdFinalReferenceIdeal.nD Cert.SsdFinalReferenceIdeal.τ).loc Cert.SsdFinalReferenceIdeal.main_arg3) = m ((c.tc : Thread Cert.SsdFinalReferenceIdeal.nD Cert.SsdFinalReferenceIdeal.τ).loc Cert.SsdFinalReferenceIdeal.main_arg3)
      ∧ r.2.mem ((c.tc : Thread Cert.SsdFinalReferenceIdeal.nD Cert.SsdFinalReferenceIdeal.τ).loc Cert.SsdFinalReferenceIdeal.main_arg4) = m ((c.tc : Thread Cert.SsdFinalReferenceIdeal.nD Cert.SsdFinalReferenceIdeal.τ).loc Cert.SsdFinalReferenceIdeal.main_arg4)
      ∧ r.2.mem ((c.tc : Thread Cert.SsdFinalReferenceIdeal.nD Cert.SsdFinalReferenceIdeal.τ).loc Cert.SsdFinalReferenceIdeal.main_arg5) = m ((c.tc : Thread Cert.SsdFinalReferenceIdeal.nD Cert.SsdFinalReferenceIdeal.τ).loc Cert.SsdFinalReferenceIdeal.main_arg5))
      ∧ r.2.sem = fun _ => 0)

def quiescent_DtProj [hDtProj : Cert.DtProj.Facts] : Prop :=
  ∀ (m : (ℓ : Loc Cert.DtProj.nD Cert.DtProj.τ Cert.DtProj.sig) → Buf (Elt Bits) ℓ) (g : Dev Cert.DtProj.nD → PrngReg), Pre_DtProj m →
    θ_run (Cert.DtProj.defs (F := Bits)) (onTc (τ := Cert.DtProj.τ) (Cert.DtProj.main (F := Bits))) ⟨m, fun _ => 0, g⟩ (fun r => (∀ c : Dev Cert.DtProj.nD,
      r.2.mem ((c.tc : Thread Cert.DtProj.nD Cert.DtProj.τ).loc Cert.DtProj.main_arg0) = m ((c.tc : Thread Cert.DtProj.nD Cert.DtProj.τ).loc Cert.DtProj.main_arg0)
      ∧ r.2.mem ((c.tc : Thread Cert.DtProj.nD Cert.DtProj.τ).loc Cert.DtProj.main_arg1) = m ((c.tc : Thread Cert.DtProj.nD Cert.DtProj.τ).loc Cert.DtProj.main_arg1))
      ∧ r.2.sem = fun _ => 0)

def quiescent_DtProjIdeal [hDtProjIdeal : Cert.DtProjIdeal.Facts] : Prop :=
  ∀ (m : (ℓ : Loc Cert.DtProjIdeal.nD Cert.DtProjIdeal.τ Cert.DtProjIdeal.sig) → Buf (Elt Ideal) ℓ) (g : Dev Cert.DtProjIdeal.nD → PrngReg), Pre_DtProjIdeal m →
    θ_run (Cert.DtProjIdeal.defs (F := Ideal)) (onTc (τ := Cert.DtProjIdeal.τ) (Cert.DtProjIdeal.main (F := Ideal))) ⟨m, fun _ => 0, g⟩ (fun r => (∀ c : Dev Cert.DtProjIdeal.nD,
      r.2.mem ((c.tc : Thread Cert.DtProjIdeal.nD Cert.DtProjIdeal.τ).loc Cert.DtProjIdeal.main_arg0) = m ((c.tc : Thread Cert.DtProjIdeal.nD Cert.DtProjIdeal.τ).loc Cert.DtProjIdeal.main_arg0)
      ∧ r.2.mem ((c.tc : Thread Cert.DtProjIdeal.nD Cert.DtProjIdeal.τ).loc Cert.DtProjIdeal.main_arg1) = m ((c.tc : Thread Cert.DtProjIdeal.nD Cert.DtProjIdeal.τ).loc Cert.DtProjIdeal.main_arg1))
      ∧ r.2.sem = fun _ => 0)

def quiescent_DtReferenceIdeal [hDtReferenceIdeal : Cert.DtReferenceIdeal.Facts] : Prop :=
  ∀ (m : (ℓ : Loc Cert.DtReferenceIdeal.nD Cert.DtReferenceIdeal.τ Cert.DtReferenceIdeal.sig) → Buf (Elt Ideal) ℓ) (g : Dev Cert.DtReferenceIdeal.nD → PrngReg), Pre_DtReferenceIdeal m →
    θ_run (Cert.DtReferenceIdeal.defs (F := Ideal)) (onTc (τ := Cert.DtReferenceIdeal.τ) (Cert.DtReferenceIdeal.main (F := Ideal))) ⟨m, fun _ => 0, g⟩ (fun r => (∀ c : Dev Cert.DtReferenceIdeal.nD,
      r.2.mem ((c.tc : Thread Cert.DtReferenceIdeal.nD Cert.DtReferenceIdeal.τ).loc Cert.DtReferenceIdeal.main_arg0) = m ((c.tc : Thread Cert.DtReferenceIdeal.nD Cert.DtReferenceIdeal.τ).loc Cert.DtReferenceIdeal.main_arg0)
      ∧ r.2.mem ((c.tc : Thread Cert.DtReferenceIdeal.nD Cert.DtReferenceIdeal.τ).loc Cert.DtReferenceIdeal.main_arg1) = m ((c.tc : Thread Cert.DtReferenceIdeal.nD Cert.DtReferenceIdeal.τ).loc Cert.DtReferenceIdeal.main_arg1))
      ∧ r.2.sem = fun _ => 0)

def quiescent_GatesProj [hGatesProj : Cert.GatesProj.Facts] : Prop :=
  ∀ (m : (ℓ : Loc Cert.GatesProj.nD Cert.GatesProj.τ Cert.GatesProj.sig) → Buf (Elt Bits) ℓ) (g : Dev Cert.GatesProj.nD → PrngReg), Pre_GatesProj m →
    θ_run (Cert.GatesProj.defs (F := Bits)) (onTc (τ := Cert.GatesProj.τ) (Cert.GatesProj.main (F := Bits))) ⟨m, fun _ => 0, g⟩ (fun r => (∀ c : Dev Cert.GatesProj.nD,
      r.2.mem ((c.tc : Thread Cert.GatesProj.nD Cert.GatesProj.τ).loc Cert.GatesProj.main_arg0) = m ((c.tc : Thread Cert.GatesProj.nD Cert.GatesProj.τ).loc Cert.GatesProj.main_arg0)
      ∧ r.2.mem ((c.tc : Thread Cert.GatesProj.nD Cert.GatesProj.τ).loc Cert.GatesProj.main_arg1) = m ((c.tc : Thread Cert.GatesProj.nD Cert.GatesProj.τ).loc Cert.GatesProj.main_arg1))
      ∧ r.2.sem = fun _ => 0)

def quiescent_GatesProjIdeal [hGatesProjIdeal : Cert.GatesProjIdeal.Facts] : Prop :=
  ∀ (m : (ℓ : Loc Cert.GatesProjIdeal.nD Cert.GatesProjIdeal.τ Cert.GatesProjIdeal.sig) → Buf (Elt Ideal) ℓ) (g : Dev Cert.GatesProjIdeal.nD → PrngReg), Pre_GatesProjIdeal m →
    θ_run (Cert.GatesProjIdeal.defs (F := Ideal)) (onTc (τ := Cert.GatesProjIdeal.τ) (Cert.GatesProjIdeal.main (F := Ideal))) ⟨m, fun _ => 0, g⟩ (fun r => (∀ c : Dev Cert.GatesProjIdeal.nD,
      r.2.mem ((c.tc : Thread Cert.GatesProjIdeal.nD Cert.GatesProjIdeal.τ).loc Cert.GatesProjIdeal.main_arg0) = m ((c.tc : Thread Cert.GatesProjIdeal.nD Cert.GatesProjIdeal.τ).loc Cert.GatesProjIdeal.main_arg0)
      ∧ r.2.mem ((c.tc : Thread Cert.GatesProjIdeal.nD Cert.GatesProjIdeal.τ).loc Cert.GatesProjIdeal.main_arg1) = m ((c.tc : Thread Cert.GatesProjIdeal.nD Cert.GatesProjIdeal.τ).loc Cert.GatesProjIdeal.main_arg1))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ r.2.sem = fun _ => 0)

def quiescent_RouterIdeal_pre_finite_weights [hRouterIdeal : Cert.RouterIdeal.Facts] [hPre_finite_weights : Cert.Pre_finite_weights.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_finite_weights m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ r.2.sem = fun _ => 0)

def quiescent_RouterReferenceIdeal [hRouterReferenceIdeal : Cert.RouterReferenceIdeal.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1)
      ∧ r.2.mem ((c.tc : Thread Cert.RouterReferenceIdeal.nD Cert.RouterReferenceIdeal.τ).loc Cert.RouterReferenceIdeal.main_arg2) = m ((c.tc : Thread Cert.RouterReferenceIdeal.nD Cert.RouterReferenceIdeal.τ).loc Cert.RouterReferenceIdeal.main_arg2))
      ∧ r.2.sem = fun _ => 0)

def quiescent_RouterReferenceIdeal_pre_finite_weights [hRouterReferenceIdeal : Cert.RouterReferenceIdeal.Facts] [hPre_finite_weights : Cert.Pre_finite_weights.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal_finite_weights m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1)
      ∧ r.2.mem ((c.tc : Thread Cert.RouterReferenceIdeal.nD Cert.RouterReferenceIdeal.τ).loc Cert.RouterReferenceIdeal.main_arg2) = m ((c.tc : Thread Cert.RouterReferenceIdeal.nD Cert.RouterReferenceIdeal.τ).loc Cert.RouterReferenceIdeal.main_arg2))
      ∧ r.2.sem = fun _ => 0)

def preserves_OutProj_OutProjIdeal : Prop :=
  True

def algebraic_OutProjIdeal_OutReferenceIdeal [hOutProjIdeal : Cert.OutProjIdeal.Facts] [hOutReferenceIdeal : Cert.OutReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutProjIdeal m →
    (∀ c : Dev Cert.OutProjIdeal.nD,
      m' ((c.tc : Thread Cert.OutReferenceIdeal.nD Cert.OutReferenceIdeal.τ).loc Cert.OutReferenceIdeal.main_arg0) = m ((c.tc : Thread Cert.OutProjIdeal.nD Cert.OutProjIdeal.τ).loc Cert.OutProjIdeal.main_arg0)
      ∧ m' ((c.tc : Thread Cert.OutReferenceIdeal.nD Cert.OutReferenceIdeal.τ).loc Cert.OutReferenceIdeal.main_arg1) = m ((c.tc : Thread Cert.OutProjIdeal.nD Cert.OutProjIdeal.τ).loc Cert.OutProjIdeal.main_arg1)
      ∧ m' ((c.tc : Thread Cert.OutReferenceIdeal.nD Cert.OutReferenceIdeal.τ).loc Cert.OutReferenceIdeal.main_arg2) = m ((c.tc : Thread Cert.OutProjIdeal.nD Cert.OutProjIdeal.τ).loc Cert.OutProjIdeal.main_arg2)
      ∧ m' ((c.tc : Thread Cert.OutReferenceIdeal.nD Cert.OutReferenceIdeal.τ).loc Cert.OutReferenceIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_QkvoProj_QkvoProjIdeal : Prop :=
  True

def algebraic_QkvoProjIdeal_QkvoReferenceIdeal [hQkvoProjIdeal : Cert.QkvoProjIdeal.Facts] [hQkvoReferenceIdeal : Cert.QkvoReferenceIdeal.Facts] : Prop :=
  ∀ (m : (ℓ : Loc Cert.QkvoProjIdeal.nD Cert.QkvoProjIdeal.τ Cert.QkvoProjIdeal.sig) → Buf (Elt Ideal) ℓ) (g : Dev Cert.QkvoProjIdeal.nD → PrngReg)
    (m' : (ℓ : Loc Cert.QkvoReferenceIdeal.nD Cert.QkvoReferenceIdeal.τ Cert.QkvoReferenceIdeal.sig) → Buf (Elt Ideal) ℓ) (g' : Dev Cert.QkvoReferenceIdeal.nD → PrngReg), Pre_QkvoProjIdeal m →
    (∀ c : Dev Cert.QkvoProjIdeal.nD,
      m' ((c.tc : Thread Cert.QkvoReferenceIdeal.nD Cert.QkvoReferenceIdeal.τ).loc Cert.QkvoReferenceIdeal.main_arg0) = m ((c.tc : Thread Cert.QkvoProjIdeal.nD Cert.QkvoProjIdeal.τ).loc Cert.QkvoProjIdeal.main_arg0)
      ∧ m' ((c.tc : Thread Cert.QkvoReferenceIdeal.nD Cert.QkvoReferenceIdeal.τ).loc Cert.QkvoReferenceIdeal.main_arg1) = m ((c.tc : Thread Cert.QkvoProjIdeal.nD Cert.QkvoProjIdeal.τ).loc Cert.QkvoProjIdeal.main_arg1)) →
    ∃ (v0 : (c : Dev Cert.QkvoProjIdeal.nD) → Buf (Elt Ideal) ((c.tc : Thread Cert.QkvoProjIdeal.nD Cert.QkvoProjIdeal.τ).loc Cert.QkvoProjIdeal.main_v1)),
      θ_run (Cert.QkvoProjIdeal.defs (F := Ideal)) (onTc (τ := Cert.QkvoProjIdeal.τ) (Cert.QkvoProjIdeal.main (F := Ideal))) ⟨m, fun _ => 0, g⟩ (fun r => ∀ c : Dev Cert.QkvoProjIdeal.nD,
          r.2.mem ((c.tc : Thread Cert.QkvoProjIdeal.nD Cert.QkvoProjIdeal.τ).loc Cert.QkvoProjIdeal.main_v1) = v0 c
          ∧ r.2.mem ((c.tc : Thread Cert.QkvoProjIdeal.nD Cert.QkvoProjIdeal.τ).loc Cert.QkvoProjIdeal.main_arg0) = m ((c.tc : Thread Cert.QkvoProjIdeal.nD Cert.QkvoProjIdeal.τ).loc Cert.QkvoProjIdeal.main_arg0)
          ∧ r.2.mem ((c.tc : Thread Cert.QkvoProjIdeal.nD Cert.QkvoProjIdeal.τ).loc Cert.QkvoProjIdeal.main_arg1) = m ((c.tc : Thread Cert.QkvoProjIdeal.nD Cert.QkvoProjIdeal.τ).loc Cert.QkvoProjIdeal.main_arg1))
      ∧ θ_run (Cert.QkvoReferenceIdeal.defs (F := Ideal)) (onTc (τ := Cert.QkvoReferenceIdeal.τ) (Cert.QkvoReferenceIdeal.main (F := Ideal))) ⟨m', fun _ => 0, g'⟩ (fun r => ∀ c : Dev Cert.QkvoReferenceIdeal.nD,
          r.2.mem ((c.tc : Thread Cert.QkvoReferenceIdeal.nD Cert.QkvoReferenceIdeal.τ).loc Cert.QkvoReferenceIdeal.main_v2) = v0 c
          ∧ r.2.mem ((c.tc : Thread Cert.QkvoReferenceIdeal.nD Cert.QkvoReferenceIdeal.τ).loc Cert.QkvoReferenceIdeal.main_arg0) = m' ((c.tc : Thread Cert.QkvoReferenceIdeal.nD Cert.QkvoReferenceIdeal.τ).loc Cert.QkvoReferenceIdeal.main_arg0)
          ∧ r.2.mem ((c.tc : Thread Cert.QkvoReferenceIdeal.nD Cert.QkvoReferenceIdeal.τ).loc Cert.QkvoReferenceIdeal.main_arg1) = m' ((c.tc : Thread Cert.QkvoReferenceIdeal.nD Cert.QkvoReferenceIdeal.τ).loc Cert.QkvoReferenceIdeal.main_arg1))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v11) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_FfnTwo_FfnTwoIdeal : Prop :=
  True

def algebraic_FfnTwoIdeal_FfnTwoReferenceIdeal [hFfnTwoIdeal : Cert.FfnTwoIdeal.Facts] [hFfnTwoReferenceIdeal : Cert.FfnTwoReferenceIdeal.Facts] : Prop :=
  ∀ (m : (ℓ : Loc Cert.FfnTwoIdeal.nD Cert.FfnTwoIdeal.τ Cert.FfnTwoIdeal.sig) → Buf (Elt Ideal) ℓ) (g : Dev Cert.FfnTwoIdeal.nD → PrngReg)
    (m' : (ℓ : Loc Cert.FfnTwoReferenceIdeal.nD Cert.FfnTwoReferenceIdeal.τ Cert.FfnTwoReferenceIdeal.sig) → Buf (Elt Ideal) ℓ) (g' : Dev Cert.FfnTwoReferenceIdeal.nD → PrngReg), Pre_FfnTwoIdeal m →
    (∀ c : Dev Cert.FfnTwoIdeal.nD,
      m' ((c.tc : Thread Cert.FfnTwoReferenceIdeal.nD Cert.FfnTwoReferenceIdeal.τ).loc Cert.FfnTwoReferenceIdeal.main_arg0) = m ((c.tc : Thread Cert.FfnTwoIdeal.nD Cert.FfnTwoIdeal.τ).loc Cert.FfnTwoIdeal.main_arg0)
      ∧ m' ((c.tc : Thread Cert.FfnTwoReferenceIdeal.nD Cert.FfnTwoReferenceIdeal.τ).loc Cert.FfnTwoReferenceIdeal.main_arg1) = m ((c.tc : Thread Cert.FfnTwoIdeal.nD Cert.FfnTwoIdeal.τ).loc Cert.FfnTwoIdeal.main_arg1)
      ∧ m' ((c.tc : Thread Cert.FfnTwoReferenceIdeal.nD Cert.FfnTwoReferenceIdeal.τ).loc Cert.FfnTwoReferenceIdeal.main_arg2) = m ((c.tc : Thread Cert.FfnTwoIdeal.nD Cert.FfnTwoIdeal.τ).loc Cert.FfnTwoIdeal.main_arg2)
      ∧ m' ((c.tc : Thread Cert.FfnTwoReferenceIdeal.nD Cert.FfnTwoReferenceIdeal.τ).loc Cert.FfnTwoReferenceIdeal.main_arg3) = m ((c.tc : Thread Cert.FfnTwoIdeal.nD Cert.FfnTwoIdeal.τ).loc Cert.FfnTwoIdeal.main_arg3)) →
    ∃ (v0 : (c : Dev Cert.FfnTwoIdeal.nD) → Buf (Elt Ideal) ((c.tc : Thread Cert.FfnTwoIdeal.nD Cert.FfnTwoIdeal.τ).loc Cert.FfnTwoIdeal.main_v0)),
      θ_run (Cert.FfnTwoIdeal.defs (F := Ideal)) (onTc (τ := Cert.FfnTwoIdeal.τ) (Cert.FfnTwoIdeal.main (F := Ideal))) ⟨m, fun _ => 0, g⟩ (fun r => ∀ c : Dev Cert.FfnTwoIdeal.nD,
          r.2.mem ((c.tc : Thread Cert.FfnTwoIdeal.nD Cert.FfnTwoIdeal.τ).loc Cert.FfnTwoIdeal.main_v0) = v0 c
          ∧ r.2.mem ((c.tc : Thread Cert.FfnTwoIdeal.nD Cert.FfnTwoIdeal.τ).loc Cert.FfnTwoIdeal.main_arg0) = m ((c.tc : Thread Cert.FfnTwoIdeal.nD Cert.FfnTwoIdeal.τ).loc Cert.FfnTwoIdeal.main_arg0)
          ∧ r.2.mem ((c.tc : Thread Cert.FfnTwoIdeal.nD Cert.FfnTwoIdeal.τ).loc Cert.FfnTwoIdeal.main_arg1) = m ((c.tc : Thread Cert.FfnTwoIdeal.nD Cert.FfnTwoIdeal.τ).loc Cert.FfnTwoIdeal.main_arg1)
          ∧ r.2.mem ((c.tc : Thread Cert.FfnTwoIdeal.nD Cert.FfnTwoIdeal.τ).loc Cert.FfnTwoIdeal.main_arg2) = m ((c.tc : Thread Cert.FfnTwoIdeal.nD Cert.FfnTwoIdeal.τ).loc Cert.FfnTwoIdeal.main_arg2)
          ∧ r.2.mem ((c.tc : Thread Cert.FfnTwoIdeal.nD Cert.FfnTwoIdeal.τ).loc Cert.FfnTwoIdeal.main_arg3) = m ((c.tc : Thread Cert.FfnTwoIdeal.nD Cert.FfnTwoIdeal.τ).loc Cert.FfnTwoIdeal.main_arg3))
      ∧ θ_run (Cert.FfnTwoReferenceIdeal.defs (F := Ideal)) (onTc (τ := Cert.FfnTwoReferenceIdeal.τ) (Cert.FfnTwoReferenceIdeal.main (F := Ideal))) ⟨m', fun _ => 0, g'⟩ (fun r => ∀ c : Dev Cert.FfnTwoReferenceIdeal.nD,
          r.2.mem ((c.tc : Thread Cert.FfnTwoReferenceIdeal.nD Cert.FfnTwoReferenceIdeal.τ).loc Cert.FfnTwoReferenceIdeal.main_v11) = v0 c
          ∧ r.2.mem ((c.tc : Thread Cert.FfnTwoReferenceIdeal.nD Cert.FfnTwoReferenceIdeal.τ).loc Cert.FfnTwoReferenceIdeal.main_arg0) = m' ((c.tc : Thread Cert.FfnTwoReferenceIdeal.nD Cert.FfnTwoReferenceIdeal.τ).loc Cert.FfnTwoReferenceIdeal.main_arg0)
          ∧ r.2.mem ((c.tc : Thread Cert.FfnTwoReferenceIdeal.nD Cert.FfnTwoReferenceIdeal.τ).loc Cert.FfnTwoReferenceIdeal.main_arg1) = m' ((c.tc : Thread Cert.FfnTwoReferenceIdeal.nD Cert.FfnTwoReferenceIdeal.τ).loc Cert.FfnTwoReferenceIdeal.main_arg1)
          ∧ r.2.mem ((c.tc : Thread Cert.FfnTwoReferenceIdeal.nD Cert.FfnTwoReferenceIdeal.τ).loc Cert.FfnTwoReferenceIdeal.main_arg2) = m' ((c.tc : Thread Cert.FfnTwoReferenceIdeal.nD Cert.FfnTwoReferenceIdeal.τ).loc Cert.FfnTwoReferenceIdeal.main_arg2)
          ∧ r.2.mem ((c.tc : Thread Cert.FfnTwoReferenceIdeal.nD Cert.FfnTwoReferenceIdeal.τ).loc Cert.FfnTwoReferenceIdeal.main_arg3) = m' ((c.tc : Thread Cert.FfnTwoReferenceIdeal.nD Cert.FfnTwoReferenceIdeal.τ).loc Cert.FfnTwoReferenceIdeal.main_arg3))

def preserves_ZProj_ZProjIdeal : Prop :=
  True

def algebraic_ZProjIdeal_ZReferenceIdeal [hZProjIdeal : Cert.ZProjIdeal.Facts] [hZReferenceIdeal : Cert.ZReferenceIdeal.Facts] : Prop :=
  ∀ (m : (ℓ : Loc Cert.ZProjIdeal.nD Cert.ZProjIdeal.τ Cert.ZProjIdeal.sig) → Buf (Elt Ideal) ℓ) (g : Dev Cert.ZProjIdeal.nD → PrngReg)
    (m' : (ℓ : Loc Cert.ZReferenceIdeal.nD Cert.ZReferenceIdeal.τ Cert.ZReferenceIdeal.sig) → Buf (Elt Ideal) ℓ) (g' : Dev Cert.ZReferenceIdeal.nD → PrngReg), Pre_ZProjIdeal m →
    (∀ c : Dev Cert.ZProjIdeal.nD,
      m' ((c.tc : Thread Cert.ZReferenceIdeal.nD Cert.ZReferenceIdeal.τ).loc Cert.ZReferenceIdeal.main_arg0) = m ((c.tc : Thread Cert.ZProjIdeal.nD Cert.ZProjIdeal.τ).loc Cert.ZProjIdeal.main_arg0)
      ∧ m' ((c.tc : Thread Cert.ZReferenceIdeal.nD Cert.ZReferenceIdeal.τ).loc Cert.ZReferenceIdeal.main_arg1) = m ((c.tc : Thread Cert.ZProjIdeal.nD Cert.ZProjIdeal.τ).loc Cert.ZProjIdeal.main_arg1)) →
    ∃ (v0 : (c : Dev Cert.ZProjIdeal.nD) → Buf (Elt Ideal) ((c.tc : Thread Cert.ZProjIdeal.nD Cert.ZProjIdeal.τ).loc Cert.ZProjIdeal.main_v1)),
      θ_run (Cert.ZProjIdeal.defs (F := Ideal)) (onTc (τ := Cert.ZProjIdeal.τ) (Cert.ZProjIdeal.main (F := Ideal))) ⟨m, fun _ => 0, g⟩ (fun r => ∀ c : Dev Cert.ZProjIdeal.nD,
          r.2.mem ((c.tc : Thread Cert.ZProjIdeal.nD Cert.ZProjIdeal.τ).loc Cert.ZProjIdeal.main_v1) = v0 c
          ∧ r.2.mem ((c.tc : Thread Cert.ZProjIdeal.nD Cert.ZProjIdeal.τ).loc Cert.ZProjIdeal.main_arg0) = m ((c.tc : Thread Cert.ZProjIdeal.nD Cert.ZProjIdeal.τ).loc Cert.ZProjIdeal.main_arg0)
          ∧ r.2.mem ((c.tc : Thread Cert.ZProjIdeal.nD Cert.ZProjIdeal.τ).loc Cert.ZProjIdeal.main_arg1) = m ((c.tc : Thread Cert.ZProjIdeal.nD Cert.ZProjIdeal.τ).loc Cert.ZProjIdeal.main_arg1))
      ∧ θ_run (Cert.ZReferenceIdeal.defs (F := Ideal)) (onTc (τ := Cert.ZReferenceIdeal.τ) (Cert.ZReferenceIdeal.main (F := Ideal))) ⟨m', fun _ => 0, g'⟩ (fun r => ∀ c : Dev Cert.ZReferenceIdeal.nD,
          r.2.mem ((c.tc : Thread Cert.ZReferenceIdeal.nD Cert.ZReferenceIdeal.τ).loc Cert.ZReferenceIdeal.main_v2) = v0 c
          ∧ r.2.mem ((c.tc : Thread Cert.ZReferenceIdeal.nD Cert.ZReferenceIdeal.τ).loc Cert.ZReferenceIdeal.main_arg0) = m' ((c.tc : Thread Cert.ZReferenceIdeal.nD Cert.ZReferenceIdeal.τ).loc Cert.ZReferenceIdeal.main_arg0)
          ∧ r.2.mem ((c.tc : Thread Cert.ZReferenceIdeal.nD Cert.ZReferenceIdeal.τ).loc Cert.ZReferenceIdeal.main_arg1) = m' ((c.tc : Thread Cert.ZReferenceIdeal.nD Cert.ZReferenceIdeal.τ).loc Cert.ZReferenceIdeal.main_arg1))

def preserves_XbcProj_XbcProjIdeal : Prop :=
  True

def algebraic_XbcProjIdeal_XbcReferenceIdeal [hXbcProjIdeal : Cert.XbcProjIdeal.Facts] [hXbcReferenceIdeal : Cert.XbcReferenceIdeal.Facts] : Prop :=
  ∀ (m : (ℓ : Loc Cert.XbcProjIdeal.nD Cert.XbcProjIdeal.τ Cert.XbcProjIdeal.sig) → Buf (Elt Ideal) ℓ) (g : Dev Cert.XbcProjIdeal.nD → PrngReg)
    (m' : (ℓ : Loc Cert.XbcReferenceIdeal.nD Cert.XbcReferenceIdeal.τ Cert.XbcReferenceIdeal.sig) → Buf (Elt Ideal) ℓ) (g' : Dev Cert.XbcReferenceIdeal.nD → PrngReg), Pre_XbcProjIdeal m →
    (∀ c : Dev Cert.XbcProjIdeal.nD,
      m' ((c.tc : Thread Cert.XbcReferenceIdeal.nD Cert.XbcReferenceIdeal.τ).loc Cert.XbcReferenceIdeal.main_arg0) = m ((c.tc : Thread Cert.XbcProjIdeal.nD Cert.XbcProjIdeal.τ).loc Cert.XbcProjIdeal.main_arg0)
      ∧ m' ((c.tc : Thread Cert.XbcReferenceIdeal.nD Cert.XbcReferenceIdeal.τ).loc Cert.XbcReferenceIdeal.main_arg1) = m ((c.tc : Thread Cert.XbcProjIdeal.nD Cert.XbcProjIdeal.τ).loc Cert.XbcProjIdeal.main_arg1)) →
    ∃ (v0 : (c : Dev Cert.XbcProjIdeal.nD) → Buf (Elt Ideal) ((c.tc : Thread Cert.XbcProjIdeal.nD Cert.XbcProjIdeal.τ).loc Cert.XbcProjIdeal.main_v1)),
      θ_run (Cert.XbcProjIdeal.defs (F := Ideal)) (onTc (τ := Cert.XbcProjIdeal.τ) (Cert.XbcProjIdeal.main (F := Ideal))) ⟨m, fun _ => 0, g⟩ (fun r => ∀ c : Dev Cert.XbcProjIdeal.nD,
          r.2.mem ((c.tc : Thread Cert.XbcProjIdeal.nD Cert.XbcProjIdeal.τ).loc Cert.XbcProjIdeal.main_v1) = v0 c
          ∧ r.2.mem ((c.tc : Thread Cert.XbcProjIdeal.nD Cert.XbcProjIdeal.τ).loc Cert.XbcProjIdeal.main_arg0) = m ((c.tc : Thread Cert.XbcProjIdeal.nD Cert.XbcProjIdeal.τ).loc Cert.XbcProjIdeal.main_arg0)
          ∧ r.2.mem ((c.tc : Thread Cert.XbcProjIdeal.nD Cert.XbcProjIdeal.τ).loc Cert.XbcProjIdeal.main_arg1) = m ((c.tc : Thread Cert.XbcProjIdeal.nD Cert.XbcProjIdeal.τ).loc Cert.XbcProjIdeal.main_arg1))
      ∧ θ_run (Cert.XbcReferenceIdeal.defs (F := Ideal)) (onTc (τ := Cert.XbcReferenceIdeal.τ) (Cert.XbcReferenceIdeal.main (F := Ideal))) ⟨m', fun _ => 0, g'⟩ (fun r => ∀ c : Dev Cert.XbcReferenceIdeal.nD,
          r.2.mem ((c.tc : Thread Cert.XbcReferenceIdeal.nD Cert.XbcReferenceIdeal.τ).loc Cert.XbcReferenceIdeal.main_v2) = v0 c
          ∧ r.2.mem ((c.tc : Thread Cert.XbcReferenceIdeal.nD Cert.XbcReferenceIdeal.τ).loc Cert.XbcReferenceIdeal.main_arg0) = m' ((c.tc : Thread Cert.XbcReferenceIdeal.nD Cert.XbcReferenceIdeal.τ).loc Cert.XbcReferenceIdeal.main_arg0)
          ∧ r.2.mem ((c.tc : Thread Cert.XbcReferenceIdeal.nD Cert.XbcReferenceIdeal.τ).loc Cert.XbcReferenceIdeal.main_arg1) = m' ((c.tc : Thread Cert.XbcReferenceIdeal.nD Cert.XbcReferenceIdeal.τ).loc Cert.XbcReferenceIdeal.main_arg1))

def preserves_QkvProj_QkvProjIdeal : Prop :=
  True

def algebraic_QkvProjIdeal_QkvReferenceIdeal [hQkvProjIdeal : Cert.QkvProjIdeal.Facts] [hQkvReferenceIdeal : Cert.QkvReferenceIdeal.Facts] : Prop :=
  ∀ (m : (ℓ : Loc Cert.QkvProjIdeal.nD Cert.QkvProjIdeal.τ Cert.QkvProjIdeal.sig) → Buf (Elt Ideal) ℓ) (g : Dev Cert.QkvProjIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvProjIdeal m →
    (∀ c : Dev Cert.QkvProjIdeal.nD,
      m' ((c.tc : Thread Cert.QkvReferenceIdeal.nD Cert.QkvReferenceIdeal.τ).loc Cert.QkvReferenceIdeal.main_arg0) = m ((c.tc : Thread Cert.QkvProjIdeal.nD Cert.QkvProjIdeal.τ).loc Cert.QkvProjIdeal.main_arg0)
      ∧ m' ((c.tc : Thread Cert.QkvReferenceIdeal.nD Cert.QkvReferenceIdeal.τ).loc Cert.QkvReferenceIdeal.main_arg1) = m ((c.tc : Thread Cert.QkvProjIdeal.nD Cert.QkvProjIdeal.τ).loc Cert.QkvProjIdeal.main_arg1)) →
    ∃ (v0 : (c : Dev Cert.QkvProjIdeal.nD) → Buf (Elt Ideal) ((c.tc : Thread Cert.QkvProjIdeal.nD Cert.QkvProjIdeal.τ).loc Cert.QkvProjIdeal.main_v2)),
      θ_run (Cert.QkvProjIdeal.defs (F := Ideal)) (onTc (τ := Cert.QkvProjIdeal.τ) (Cert.QkvProjIdeal.main (F := Ideal))) ⟨m, fun _ => 0, g⟩ (fun r => ∀ c : Dev Cert.QkvProjIdeal.nD,
          r.2.mem ((c.tc : Thread Cert.QkvProjIdeal.nD Cert.QkvProjIdeal.τ).loc Cert.QkvProjIdeal.main_v2) = v0 c
          ∧ r.2.mem ((c.tc : Thread Cert.QkvProjIdeal.nD Cert.QkvProjIdeal.τ).loc Cert.QkvProjIdeal.main_arg0) = m ((c.tc : Thread Cert.QkvProjIdeal.nD Cert.QkvProjIdeal.τ).loc Cert.QkvProjIdeal.main_arg0)
          ∧ r.2.mem ((c.tc : Thread Cert.QkvProjIdeal.nD Cert.QkvProjIdeal.τ).loc Cert.QkvProjIdeal.main_arg1) = m ((c.tc : Thread Cert.QkvProjIdeal.nD Cert.QkvProjIdeal.τ).loc Cert.QkvProjIdeal.main_arg1))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v2) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1))

def preserves_FnProj_FnProjIdeal : Prop :=
  True

def algebraic_FnProjIdeal_FnReferenceIdeal [hFnProjIdeal : Cert.FnProjIdeal.Facts] [hFnReferenceIdeal : Cert.FnReferenceIdeal.Facts] : Prop :=
  ∀ (m : (ℓ : Loc Cert.FnProjIdeal.nD Cert.FnProjIdeal.τ Cert.FnProjIdeal.sig) → Buf (Elt Ideal) ℓ) (g : Dev Cert.FnProjIdeal.nD → PrngReg)
    (m' : (ℓ : Loc Cert.FnReferenceIdeal.nD Cert.FnReferenceIdeal.τ Cert.FnReferenceIdeal.sig) → Buf (Elt Ideal) ℓ) (g' : Dev Cert.FnReferenceIdeal.nD → PrngReg), Pre_FnProjIdeal m →
    (∀ c : Dev Cert.FnProjIdeal.nD,
      m' ((c.tc : Thread Cert.FnReferenceIdeal.nD Cert.FnReferenceIdeal.τ).loc Cert.FnReferenceIdeal.main_arg0) = m ((c.tc : Thread Cert.FnProjIdeal.nD Cert.FnProjIdeal.τ).loc Cert.FnProjIdeal.main_arg0)
      ∧ m' ((c.tc : Thread Cert.FnReferenceIdeal.nD Cert.FnReferenceIdeal.τ).loc Cert.FnReferenceIdeal.main_arg1) = m ((c.tc : Thread Cert.FnProjIdeal.nD Cert.FnProjIdeal.τ).loc Cert.FnProjIdeal.main_arg1)) →
    ∃ (v0 : (c : Dev Cert.FnProjIdeal.nD) → Buf (Elt Ideal) ((c.tc : Thread Cert.FnProjIdeal.nD Cert.FnProjIdeal.τ).loc Cert.FnProjIdeal.main_v2)),
      θ_run (Cert.FnProjIdeal.defs (F := Ideal)) (onTc (τ := Cert.FnProjIdeal.τ) (Cert.FnProjIdeal.main (F := Ideal))) ⟨m, fun _ => 0, g⟩ (fun r => ∀ c : Dev Cert.FnProjIdeal.nD,
          r.2.mem ((c.tc : Thread Cert.FnProjIdeal.nD Cert.FnProjIdeal.τ).loc Cert.FnProjIdeal.main_v2) = v0 c
          ∧ r.2.mem ((c.tc : Thread Cert.FnProjIdeal.nD Cert.FnProjIdeal.τ).loc Cert.FnProjIdeal.main_arg0) = m ((c.tc : Thread Cert.FnProjIdeal.nD Cert.FnProjIdeal.τ).loc Cert.FnProjIdeal.main_arg0)
          ∧ r.2.mem ((c.tc : Thread Cert.FnProjIdeal.nD Cert.FnProjIdeal.τ).loc Cert.FnProjIdeal.main_arg1) = m ((c.tc : Thread Cert.FnProjIdeal.nD Cert.FnProjIdeal.τ).loc Cert.FnProjIdeal.main_arg1))
      ∧ θ_run (Cert.FnReferenceIdeal.defs (F := Ideal)) (onTc (τ := Cert.FnReferenceIdeal.τ) (Cert.FnReferenceIdeal.main (F := Ideal))) ⟨m', fun _ => 0, g'⟩ (fun r => ∀ c : Dev Cert.FnReferenceIdeal.nD,
          r.2.mem ((c.tc : Thread Cert.FnReferenceIdeal.nD Cert.FnReferenceIdeal.τ).loc Cert.FnReferenceIdeal.main_v2) = v0 c
          ∧ r.2.mem ((c.tc : Thread Cert.FnReferenceIdeal.nD Cert.FnReferenceIdeal.τ).loc Cert.FnReferenceIdeal.main_arg0) = m' ((c.tc : Thread Cert.FnReferenceIdeal.nD Cert.FnReferenceIdeal.τ).loc Cert.FnReferenceIdeal.main_arg0)
          ∧ r.2.mem ((c.tc : Thread Cert.FnReferenceIdeal.nD Cert.FnReferenceIdeal.τ).loc Cert.FnReferenceIdeal.main_arg1) = m' ((c.tc : Thread Cert.FnReferenceIdeal.nD Cert.FnReferenceIdeal.τ).loc Cert.FnReferenceIdeal.main_arg1))

def preserves_OutTwo_OutTwoIdeal : Prop :=
  True

def algebraic_OutTwoIdeal_OutTwoReferenceIdeal [hOutTwoIdeal : Cert.OutTwoIdeal.Facts] [hOutTwoReferenceIdeal : Cert.OutTwoReferenceIdeal.Facts] : Prop :=
  ∀ (m : (ℓ : Loc Cert.OutTwoIdeal.nD Cert.OutTwoIdeal.τ Cert.OutTwoIdeal.sig) → Buf (Elt Ideal) ℓ) (g : Dev Cert.OutTwoIdeal.nD → PrngReg)
    (m' : (ℓ : Loc Cert.OutTwoReferenceIdeal.nD Cert.OutTwoReferenceIdeal.τ Cert.OutTwoReferenceIdeal.sig) → Buf (Elt Ideal) ℓ) (g' : Dev Cert.OutTwoReferenceIdeal.nD → PrngReg), Pre_OutTwoIdeal m →
    (∀ c : Dev Cert.OutTwoIdeal.nD,
      m' ((c.tc : Thread Cert.OutTwoReferenceIdeal.nD Cert.OutTwoReferenceIdeal.τ).loc Cert.OutTwoReferenceIdeal.main_arg0) = m ((c.tc : Thread Cert.OutTwoIdeal.nD Cert.OutTwoIdeal.τ).loc Cert.OutTwoIdeal.main_arg0)
      ∧ m' ((c.tc : Thread Cert.OutTwoReferenceIdeal.nD Cert.OutTwoReferenceIdeal.τ).loc Cert.OutTwoReferenceIdeal.main_arg1) = m ((c.tc : Thread Cert.OutTwoIdeal.nD Cert.OutTwoIdeal.τ).loc Cert.OutTwoIdeal.main_arg1)
      ∧ m' ((c.tc : Thread Cert.OutTwoReferenceIdeal.nD Cert.OutTwoReferenceIdeal.τ).loc Cert.OutTwoReferenceIdeal.main_arg2) = m ((c.tc : Thread Cert.OutTwoIdeal.nD Cert.OutTwoIdeal.τ).loc Cert.OutTwoIdeal.main_arg2)
      ∧ m' ((c.tc : Thread Cert.OutTwoReferenceIdeal.nD Cert.OutTwoReferenceIdeal.τ).loc Cert.OutTwoReferenceIdeal.main_arg3) = m ((c.tc : Thread Cert.OutTwoIdeal.nD Cert.OutTwoIdeal.τ).loc Cert.OutTwoIdeal.main_arg3)) →
    ∃ (v0 : (c : Dev Cert.OutTwoIdeal.nD) → Buf (Elt Ideal) ((c.tc : Thread Cert.OutTwoIdeal.nD Cert.OutTwoIdeal.τ).loc Cert.OutTwoIdeal.main_v0)),
      θ_run (Cert.OutTwoIdeal.defs (F := Ideal)) (onTc (τ := Cert.OutTwoIdeal.τ) (Cert.OutTwoIdeal.main (F := Ideal))) ⟨m, fun _ => 0, g⟩ (fun r => ∀ c : Dev Cert.OutTwoIdeal.nD,
          r.2.mem ((c.tc : Thread Cert.OutTwoIdeal.nD Cert.OutTwoIdeal.τ).loc Cert.OutTwoIdeal.main_v0) = v0 c
          ∧ r.2.mem ((c.tc : Thread Cert.OutTwoIdeal.nD Cert.OutTwoIdeal.τ).loc Cert.OutTwoIdeal.main_arg0) = m ((c.tc : Thread Cert.OutTwoIdeal.nD Cert.OutTwoIdeal.τ).loc Cert.OutTwoIdeal.main_arg0)
          ∧ r.2.mem ((c.tc : Thread Cert.OutTwoIdeal.nD Cert.OutTwoIdeal.τ).loc Cert.OutTwoIdeal.main_arg1) = m ((c.tc : Thread Cert.OutTwoIdeal.nD Cert.OutTwoIdeal.τ).loc Cert.OutTwoIdeal.main_arg1)
          ∧ r.2.mem ((c.tc : Thread Cert.OutTwoIdeal.nD Cert.OutTwoIdeal.τ).loc Cert.OutTwoIdeal.main_arg2) = m ((c.tc : Thread Cert.OutTwoIdeal.nD Cert.OutTwoIdeal.τ).loc Cert.OutTwoIdeal.main_arg2)
          ∧ r.2.mem ((c.tc : Thread Cert.OutTwoIdeal.nD Cert.OutTwoIdeal.τ).loc Cert.OutTwoIdeal.main_arg3) = m ((c.tc : Thread Cert.OutTwoIdeal.nD Cert.OutTwoIdeal.τ).loc Cert.OutTwoIdeal.main_arg3))
      ∧ θ_run (Cert.OutTwoReferenceIdeal.defs (F := Ideal)) (onTc (τ := Cert.OutTwoReferenceIdeal.τ) (Cert.OutTwoReferenceIdeal.main (F := Ideal))) ⟨m', fun _ => 0, g'⟩ (fun r => ∀ c : Dev Cert.OutTwoReferenceIdeal.nD,
          r.2.mem ((c.tc : Thread Cert.OutTwoReferenceIdeal.nD Cert.OutTwoReferenceIdeal.τ).loc Cert.OutTwoReferenceIdeal.main_v3) = v0 c
          ∧ r.2.mem ((c.tc : Thread Cert.OutTwoReferenceIdeal.nD Cert.OutTwoReferenceIdeal.τ).loc Cert.OutTwoReferenceIdeal.main_arg0) = m' ((c.tc : Thread Cert.OutTwoReferenceIdeal.nD Cert.OutTwoReferenceIdeal.τ).loc Cert.OutTwoReferenceIdeal.main_arg0)
          ∧ r.2.mem ((c.tc : Thread Cert.OutTwoReferenceIdeal.nD Cert.OutTwoReferenceIdeal.τ).loc Cert.OutTwoReferenceIdeal.main_arg1) = m' ((c.tc : Thread Cert.OutTwoReferenceIdeal.nD Cert.OutTwoReferenceIdeal.τ).loc Cert.OutTwoReferenceIdeal.main_arg1)
          ∧ r.2.mem ((c.tc : Thread Cert.OutTwoReferenceIdeal.nD Cert.OutTwoReferenceIdeal.τ).loc Cert.OutTwoReferenceIdeal.main_arg2) = m' ((c.tc : Thread Cert.OutTwoReferenceIdeal.nD Cert.OutTwoReferenceIdeal.τ).loc Cert.OutTwoReferenceIdeal.main_arg2)
          ∧ r.2.mem ((c.tc : Thread Cert.OutTwoReferenceIdeal.nD Cert.OutTwoReferenceIdeal.τ).loc Cert.OutTwoReferenceIdeal.main_arg3) = m' ((c.tc : Thread Cert.OutTwoReferenceIdeal.nD Cert.OutTwoReferenceIdeal.τ).loc Cert.OutTwoReferenceIdeal.main_arg3))

def preserves_Attention_AttentionIdeal : Prop :=
  IdealRules.named_const.Statement Cert.AttentionIdeal.κ "mask" .f32 0xF149F2CA#32 ⊥

def algebraic_AttentionIdeal_AttentionReferenceIdeal_pre_finite [hAttentionIdeal : Cert.AttentionIdeal.Facts] [hAttentionReferenceIdeal : Cert.AttentionReferenceIdeal.Facts] [hPre_finite : Cert.Pre_finite.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionReferenceIdeal.nD Cert.AttentionReferenceIdeal.τ Cert.AttentionReferenceIdeal.sig) → Buf (Elt Ideal) ℓ) (g' : Dev Cert.AttentionReferenceIdeal.nD → PrngReg), Pre_AttentionIdeal_finite m →
    (∀ c : Dev Cert.AttentionIdeal.nD,
      m' ((c.tc : Thread Cert.AttentionReferenceIdeal.nD Cert.AttentionReferenceIdeal.τ).loc Cert.AttentionReferenceIdeal.main_arg0) = m ((c.tc : Thread Cert.AttentionIdeal.nD Cert.AttentionIdeal.τ).loc Cert.AttentionIdeal.main_arg0)
      ∧ m' ((c.tc : Thread Cert.AttentionReferenceIdeal.nD Cert.AttentionReferenceIdeal.τ).loc Cert.AttentionReferenceIdeal.main_arg1) = m ((c.tc : Thread Cert.AttentionIdeal.nD Cert.AttentionIdeal.τ).loc Cert.AttentionIdeal.main_arg1)
      ∧ m' ((c.tc : Thread Cert.AttentionReferenceIdeal.nD Cert.AttentionReferenceIdeal.τ).loc Cert.AttentionReferenceIdeal.main_arg2) = m ((c.tc : Thread Cert.AttentionIdeal.nD Cert.AttentionIdeal.τ).loc Cert.AttentionIdeal.main_arg2)) →
    ∃ (v0 : (c : Dev Cert.AttentionIdeal.nD) → Buf (Elt Ideal) ((c.tc : Thread Cert.AttentionIdeal.nD Cert.AttentionIdeal.τ).loc Cert.AttentionIdeal.main_v0)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v0) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ θ_run (Cert.AttentionReferenceIdeal.defs (F := Ideal)) (onTc (τ := Cert.AttentionReferenceIdeal.τ) (Cert.AttentionReferenceIdeal.main (F := Ideal))) ⟨m', fun _ => 0, g'⟩ (fun r => ∀ c : Dev Cert.AttentionReferenceIdeal.nD,
          r.2.mem ((c.tc : Thread Cert.AttentionReferenceIdeal.nD Cert.AttentionReferenceIdeal.τ).loc Cert.AttentionReferenceIdeal.main_v53) = v0 c
          ∧ r.2.mem ((c.tc : Thread Cert.AttentionReferenceIdeal.nD Cert.AttentionReferenceIdeal.τ).loc Cert.AttentionReferenceIdeal.main_arg0) = m' ((c.tc : Thread Cert.AttentionReferenceIdeal.nD Cert.AttentionReferenceIdeal.τ).loc Cert.AttentionReferenceIdeal.main_arg0)
          ∧ r.2.mem ((c.tc : Thread Cert.AttentionReferenceIdeal.nD Cert.AttentionReferenceIdeal.τ).loc Cert.AttentionReferenceIdeal.main_arg1) = m' ((c.tc : Thread Cert.AttentionReferenceIdeal.nD Cert.AttentionReferenceIdeal.τ).loc Cert.AttentionReferenceIdeal.main_arg1)
          ∧ r.2.mem ((c.tc : Thread Cert.AttentionReferenceIdeal.nD Cert.AttentionReferenceIdeal.τ).loc Cert.AttentionReferenceIdeal.main_arg2) = m' ((c.tc : Thread Cert.AttentionReferenceIdeal.nD Cert.AttentionReferenceIdeal.τ).loc Cert.AttentionReferenceIdeal.main_arg2))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v13) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_MlFinal_MlFinalIdeal : Prop :=
  True

def algebraic_MlFinalIdeal_MlFinalReferenceIdeal [hMlFinalIdeal : Cert.MlFinalIdeal.Facts] [hMlFinalReferenceIdeal : Cert.MlFinalReferenceIdeal.Facts] : Prop :=
  ∀ (m : (ℓ : Loc Cert.MlFinalIdeal.nD Cert.MlFinalIdeal.τ Cert.MlFinalIdeal.sig) → Buf (Elt Ideal) ℓ) (g : Dev Cert.MlFinalIdeal.nD → PrngReg)
    (m' : (ℓ : Loc Cert.MlFinalReferenceIdeal.nD Cert.MlFinalReferenceIdeal.τ Cert.MlFinalReferenceIdeal.sig) → Buf (Elt Ideal) ℓ) (g' : Dev Cert.MlFinalReferenceIdeal.nD → PrngReg), Pre_MlFinalIdeal m →
    (∀ c : Dev Cert.MlFinalIdeal.nD,
      m' ((c.tc : Thread Cert.MlFinalReferenceIdeal.nD Cert.MlFinalReferenceIdeal.τ).loc Cert.MlFinalReferenceIdeal.main_arg0) = m ((c.tc : Thread Cert.MlFinalIdeal.nD Cert.MlFinalIdeal.τ).loc Cert.MlFinalIdeal.main_arg0)
      ∧ m' ((c.tc : Thread Cert.MlFinalReferenceIdeal.nD Cert.MlFinalReferenceIdeal.τ).loc Cert.MlFinalReferenceIdeal.main_arg1) = m ((c.tc : Thread Cert.MlFinalIdeal.nD Cert.MlFinalIdeal.τ).loc Cert.MlFinalIdeal.main_arg1)
      ∧ m' ((c.tc : Thread Cert.MlFinalReferenceIdeal.nD Cert.MlFinalReferenceIdeal.τ).loc Cert.MlFinalReferenceIdeal.main_arg2) = m ((c.tc : Thread Cert.MlFinalIdeal.nD Cert.MlFinalIdeal.τ).loc Cert.MlFinalIdeal.main_arg2)
      ∧ m' ((c.tc : Thread Cert.MlFinalReferenceIdeal.nD Cert.MlFinalReferenceIdeal.τ).loc Cert.MlFinalReferenceIdeal.main_arg3) = m ((c.tc : Thread Cert.MlFinalIdeal.nD Cert.MlFinalIdeal.τ).loc Cert.MlFinalIdeal.main_arg3)) →
    ∃ (v0 : (c : Dev Cert.MlFinalIdeal.nD) → Buf (Elt Ideal) ((c.tc : Thread Cert.MlFinalIdeal.nD Cert.MlFinalIdeal.τ).loc Cert.MlFinalIdeal.main_v1)),
      θ_run (Cert.MlFinalIdeal.defs (F := Ideal)) (onTc (τ := Cert.MlFinalIdeal.τ) (Cert.MlFinalIdeal.main (F := Ideal))) ⟨m, fun _ => 0, g⟩ (fun r => ∀ c : Dev Cert.MlFinalIdeal.nD,
          r.2.mem ((c.tc : Thread Cert.MlFinalIdeal.nD Cert.MlFinalIdeal.τ).loc Cert.MlFinalIdeal.main_v1) = v0 c
          ∧ r.2.mem ((c.tc : Thread Cert.MlFinalIdeal.nD Cert.MlFinalIdeal.τ).loc Cert.MlFinalIdeal.main_arg0) = m ((c.tc : Thread Cert.MlFinalIdeal.nD Cert.MlFinalIdeal.τ).loc Cert.MlFinalIdeal.main_arg0)
          ∧ r.2.mem ((c.tc : Thread Cert.MlFinalIdeal.nD Cert.MlFinalIdeal.τ).loc Cert.MlFinalIdeal.main_arg1) = m ((c.tc : Thread Cert.MlFinalIdeal.nD Cert.MlFinalIdeal.τ).loc Cert.MlFinalIdeal.main_arg1)
          ∧ r.2.mem ((c.tc : Thread Cert.MlFinalIdeal.nD Cert.MlFinalIdeal.τ).loc Cert.MlFinalIdeal.main_arg2) = m ((c.tc : Thread Cert.MlFinalIdeal.nD Cert.MlFinalIdeal.τ).loc Cert.MlFinalIdeal.main_arg2)
          ∧ r.2.mem ((c.tc : Thread Cert.MlFinalIdeal.nD Cert.MlFinalIdeal.τ).loc Cert.MlFinalIdeal.main_arg3) = m ((c.tc : Thread Cert.MlFinalIdeal.nD Cert.MlFinalIdeal.τ).loc Cert.MlFinalIdeal.main_arg3))
      ∧ θ_run (Cert.MlFinalReferenceIdeal.defs (F := Ideal)) (onTc (τ := Cert.MlFinalReferenceIdeal.τ) (Cert.MlFinalReferenceIdeal.main (F := Ideal))) ⟨m', fun _ => 0, g'⟩ (fun r => ∀ c : Dev Cert.MlFinalReferenceIdeal.nD,
          r.2.mem ((c.tc : Thread Cert.MlFinalReferenceIdeal.nD Cert.MlFinalReferenceIdeal.τ).loc Cert.MlFinalReferenceIdeal.main_v24) = v0 c
          ∧ r.2.mem ((c.tc : Thread Cert.MlFinalReferenceIdeal.nD Cert.MlFinalReferenceIdeal.τ).loc Cert.MlFinalReferenceIdeal.main_arg0) = m' ((c.tc : Thread Cert.MlFinalReferenceIdeal.nD Cert.MlFinalReferenceIdeal.τ).loc Cert.MlFinalReferenceIdeal.main_arg0)
          ∧ r.2.mem ((c.tc : Thread Cert.MlFinalReferenceIdeal.nD Cert.MlFinalReferenceIdeal.τ).loc Cert.MlFinalReferenceIdeal.main_arg1) = m' ((c.tc : Thread Cert.MlFinalReferenceIdeal.nD Cert.MlFinalReferenceIdeal.τ).loc Cert.MlFinalReferenceIdeal.main_arg1)
          ∧ r.2.mem ((c.tc : Thread Cert.MlFinalReferenceIdeal.nD Cert.MlFinalReferenceIdeal.τ).loc Cert.MlFinalReferenceIdeal.main_arg2) = m' ((c.tc : Thread Cert.MlFinalReferenceIdeal.nD Cert.MlFinalReferenceIdeal.τ).loc Cert.MlFinalReferenceIdeal.main_arg2)
          ∧ r.2.mem ((c.tc : Thread Cert.MlFinalReferenceIdeal.nD Cert.MlFinalReferenceIdeal.τ).loc Cert.MlFinalReferenceIdeal.main_arg3) = m' ((c.tc : Thread Cert.MlFinalReferenceIdeal.nD Cert.MlFinalReferenceIdeal.τ).loc Cert.MlFinalReferenceIdeal.main_arg3))

def preserves_SsdFinal_SsdFinalIdeal : Prop :=
  True

def algebraic_SsdFinalIdeal_SsdFinalReferenceIdeal [hSsdFinalIdeal : Cert.SsdFinalIdeal.Facts] [hSsdFinalReferenceIdeal : Cert.SsdFinalReferenceIdeal.Facts] : Prop :=
  ∀ (m : (ℓ : Loc Cert.SsdFinalIdeal.nD Cert.SsdFinalIdeal.τ Cert.SsdFinalIdeal.sig) → Buf (Elt Ideal) ℓ) (g : Dev Cert.SsdFinalIdeal.nD → PrngReg)
    (m' : (ℓ : Loc Cert.SsdFinalReferenceIdeal.nD Cert.SsdFinalReferenceIdeal.τ Cert.SsdFinalReferenceIdeal.sig) → Buf (Elt Ideal) ℓ) (g' : Dev Cert.SsdFinalReferenceIdeal.nD → PrngReg), Pre_SsdFinalIdeal m →
    (∀ c : Dev Cert.SsdFinalIdeal.nD,
      m' ((c.tc : Thread Cert.SsdFinalReferenceIdeal.nD Cert.SsdFinalReferenceIdeal.τ).loc Cert.SsdFinalReferenceIdeal.main_arg0) = m ((c.tc : Thread Cert.SsdFinalIdeal.nD Cert.SsdFinalIdeal.τ).loc Cert.SsdFinalIdeal.main_arg0)
      ∧ m' ((c.tc : Thread Cert.SsdFinalReferenceIdeal.nD Cert.SsdFinalReferenceIdeal.τ).loc Cert.SsdFinalReferenceIdeal.main_arg1) = m ((c.tc : Thread Cert.SsdFinalIdeal.nD Cert.SsdFinalIdeal.τ).loc Cert.SsdFinalIdeal.main_arg1)
      ∧ m' ((c.tc : Thread Cert.SsdFinalReferenceIdeal.nD Cert.SsdFinalReferenceIdeal.τ).loc Cert.SsdFinalReferenceIdeal.main_arg2) = m ((c.tc : Thread Cert.SsdFinalIdeal.nD Cert.SsdFinalIdeal.τ).loc Cert.SsdFinalIdeal.main_arg2)
      ∧ m' ((c.tc : Thread Cert.SsdFinalReferenceIdeal.nD Cert.SsdFinalReferenceIdeal.τ).loc Cert.SsdFinalReferenceIdeal.main_arg3) = m ((c.tc : Thread Cert.SsdFinalIdeal.nD Cert.SsdFinalIdeal.τ).loc Cert.SsdFinalIdeal.main_arg3)
      ∧ m' ((c.tc : Thread Cert.SsdFinalReferenceIdeal.nD Cert.SsdFinalReferenceIdeal.τ).loc Cert.SsdFinalReferenceIdeal.main_arg4) = m ((c.tc : Thread Cert.SsdFinalIdeal.nD Cert.SsdFinalIdeal.τ).loc Cert.SsdFinalIdeal.main_arg4)
      ∧ m' ((c.tc : Thread Cert.SsdFinalReferenceIdeal.nD Cert.SsdFinalReferenceIdeal.τ).loc Cert.SsdFinalReferenceIdeal.main_arg5) = m ((c.tc : Thread Cert.SsdFinalIdeal.nD Cert.SsdFinalIdeal.τ).loc Cert.SsdFinalIdeal.main_arg5)) →
    ∃ (v0 : (c : Dev Cert.SsdFinalIdeal.nD) → Buf (Elt Ideal) ((c.tc : Thread Cert.SsdFinalIdeal.nD Cert.SsdFinalIdeal.τ).loc Cert.SsdFinalIdeal.main_v1)),
      θ_run (Cert.SsdFinalIdeal.defs (F := Ideal)) (onTc (τ := Cert.SsdFinalIdeal.τ) (Cert.SsdFinalIdeal.main (F := Ideal))) ⟨m, fun _ => 0, g⟩ (fun r => ∀ c : Dev Cert.SsdFinalIdeal.nD,
          r.2.mem ((c.tc : Thread Cert.SsdFinalIdeal.nD Cert.SsdFinalIdeal.τ).loc Cert.SsdFinalIdeal.main_v1) = v0 c
          ∧ r.2.mem ((c.tc : Thread Cert.SsdFinalIdeal.nD Cert.SsdFinalIdeal.τ).loc Cert.SsdFinalIdeal.main_arg0) = m ((c.tc : Thread Cert.SsdFinalIdeal.nD Cert.SsdFinalIdeal.τ).loc Cert.SsdFinalIdeal.main_arg0)
          ∧ r.2.mem ((c.tc : Thread Cert.SsdFinalIdeal.nD Cert.SsdFinalIdeal.τ).loc Cert.SsdFinalIdeal.main_arg1) = m ((c.tc : Thread Cert.SsdFinalIdeal.nD Cert.SsdFinalIdeal.τ).loc Cert.SsdFinalIdeal.main_arg1)
          ∧ r.2.mem ((c.tc : Thread Cert.SsdFinalIdeal.nD Cert.SsdFinalIdeal.τ).loc Cert.SsdFinalIdeal.main_arg2) = m ((c.tc : Thread Cert.SsdFinalIdeal.nD Cert.SsdFinalIdeal.τ).loc Cert.SsdFinalIdeal.main_arg2)
          ∧ r.2.mem ((c.tc : Thread Cert.SsdFinalIdeal.nD Cert.SsdFinalIdeal.τ).loc Cert.SsdFinalIdeal.main_arg3) = m ((c.tc : Thread Cert.SsdFinalIdeal.nD Cert.SsdFinalIdeal.τ).loc Cert.SsdFinalIdeal.main_arg3)
          ∧ r.2.mem ((c.tc : Thread Cert.SsdFinalIdeal.nD Cert.SsdFinalIdeal.τ).loc Cert.SsdFinalIdeal.main_arg4) = m ((c.tc : Thread Cert.SsdFinalIdeal.nD Cert.SsdFinalIdeal.τ).loc Cert.SsdFinalIdeal.main_arg4)
          ∧ r.2.mem ((c.tc : Thread Cert.SsdFinalIdeal.nD Cert.SsdFinalIdeal.τ).loc Cert.SsdFinalIdeal.main_arg5) = m ((c.tc : Thread Cert.SsdFinalIdeal.nD Cert.SsdFinalIdeal.τ).loc Cert.SsdFinalIdeal.main_arg5))
      ∧ θ_run (Cert.SsdFinalReferenceIdeal.defs (F := Ideal)) (onTc (τ := Cert.SsdFinalReferenceIdeal.τ) (Cert.SsdFinalReferenceIdeal.main (F := Ideal))) ⟨m', fun _ => 0, g'⟩ (fun r => ∀ c : Dev Cert.SsdFinalReferenceIdeal.nD,
          r.2.mem ((c.tc : Thread Cert.SsdFinalReferenceIdeal.nD Cert.SsdFinalReferenceIdeal.τ).loc Cert.SsdFinalReferenceIdeal.main_v22) = v0 c
          ∧ r.2.mem ((c.tc : Thread Cert.SsdFinalReferenceIdeal.nD Cert.SsdFinalReferenceIdeal.τ).loc Cert.SsdFinalReferenceIdeal.main_arg0) = m' ((c.tc : Thread Cert.SsdFinalReferenceIdeal.nD Cert.SsdFinalReferenceIdeal.τ).loc Cert.SsdFinalReferenceIdeal.main_arg0)
          ∧ r.2.mem ((c.tc : Thread Cert.SsdFinalReferenceIdeal.nD Cert.SsdFinalReferenceIdeal.τ).loc Cert.SsdFinalReferenceIdeal.main_arg1) = m' ((c.tc : Thread Cert.SsdFinalReferenceIdeal.nD Cert.SsdFinalReferenceIdeal.τ).loc Cert.SsdFinalReferenceIdeal.main_arg1)
          ∧ r.2.mem ((c.tc : Thread Cert.SsdFinalReferenceIdeal.nD Cert.SsdFinalReferenceIdeal.τ).loc Cert.SsdFinalReferenceIdeal.main_arg2) = m' ((c.tc : Thread Cert.SsdFinalReferenceIdeal.nD Cert.SsdFinalReferenceIdeal.τ).loc Cert.SsdFinalReferenceIdeal.main_arg2)
          ∧ r.2.mem ((c.tc : Thread Cert.SsdFinalReferenceIdeal.nD Cert.SsdFinalReferenceIdeal.τ).loc Cert.SsdFinalReferenceIdeal.main_arg3) = m' ((c.tc : Thread Cert.SsdFinalReferenceIdeal.nD Cert.SsdFinalReferenceIdeal.τ).loc Cert.SsdFinalReferenceIdeal.main_arg3)
          ∧ r.2.mem ((c.tc : Thread Cert.SsdFinalReferenceIdeal.nD Cert.SsdFinalReferenceIdeal.τ).loc Cert.SsdFinalReferenceIdeal.main_arg4) = m' ((c.tc : Thread Cert.SsdFinalReferenceIdeal.nD Cert.SsdFinalReferenceIdeal.τ).loc Cert.SsdFinalReferenceIdeal.main_arg4)
          ∧ r.2.mem ((c.tc : Thread Cert.SsdFinalReferenceIdeal.nD Cert.SsdFinalReferenceIdeal.τ).loc Cert.SsdFinalReferenceIdeal.main_arg5) = m' ((c.tc : Thread Cert.SsdFinalReferenceIdeal.nD Cert.SsdFinalReferenceIdeal.τ).loc Cert.SsdFinalReferenceIdeal.main_arg5))

def preserves_DtProj_DtProjIdeal : Prop :=
  True

def algebraic_DtProjIdeal_DtReferenceIdeal [hDtProjIdeal : Cert.DtProjIdeal.Facts] [hDtReferenceIdeal : Cert.DtReferenceIdeal.Facts] : Prop :=
  ∀ (m : (ℓ : Loc Cert.DtProjIdeal.nD Cert.DtProjIdeal.τ Cert.DtProjIdeal.sig) → Buf (Elt Ideal) ℓ) (g : Dev Cert.DtProjIdeal.nD → PrngReg)
    (m' : (ℓ : Loc Cert.DtReferenceIdeal.nD Cert.DtReferenceIdeal.τ Cert.DtReferenceIdeal.sig) → Buf (Elt Ideal) ℓ) (g' : Dev Cert.DtReferenceIdeal.nD → PrngReg), Pre_DtProjIdeal m →
    (∀ c : Dev Cert.DtProjIdeal.nD,
      m' ((c.tc : Thread Cert.DtReferenceIdeal.nD Cert.DtReferenceIdeal.τ).loc Cert.DtReferenceIdeal.main_arg0) = m ((c.tc : Thread Cert.DtProjIdeal.nD Cert.DtProjIdeal.τ).loc Cert.DtProjIdeal.main_arg0)
      ∧ m' ((c.tc : Thread Cert.DtReferenceIdeal.nD Cert.DtReferenceIdeal.τ).loc Cert.DtReferenceIdeal.main_arg1) = m ((c.tc : Thread Cert.DtProjIdeal.nD Cert.DtProjIdeal.τ).loc Cert.DtProjIdeal.main_arg1)) →
    ∃ (v0 : (c : Dev Cert.DtProjIdeal.nD) → Buf (Elt Ideal) ((c.tc : Thread Cert.DtProjIdeal.nD Cert.DtProjIdeal.τ).loc Cert.DtProjIdeal.main_v6)),
      θ_run (Cert.DtProjIdeal.defs (F := Ideal)) (onTc (τ := Cert.DtProjIdeal.τ) (Cert.DtProjIdeal.main (F := Ideal))) ⟨m, fun _ => 0, g⟩ (fun r => ∀ c : Dev Cert.DtProjIdeal.nD,
          r.2.mem ((c.tc : Thread Cert.DtProjIdeal.nD Cert.DtProjIdeal.τ).loc Cert.DtProjIdeal.main_v6) = v0 c
          ∧ r.2.mem ((c.tc : Thread Cert.DtProjIdeal.nD Cert.DtProjIdeal.τ).loc Cert.DtProjIdeal.main_arg0) = m ((c.tc : Thread Cert.DtProjIdeal.nD Cert.DtProjIdeal.τ).loc Cert.DtProjIdeal.main_arg0)
          ∧ r.2.mem ((c.tc : Thread Cert.DtProjIdeal.nD Cert.DtProjIdeal.τ).loc Cert.DtProjIdeal.main_arg1) = m ((c.tc : Thread Cert.DtProjIdeal.nD Cert.DtProjIdeal.τ).loc Cert.DtProjIdeal.main_arg1))
      ∧ θ_run (Cert.DtReferenceIdeal.defs (F := Ideal)) (onTc (τ := Cert.DtReferenceIdeal.τ) (Cert.DtReferenceIdeal.main (F := Ideal))) ⟨m', fun _ => 0, g'⟩ (fun r => ∀ c : Dev Cert.DtReferenceIdeal.nD,
          r.2.mem ((c.tc : Thread Cert.DtReferenceIdeal.nD Cert.DtReferenceIdeal.τ).loc Cert.DtReferenceIdeal.main_v7) = v0 c
          ∧ r.2.mem ((c.tc : Thread Cert.DtReferenceIdeal.nD Cert.DtReferenceIdeal.τ).loc Cert.DtReferenceIdeal.main_arg0) = m' ((c.tc : Thread Cert.DtReferenceIdeal.nD Cert.DtReferenceIdeal.τ).loc Cert.DtReferenceIdeal.main_arg0)
          ∧ r.2.mem ((c.tc : Thread Cert.DtReferenceIdeal.nD Cert.DtReferenceIdeal.τ).loc Cert.DtReferenceIdeal.main_arg1) = m' ((c.tc : Thread Cert.DtReferenceIdeal.nD Cert.DtReferenceIdeal.τ).loc Cert.DtReferenceIdeal.main_arg1))

def preserves_GatesProj_GatesProjIdeal : Prop :=
  True

def algebraic_GatesProjIdeal_GatesReferenceIdeal [hGatesProjIdeal : Cert.GatesProjIdeal.Facts] [hGatesReferenceIdeal : Cert.GatesReferenceIdeal.Facts] : Prop :=
  ∀ (m : (ℓ : Loc Cert.GatesProjIdeal.nD Cert.GatesProjIdeal.τ Cert.GatesProjIdeal.sig) → Buf (Elt Ideal) ℓ) (g : Dev Cert.GatesProjIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesProjIdeal m →
    (∀ c : Dev Cert.GatesProjIdeal.nD,
      m' ((c.tc : Thread Cert.GatesReferenceIdeal.nD Cert.GatesReferenceIdeal.τ).loc Cert.GatesReferenceIdeal.main_arg0) = m ((c.tc : Thread Cert.GatesProjIdeal.nD Cert.GatesProjIdeal.τ).loc Cert.GatesProjIdeal.main_arg0)
      ∧ m' ((c.tc : Thread Cert.GatesReferenceIdeal.nD Cert.GatesReferenceIdeal.τ).loc Cert.GatesReferenceIdeal.main_arg1) = m ((c.tc : Thread Cert.GatesProjIdeal.nD Cert.GatesProjIdeal.τ).loc Cert.GatesProjIdeal.main_arg1)) →
    ∃ (v0 : (c : Dev Cert.GatesProjIdeal.nD) → Buf (Elt Ideal) ((c.tc : Thread Cert.GatesProjIdeal.nD Cert.GatesProjIdeal.τ).loc Cert.GatesProjIdeal.main_v12)),
      θ_run (Cert.GatesProjIdeal.defs (F := Ideal)) (onTc (τ := Cert.GatesProjIdeal.τ) (Cert.GatesProjIdeal.main (F := Ideal))) ⟨m, fun _ => 0, g⟩ (fun r => ∀ c : Dev Cert.GatesProjIdeal.nD,
          r.2.mem ((c.tc : Thread Cert.GatesProjIdeal.nD Cert.GatesProjIdeal.τ).loc Cert.GatesProjIdeal.main_v12) = v0 c
          ∧ r.2.mem ((c.tc : Thread Cert.GatesProjIdeal.nD Cert.GatesProjIdeal.τ).loc Cert.GatesProjIdeal.main_arg0) = m ((c.tc : Thread Cert.GatesProjIdeal.nD Cert.GatesProjIdeal.τ).loc Cert.GatesProjIdeal.main_arg0)
          ∧ r.2.mem ((c.tc : Thread Cert.GatesProjIdeal.nD Cert.GatesProjIdeal.τ).loc Cert.GatesProjIdeal.main_arg1) = m ((c.tc : Thread Cert.GatesProjIdeal.nD Cert.GatesProjIdeal.τ).loc Cert.GatesProjIdeal.main_arg1))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v15) = v0 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v1) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v44) = v0 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2))

def preserves_Router_RouterIdeal : Prop :=
  True

def algebraic_RouterIdeal_RouterReferenceIdeal_pre_finite_weights [hRouterIdeal : Cert.RouterIdeal.Facts] [hRouterReferenceIdeal : Cert.RouterReferenceIdeal.Facts] [hPre_finite_weights : Cert.Pre_finite_weights.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterReferenceIdeal.nD Cert.RouterReferenceIdeal.τ Cert.RouterReferenceIdeal.sig) → Buf (Elt Ideal) ℓ) (g' : Dev Cert.RouterReferenceIdeal.nD → PrngReg), Pre_RouterIdeal_finite_weights m →
    (∀ c : Dev Cert.RouterIdeal.nD,
      m' ((c.tc : Thread Cert.RouterReferenceIdeal.nD Cert.RouterReferenceIdeal.τ).loc Cert.RouterReferenceIdeal.main_arg0) = m ((c.tc : Thread Cert.RouterIdeal.nD Cert.RouterIdeal.τ).loc Cert.RouterIdeal.main_arg0)
      ∧ m' ((c.tc : Thread Cert.RouterReferenceIdeal.nD Cert.RouterReferenceIdeal.τ).loc Cert.RouterReferenceIdeal.main_arg1) = m ((c.tc : Thread Cert.RouterIdeal.nD Cert.RouterIdeal.τ).loc Cert.RouterIdeal.main_arg1)
      ∧ m' ((c.tc : Thread Cert.RouterReferenceIdeal.nD Cert.RouterReferenceIdeal.τ).loc Cert.RouterReferenceIdeal.main_arg2) = m ((c.tc : Thread Cert.RouterIdeal.nD Cert.RouterIdeal.τ).loc Cert.RouterIdeal.main_arg2)) →
    ∃ (v0 : (c : Dev Cert.RouterIdeal.nD) → Buf (Elt Ideal) ((c.tc : Thread Cert.RouterIdeal.nD Cert.RouterIdeal.τ).loc Cert.RouterIdeal.main_v2_0)) (v1 : (c : Dev Cert.RouterIdeal.nD) → Buf (Elt Ideal) ((c.tc : Thread Cert.RouterIdeal.nD Cert.RouterIdeal.τ).loc Cert.RouterIdeal.main_v2_1)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v2_0) = v0 c
          ∧ r.2.mem ((c.tc : Thread Cert.RouterIdeal.nD Cert.RouterIdeal.τ).loc Cert.RouterIdeal.main_v2_1) = v1 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ θ_run (Cert.RouterReferenceIdeal.defs (F := Ideal)) (onTc (τ := Cert.RouterReferenceIdeal.τ) (Cert.RouterReferenceIdeal.main (F := Ideal))) ⟨m', fun _ => 0, g'⟩ (fun r => ∀ c : Dev Cert.RouterReferenceIdeal.nD,
          r.2.mem ((c.tc : Thread Cert.RouterReferenceIdeal.nD Cert.RouterReferenceIdeal.τ).loc Cert.RouterReferenceIdeal.main_v12) = v0 c
          ∧ r.2.mem ((c.tc : Thread Cert.RouterReferenceIdeal.nD Cert.RouterReferenceIdeal.τ).loc Cert.RouterReferenceIdeal.main_v14) = v1 c
          ∧ r.2.mem ((c.tc : Thread Cert.RouterReferenceIdeal.nD Cert.RouterReferenceIdeal.τ).loc Cert.RouterReferenceIdeal.main_arg0) = m' ((c.tc : Thread Cert.RouterReferenceIdeal.nD Cert.RouterReferenceIdeal.τ).loc Cert.RouterReferenceIdeal.main_arg0)
          ∧ r.2.mem ((c.tc : Thread Cert.RouterReferenceIdeal.nD Cert.RouterReferenceIdeal.τ).loc Cert.RouterReferenceIdeal.main_arg1) = m' ((c.tc : Thread Cert.RouterReferenceIdeal.nD Cert.RouterReferenceIdeal.τ).loc Cert.RouterReferenceIdeal.main_arg1)
          ∧ r.2.mem ((c.tc : Thread Cert.RouterReferenceIdeal.nD Cert.RouterReferenceIdeal.τ).loc Cert.RouterReferenceIdeal.main_arg2) = m' ((c.tc : Thread Cert.RouterReferenceIdeal.nD Cert.RouterReferenceIdeal.τ).loc Cert.RouterReferenceIdeal.main_arg2))

def Claim : Prop :=
  ∃ (hOutProj : Cert.OutProj.Facts) (hOutProjIdeal : Cert.OutProjIdeal.Facts) (hOutReferenceIdeal : Cert.OutReferenceIdeal.Facts) (hQkvoProj : Cert.QkvoProj.Facts) (hQkvoProjIdeal : Cert.QkvoProjIdeal.Facts) (hQkvoReferenceIdeal : Cert.QkvoReferenceIdeal.Facts) (hFfn : Cert.Ffn.Facts) (hFfnIdeal : Cert.FfnIdeal.Facts) (hFfnReferenceIdeal : Cert.FfnReferenceIdeal.Facts) (hFfnTwo : Cert.FfnTwo.Facts) (hFfnTwoIdeal : Cert.FfnTwoIdeal.Facts) (hFfnTwoReferenceIdeal : Cert.FfnTwoReferenceIdeal.Facts) (hZProj : Cert.ZProj.Facts) (hZProjIdeal : Cert.ZProjIdeal.Facts) (hZReferenceIdeal : Cert.ZReferenceIdeal.Facts) (hXbcProj : Cert.XbcProj.Facts) (hXbcProjIdeal : Cert.XbcProjIdeal.Facts) (hXbcReferenceIdeal : Cert.XbcReferenceIdeal.Facts) (hQkvProj : Cert.QkvProj.Facts) (hQkvProjIdeal : Cert.QkvProjIdeal.Facts) (hQkvReferenceIdeal : Cert.QkvReferenceIdeal.Facts) (hFnProj : Cert.FnProj.Facts) (hFnProjIdeal : Cert.FnProjIdeal.Facts) (hFnReferenceIdeal : Cert.FnReferenceIdeal.Facts) (hOutTwo : Cert.OutTwo.Facts) (hOutTwoIdeal : Cert.OutTwoIdeal.Facts) (hOutTwoReferenceIdeal : Cert.OutTwoReferenceIdeal.Facts) (hAttention : Cert.Attention.Facts) (hAttentionIdeal : Cert.AttentionIdeal.Facts) (hAttentionReferenceIdeal : Cert.AttentionReferenceIdeal.Facts) (hNorm : Cert.Norm.Facts) (hNormIdeal : Cert.NormIdeal.Facts) (hNormReferenceIdeal : Cert.NormReferenceIdeal.Facts) (hMlFinal : Cert.MlFinal.Facts) (hMlFinalIdeal : Cert.MlFinalIdeal.Facts) (hMlFinalReferenceIdeal : Cert.MlFinalReferenceIdeal.Facts) (hSsdFinal : Cert.SsdFinal.Facts) (hSsdFinalIdeal : Cert.SsdFinalIdeal.Facts) (hSsdFinalReferenceIdeal : Cert.SsdFinalReferenceIdeal.Facts) (hDtProj : Cert.DtProj.Facts) (hDtProjIdeal : Cert.DtProjIdeal.Facts) (hDtReferenceIdeal : Cert.DtReferenceIdeal.Facts) (hGatesProj : Cert.GatesProj.Facts) (hGatesProjIdeal : Cert.GatesProjIdeal.Facts) (hGatesReferenceIdeal : Cert.GatesReferenceIdeal.Facts) (hConv : Cert.Conv.Facts) (hConvIdeal : Cert.ConvIdeal.Facts) (hConvReferenceIdeal : Cert.ConvReferenceIdeal.Facts) (hRouter : Cert.Router.Facts) (hRouterIdeal : Cert.RouterIdeal.Facts) (hRouterReferenceIdeal : Cert.RouterReferenceIdeal.Facts) (hPre_finite : Cert.Pre_finite.Facts) (hPre_finite_weights : Cert.Pre_finite_weights.Facts),
    quiescent_OutProj (hOutProj := hOutProj)
    ∧ quiescent_OutProjIdeal (hOutProjIdeal := hOutProjIdeal)
    ∧ quiescent_OutReferenceIdeal (hOutReferenceIdeal := hOutReferenceIdeal)
    ∧ quiescent_QkvoProj (hQkvoProj := hQkvoProj)
    ∧ quiescent_QkvoProjIdeal (hQkvoProjIdeal := hQkvoProjIdeal)
    ∧ quiescent_QkvoReferenceIdeal (hQkvoReferenceIdeal := hQkvoReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_FfnTwo (hFfnTwo := hFfnTwo)
    ∧ quiescent_FfnTwoIdeal (hFfnTwoIdeal := hFfnTwoIdeal)
    ∧ quiescent_FfnTwoReferenceIdeal (hFfnTwoReferenceIdeal := hFfnTwoReferenceIdeal)
    ∧ quiescent_ZProj (hZProj := hZProj)
    ∧ quiescent_ZProjIdeal (hZProjIdeal := hZProjIdeal)
    ∧ quiescent_ZReferenceIdeal (hZReferenceIdeal := hZReferenceIdeal)
    ∧ quiescent_XbcProj (hXbcProj := hXbcProj)
    ∧ quiescent_XbcProjIdeal (hXbcProjIdeal := hXbcProjIdeal)
    ∧ quiescent_XbcReferenceIdeal (hXbcReferenceIdeal := hXbcReferenceIdeal)
    ∧ quiescent_QkvProj (hQkvProj := hQkvProj)
    ∧ quiescent_QkvProjIdeal (hQkvProjIdeal := hQkvProjIdeal)
    ∧ quiescent_QkvReferenceIdeal (hQkvReferenceIdeal := hQkvReferenceIdeal)
    ∧ quiescent_FnProj (hFnProj := hFnProj)
    ∧ quiescent_FnProjIdeal (hFnProjIdeal := hFnProjIdeal)
    ∧ quiescent_FnReferenceIdeal (hFnReferenceIdeal := hFnReferenceIdeal)
    ∧ quiescent_OutTwo (hOutTwo := hOutTwo)
    ∧ quiescent_OutTwoIdeal (hOutTwoIdeal := hOutTwoIdeal)
    ∧ quiescent_OutTwoReferenceIdeal (hOutTwoReferenceIdeal := hOutTwoReferenceIdeal)
    ∧ quiescent_Attention (hAttention := hAttention)
    ∧ quiescent_AttentionIdeal (hAttentionIdeal := hAttentionIdeal)
    ∧ quiescent_AttentionIdeal_pre_finite (hAttentionIdeal := hAttentionIdeal) (hPre_finite := hPre_finite)
    ∧ quiescent_AttentionReferenceIdeal (hAttentionReferenceIdeal := hAttentionReferenceIdeal)
    ∧ quiescent_AttentionReferenceIdeal_pre_finite (hAttentionReferenceIdeal := hAttentionReferenceIdeal) (hPre_finite := hPre_finite)
    ∧ quiescent_Norm (hNorm := hNorm)
    ∧ quiescent_NormIdeal (hNormIdeal := hNormIdeal)
    ∧ quiescent_NormReferenceIdeal (hNormReferenceIdeal := hNormReferenceIdeal)
    ∧ quiescent_MlFinal (hMlFinal := hMlFinal)
    ∧ quiescent_MlFinalIdeal (hMlFinalIdeal := hMlFinalIdeal)
    ∧ quiescent_MlFinalReferenceIdeal (hMlFinalReferenceIdeal := hMlFinalReferenceIdeal)
    ∧ quiescent_SsdFinal (hSsdFinal := hSsdFinal)
    ∧ quiescent_SsdFinalIdeal (hSsdFinalIdeal := hSsdFinalIdeal)
    ∧ quiescent_SsdFinalReferenceIdeal (hSsdFinalReferenceIdeal := hSsdFinalReferenceIdeal)
    ∧ quiescent_DtProj (hDtProj := hDtProj)
    ∧ quiescent_DtProjIdeal (hDtProjIdeal := hDtProjIdeal)
    ∧ quiescent_DtReferenceIdeal (hDtReferenceIdeal := hDtReferenceIdeal)
    ∧ quiescent_GatesProj (hGatesProj := hGatesProj)
    ∧ quiescent_GatesProjIdeal (hGatesProjIdeal := hGatesProjIdeal)
    ∧ quiescent_GatesReferenceIdeal (hGatesReferenceIdeal := hGatesReferenceIdeal)
    ∧ quiescent_Conv (hConv := hConv)
    ∧ quiescent_ConvIdeal (hConvIdeal := hConvIdeal)
    ∧ quiescent_ConvReferenceIdeal (hConvReferenceIdeal := hConvReferenceIdeal)
    ∧ quiescent_Router (hRouter := hRouter)
    ∧ quiescent_RouterIdeal (hRouterIdeal := hRouterIdeal)
    ∧ quiescent_RouterIdeal_pre_finite_weights (hRouterIdeal := hRouterIdeal) (hPre_finite_weights := hPre_finite_weights)
    ∧ quiescent_RouterReferenceIdeal (hRouterReferenceIdeal := hRouterReferenceIdeal)
    ∧ quiescent_RouterReferenceIdeal_pre_finite_weights (hRouterReferenceIdeal := hRouterReferenceIdeal) (hPre_finite_weights := hPre_finite_weights)
    ∧ preserves_OutProj_OutProjIdeal
    ∧ algebraic_OutProjIdeal_OutReferenceIdeal (hOutProjIdeal := hOutProjIdeal) (hOutReferenceIdeal := hOutReferenceIdeal)
    ∧ preserves_QkvoProj_QkvoProjIdeal
    ∧ algebraic_QkvoProjIdeal_QkvoReferenceIdeal (hQkvoProjIdeal := hQkvoProjIdeal) (hQkvoReferenceIdeal := hQkvoReferenceIdeal)
    ∧ preserves_Ffn_FfnIdeal
    ∧ algebraic_FfnIdeal_FfnReferenceIdeal (hFfnIdeal := hFfnIdeal) (hFfnReferenceIdeal := hFfnReferenceIdeal)
    ∧ preserves_FfnTwo_FfnTwoIdeal
    ∧ algebraic_FfnTwoIdeal_FfnTwoReferenceIdeal (hFfnTwoIdeal := hFfnTwoIdeal) (hFfnTwoReferenceIdeal := hFfnTwoReferenceIdeal)
    ∧ preserves_ZProj_ZProjIdeal
    ∧ algebraic_ZProjIdeal_ZReferenceIdeal (hZProjIdeal := hZProjIdeal) (hZReferenceIdeal := hZReferenceIdeal)
    ∧ preserves_XbcProj_XbcProjIdeal
    ∧ algebraic_XbcProjIdeal_XbcReferenceIdeal (hXbcProjIdeal := hXbcProjIdeal) (hXbcReferenceIdeal := hXbcReferenceIdeal)
    ∧ preserves_QkvProj_QkvProjIdeal
    ∧ algebraic_QkvProjIdeal_QkvReferenceIdeal (hQkvProjIdeal := hQkvProjIdeal) (hQkvReferenceIdeal := hQkvReferenceIdeal)
    ∧ preserves_FnProj_FnProjIdeal
    ∧ algebraic_FnProjIdeal_FnReferenceIdeal (hFnProjIdeal := hFnProjIdeal) (hFnReferenceIdeal := hFnReferenceIdeal)
    ∧ preserves_OutTwo_OutTwoIdeal
    ∧ algebraic_OutTwoIdeal_OutTwoReferenceIdeal (hOutTwoIdeal := hOutTwoIdeal) (hOutTwoReferenceIdeal := hOutTwoReferenceIdeal)
    ∧ preserves_Attention_AttentionIdeal
    ∧ algebraic_AttentionIdeal_AttentionReferenceIdeal_pre_finite (hAttentionIdeal := hAttentionIdeal) (hAttentionReferenceIdeal := hAttentionReferenceIdeal) (hPre_finite := hPre_finite)
    ∧ preserves_Norm_NormIdeal
    ∧ algebraic_NormIdeal_NormReferenceIdeal (hNormIdeal := hNormIdeal) (hNormReferenceIdeal := hNormReferenceIdeal)
    ∧ preserves_MlFinal_MlFinalIdeal
    ∧ algebraic_MlFinalIdeal_MlFinalReferenceIdeal (hMlFinalIdeal := hMlFinalIdeal) (hMlFinalReferenceIdeal := hMlFinalReferenceIdeal)
    ∧ preserves_SsdFinal_SsdFinalIdeal
    ∧ algebraic_SsdFinalIdeal_SsdFinalReferenceIdeal (hSsdFinalIdeal := hSsdFinalIdeal) (hSsdFinalReferenceIdeal := hSsdFinalReferenceIdeal)
    ∧ preserves_DtProj_DtProjIdeal
    ∧ algebraic_DtProjIdeal_DtReferenceIdeal (hDtProjIdeal := hDtProjIdeal) (hDtReferenceIdeal := hDtReferenceIdeal)
    ∧ preserves_GatesProj_GatesProjIdeal
    ∧ algebraic_GatesProjIdeal_GatesReferenceIdeal (hGatesProjIdeal := hGatesProjIdeal) (hGatesReferenceIdeal := hGatesReferenceIdeal)
    ∧ preserves_Conv_ConvIdeal
    ∧ algebraic_ConvIdeal_ConvReferenceIdeal (hConvIdeal := hConvIdeal) (hConvReferenceIdeal := hConvReferenceIdeal)
    ∧ preserves_Router_RouterIdeal
    ∧ algebraic_RouterIdeal_RouterReferenceIdeal_pre_finite_weights (hRouterIdeal := hRouterIdeal) (hRouterReferenceIdeal := hRouterReferenceIdeal) (hPre_finite_weights := hPre_finite_weights)
-- ==== Pre_finite.lean ====
abbrev S8320x3072 : Shape := ⟨2, ![8320, 3072]⟩
abbrev S16 : Shape := ⟨1, ![16]⟩
abbrev S8208x2560 : Shape := ⟨2, ![8208, 2560]⟩
abbrev S_ : Shape := ⟨0, ![]⟩

class Facts : Prop where
  slices_S8320x3072_S8208x2560_112_0 : S8320x3072.Slices ![112, 0] S8208x2560
  bcast_S_S8208x2560 : S_.BroadcastsInDim S8208x2560 (![] : Fin 0 → Fin S8208x2560.rank)
  bcast_S_S16 : S_.BroadcastsInDim S16 (![] : Fin 0 → Fin S16.rank)

variable [Facts]

def fn {F : FTy → Type} [FloatOps F] (main_arg0 : FVec F S8320x3072 .f32) (main_arg1 : FVec F S16 .f32) (main_arg2 : FVec F S16 .f32) : IVec S8208x2560 1 × IVec S16 1 × IVec S16 1 :=
  let main_v0 : FVec F S8208x2560 .f32 := (extractStridedSlice S8208x2560 ![112, 0] · slices_S8320x3072_S8208x2560_112_0) main_arg0
  let main_cst : FVec F S_ .f32 := constant S_ .f32 0xFF800000#32
  let main_v1 : FVec F S8208x2560 .f32 := broadcastInDim S8208x2560 ![] bcast_S_S8208x2560 main_cst
  let main_v2 : IVec S8208x2560 1 := cmpf .ogt main_v0 main_v1
  let main_cst_0 : FVec F S_ .f32 := constant S_ .f32 0x7F800000#32
  let main_v3 : FVec F S8208x2560 .f32 := broadcastInDim S8208x2560 ![] bcast_S_S8208x2560 main_cst_0
  let main_v4 : IVec S8208x2560 1 := cmpf .olt main_v0 main_v3
  let main_v5 : IVec S8208x2560 1 := andi main_v2 main_v4
  let main_cst_1 : FVec F S_ .f32 := constant S_ .f32 0xFF800000#32
  let main_v6 : FVec F S16 .f32 := broadcastInDim S16 ![] bcast_S_S16 main_cst_1
  let main_v7 : IVec S16 1 := cmpf .ogt main_arg1 main_v6
  let main_cst_2 : FVec F S_ .f32 := constant S_ .f32 0x7F800000#32
  let main_v8 : FVec F S16 .f32 := broadcastInDim S16 ![] bcast_S_S16 main_cst_2
  let main_v9 : IVec S16 1 := cmpf .olt main_arg1 main_v8
  let main_v10 : IVec S16 1 := andi main_v7 main_v9
  let main_cst_3 : FVec F S_ .f32 := constant S_ .f32 0xFF800000#32
  let main_v11 : FVec F S16 .f32 := broadcastInDim S16 ![] bcast_S_S16 main_cst_3
  let main_v12 : IVec S16 1 := cmpf .ogt main_arg2 main_v11
  let main_cst_4 : FVec F S_ .f32 := constant S_ .f32 0x7F800000#32
  let main_v13 : FVec F S16 .f32 := broadcastInDim S16 ![] bcast_S_S16 main_cst_4
  let main_v14 : IVec S16 1 := cmpf .olt main_arg2 main_v13
  let main_v15 : IVec S16 1 := andi main_v12 main_v14
  (main_v5, main_v10, main_v15)
-- ==== Pre_finite_weights.lean ====
abbrev S8320x4096 : Shape := ⟨2, ![8320, 4096]⟩
abbrev S4096 : Shape := ⟨1, ![4096]⟩
abbrev S4096x16 : Shape := ⟨2, ![4096, 16]⟩
abbrev S_ : Shape := ⟨0, ![]⟩

class Facts : Prop where
  bcast_S_S4096 : S_.BroadcastsInDim S4096 (![] : Fin 0 → Fin S4096.rank)
  bcast_S_S4096x16 : S_.BroadcastsInDim S4096x16 (![] : Fin 0 → Fin S4096x16.rank)

variable [Facts]

def fn {F : FTy → Type} [FloatOps F] (main_arg0 : FVec F S8320x4096 .f32) (main_arg1 : FVec F S4096 .f32) (main_arg2 : FVec F S4096x16 .f32) : IVec S4096 1 × IVec S4096x16 1 :=
  let main_cst : FVec F S_ .f32 := constant S_ .f32 0xFF800000#32
  let main_v0 : FVec F S4096 .f32 := broadcastInDim S4096 ![] bcast_S_S4096 main_cst
  let main_v1 : IVec S4096 1 := cmpf .ogt main_arg1 main_v0
  let main_cst_0 : FVec F S_ .f32 := constant S_ .f32 0x7F800000#32
  let main_v2 : FVec F S4096 .f32 := broadcastInDim S4096 ![] bcast_S_S4096 main_cst_0
  let main_v3 : IVec S4096 1 := cmpf .olt main_arg1 main_v2
  let main_v4 : IVec S4096 1 := andi main_v1 main_v3
  let main_cst_1 : FVec F S_ .f32 := constant S_ .f32 0xFF800000#32
  let main_v5 : FVec F S4096x16 .f32 := broadcastInDim S4096x16 ![] bcast_S_S4096x16 main_cst_1
  let main_v6 : IVec S4096x16 1 := cmpf .ogt main_arg2 main_v5
  let main_cst_2 : FVec F S_ .f32 := constant S_ .f32 0x7F800000#32
  let main_v7 : FVec F S4096x16 .f32 := broadcastInDim S4096x16 ![] bcast_S_S4096x16 main_cst_2
  let main_v8 : IVec S4096x16 1 := cmpf .olt main_arg2 main_v7
  let main_v9 : IVec S4096x16 1 := andi main_v6 main_v8
  (main_v4, main_v9)
-- ==== OutProj.lean ====
abbrev S8320x2048 : Shape := ⟨2, ![8320, 2048]⟩
abbrev S4096x4096 : Shape := ⟨2, ![4096, 4096]⟩
abbrev S8320x4096 : Shape := ⟨2, ![8320, 4096]⟩
abbrev S640x2048 : Shape := ⟨2, ![640, 2048]⟩
abbrev S4096x512 : Shape := ⟨2, ![4096, 512]⟩
abbrev S640x512 : Shape := ⟨2, ![640, 512]⟩
abbrev S2048x512 : Shape := ⟨2, ![2048, 512]⟩

abbrev nBuf : Space → Nat
  | .hbm => 5
  | .vmem => 11
  | .smem => 0
  | _ => 0

abbrev bufTy : (tb : Table) → Fin (tcTables nBuf tb) → BufTy
  | .hbm, ⟨0, _⟩ => ⟨S8320x2048, .bf16⟩
  | .hbm, ⟨1, _⟩ => ⟨S8320x2048, .bf16⟩
  | .hbm, ⟨2, _⟩ => ⟨S4096x4096, .f32⟩
  | .hbm, ⟨3, _⟩ => ⟨S8320x4096, .f32⟩
  | .hbm, ⟨4, _⟩ => ⟨S8320x4096, .f32⟩
  | .local _ .vmem, ⟨0, _⟩ => ⟨S640x2048, .bf16⟩
  | .local _ .vmem, ⟨1, _⟩ => ⟨S640x2048, .bf16⟩
  | .local _ .vmem, ⟨2, _⟩ => ⟨S640x2048, .bf16⟩
  | .local _ .vmem, ⟨3, _⟩ => ⟨S640x2048, .bf16⟩
  | .local _ .vmem, ⟨4, _⟩ => ⟨S4096x512, .f32⟩
  | .local _ .vmem, ⟨5, _⟩ => ⟨S4096x512, .f32⟩
  | .local _ .vmem, ⟨6, _⟩ => ⟨S640x512, .f32⟩
  | .local _ .vmem, ⟨7, _⟩ => ⟨S640x512, .f32⟩
  | .local _ .vmem, ⟨8, _⟩ => ⟨S640x512, .f32⟩
  | .local _ .vmem, ⟨9, _⟩ => ⟨S640x512, .f32⟩
  | .local _ .vmem, ⟨10, _⟩ => ⟨S4096x512, .bf16⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S640x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S640x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S640x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutReferenceIdeal.lean ====
abbrev S8320x2048 : Shape := ⟨2, ![8320, 2048]⟩
abbrev S4096x4096 : Shape := ⟨2, ![4096, 4096]⟩
abbrev S8320x4096 : Shape := ⟨2, ![8320, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x2048, .bf16⟩
  | .hbm, ⟨2, _⟩ => ⟨S4096x4096, .f32⟩
  | .hbm, ⟨3, _⟩ => ⟨S8320x4096, .f32⟩
  | .hbm, ⟨4, _⟩ => ⟨S8320x4096, .bf16⟩
  | .hbm, ⟨5, _⟩ => ⟨S8320x4096, .f32⟩
  | .hbm, ⟨6, _⟩ => ⟨S8320x4096, .f32⟩
  | .hbm, ⟨7, _⟩ => ⟨S8320x4096, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== QkvoProj.lean ====
abbrev S8320x4096 : Shape := ⟨2, ![8320, 4096]⟩
abbrev S4096x10264 : Shape := ⟨2, ![4096, 10264]⟩
abbrev S10264x4096 : Shape := ⟨2, ![10264, 4096]⟩
abbrev S8320x9216 : Shape := ⟨2, ![8320, 9216]⟩
abbrev S640x4096 : Shape := ⟨2, ![640, 4096]⟩
abbrev S512x4096 : Shape := ⟨2, ![512, 4096]⟩
abbrev S640x512 : Shape := ⟨2, ![640, 512]⟩
abbrev S4096x512 : Shape := ⟨2, ![4096, 512]⟩

abbrev nBuf : Space → Nat
  | .hbm => 4
  | .vmem => 7
  | .smem => 0
  | _ => 0

abbrev bufTy : (tb : Table) → Fin (tcTables nBuf tb) → BufTy
  | .hbm, ⟨0, _⟩ => ⟨S8320x4096, .bf16⟩
  | .hbm, ⟨1, _⟩ => ⟨S4096x10264, .f32⟩
  | .hbm, ⟨2, _⟩ => ⟨S10264x4096, .f32⟩
  | .hbm, ⟨3, _⟩ => ⟨S8320x9216, .f32⟩
  | .local _ .vmem, ⟨0, _⟩ => ⟨S640x4096, .bf16⟩
  | .local _ .vmem, ⟨1, _⟩ => ⟨S640x4096, .bf16⟩
  | .local _ .vmem, ⟨2, _⟩ => ⟨S512x4096, .f32⟩
  | .local _ .vmem, ⟨3, _⟩ => ⟨S512x4096, .f32⟩
  | .local _ .vmem, ⟨4, _⟩ => ⟨S640x512, .f32⟩
  | .local _ .vmem, ⟨5, _⟩ => ⟨S640x512, .f32⟩
  | .local _ .vmem, ⟨6, _⟩ => ⟨S4096x512, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![18, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvoReferenceIdeal.lean ====
abbrev S8320x4096 : Shape := ⟨2, ![8320, 4096]⟩
abbrev S4096x10264 : Shape := ⟨2, ![4096, 10264]⟩
abbrev S8320x10264 : Shape := ⟨2, ![8320, 10264]⟩
abbrev S8320x9216 : Shape := ⟨2, ![8320, 9216]⟩

abbrev nBuf : Space → Nat
  | .hbm => 5
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x10264, .f32⟩
  | .hbm, ⟨2, _⟩ => ⟨S8320x4096, .f32⟩
  | .hbm, ⟨3, _⟩ => ⟨S8320x10264, .f32⟩
  | .hbm, ⟨4, _⟩ => ⟨S8320x9216, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Ffn.lean ====
abbrev S16x1040x4096 : Shape := ⟨3, ![16, 1040, 4096]⟩
abbrev S2x16x4096x1536 : Shape := ⟨4, ![2, 16, 4096, 1536]⟩
abbrev S2x16x1536x4096 : Shape := ⟨4, ![2, 16, 1536, 4096]⟩
abbrev S1x1040x4096 : Shape := ⟨3, ![1, 1040, 4096]⟩
abbrev S1x1x4096x256 : Shape := ⟨4, ![1, 1, 4096, 256]⟩
abbrev S1x1x1536x512 : Shape := ⟨4, ![1, 1, 1536, 512]⟩
abbrev S1x1040x512 : Shape := ⟨3, ![1, 1040, 512]⟩
abbrev S6x1040x256 : Shape := ⟨3, ![6, 1040, 256]⟩
abbrev S1040x4096 : Shape := ⟨2, ![1040, 4096]⟩
abbrev S4096x256 : Shape := ⟨2, ![4096, 256]⟩
abbrev S1040x256 : Shape := ⟨2, ![1040, 256]⟩
abbrev S1x1040x256 : Shape := ⟨3, ![1, 1040, 256]⟩
abbrev S1536x512 : Shape := ⟨2, ![1536, 512]⟩
abbrev S256x512 : Shape := ⟨2, ![256, 512]⟩
abbrev S1040x512 : Shape := ⟨2, ![1040, 512]⟩

abbrev nBuf : Space → Nat
  | .hbm => 5
  | .vmem => 11
  | .smem => 0
  | _ => 0

abbrev bufTy : (tb : Table) → Fin (tcTables nBuf tb) → BufTy
  | .hbm, ⟨0, _⟩ => ⟨S16x1040x4096, .bf16⟩
  | .hbm, ⟨1, _⟩ => ⟨S2x16x4096x1536, .f32⟩
  | .hbm, ⟨2, _⟩ => ⟨S2x16x4096x1536, .f32⟩
  | .hbm, ⟨3, _⟩ => ⟨S2x16x1536x4096, .f32⟩
  | .hbm, ⟨4, _⟩ => ⟨S16x1040x4096, .f32⟩
  | .local _ .vmem, ⟨0, _⟩ => ⟨S1x1040x4096, .bf16⟩
  | .local _ .vmem, ⟨1, _⟩ => ⟨S1x1040x4096, .bf16⟩
  | .local _ .vmem, ⟨2, _⟩ => ⟨S1x1x4096x256, .f32⟩
  | .local _ .vmem, ⟨3, _⟩ => ⟨S1x1x4096x256, .f32⟩
  | .local _ .vmem, ⟨4, _⟩ => ⟨S1x1x4096x256, .f32⟩
  | .local _ .vmem, ⟨5, _⟩ => ⟨S1x1x4096x256, .f32⟩
  | .local _ .vmem, ⟨6, _⟩ => ⟨S1x1x1536x512, .f32⟩
  | .local _ .vmem, ⟨7, _⟩ => ⟨S1x1x1536x512, .f32⟩
  | .local _ .vmem, ⟨8, _⟩ => ⟨S1x1040x512, .f32⟩
  | .local _ .vmem, ⟨9, _⟩ => ⟨S1x1040x512, .f32⟩
  | .local _ .vmem, ⟨10, _⟩ => ⟨S6x1040x256, .bf16⟩
  | _, _ => ⟨S16x1040x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 14], ![false, false]⟩

def k0_cond1 (i : grid0.Coords) : BitVec 1 :=
  let arg1 : BitVec 32 := BitVec.ofNat 32 (i 1).val
  let c6_i32 : BitVec 32 := 6#32
  let v0 : BitVec 1 := Scalar.cmpi .slt arg1 c6_i32
  let v1 : BitVec 32 := Scalar.extui v0
  let c0_i32 : BitVec 32 := 0#32
  let v2 : BitVec 1 := Scalar.cmpi .ne v1 c0_i32
  v2

def k0_off1 (i : grid0.Coords) : Fin 3 → Nat :=
  let arg1 : BitVec 32 := BitVec.ofNat 32 (i 1).val
  let v26 : Index := Scalar.indexCast arg1
  let c0_16 : Index := 0#32
  let c0_17 : Index := 0#32
  ![v26.toNat, 0, 0]
def k0_cond2 (i : grid0.Coords) : BitVec 1 :=
  let arg1 : BitVec 32 := BitVec.ofNat 32 (i 1).val
  let c6_i32_0 : BitVec 32 := 6#32
  let v3 : BitVec 1 := Scalar.cmpi .sge arg1 c6_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.minsi arg1 c5_i32
  let c0_i32 : BitVec 32 := 0#32
  let c0_i32_0 : BitVec 32 := 0#32
  let c0_i32_1 : BitVec 32 := 0#32
  ![c0_i32.toNat, arg0.toNat, c0_i32_0.toNat, v0.toNat]

def cc0_transform_2 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.minsi arg1 c5_i32
  let c0_i32 : BitVec 32 := 0#32
  let c0_i32_0 : BitVec 32 := 0#32
  let c0_i32_1 : BitVec 32 := 0#32
  ![c0_i32.toNat, arg0.toNat, c0_i32_0.toNat, v0.toNat]

def cc0_transform_3 (i : grid0.Coords) : Fin 4 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, arg0.toNat, c0_i32_1.toNat, v1.toNat]

def cc0_transform_4 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

abbrev stage0_0 : Fin 2 → Memref sig .tc .vmem S1x1040x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1536x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1040x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnReferenceIdeal.lean ====
abbrev S16x1040x4096 : Shape := ⟨3, ![16, 1040, 4096]⟩
abbrev S2x16x4096x1536 : Shape := ⟨4, ![2, 16, 4096, 1536]⟩
abbrev S2x16x1536x4096 : Shape := ⟨4, ![2, 16, 1536, 4096]⟩
abbrev S1x16x4096x1536 : Shape := ⟨4, ![1, 16, 4096, 1536]⟩
abbrev S16x4096x1536 : Shape := ⟨3, ![16, 4096, 1536]⟩
abbrev S1x16x1536x4096 : Shape := ⟨4, ![1, 16, 1536, 4096]⟩
abbrev S16x1536x4096 : Shape := ⟨3, ![16, 1536, 4096]⟩
abbrev S16x1040x1536 : Shape := ⟨3, ![16, 1040, 1536]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S16x1040x4096, .bf16⟩
  | .hbm, ⟨1, _⟩ => ⟨S2x16x4096x1536, .f32⟩
  | .hbm, ⟨2, _⟩ => ⟨S2x16x4096x1536, .f32⟩
  | .hbm, ⟨3, _⟩ => ⟨S2x16x1536x4096, .f32⟩
  | .hbm, ⟨4, _⟩ => ⟨S1x16x4096x1536, .f32⟩
  | .hbm, ⟨5, _⟩ => ⟨S16x4096x1536, .f32⟩
  | .hbm, ⟨6, _⟩ => ⟨S1x16x4096x1536, .f32⟩
  | .hbm, ⟨7, _⟩ => ⟨S16x4096x1536, .f32⟩
  | .hbm, ⟨8, _⟩ => ⟨S1x16x1536x4096, .f32⟩
  | .hbm, ⟨9, _⟩ => ⟨S16x1536x4096, .f32⟩
  | .hbm, ⟨10, _⟩ => ⟨S16x1040x4096, .f32⟩
  | .hbm, ⟨11, _⟩ => ⟨S16x1040x1536, .f32⟩
  | .hbm, ⟨12, _⟩ => ⟨S16x1040x1536, .f32⟩
  | .hbm, ⟨13, _⟩ => ⟨S16x1040x1536, .f32⟩
  | .hbm, ⟨14, _⟩ => ⟨S_, .f32⟩
  | .hbm, ⟨15, _⟩ => ⟨S16x1040x1536, .f32⟩
  | .hbm, ⟨16, _⟩ => ⟨S16x1040x1536, .f32⟩
  | .hbm, ⟨17, _⟩ => ⟨S_, .f32⟩
  | .hbm, ⟨18, _⟩ => ⟨S16x1040x1536, .f32⟩
  | .hbm, ⟨19, _⟩ => ⟨S16x1040x1536, .f32⟩
  | .hbm, ⟨20, _⟩ => ⟨S16x1040x1536, .f32⟩
  | .hbm, ⟨21, _⟩ => ⟨S16x1040x1536, .f32⟩
  | .hbm, ⟨22, _⟩ => ⟨S16x1040x1536, .f32⟩
  | .hbm, ⟨23, _⟩ => ⟨S16x1040x4096, .f32⟩
  | _, _ => ⟨S16x1040x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== FfnTwo.lean ====
abbrev S16x1040x4096 : Shape := ⟨3, ![16, 1040, 4096]⟩
abbrev S2x16x4096x1536 : Shape := ⟨4, ![2, 16, 4096, 1536]⟩
abbrev S2x16x1536x4096 : Shape := ⟨4, ![2, 16, 1536, 4096]⟩
abbrev S1x1040x4096 : Shape := ⟨3, ![1, 1040, 4096]⟩
abbrev S1x1x4096x256 : Shape := ⟨4, ![1, 1, 4096, 256]⟩
abbrev S1x1x1536x512 : Shape := ⟨4, ![1, 1, 1536, 512]⟩
abbrev S1x1040x512 : Shape := ⟨3, ![1, 1040, 512]⟩
abbrev S6x1040x256 : Shape := ⟨3, ![6, 1040, 256]⟩
abbrev S1040x4096 : Shape := ⟨2, ![1040, 4096]⟩
abbrev S4096x256 : Shape := ⟨2, ![4096, 256]⟩
abbrev S1040x256 : Shape := ⟨2, ![1040, 256]⟩
abbrev S1x1040x256 : Shape := ⟨3, ![1, 1040, 256]⟩
abbrev S1536x512 : Shape := ⟨2, ![1536, 512]⟩
abbrev S256x512 : Shape := ⟨2, ![256, 512]⟩
abbrev S1040x512 : Shape := ⟨2, ![1040, 512]⟩

abbrev nBuf : Space → Nat
  | .hbm => 5
  | .vmem => 11
  | .smem => 0
  | _ => 0

abbrev bufTy : (tb : Table) → Fin (tcTables nBuf tb) → BufTy
  | .hbm, ⟨0, _⟩ => ⟨S16x1040x4096, .bf16⟩
  | .hbm, ⟨1, _⟩ => ⟨S2x16x4096x1536, .f32⟩
  | .hbm, ⟨2, _⟩ => ⟨S2x16x4096x1536, .f32⟩
  | .hbm, ⟨3, _⟩ => ⟨S2x16x1536x4096, .f32⟩
  | .hbm, ⟨4, _⟩ => ⟨S16x1040x4096, .f32⟩
  | .local _ .vmem, ⟨0, _⟩ => ⟨S1x1040x4096, .bf16⟩
  | .local _ .vmem, ⟨1, _⟩ => ⟨S1x1040x4096, .bf16⟩
  | .local _ .vmem, ⟨2, _⟩ => ⟨S1x1x4096x256, .f32⟩
  | .local _ .vmem, ⟨3, _⟩ => ⟨S1x1x4096x256, .f32⟩
  | .local _ .vmem, ⟨4, _⟩ => ⟨S1x1x4096x256, .f32⟩
  | .local _ .vmem, ⟨5, _⟩ => ⟨S1x1x4096x256, .f32⟩
  | .local _ .vmem, ⟨6, _⟩ => ⟨S1x1x1536x512, .f32⟩
  | .local _ .vmem, ⟨7, _⟩ => ⟨S1x1x1536x512, .f32⟩
  | .local _ .vmem, ⟨8, _⟩ => ⟨S1x1040x512, .f32⟩
  | .local _ .vmem, ⟨9, _⟩ => ⟨S1x1040x512, .f32⟩
  | .local _ .vmem, ⟨10, _⟩ => ⟨S6x1040x256, .bf16⟩
  | _, _ => ⟨S16x1040x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 14], ![false, false]⟩

def k0_cond1 (i : grid0.Coords) : BitVec 1 :=
  let arg1 : BitVec 32 := BitVec.ofNat 32 (i 1).val
  let c6_i32 : BitVec 32 := 6#32
  let v0 : BitVec 1 := Scalar.cmpi .slt arg1 c6_i32
  let v1 : BitVec 32 := Scalar.extui v0
  let c0_i32 : BitVec 32 := 0#32
  let v2 : BitVec 1 := Scalar.cmpi .ne v1 c0_i32
  v2

def k0_off1 (i : grid0.Coords) : Fin 3 → Nat :=
  let arg1 : BitVec 32 := BitVec.ofNat 32 (i 1).val
  let v26 : Index := Scalar.indexCast arg1
  let c0_16 : Index := 0#32
  let c0_17 : Index := 0#32
  ![v26.toNat, 0, 0]
def k0_cond2 (i : grid0.Coords) : BitVec 1 :=
  let arg1 : BitVec 32 := BitVec.ofNat 32 (i 1).val
  let c6_i32_0 : BitVec 32 := 6#32
  let v3 : BitVec 1 := Scalar.cmpi .sge arg1 c6_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.minsi arg1 c5_i32
  let c1_i32 : BitVec 32 := 1#32
  let c0_i32 : BitVec 32 := 0#32
  let c0_i32_0 : BitVec 32 := 0#32
  ![c1_i32.toNat, arg0.toNat, c0_i32.toNat, v0.toNat]

def cc0_transform_2 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 32 := Scalar.minsi arg1 c5_i32
  let c1_i32 : BitVec 32 := 1#32
  let c0_i32 : BitVec 32 := 0#32
  let c0_i32_0 : BitVec 32 := 0#32
  ![c1_i32.toNat, arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let v1 : BitVec 32 := Scalar.maxsi v0 c0_i32
  let c1_i32 : BitVec 32 := 1#32
  let c0_i32_0 : BitVec 32 := 0#32
  let c0_i32_1 : BitVec 32 := 0#32
  ![c1_i32.toNat, arg0.toNat, c0_i32_0.toNat, v1.toNat]

def cc0_transform_4 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

abbrev stage0_0 : Fin 2 → Memref sig .tc .vmem S1x1040x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1536x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1040x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnTwoReferenceIdeal.lean ====
abbrev S16x1040x4096 : Shape := ⟨3, ![16, 1040, 4096]⟩
abbrev S2x16x4096x1536 : Shape := ⟨4, ![2, 16, 4096, 1536]⟩
abbrev S2x16x1536x4096 : Shape := ⟨4, ![2, 16, 1536, 4096]⟩
abbrev S1x16x4096x1536 : Shape := ⟨4, ![1, 16, 4096, 1536]⟩
abbrev S16x4096x1536 : Shape := ⟨3, ![16, 4096, 1536]⟩
abbrev S1x16x1536x4096 : Shape := ⟨4, ![1, 16, 1536, 4096]⟩
abbrev S16x1536x4096 : Shape := ⟨3, ![16, 1536, 4096]⟩
abbrev S16x1040x1536 : Shape := ⟨3, ![16, 1040, 1536]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S16x1040x4096, .bf16⟩
  | .hbm, ⟨1, _⟩ => ⟨S2x16x4096x1536, .f32⟩
  | .hbm, ⟨2, _⟩ => ⟨S2x16x4096x1536, .f32⟩
  | .hbm, ⟨3, _⟩ => ⟨S2x16x1536x4096, .f32⟩
  | .hbm, ⟨4, _⟩ => ⟨S1x16x4096x1536, .f32⟩
  | .hbm, ⟨5, _⟩ => ⟨S16x4096x1536, .f32⟩
  | .hbm, ⟨6, _⟩ => ⟨S1x16x4096x1536, .f32⟩
  | .hbm, ⟨7, _⟩ => ⟨S16x4096x1536, .f32⟩
  | .hbm, ⟨8, _⟩ => ⟨S1x16x1536x4096, .f32⟩
  | .hbm, ⟨9, _⟩ => ⟨S16x1536x4096, .f32⟩
  | .hbm, ⟨10, _⟩ => ⟨S16x1040x4096, .f32⟩
  | .hbm, ⟨11, _⟩ => ⟨S16x1040x1536, .f32⟩
  | .hbm, ⟨12, _⟩ => ⟨S16x1040x1536, .f32⟩
  | .hbm, ⟨13, _⟩ => ⟨S16x1040x1536, .f32⟩
  | .hbm, ⟨14, _⟩ => ⟨S_, .f32⟩
  | .hbm, ⟨15, _⟩ => ⟨S16x1040x1536, .f32⟩
  | .hbm, ⟨16, _⟩ => ⟨S16x1040x1536, .f32⟩
  | .hbm, ⟨17, _⟩ => ⟨S_, .f32⟩
  | .hbm, ⟨18, _⟩ => ⟨S16x1040x1536, .f32⟩
  | .hbm, ⟨19, _⟩ => ⟨S16x1040x1536, .f32⟩
  | .hbm, ⟨20, _⟩ => ⟨S16x1040x1536, .f32⟩
  | .hbm, ⟨21, _⟩ => ⟨S16x1040x1536, .f32⟩
  | .hbm, ⟨22, _⟩ => ⟨S16x1040x1536, .f32⟩
  | .hbm, ⟨23, _⟩ => ⟨S16x1040x4096, .f32⟩
  | _, _ => ⟨S16x1040x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== ZProj.lean ====
abbrev S8320x4096 : Shape := ⟨2, ![8320, 4096]⟩
abbrev S4096x8256 : Shape := ⟨2, ![4096, 8256]⟩
abbrev S8256x4096 : Shape := ⟨2, ![8256, 4096]⟩
abbrev S8320x2048 : Shape := ⟨2, ![8320, 2048]⟩
abbrev S640x4096 : Shape := ⟨2, ![640, 4096]⟩
abbrev S512x4096 : Shape := ⟨2, ![512, 4096]⟩
abbrev S640x512 : Shape := ⟨2, ![640, 512]⟩
abbrev S4096x512 : Shape := ⟨2, ![4096, 512]⟩

abbrev nBuf : Space → Nat
  | .hbm => 4
  | .vmem => 7
  | .smem => 0
  | _ => 0

abbrev bufTy : (tb : Table) → Fin (tcTables nBuf tb) → BufTy
  | .hbm, ⟨0, _⟩ => ⟨S8320x4096, .bf16⟩
  | .hbm, ⟨1, _⟩ => ⟨S4096x8256, .f32⟩
  | .hbm, ⟨2, _⟩ => ⟨S8256x4096, .f32⟩
  | .hbm, ⟨3, _⟩ => ⟨S8320x2048, .f32⟩
  | .local _ .vmem, ⟨0, _⟩ => ⟨S640x4096, .bf16⟩
  | .local _ .vmem, ⟨1, _⟩ => ⟨S640x4096, .bf16⟩
  | .local _ .vmem, ⟨2, _⟩ => ⟨S512x4096, .f32⟩
  | .local _ .vmem, ⟨3, _⟩ => ⟨S512x4096, .f32⟩
  | .local _ .vmem, ⟨4, _⟩ => ⟨S640x512, .f32⟩
  | .local _ .vmem, ⟨5, _⟩ => ⟨S640x512, .f32⟩
  | .local _ .vmem, ⟨6, _⟩ => ⟨S4096x512, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ZReferenceIdeal.lean ====
abbrev S8320x4096 : Shape := ⟨2, ![8320, 4096]⟩
abbrev S4096x8256 : Shape := ⟨2, ![4096, 8256]⟩
abbrev S8320x8256 : Shape := ⟨2, ![8320, 8256]⟩
abbrev S8320x2048 : Shape := ⟨2, ![8320, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x8256, .f32⟩
  | .hbm, ⟨2, _⟩ => ⟨S8320x4096, .f32⟩
  | .hbm, ⟨3, _⟩ => ⟨S8320x8256, .f32⟩
  | .hbm, ⟨4, _⟩ => ⟨S8320x2048, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== XbcProj.lean ====
abbrev S8320x4096 : Shape := ⟨2, ![8320, 4096]⟩
abbrev S4096x8256 : Shape := ⟨2, ![4096, 8256]⟩
abbrev S8256x4096 : Shape := ⟨2, ![8256, 4096]⟩
abbrev S8320x3072 : Shape := ⟨2, ![8320, 3072]⟩
abbrev S640x4096 : Shape := ⟨2, ![640, 4096]⟩
abbrev S512x4096 : Shape := ⟨2, ![512, 4096]⟩
abbrev S640x512 : Shape := ⟨2, ![640, 512]⟩
abbrev S4096x512 : Shape := ⟨2, ![4096, 512]⟩

abbrev nBuf : Space → Nat
  | .hbm => 4
  | .vmem => 7
  | .smem => 0
  | _ => 0

abbrev bufTy : (tb : Table) → Fin (tcTables nBuf tb) → BufTy
  | .hbm, ⟨0, _⟩ => ⟨S8320x4096, .bf16⟩
  | .hbm, ⟨1, _⟩ => ⟨S4096x8256, .f32⟩
  | .hbm, ⟨2, _⟩ => ⟨S8256x4096, .f32⟩
  | .hbm, ⟨3, _⟩ => ⟨S8320x3072, .f32⟩
  | .local _ .vmem, ⟨0, _⟩ => ⟨S640x4096, .bf16⟩
  | .local _ .vmem, ⟨1, _⟩ => ⟨S640x4096, .bf16⟩
  | .local _ .vmem, ⟨2, _⟩ => ⟨S512x4096, .f32⟩
  | .local _ .vmem, ⟨3, _⟩ => ⟨S512x4096, .f32⟩
  | .local _ .vmem, ⟨4, _⟩ => ⟨S640x512, .f32⟩
  | .local _ .vmem, ⟨5, _⟩ => ⟨S640x512, .f32⟩
  | .local _ .vmem, ⟨6, _⟩ => ⟨S4096x512, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== XbcReferenceIdeal.lean ====
abbrev S8320x4096 : Shape := ⟨2, ![8320, 4096]⟩
abbrev S4096x8256 : Shape := ⟨2, ![4096, 8256]⟩
abbrev S8320x8256 : Shape := ⟨2, ![8320, 8256]⟩
abbrev S8320x3072 : Shape := ⟨2, ![8320, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x8256, .f32⟩
  | .hbm, ⟨2, _⟩ => ⟨S8320x4096, .f32⟩
  | .hbm, ⟨3, _⟩ => ⟨S8320x8256, .f32⟩
  | .hbm, ⟨4, _⟩ => ⟨S8320x3072, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== QkvProj.lean ====
abbrev S8320x4096 : Shape := ⟨2, ![8320, 4096]⟩
abbrev S4096x8256 : Shape := ⟨2, ![4096, 8256]⟩
abbrev S8256x4096 : Shape := ⟨2, ![8256, 4096]⟩
abbrev S3072x4096 : Shape := ⟨2, ![3072, 4096]⟩
abbrev S8320x3072 : Shape := ⟨2, ![8320, 3072]⟩
abbrev S640x4096 : Shape := ⟨2, ![640, 4096]⟩
abbrev S512x4096 : Shape := ⟨2, ![512, 4096]⟩
abbrev S640x512 : Shape := ⟨2, ![640, 512]⟩
abbrev S4096x512 : Shape := ⟨2, ![4096, 512]⟩

abbrev nBuf : Space → Nat
  | .hbm => 5
  | .vmem => 7
  | .smem => 0
  | _ => 0

abbrev bufTy : (tb : Table) → Fin (tcTables nBuf tb) → BufTy
  | .hbm, ⟨0, _⟩ => ⟨S8320x4096, .bf16⟩
  | .hbm, ⟨1, _⟩ => ⟨S4096x8256, .f32⟩
  | .hbm, ⟨2, _⟩ => ⟨S8256x4096, .f32⟩
  | .hbm, ⟨3, _⟩ => ⟨S3072x4096, .f32⟩
  | .hbm, ⟨4, _⟩ => ⟨S8320x3072, .f32⟩
  | .local _ .vmem, ⟨0, _⟩ => ⟨S640x4096, .bf16⟩
  | .local _ .vmem, ⟨1, _⟩ => ⟨S640x4096, .bf16⟩
  | .local _ .vmem, ⟨2, _⟩ => ⟨S512x4096, .f32⟩
  | .local _ .vmem, ⟨3, _⟩ => ⟨S512x4096, .f32⟩
  | .local _ .vmem, ⟨4, _⟩ => ⟨S640x512, .f32⟩
  | .local _ .vmem, ⟨5, _⟩ => ⟨S640x512, .f32⟩
  | .local _ .vmem, ⟨6, _⟩ => ⟨S4096x512, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvReferenceIdeal.lean ====
abbrev S8320x4096 : Shape := ⟨2, ![8320, 4096]⟩
abbrev S4096x8256 : Shape := ⟨2, ![4096, 8256]⟩
abbrev S8320x8256 : Shape := ⟨2, ![8320, 8256]⟩
abbrev S8320x3072 : Shape := ⟨2, ![8320, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x8256, .f32⟩
  | .hbm, ⟨2, _⟩ => ⟨S8320x4096, .f32⟩
  | .hbm, ⟨3, _⟩ => ⟨S8320x8256, .f32⟩
  | .hbm, ⟨4, _⟩ => ⟨S8320x3072, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FnProj.lean ====
abbrev S8320x4096 : Shape := ⟨2, ![8320, 4096]⟩
abbrev S4096x10264 : Shape := ⟨2, ![4096, 10264]⟩
abbrev S10264x4096 : Shape := ⟨2, ![10264, 4096]⟩
abbrev S1024x4096 : Shape := ⟨2, ![1024, 4096]⟩
abbrev S8320x1024 : Shape := ⟨2, ![8320, 1024]⟩
abbrev S640x4096 : Shape := ⟨2, ![640, 4096]⟩
abbrev S512x4096 : Shape := ⟨2, ![512, 4096]⟩
abbrev S640x512 : Shape := ⟨2, ![640, 512]⟩
abbrev S4096x512 : Shape := ⟨2, ![4096, 512]⟩

abbrev nBuf : Space → Nat
  | .hbm => 5
  | .vmem => 7
  | .smem => 0
  | _ => 0

abbrev bufTy : (tb : Table) → Fin (tcTables nBuf tb) → BufTy
  | .hbm, ⟨0, _⟩ => ⟨S8320x4096, .bf16⟩
  | .hbm, ⟨1, _⟩ => ⟨S4096x10264, .f32⟩
  | .hbm, ⟨2, _⟩ => ⟨S10264x4096, .f32⟩
  | .hbm, ⟨3, _⟩ => ⟨S1024x4096, .f32⟩
  | .hbm, ⟨4, _⟩ => ⟨S8320x1024, .f32⟩
  | .local _ .vmem, ⟨0, _⟩ => ⟨S640x4096, .bf16⟩
  | .local _ .vmem, ⟨1, _⟩ => ⟨S640x4096, .bf16⟩
  | .local _ .vmem, ⟨2, _⟩ => ⟨S512x4096, .f32⟩
  | .local _ .vmem, ⟨3, _⟩ => ⟨S512x4096, .f32⟩
  | .local _ .vmem, ⟨4, _⟩ => ⟨S640x512, .f32⟩
  | .local _ .vmem, ⟨5, _⟩ => ⟨S640x512, .f32⟩
  | .local _ .vmem, ⟨6, _⟩ => ⟨S4096x512, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FnReferenceIdeal.lean ====
abbrev S8320x4096 : Shape := ⟨2, ![8320, 4096]⟩
abbrev S4096x10264 : Shape := ⟨2, ![4096, 10264]⟩
abbrev S8320x10264 : Shape := ⟨2, ![8320, 10264]⟩
abbrev S8320x1024 : Shape := ⟨2, ![8320, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x10264, .f32⟩
  | .hbm, ⟨2, _⟩ => ⟨S8320x4096, .f32⟩
  | .hbm, ⟨3, _⟩ => ⟨S8320x10264, .f32⟩
  | .hbm, ⟨4, _⟩ => ⟨S8320x1024, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutTwo.lean ====
abbrev S8320x3072 : Shape := ⟨2, ![8320, 3072]⟩
abbrev S8320x1024 : Shape := ⟨2, ![8320, 1024]⟩
abbrev S4096x4096 : Shape := ⟨2, ![4096, 4096]⟩
abbrev S8320x4096 : Shape := ⟨2, ![8320, 4096]⟩
abbrev S640x3072 : Shape := ⟨2, ![640, 3072]⟩
abbrev S640x1024 : Shape := ⟨2, ![640, 1024]⟩
abbrev S4096x512 : Shape := ⟨2, ![4096, 512]⟩
abbrev S640x512 : Shape := ⟨2, ![640, 512]⟩
abbrev S3072x512 : Shape := ⟨2, ![3072, 512]⟩
abbrev S1024x512 : Shape := ⟨2, ![1024, 512]⟩

abbrev nBuf : Space → Nat
  | .hbm => 5
  | .vmem => 11
  | .smem => 0
  | _ => 0

abbrev bufTy : (tb : Table) → Fin (tcTables nBuf tb) → BufTy
  | .hbm, ⟨0, _⟩ => ⟨S8320x3072, .bf16⟩
  | .hbm, ⟨1, _⟩ => ⟨S8320x1024, .bf16⟩
  | .hbm, ⟨2, _⟩ => ⟨S4096x4096, .f32⟩
  | .hbm, ⟨3, _⟩ => ⟨S8320x4096, .f32⟩
  | .hbm, ⟨4, _⟩ => ⟨S8320x4096, .f32⟩
  | .local _ .vmem, ⟨0, _⟩ => ⟨S640x3072, .bf16⟩
  | .local _ .vmem, ⟨1, _⟩ => ⟨S640x3072, .bf16⟩
  | .local _ .vmem, ⟨2, _⟩ => ⟨S640x1024, .bf16⟩
  | .local _ .vmem, ⟨3, _⟩ => ⟨S640x1024, .bf16⟩
  | .local _ .vmem, ⟨4, _⟩ => ⟨S4096x512, .f32⟩
  | .local _ .vmem, ⟨5, _⟩ => ⟨S4096x512, .f32⟩
  | .local _ .vmem, ⟨6, _⟩ => ⟨S640x512, .f32⟩
  | .local _ .vmem, ⟨7, _⟩ => ⟨S640x512, .f32⟩
  | .local _ .vmem, ⟨8, _⟩ => ⟨S640x512, .f32⟩
  | .local _ .vmem, ⟨9, _⟩ => ⟨S640x512, .f32⟩
  | .local _ .vmem, ⟨10, _⟩ => ⟨S4096x512, .bf16⟩
  | _, _ => ⟨S8320x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S640x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S640x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutTwoReferenceIdeal.lean ====
abbrev S8320x3072 : Shape := ⟨2, ![8320, 3072]⟩
abbrev S8320x1024 : Shape := ⟨2, ![8320, 1024]⟩
abbrev S4096x4096 : Shape := ⟨2, ![4096, 4096]⟩
abbrev S8320x4096 : Shape := ⟨2, ![8320, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8320x3072, .bf16⟩
  | .hbm, ⟨1, _⟩ => ⟨S8320x1024, .bf16⟩
  | .hbm, ⟨2, _⟩ => ⟨S4096x4096, .f32⟩
  | .hbm, ⟨3, _⟩ => ⟨S8320x4096, .f32⟩
  | .hbm, ⟨4, _⟩ => ⟨S8320x4096, .bf16⟩
  | .hbm, ⟨5, _⟩ => ⟨S8320x4096, .f32⟩
  | .hbm, ⟨6, _⟩ => ⟨S8320x4096, .f32⟩
  | .hbm, ⟨7, _⟩ => ⟨S8320x4096, .f32⟩
  | _, _ => ⟨S8320x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Attention.lean ====
abbrev S8320x3072 : Shape := ⟨2, ![8320, 3072]⟩
abbrev S16 : Shape := ⟨1, ![16]⟩
abbrev S8320x2048 : Shape := ⟨2, ![8320, 2048]⟩
abbrev S128x2048 : Shape := ⟨2, ![128, 2048]⟩
abbrev S128x512 : Shape := ⟨2, ![128, 512]⟩
abbrev S128x128 : Shape := ⟨2, ![128, 128]⟩
abbrev S512x128 : Shape := ⟨2, ![512, 128]⟩
abbrev S1 : Shape := ⟨1, ![1]⟩
abbrev S128 : Shape := ⟨1, ![128]⟩
abbrev S128x1 : Shape := ⟨2, ![128, 1]⟩

abbrev nBuf : Space → Nat
  | .hbm => 4
  | .vmem => 18
  | .smem => 2
  | _ => 0

abbrev bufTy : (tb : Table) → Fin (tcTables nBuf tb) → BufTy
  | .hbm, ⟨0, _⟩ => ⟨S8320x3072, .f32⟩
  | .hbm, ⟨1, _⟩ => ⟨S16, .f32⟩
  | .hbm, ⟨2, _⟩ => ⟨S16, .f32⟩
  | .hbm, ⟨3, _⟩ => ⟨S8320x2048, .bf16⟩
  | .local _ .vmem, ⟨0, _⟩ => ⟨S128x2048, .f32⟩
  | .local _ .vmem, ⟨1, _⟩ => ⟨S128x2048, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x2048, .bf16⟩
  | .local _ .vmem, ⟨17, _⟩ => ⟨S128x2048, .bf16⟩
  | .local _ .smem, ⟨0, _⟩ => ⟨S16, .f32⟩
  | .local _ .smem, ⟨1, _⟩ => ⟨S16, .f32⟩
  | _, _ => ⟨S8320x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![65], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_4 (i : grid0.Coords) : Fin 2 → Nat :=
  let arg0 : BitVec 32 := BitVec.ofNat 32 (i 0).val
  let c2_i32 : BitVec 32 := 2#32
  let v0 : BitVec 32 := Scalar.subi arg0 c2_i32
  let c1_i32 : BitVec 32 := 1#32
  let v1 : BitVec 32 := Scalar.addi v0 c1_i32
  let c0_i32 : BitVec 32 := 0#32
  let c64_i32 : BitVec 32 := 64#32
  let v2 : BitVec 32 := Scalar.maxsi c0_i32 v1
  let v3 : BitVec 32 := Scalar.minsi c64_i32 v2
  let c4_i32 : BitVec 32 := 4#32
  let c0_i32_0 : BitVec 32 := 0#32
  ![v3.toNat, c4_i32.toNat]

def cc0_transform_5 (i : grid0.Coords) : Fin 2 → Nat :=
  let arg0 : BitVec 32 := BitVec.ofNat 32 (i 0).val
  let c2_i32 : BitVec 32 := 2#32
  let v0 : BitVec 32 := Scalar.subi arg0 c2_i32
  let c2_i32_0 : BitVec 32 := 2#32
  let v1 : BitVec 32 := Scalar.addi v0 c2_i32_0
  let c0_i32 : BitVec 32 := 0#32
  let c64_i32 : BitVec 32 := 64#32
  let v2 : BitVec 32 := Scalar.maxsi c0_i32 v1
  let v3 : BitVec 32 := Scalar.minsi c64_i32 v2
  let c4_i32 : BitVec 32 := 4#32
  let c0_i32_1 : BitVec 32 := 0#32
  ![v3.toNat, c4_i32.toNat]

def cc0_transform_6 (i : grid0.Coords) : Fin 2 → Nat :=
  let arg0 : BitVec 32 := BitVec.ofNat 32 (i 0).val
  let c2_i32 : BitVec 32 := 2#32
  let v0 : BitVec 32 := Scalar.subi arg0 c2_i32
  let c3_i32 : BitVec 32 := 3#32
  let v1 : BitVec 32 := Scalar.addi v0 c3_i32
  let c0_i32 : BitVec 32 := 0#32
  let c64_i32 : BitVec 32 := 64#32
  let v2 : BitVec 32 := Scalar.maxsi c0_i32 v1
  let v3 : BitVec 32 := Scalar.minsi c64_i32 v2
  let c4_i32 : BitVec 32 := 4#32
  let c0_i32_0 : BitVec 32 := 0#32
  ![v3.toNat, c4_i32.toNat]

def cc0_transform_7 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_8 (i : grid0.Coords) : Fin 2 → Nat :=
  let arg0 : BitVec 32 := BitVec.ofNat 32 (i 0).val
  let c2_i32 : BitVec 32 := 2#32
  let v0 : BitVec 32 := Scalar.subi arg0 c2_i32
  let c1_i32 : BitVec 32 := 1#32
  let v1 : BitVec 32 := Scalar.addi v0 c1_i32
  let c0_i32 : BitVec 32 := 0#32
  let c64_i32 : BitVec 32 := 64#32
  let v2 : BitVec 32 := Scalar.maxsi c0_i32 v1
  let v3 : BitVec 32 := Scalar.minsi c64_i32 v2
  let c5_i32 : BitVec 32 := 5#32
  let c0_i32_0 : BitVec 32 := 0#32
  ![v3.toNat, c5_i32.toNat]

def cc0_transform_9 (i : grid0.Coords) : Fin 2 → Nat :=
  let arg0 : BitVec 32 := BitVec.ofNat 32 (i 0).val
  let c2_i32 : BitVec 32 := 2#32
  let v0 : BitVec 32 := Scalar.subi arg0 c2_i32
  let c2_i32_0 : BitVec 32 := 2#32
  let v1 : BitVec 32 := Scalar.addi v0 c2_i32_0
  let c0_i32 : BitVec 32 := 0#32
  let c64_i32 : BitVec 32 := 64#32
  let v2 : BitVec 32 := Scalar.maxsi c0_i32 v1
  let v3 : BitVec 32 := Scalar.minsi c64_i32 v2
  let c5_i32 : BitVec 32 := 5#32
  let c0_i32_1 : BitVec 32 := 0#32
  ![v3.toNat, c5_i32.toNat]

def cc0_transform_10 (i : grid0.Coords) : Fin 2 → Nat :=
  let arg0 : BitVec 32 := BitVec.ofNat 32 (i 0).val
  let c2_i32 : BitVec 32 := 2#32
  let v0 : BitVec 32 := Scalar.subi arg0 c2_i32
  let c3_i32 : BitVec 32 := 3#32
  let v1 : BitVec 32 := Scalar.addi v0 c3_i32
  let c0_i32 : BitVec 32 := 0#32
  let c64_i32 : BitVec 32 := 64#32
  let v2 : BitVec 32 := Scalar.maxsi c0_i32 v1
  let v3 : BitVec 32 := Scalar.minsi c64_i32 v2
  let c5_i32 : BitVec 32 := 5#32
  let c0_i32_0 : BitVec 32 := 0#32
  ![v3.toNat, c5_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== AttentionIdeal.lean ====
variable {F : FTy → Type} [FloatOps F] [Named F]
def κ : String → Option EReal := fun
  | "mask" => some ⊥
  | _ => none
-- ==== AttentionReferenceIdeal.lean ====
abbrev S8320x3072 : Shape := ⟨2, ![8320, 3072]⟩
abbrev S16 : Shape := ⟨1, ![16]⟩
abbrev S8208x3072 : Shape := ⟨2, ![8208, 3072]⟩
abbrev S8208x2048 : Shape := ⟨2, ![8208, 2048]⟩
abbrev S8208x4x4x128 : Shape := ⟨4, ![8208, 4, 4, 128]⟩
abbrev S8208x512 : Shape := ⟨2, ![8208, 512]⟩
abbrev S8208x4x128 : Shape := ⟨3, ![8208, 4, 128]⟩
abbrev S4x8208x8208x4 : Shape := ⟨4, ![4, 8208, 8208, 4]⟩
abbrev S4x4x8208x8208 : Shape := ⟨4, ![4, 4, 8208, 8208]⟩
abbrev S_ : Shape := ⟨0, ![]⟩
abbrev S8208x8208 : Shape := ⟨2, ![8208, 8208]⟩
abbrev S4x4x1x1 : Shape := ⟨4, ![4, 4, 1, 1]⟩
abbrev S1x1x8208x8208 : Shape := ⟨4, ![1, 1, 8208, 8208]⟩
abbrev S4x4x8208x1 : Shape := ⟨4, ![4, 4, 8208, 1]⟩
abbrev S4x4x8208x8209 : Shape := ⟨4, ![4, 4, 8208, 8209]⟩
abbrev S4x4x8208 : Shape := ⟨3, ![4, 4, 8208]⟩
abbrev S4x128x4x8208 : Shape := ⟨4, ![4, 128, 4, 8208]⟩
abbrev S8320x2048 : Shape := ⟨2, ![8320, 2048]⟩

abbrev nBuf : Space → Nat
  | .hbm => 74
  | .vmem => 0
  | .smem => 0
  | _ => 0

abbrev bufTy : (tb : Table) → Fin (tcTables nBuf tb) → BufTy
  | .hbm, ⟨0, _⟩ => ⟨S8320x3072, .f32⟩
  | .hbm, ⟨1, _⟩ => ⟨S16, .f32⟩
  | .hbm, ⟨2, _⟩ => ⟨S16, .f32⟩
  | .hbm, ⟨3, _⟩ => ⟨S8208x3072, .f32⟩
  | .hbm, ⟨4, _⟩ => ⟨S8208x2048, .f32⟩
  | .hbm, ⟨5, _⟩ => ⟨S8208x4x4x128, .f32⟩
  | .hbm, ⟨6, _⟩ => ⟨S8208x512, .f32⟩
  | .hbm, ⟨7, _⟩ => ⟨S8208x4x128, .f32⟩
  | .hbm, ⟨8, _⟩ => ⟨S8208x512, .f32⟩
  | .hbm, ⟨9, _⟩ => ⟨S8208x4x128, .f32⟩
  | .hbm, ⟨10, _⟩ => ⟨S4x8208x8208x4, .f32⟩
  | .hbm, ⟨11, _⟩ => ⟨S4x4x8208x8208, .f32⟩
  | .hbm, ⟨12, _⟩ => ⟨S_, .f32⟩
  | .hbm, ⟨13, _⟩ => ⟨S4x4x8208x8208, .f32⟩
  | .hbm, ⟨14, _⟩ => ⟨S4x4x8208x8208, .f32⟩
  | .hbm, ⟨15, _⟩ => ⟨S8208x8208, .i32⟩
  | .hbm, ⟨16, _⟩ => ⟨S8208x8208, .i32⟩
  | .hbm, ⟨17, _⟩ => ⟨S8208x8208, .i32⟩
  | .hbm, ⟨18, _⟩ => ⟨S8208x8208, .i32⟩
  | .hbm, ⟨19, _⟩ => ⟨S_, .i32⟩
  | .hbm, ⟨20, _⟩ => ⟨S8208x8208, .i32⟩
  | .hbm, ⟨21, _⟩ => ⟨S8208x8208, .i1⟩
  | .hbm, ⟨22, _⟩ => ⟨S_, .i32⟩
  | .hbm, ⟨23, _⟩ => ⟨S8208x8208, .i32⟩
  | .hbm, ⟨24, _⟩ => ⟨S8208x8208, .i1⟩
  | .hbm, ⟨25, _⟩ => ⟨S8208x8208, .i1⟩
  | .hbm, ⟨26, _⟩ => ⟨S_, .i32⟩
  | .hbm, ⟨27, _⟩ => ⟨S8208x8208, .i32⟩
  | .hbm, ⟨28, _⟩ => ⟨S8208x8208, .i1⟩
  | .hbm, ⟨29, _⟩ => ⟨S_, .i32⟩
  | .hbm, ⟨30, _⟩ => ⟨S8208x8208, .i32⟩
  | .hbm, ⟨31, _⟩ => ⟨S8208x8208, .i1⟩
  | .hbm, ⟨32, _⟩ => ⟨S8208x8208, .i1⟩
  | .hbm, ⟨33, _⟩ => ⟨S8208x8208, .f32⟩
  | .hbm, ⟨34, _⟩ => ⟨S_, .f32⟩
  | .hbm, ⟨35, _⟩ => ⟨S_, .f32⟩
  | .hbm, ⟨36, _⟩ => ⟨S8208x8208, .f32⟩
  | .hbm, ⟨37, _⟩ => ⟨S8208x8208, .f32⟩
  | .hbm, ⟨38, _⟩ => ⟨S4x4x1x1, .f32⟩
  | .hbm, ⟨39, _⟩ => ⟨S1x1x8208x8208, .f32⟩
  | .hbm, ⟨40, _⟩ => ⟨S4x4x8208x8208, .f32⟩
  | .hbm, ⟨41, _⟩ => ⟨S4x4x8208x8208, .f32⟩
  | .hbm, ⟨42, _⟩ => ⟨S4x4x8208x8208, .f32⟩
  | .hbm, ⟨43, _⟩ => ⟨S4x4x8208x8208, .f32⟩
  | .hbm, ⟨44, _⟩ => ⟨S_, .f32⟩
  | .hbm, ⟨45, _⟩ => ⟨S_, .f32⟩
  | .hbm, ⟨46, _⟩ => ⟨S4x4x8208x8208, .i1⟩
  | .hbm, ⟨47, _⟩ => ⟨S4x4x8208x8208, .f32⟩
  | .hbm, ⟨48, _⟩ => ⟨S4x4x8208x8208, .f32⟩
  | .hbm, ⟨49, _⟩ => ⟨S4x4x1x1, .f32⟩
  | .hbm, ⟨50, _⟩ => ⟨S4x4x8208x1, .f32⟩
  | .hbm, ⟨51, _⟩ => ⟨S4x4x8208x8209, .f32⟩
  | .hbm, ⟨52, _⟩ => ⟨S_, .f32⟩
  | .hbm, ⟨53, _⟩ => ⟨S4x4x8208, .f32⟩
  | .hbm, ⟨54, _⟩ => ⟨S_, .f32⟩
  | .hbm, ⟨55, _⟩ => ⟨S4x4x8208, .f32⟩
  | .hbm, ⟨56, _⟩ => ⟨S4x4x8208, .f32⟩
  | .hbm, ⟨57, _⟩ => ⟨S4x4x8208x1, .f32⟩
  | .hbm, ⟨58, _⟩ => ⟨S4x4x8208x8209, .f32⟩
  | .hbm, ⟨59, _⟩ => ⟨S4x4x8208x8209, .f32⟩
  | .hbm, ⟨60, _⟩ => ⟨S4x4x8208x8209, .f32⟩
  | .hbm, ⟨61, _⟩ => ⟨S_, .f32⟩
  | .hbm, ⟨62, _⟩ => ⟨S4x4x8208, .f32⟩
  | .hbm, ⟨63, _⟩ => ⟨S4x4x8208x1, .f32⟩
  | .hbm, ⟨64, _⟩ => ⟨S4x4x8208x8209, .f32⟩
  | .hbm, ⟨65, _⟩ => ⟨S4x4x8208x8209, .f32⟩
  | .hbm, ⟨66, _⟩ => ⟨S4x4x8208x8208, .f32⟩
  | .hbm, ⟨67, _⟩ => ⟨S4x128x4x8208, .f32⟩
  | .hbm, ⟨68, _⟩ => ⟨S8208x4x4x128, .f32⟩
  | .hbm, ⟨69, _⟩ => ⟨S8208x2048, .f32⟩
  | .hbm, ⟨70, _⟩ => ⟨S_, .i32⟩
  | .hbm, ⟨71, _⟩ => ⟨S_, .f32⟩
  | .hbm, ⟨72, _⟩ => ⟨S8320x2048, .f32⟩
  | .hbm, ⟨73, _⟩ => ⟨S8320x2048, .bf16⟩
  | _, _ => ⟨S8320x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_v15 : Ref sig .tc := ⟨.hbm, 20, rfl⟩
abbrev main_v16 : Ref sig .tc := ⟨.hbm, 21, rfl⟩
abbrev main_c_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_1 : Ref sig .tc := ⟨.hbm, 26, rfl⟩
abbrev main_v20 : Ref sig .tc := ⟨.hbm, 27, rfl⟩
abbrev main_v21 : Ref sig .tc := ⟨.hbm, 28, rfl⟩
abbrev main_c_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_8 : Ref sig .tc := ⟨.hbm, 70, rfl⟩
abbrev main_call2_v0 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Norm.lean ====
abbrev S8320x4096 : Shape := ⟨2, ![8320, 4096]⟩
abbrev S4096 : Shape := ⟨1, ![4096]⟩
abbrev S1x4096 : Shape := ⟨2, ![1, 4096]⟩
abbrev S640x4096 : Shape := ⟨2, ![640, 4096]⟩
abbrev S640 : Shape := ⟨1, ![640]⟩
abbrev S640x1 : Shape := ⟨2, ![640, 1]⟩

abbrev nBuf : Space → Nat
  | .hbm => 4
  | .vmem => 5
  | .smem => 0
  | _ => 0

abbrev bufTy : (tb : Table) → Fin (tcTables nBuf tb) → BufTy
  | .hbm, ⟨0, _⟩ => ⟨S8320x4096, .f32⟩
  | .hbm, ⟨1, _⟩ => ⟨S4096, .f32⟩
  | .hbm, ⟨2, _⟩ => ⟨S1x4096, .f32⟩
  | .hbm, ⟨3, _⟩ => ⟨S8320x4096, .bf16⟩
  | .local _ .vmem, ⟨0, _⟩ => ⟨S640x4096, .f32⟩
  | .local _ .vmem, ⟨1, _⟩ => ⟨S640x4096, .f32⟩
  | .local _ .vmem, ⟨2, _⟩ => ⟨S1x4096, .f32⟩
  | .local _ .vmem, ⟨3, _⟩ => ⟨S640x4096, .bf16⟩
  | .local _ .vmem, ⟨4, _⟩ => ⟨S640x4096, .bf16⟩
  | _, _ => ⟨S8320x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S8320x4096 : Shape := ⟨2, ![8320, 4096]⟩
abbrev S4096 : Shape := ⟨1, ![4096]⟩
abbrev S_ : Shape := ⟨0, ![]⟩
abbrev S8320 : Shape := ⟨1, ![8320]⟩
abbrev S8320x1 : Shape := ⟨2, ![8320, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8320x4096, .f32⟩
  | .hbm, ⟨1, _⟩ => ⟨S4096, .f32⟩
  | .hbm, ⟨2, _⟩ => ⟨S8320x4096, .f32⟩
  | .hbm, ⟨3, _⟩ => ⟨S_, .f32⟩
  | .hbm, ⟨4, _⟩ => ⟨S8320, .f32⟩
  | .hbm, ⟨5, _⟩ => ⟨S8320x1, .f32⟩
  | .hbm, ⟨6, _⟩ => ⟨S_, .f32⟩
  | .hbm, ⟨7, _⟩ => ⟨S8320x1, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S8320x1, .f32⟩
  | .hbm, ⟨13, _⟩ => ⟨S8320x4096, .f32⟩
  | .hbm, ⟨14, _⟩ => ⟨S8320x4096, .f32⟩
  | .hbm, ⟨15, _⟩ => ⟨S1x4096, .f32⟩
  | .hbm, ⟨16, _⟩ => ⟨S8320x4096, .f32⟩
  | .hbm, ⟨17, _⟩ => ⟨S8320x4096, .f32⟩
  | .hbm, ⟨18, _⟩ => ⟨S8320x4096, .bf16⟩
  | _, _ => ⟨S8320x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== MlFinal.lean ====
abbrev S8320x3072 : Shape := ⟨2, ![8320, 3072]⟩
abbrev S8320x9216 : Shape := ⟨2, ![8320, 9216]⟩
abbrev S3072 : Shape := ⟨1, ![3072]⟩
abbrev S1x3072 : Shape := ⟨2, ![1, 3072]⟩
abbrev S128x3072 : Shape := ⟨2, ![128, 3072]⟩
abbrev S128x512 : Shape := ⟨2, ![128, 512]⟩
abbrev S128 : Shape := ⟨1, ![128]⟩
abbrev S128x1 : Shape := ⟨2, ![128, 1]⟩
abbrev S1x512 : Shape := ⟨2, ![1, 512]⟩

abbrev nBuf : Space → Nat
  | .hbm => 6
  | .vmem => 9
  | .smem => 0
  | _ => 0

abbrev bufTy : (tb : Table) → Fin (tcTables nBuf tb) → BufTy
  | .hbm, ⟨0, _⟩ => ⟨S8320x3072, .f32⟩
  | .hbm, ⟨1, _⟩ => ⟨S8320x3072, .f32⟩
  | .hbm, ⟨2, _⟩ => ⟨S8320x9216, .f32⟩
  | .hbm, ⟨3, _⟩ => ⟨S3072, .f32⟩
  | .hbm, ⟨4, _⟩ => ⟨S1x3072, .f32⟩
  | .hbm, ⟨5, _⟩ => ⟨S8320x3072, .bf16⟩
  | .local _ .vmem, ⟨0, _⟩ => ⟨S128x3072, .f32⟩
  | .local _ .vmem, ⟨1, _⟩ => ⟨S128x3072, .f32⟩
  | .local _ .vmem, ⟨2, _⟩ => ⟨S128x3072, .f32⟩
  | .local _ .vmem, ⟨3, _⟩ => ⟨S128x3072, .f32⟩
  | .local _ .vmem, ⟨4, _⟩ => ⟨S128x3072, .f32⟩
  | .local _ .vmem, ⟨5, _⟩ => ⟨S128x3072, .f32⟩
  | .local _ .vmem, ⟨6, _⟩ => ⟨S1x3072, .f32⟩
  | .local _ .vmem, ⟨7, _⟩ => ⟨S128x3072, .bf16⟩
  | .local _ .vmem, ⟨8, _⟩ => ⟨S128x3072, .bf16⟩
  | _, _ => ⟨S8320x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MlFinalReferenceIdeal.lean ====
abbrev S8320x3072 : Shape := ⟨2, ![8320, 3072]⟩
abbrev S8320x9216 : Shape := ⟨2, ![8320, 9216]⟩
abbrev S3072 : Shape := ⟨1, ![3072]⟩
abbrev S8320x6x512 : Shape := ⟨3, ![8320, 6, 512]⟩
abbrev S_ : Shape := ⟨0, ![]⟩
abbrev S8320x6 : Shape := ⟨2, ![8320, 6]⟩
abbrev S8320x6x1 : Shape := ⟨3, ![8320, 6, 1]⟩
abbrev S1x3072 : Shape := ⟨2, ![1, 3072]⟩

abbrev nBuf : Space → Nat
  | .hbm => 34
  | .vmem => 0
  | .smem => 0
  | _ => 0

abbrev bufTy : (tb : Table) → Fin (tcTables nBuf tb) → BufTy
  | .hbm, ⟨0, _⟩ => ⟨S8320x3072, .f32⟩
  | .hbm, ⟨1, _⟩ => ⟨S8320x3072, .f32⟩
  | .hbm, ⟨2, _⟩ => ⟨S8320x9216, .f32⟩
  | .hbm, ⟨3, _⟩ => ⟨S3072, .f32⟩
  | .hbm, ⟨4, _⟩ => ⟨S8320x3072, .f32⟩
  | .hbm, ⟨5, _⟩ => ⟨S8320x6x512, .f32⟩
  | .hbm, ⟨6, _⟩ => ⟨S8320x6x512, .f32⟩
  | .hbm, ⟨7, _⟩ => ⟨S_, .f32⟩
  | .hbm, ⟨8, _⟩ => ⟨S8320x6, .f32⟩
  | .hbm, ⟨9, _⟩ => ⟨S8320x6x1, .f32⟩
  | .hbm, ⟨10, _⟩ => ⟨S_, .f32⟩
  | .hbm, ⟨11, _⟩ => ⟨S8320x6x1, .f32⟩
  | .hbm, ⟨12, _⟩ => ⟨S8320x6x1, .f32⟩
  | .hbm, ⟨13, _⟩ => ⟨S_, .f32⟩
  | .hbm, ⟨14, _⟩ => ⟨S8320x6x1, .f32⟩
  | .hbm, ⟨15, _⟩ => ⟨S8320x6x1, .f32⟩
  | .hbm, ⟨16, _⟩ => ⟨S8320x6x1, .f32⟩
  | .hbm, ⟨17, _⟩ => ⟨S8320x6x512, .f32⟩
  | .hbm, ⟨18, _⟩ => ⟨S8320x6x512, .f32⟩
  | .hbm, ⟨19, _⟩ => ⟨S8320x3072, .f32⟩
  | .hbm, ⟨20, _⟩ => ⟨S1x3072, .f32⟩
  | .hbm, ⟨21, _⟩ => ⟨S8320x3072, .f32⟩
  | .hbm, ⟨22, _⟩ => ⟨S8320x3072, .f32⟩
  | .hbm, ⟨23, _⟩ => ⟨S8320x3072, .f32⟩
  | .hbm, ⟨24, _⟩ => ⟨S8320x3072, .f32⟩
  | .hbm, ⟨25, _⟩ => ⟨S8320x3072, .f32⟩
  | .hbm, ⟨26, _⟩ => ⟨S_, .f32⟩
  | .hbm, ⟨27, _⟩ => ⟨S8320x3072, .f32⟩
  | .hbm, ⟨28, _⟩ => ⟨S8320x3072, .f32⟩
  | .hbm, ⟨29, _⟩ => ⟨S_, .f32⟩
  | .hbm, ⟨30, _⟩ => ⟨S8320x3072, .f32⟩
  | .hbm, ⟨31, _⟩ => ⟨S8320x3072, .f32⟩
  | .hbm, ⟨32, _⟩ => ⟨S8320x3072, .f32⟩
  | .hbm, ⟨33, _⟩ => ⟨S8320x3072, .bf16⟩
  | _, _ => ⟨S8320x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== SsdFinal.lean ====
abbrev S8320x2048 : Shape := ⟨2, ![8320, 2048]⟩
abbrev S8320x3072 : Shape := ⟨2, ![8320, 3072]⟩
abbrev S1x2048 : Shape := ⟨2, ![1, 2048]⟩
abbrev S2048 : Shape := ⟨1, ![2048]⟩
abbrev S128x2048 : Shape := ⟨2, ![128, 2048]⟩
abbrev S128x512 : Shape := ⟨2, ![128, 512]⟩
abbrev S128 : Shape := ⟨1, ![128]⟩
abbrev S128x1 : Shape := ⟨2, ![128, 1]⟩
abbrev S1x512 : Shape := ⟨2, ![1, 512]⟩

abbrev nBuf : Space → Nat
  | .hbm => 8
  | .vmem => 12
  | .smem => 0
  | _ => 0

abbrev bufTy : (tb : Table) → Fin (tcTables nBuf tb) → BufTy
  | .hbm, ⟨0, _⟩ => ⟨S8320x2048, .f32⟩
  | .hbm, ⟨1, _⟩ => ⟨S8320x2048, .f32⟩
  | .hbm, ⟨2, _⟩ => ⟨S8320x3072, .f32⟩
  | .hbm, ⟨3, _⟩ => ⟨S8320x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S8320x2048, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S1x2048, .f32⟩
  | .local _ .vmem, ⟨9, _⟩ => ⟨S1x2048, .f32⟩
  | .local _ .vmem, ⟨10, _⟩ => ⟨S128x2048, .bf16⟩
  | .local _ .vmem, ⟨11, _⟩ => ⟨S128x2048, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SsdFinalReferenceIdeal.lean ====
abbrev S8320x2048 : Shape := ⟨2, ![8320, 2048]⟩
abbrev S8320x3072 : Shape := ⟨2, ![8320, 3072]⟩
abbrev S1x2048 : Shape := ⟨2, ![1, 2048]⟩
abbrev S2048 : Shape := ⟨1, ![2048]⟩
abbrev S_ : Shape := ⟨0, ![]⟩
abbrev S8320x4x512 : Shape := ⟨3, ![8320, 4, 512]⟩
abbrev S8320x4 : Shape := ⟨2, ![8320, 4]⟩
abbrev S8320x4x1 : Shape := ⟨3, ![8320, 4, 1]⟩

abbrev nBuf : Space → Nat
  | .hbm => 40
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S8320x2048, .f32⟩
  | .hbm, ⟨2, _⟩ => ⟨S8320x3072, .f32⟩
  | .hbm, ⟨3, _⟩ => ⟨S8320x2048, .f32⟩
  | .hbm, ⟨4, _⟩ => ⟨S1x2048, .f32⟩
  | .hbm, ⟨5, _⟩ => ⟨S2048, .f32⟩
  | .hbm, ⟨6, _⟩ => ⟨S8320x2048, .f32⟩
  | .hbm, ⟨7, _⟩ => ⟨S8320x2048, .f32⟩
  | .hbm, ⟨8, _⟩ => ⟨S8320x2048, .f32⟩
  | .hbm, ⟨9, _⟩ => ⟨S8320x2048, .f32⟩
  | .hbm, ⟨10, _⟩ => ⟨S8320x2048, .f32⟩
  | .hbm, ⟨11, _⟩ => ⟨S8320x2048, .f32⟩
  | .hbm, ⟨12, _⟩ => ⟨S8320x2048, .f32⟩
  | .hbm, ⟨13, _⟩ => ⟨S_, .f32⟩
  | .hbm, ⟨14, _⟩ => ⟨S8320x2048, .f32⟩
  | .hbm, ⟨15, _⟩ => ⟨S8320x2048, .f32⟩
  | .hbm, ⟨16, _⟩ => ⟨S_, .f32⟩
  | .hbm, ⟨17, _⟩ => ⟨S8320x2048, .f32⟩
  | .hbm, ⟨18, _⟩ => ⟨S8320x2048, .f32⟩
  | .hbm, ⟨19, _⟩ => ⟨S8320x2048, .f32⟩
  | .hbm, ⟨20, _⟩ => ⟨S8320x2048, .f32⟩
  | .hbm, ⟨21, _⟩ => ⟨S8320x4x512, .f32⟩
  | .hbm, ⟨22, _⟩ => ⟨S8320x4x512, .f32⟩
  | .hbm, ⟨23, _⟩ => ⟨S_, .f32⟩
  | .hbm, ⟨24, _⟩ => ⟨S8320x4, .f32⟩
  | .hbm, ⟨25, _⟩ => ⟨S8320x4x1, .f32⟩
  | .hbm, ⟨26, _⟩ => ⟨S_, .f32⟩
  | .hbm, ⟨27, _⟩ => ⟨S8320x4x1, .f32⟩
  | .hbm, ⟨28, _⟩ => ⟨S8320x4x1, .f32⟩
  | .hbm, ⟨29, _⟩ => ⟨S_, .f32⟩
  | .hbm, ⟨30, _⟩ => ⟨S8320x4x1, .f32⟩
  | .hbm, ⟨31, _⟩ => ⟨S8320x4x1, .f32⟩
  | .hbm, ⟨32, _⟩ => ⟨S8320x4x1, .f32⟩
  | .hbm, ⟨33, _⟩ => ⟨S8320x4x512, .f32⟩
  | .hbm, ⟨34, _⟩ => ⟨S8320x4x512, .f32⟩
  | .hbm, ⟨35, _⟩ => ⟨S8320x2048, .f32⟩
  | .hbm, ⟨36, _⟩ => ⟨S1x2048, .f32⟩
  | .hbm, ⟨37, _⟩ => ⟨S8320x2048, .f32⟩
  | .hbm, ⟨38, _⟩ => ⟨S8320x2048, .f32⟩
  | .hbm, ⟨39, _⟩ => ⟨S8320x2048, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩

abbrev nD : Nat := 1
abbrev τ : Topo := Topo.v7x

variable {F : FTy → Type} [FloatOps F]
-- ==== DtProj.lean ====
abbrev S8320x4096 : Shape := ⟨2, ![8320, 4096]⟩
abbrev S4096x8256 : Shape := ⟨2, ![4096, 8256]⟩
abbrev S8256x4096 : Shape := ⟨2, ![8256, 4096]⟩
abbrev S32x4096 : Shape := ⟨2, ![32, 4096]⟩
abbrev S_ : Shape := ⟨0, ![]⟩
abbrev S128x4096 : Shape := ⟨2, ![128, 4096]⟩
abbrev S256x4096 : Shape := ⟨2, ![256, 4096]⟩
abbrev S8320x256 : Shape := ⟨2, ![8320, 256]⟩
abbrev S640x4096 : Shape := ⟨2, ![640, 4096]⟩
abbrev S640x256 : Shape := ⟨2, ![640, 256]⟩
abbrev S4096x256 : Shape := ⟨2, ![4096, 256]⟩

abbrev nBuf : Space → Nat
  | .hbm => 13
  | .vmem => 6
  | .smem => 0
  | _ => 0

abbrev bufTy : (tb : Table) → Fin (tcTables nBuf tb) → BufTy
  | .hbm, ⟨0, _⟩ => ⟨S8320x4096, .bf16⟩
  | .hbm, ⟨1, _⟩ => ⟨S4096x8256, .f32⟩
  | .hbm, ⟨2, _⟩ => ⟨S8256x4096, .f32⟩
  | .hbm, ⟨3, _⟩ => ⟨S32x4096, .f32⟩
  | .hbm, ⟨4, _⟩ => ⟨S_, .i32⟩
  | .hbm, ⟨5, _⟩ => ⟨S_, .f32⟩
  | .hbm, ⟨6, _⟩ => ⟨S128x4096, .f32⟩
  | .hbm, ⟨7, _⟩ => ⟨S32x4096, .f32⟩
  | .hbm, ⟨8, _⟩ => ⟨S_, .i32⟩
  | .hbm, ⟨9, _⟩ => ⟨S_, .f32⟩
  | .hbm, ⟨10, _⟩ => ⟨S128x4096, .f32⟩
  | .hbm, ⟨11, _⟩ => ⟨S256x4096, .f32⟩
  | .hbm, ⟨12, _⟩ => ⟨S8320x256, .f32⟩
  | .local _ .vmem, ⟨0, _⟩ => ⟨S640x4096, .bf16⟩
  | .local _ .vmem, ⟨1, _⟩ => ⟨S640x4096, .bf16⟩
  | .local _ .vmem, ⟨2, _⟩ => ⟨S256x4096, .f32⟩
  | .local _ .vmem, ⟨3, _⟩ => ⟨S640x256, .f32⟩
  | .local _ .vmem, ⟨4, _⟩ => ⟨S640x256, .f32⟩
  | .local _ .vmem, ⟨5, _⟩ => ⟨S4096x256, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_call1_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S256x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S640x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DtReferenceIdeal.lean ====
abbrev S8320x4096 : Shape := ⟨2, ![8320, 4096]⟩
abbrev S4096x8256 : Shape := ⟨2, ![4096, 8256]⟩
abbrev S8320x8256 : Shape := ⟨2, ![8320, 8256]⟩
abbrev S8320x64 : Shape := ⟨2, ![8320, 64]⟩
abbrev S8320x32 : Shape := ⟨2, ![8320, 32]⟩
abbrev S_ : Shape := ⟨0, ![]⟩
abbrev S8320x128 : Shape := ⟨2, ![8320, 128]⟩
abbrev S8320x256 : Shape := ⟨2, ![8320, 256]⟩

abbrev nBuf : Space → Nat
  | .hbm => 14
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x8256, .f32⟩
  | .hbm, ⟨2, _⟩ => ⟨S8320x4096, .f32⟩
  | .hbm, ⟨3, _⟩ => ⟨S8320x8256, .f32⟩
  | .hbm, ⟨4, _⟩ => ⟨S8320x64, .f32⟩
  | .hbm, ⟨5, _⟩ => ⟨S8320x32, .f32⟩
  | .hbm, ⟨6, _⟩ => ⟨S_, .i32⟩
  | .hbm, ⟨7, _⟩ => ⟨S_, .f32⟩
  | .hbm, ⟨8, _⟩ => ⟨S8320x128, .f32⟩
  | .hbm, ⟨9, _⟩ => ⟨S8320x32, .f32⟩
  | .hbm, ⟨10, _⟩ => ⟨S_, .i32⟩
  | .hbm, ⟨11, _⟩ => ⟨S_, .f32⟩
  | .hbm, ⟨12, _⟩ => ⟨S8320x128, .f32⟩
  | .hbm, ⟨13, _⟩ => ⟨S8320x256, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_call1_v0 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== GatesProj.lean ====
abbrev S8320x4096 : Shape := ⟨2, ![8320, 4096]⟩
abbrev S4096x10264 : Shape := ⟨2, ![4096, 10264]⟩
abbrev S10264x4096 : Shape := ⟨2, ![10264, 4096]⟩
abbrev S6x4096 : Shape := ⟨2, ![6, 4096]⟩
abbrev S_ : Shape := ⟨0, ![]⟩
abbrev S8x4096 : Shape := ⟨2, ![8, 4096]⟩
abbrev S14x4096 : Shape := ⟨2, ![14, 4096]⟩
abbrev S128x4096 : Shape := ⟨2, ![128, 4096]⟩
abbrev S256x4096 : Shape := ⟨2, ![256, 4096]⟩
abbrev S8320x256 : Shape := ⟨2, ![8320, 256]⟩
abbrev S640x4096 : Shape := ⟨2, ![640, 4096]⟩
abbrev S640x256 : Shape := ⟨2, ![640, 256]⟩
abbrev S4096x256 : Shape := ⟨2, ![4096, 256]⟩

abbrev nBuf : Space → Nat
  | .hbm => 23
  | .vmem => 6
  | .smem => 0
  | _ => 0

abbrev bufTy : (tb : Table) → Fin (tcTables nBuf tb) → BufTy
  | .hbm, ⟨0, _⟩ => ⟨S8320x4096, .bf16⟩
  | .hbm, ⟨1, _⟩ => ⟨S4096x10264, .f32⟩
  | .hbm, ⟨2, _⟩ => ⟨S10264x4096, .f32⟩
  | .hbm, ⟨3, _⟩ => ⟨S6x4096, .f32⟩
  | .hbm, ⟨4, _⟩ => ⟨S6x4096, .f32⟩
  | .hbm, ⟨5, _⟩ => ⟨S_, .i32⟩
  | .hbm, ⟨6, _⟩ => ⟨S_, .f32⟩
  | .hbm, ⟨7, _⟩ => ⟨S8x4096, .f32⟩
  | .hbm, ⟨8, _⟩ => ⟨S14x4096, .f32⟩
  | .hbm, ⟨9, _⟩ => ⟨S_, .i32⟩
  | .hbm, ⟨10, _⟩ => ⟨S_, .f32⟩
  | .hbm, ⟨11, _⟩ => ⟨S128x4096, .f32⟩
  | .hbm, ⟨12, _⟩ => ⟨S6x4096, .f32⟩
  | .hbm, ⟨13, _⟩ => ⟨S6x4096, .f32⟩
  | .hbm, ⟨14, _⟩ => ⟨S_, .i32⟩
  | .hbm, ⟨15, _⟩ => ⟨S_, .f32⟩
  | .hbm, ⟨16, _⟩ => ⟨S8x4096, .f32⟩
  | .hbm, ⟨17, _⟩ => ⟨S14x4096, .f32⟩
  | .hbm, ⟨18, _⟩ => ⟨S_, .i32⟩
  | .hbm, ⟨19, _⟩ => ⟨S_, .f32⟩
  | .hbm, ⟨20, _⟩ => ⟨S128x4096, .f32⟩
  | .hbm, ⟨21, _⟩ => ⟨S256x4096, .f32⟩
  | .hbm, ⟨22, _⟩ => ⟨S8320x256, .f32⟩
  | .local _ .vmem, ⟨0, _⟩ => ⟨S640x4096, .bf16⟩
  | .local _ .vmem, ⟨1, _⟩ => ⟨S640x4096, .bf16⟩
  | .local _ .vmem, ⟨2, _⟩ => ⟨S256x4096, .f32⟩
  | .local _ .vmem, ⟨3, _⟩ => ⟨S640x256, .f32⟩
  | .local _ .vmem, ⟨4, _⟩ => ⟨S640x256, .f32⟩
  | .local _ .vmem, ⟨5, _⟩ => ⟨S4096x256, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call1_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_call2_v0 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_call3_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S256x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S640x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatesReferenceIdeal.lean ====
abbrev S8320x4096 : Shape := ⟨2, ![8320, 4096]⟩
abbrev S4096x10264 : Shape := ⟨2, ![4096, 10264]⟩
abbrev S8320x10264 : Shape := ⟨2, ![8320, 10264]⟩
abbrev S8320x24 : Shape := ⟨2, ![8320, 24]⟩
abbrev S8320x12 : Shape := ⟨2, ![8320, 12]⟩
abbrev S8320x6 : Shape := ⟨2, ![8320, 6]⟩
abbrev S_ : Shape := ⟨0, ![]⟩
abbrev S8320x8 : Shape := ⟨2, ![8320, 8]⟩
abbrev S8320x14 : Shape := ⟨2, ![8320, 14]⟩
abbrev S8320x128 : Shape := ⟨2, ![8320, 128]⟩
abbrev S8320x256 : Shape := ⟨2, ![8320, 256]⟩

abbrev nBuf : Space → Nat
  | .hbm => 26
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x10264, .f32⟩
  | .hbm, ⟨2, _⟩ => ⟨S8320x4096, .f32⟩
  | .hbm, ⟨3, _⟩ => ⟨S8320x10264, .f32⟩
  | .hbm, ⟨4, _⟩ => ⟨S8320x24, .f32⟩
  | .hbm, ⟨5, _⟩ => ⟨S8320x12, .f32⟩
  | .hbm, ⟨6, _⟩ => ⟨S8320x12, .f32⟩
  | .hbm, ⟨7, _⟩ => ⟨S8320x6, .f32⟩
  | .hbm, ⟨8, _⟩ => ⟨S_, .i32⟩
  | .hbm, ⟨9, _⟩ => ⟨S_, .f32⟩
  | .hbm, ⟨10, _⟩ => ⟨S8320x8, .f32⟩
  | .hbm, ⟨11, _⟩ => ⟨S8320x6, .f32⟩
  | .hbm, ⟨12, _⟩ => ⟨S8320x14, .f32⟩
  | .hbm, ⟨13, _⟩ => ⟨S_, .i32⟩
  | .hbm, ⟨14, _⟩ => ⟨S_, .f32⟩
  | .hbm, ⟨15, _⟩ => ⟨S8320x128, .f32⟩
  | .hbm, ⟨16, _⟩ => ⟨S8320x6, .f32⟩
  | .hbm, ⟨17, _⟩ => ⟨S_, .i32⟩
  | .hbm, ⟨18, _⟩ => ⟨S_, .f32⟩
  | .hbm, ⟨19, _⟩ => ⟨S8320x8, .f32⟩
  | .hbm, ⟨20, _⟩ => ⟨S8320x6, .f32⟩
  | .hbm, ⟨21, _⟩ => ⟨S8320x14, .f32⟩
  | .hbm, ⟨22, _⟩ => ⟨S_, .i32⟩
  | .hbm, ⟨23, _⟩ => ⟨S_, .f32⟩
  | .hbm, ⟨24, _⟩ => ⟨S8320x128, .f32⟩
  | .hbm, ⟨25, _⟩ => ⟨S8320x256, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_call1_v0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_call2_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_call3_v0 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Conv.lean ====
abbrev S8320x3072 : Shape := ⟨2, ![8320, 3072]⟩
abbrev S5x3072 : Shape := ⟨2, ![5, 3072]⟩
abbrev S3072 : Shape := ⟨1, ![3072]⟩
abbrev S1x3072 : Shape := ⟨2, ![1, 3072]⟩
abbrev S128x3072 : Shape := ⟨2, ![128, 3072]⟩
abbrev S8x3072 : Shape := ⟨2, ![8, 3072]⟩
abbrev S144x3072 : Shape := ⟨2, ![144, 3072]⟩

abbrev nBuf : Space → Nat
  | .hbm => 5
  | .vmem => 11
  | .smem => 0
  | _ => 0

abbrev bufTy : (tb : Table) → Fin (tcTables nBuf tb) → BufTy
  | .hbm, ⟨0, _⟩ => ⟨S8320x3072, .f32⟩
  | .hbm, ⟨1, _⟩ => ⟨S5x3072, .f32⟩
  | .hbm, ⟨2, _⟩ => ⟨S3072, .f32⟩
  | .hbm, ⟨3, _⟩ => ⟨S1x3072, .f32⟩
  | .hbm, ⟨4, _⟩ => ⟨S8320x3072, .f32⟩
  | .local _ .vmem, ⟨0, _⟩ => ⟨S128x3072, .f32⟩
  | .local _ .vmem, ⟨1, _⟩ => ⟨S128x3072, .f32⟩
  | .local _ .vmem, ⟨2, _⟩ => ⟨S8x3072, .f32⟩
  | .local _ .vmem, ⟨3, _⟩ => ⟨S8x3072, .f32⟩
  | .local _ .vmem, ⟨4, _⟩ => ⟨S8x3072, .f32⟩
  | .local _ .vmem, ⟨5, _⟩ => ⟨S8x3072, .f32⟩
  | .local _ .vmem, ⟨6, _⟩ => ⟨S5x3072, .f32⟩
  | .local _ .vmem, ⟨7, _⟩ => ⟨S1x3072, .f32⟩
  | .local _ .vmem, ⟨8, _⟩ => ⟨S128x3072, .f32⟩
  | .local _ .vmem, ⟨9, _⟩ => ⟨S128x3072, .f32⟩
  | .local _ .vmem, ⟨10, _⟩ => ⟨S144x3072, .f32⟩
  | _, _ => ⟨S8320x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1039_i32 : BitVec 32 := 1039#32
  let v2 : BitVec 32 := Scalar.minsi v1 c1039_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ConvReferenceIdeal.lean ====
abbrev S8320x3072 : Shape := ⟨2, ![8320, 3072]⟩
abbrev S5x3072 : Shape := ⟨2, ![5, 3072]⟩
abbrev S3072 : Shape := ⟨1, ![3072]⟩
abbrev S_ : Shape := ⟨0, ![]⟩
abbrev S8324x3072 : Shape := ⟨2, ![8324, 3072]⟩
abbrev S1x3072 : Shape := ⟨2, ![1, 3072]⟩

abbrev nBuf : Space → Nat
  | .hbm => 63
  | .vmem => 0
  | .smem => 0
  | _ => 0

abbrev bufTy : (tb : Table) → Fin (tcTables nBuf tb) → BufTy
  | .hbm, ⟨0, _⟩ => ⟨S8320x3072, .f32⟩
  | .hbm, ⟨1, _⟩ => ⟨S5x3072, .f32⟩
  | .hbm, ⟨2, _⟩ => ⟨S3072, .f32⟩
  | .hbm, ⟨3, _⟩ => ⟨S_, .i32⟩
  | .hbm, ⟨4, _⟩ => ⟨S_, .f32⟩
  | .hbm, ⟨5, _⟩ => ⟨S8324x3072, .f32⟩
  | .hbm, ⟨6, _⟩ => ⟨S1x3072, .f32⟩
  | .hbm, ⟨7, _⟩ => ⟨S3072, .f32⟩
  | .hbm, ⟨8, _⟩ => ⟨S8320x3072, .f32⟩
  | .hbm, ⟨9, _⟩ => ⟨S1x3072, .f32⟩
  | .hbm, ⟨10, _⟩ => ⟨S8320x3072, .f32⟩
  | .hbm, ⟨11, _⟩ => ⟨S8320x3072, .f32⟩
  | .hbm, ⟨12, _⟩ => ⟨S_, .f32⟩
  | .hbm, ⟨13, _⟩ => ⟨S8320x3072, .f32⟩
  | .hbm, ⟨14, _⟩ => ⟨S8320x3072, .f32⟩
  | .hbm, ⟨15, _⟩ => ⟨S1x3072, .f32⟩
  | .hbm, ⟨16, _⟩ => ⟨S3072, .f32⟩
  | .hbm, ⟨17, _⟩ => ⟨S8320x3072, .f32⟩
  | .hbm, ⟨18, _⟩ => ⟨S1x3072, .f32⟩
  | .hbm, ⟨19, _⟩ => ⟨S8320x3072, .f32⟩
  | .hbm, ⟨20, _⟩ => ⟨S8320x3072, .f32⟩
  | .hbm, ⟨21, _⟩ => ⟨S8320x3072, .f32⟩
  | .hbm, ⟨22, _⟩ => ⟨S1x3072, .f32⟩
  | .hbm, ⟨23, _⟩ => ⟨S3072, .f32⟩
  | .hbm, ⟨24, _⟩ => ⟨S8320x3072, .f32⟩
  | .hbm, ⟨25, _⟩ => ⟨S1x3072, .f32⟩
  | .hbm, ⟨26, _⟩ => ⟨S8320x3072, .f32⟩
  | .hbm, ⟨27, _⟩ => ⟨S8320x3072, .f32⟩
  | .hbm, ⟨28, _⟩ => ⟨S8320x3072, .f32⟩
  | .hbm, ⟨29, _⟩ => ⟨S1x3072, .f32⟩
  | .hbm, ⟨30, _⟩ => ⟨S3072, .f32⟩
  | .hbm, ⟨31, _⟩ => ⟨S8320x3072, .f32⟩
  | .hbm, ⟨32, _⟩ => ⟨S1x3072, .f32⟩
  | .hbm, ⟨33, _⟩ => ⟨S8320x3072, .f32⟩
  | .hbm, ⟨34, _⟩ => ⟨S8320x3072, .f32⟩
  | .hbm, ⟨35, _⟩ => ⟨S8320x3072, .f32⟩
  | .hbm, ⟨36, _⟩ => ⟨S1x3072, .f32⟩
  | .hbm, ⟨37, _⟩ => ⟨S3072, .f32⟩
  | .hbm, ⟨38, _⟩ => ⟨S8320x3072, .f32⟩
  | .hbm, ⟨39, _⟩ => ⟨S1x3072, .f32⟩
  | .hbm, ⟨40, _⟩ => ⟨S8320x3072, .f32⟩
  | .hbm, ⟨41, _⟩ => ⟨S8320x3072, .f32⟩
  | .hbm, ⟨42, _⟩ => ⟨S8320x3072, .f32⟩
  | .hbm, ⟨43, _⟩ => ⟨S1x3072, .f32⟩
  | .hbm, ⟨44, _⟩ => ⟨S8320x3072, .f32⟩
  | .hbm, ⟨45, _⟩ => ⟨S8320x3072, .f32⟩
  | .hbm, ⟨46, _⟩ => ⟨S8320x3072, .i32⟩
  | .hbm, ⟨47, _⟩ => ⟨S_, .i32⟩
  | .hbm, ⟨48, _⟩ => ⟨S8320x3072, .i32⟩
  | .hbm, ⟨49, _⟩ => ⟨S8320x3072, .i1⟩
  | .hbm, ⟨50, _⟩ => ⟨S8320x3072, .f32⟩
  | .hbm, ⟨51, _⟩ => ⟨S8320x3072, .f32⟩
  | .hbm, ⟨52, _⟩ => ⟨S_, .f32⟩
  | .hbm, ⟨53, _⟩ => ⟨S8320x3072, .f32⟩
  | .hbm, ⟨54, _⟩ => ⟨S8320x3072, .f32⟩
  | .hbm, ⟨55, _⟩ => ⟨S_, .f32⟩
  | .hbm, ⟨56, _⟩ => ⟨S8320x3072, .f32⟩
  | .hbm, ⟨57, _⟩ => ⟨S8320x3072, .f32⟩
  | .hbm, ⟨58, _⟩ => ⟨S8320x3072, .f32⟩
  | .hbm, ⟨59, _⟩ => ⟨S_, .f32⟩
  | .hbm, ⟨60, _⟩ => ⟨S_, .f32⟩
  | .hbm, ⟨61, _⟩ => ⟨S8320x3072, .f32⟩
  | .hbm, ⟨62, _⟩ => ⟨S8320x3072, .f32⟩
  | _, _ => ⟨S8320x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_c_0 : Ref sig .tc := ⟨.hbm, 47, rfl⟩
abbrev main_v41 : Ref sig .tc := ⟨.hbm, 48, rfl⟩
abbrev main_v42 : Ref sig .tc := ⟨.hbm, 49, rfl⟩
abbrev main_call1_v0 : Ref sig .tc := ⟨.hbm, 50, rfl⟩
abbrev main_call1_v1 : Ref sig .tc := ⟨.hbm, 51, rfl⟩
abbrev main_call1_cst : Ref sig .tc := ⟨.hbm, 52, rfl⟩
abbrev main_call1_v2 : Ref sig .tc := ⟨.hbm, 53, rfl⟩
abbrev main_call1_v3 : Ref sig .tc := ⟨.hbm, 54, rfl⟩
abbrev main_call1_cst_0 : Ref sig .tc := ⟨.hbm, 55, rfl⟩
abbrev main_call1_v4 : Ref sig .tc := ⟨.hbm, 56, rfl⟩
abbrev main_call1_v5 : Ref sig .tc := ⟨.hbm, 57, rfl⟩
abbrev main_v43 : Ref sig .tc := ⟨.hbm, 58, rfl⟩
abbrev main_cst_1 : Ref sig .tc := ⟨.hbm, 59, rfl⟩
abbrev main_call2_v0 : Ref sig .tc := ⟨.hbm, 60, rfl⟩
abbrev main_call2_v1 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== Router.lean ====
abbrev S8320x4096 : Shape := ⟨2, ![8320, 4096]⟩
abbrev S4096 : Shape := ⟨1, ![4096]⟩
abbrev S4096x16 : Shape := ⟨2, ![4096, 16]⟩
abbrev S1x4096 : Shape := ⟨2, ![1, 4096]⟩
abbrev S16x4096 : Shape := ⟨2, ![16, 4096]⟩
abbrev S16x8320 : Shape := ⟨2, ![16, 8320]⟩
abbrev S640x4096 : Shape := ⟨2, ![640, 4096]⟩
abbrev S16x640 : Shape := ⟨2, ![16, 640]⟩
abbrev S640 : Shape := ⟨1, ![640]⟩
abbrev S640x1 : Shape := ⟨2, ![640, 1]⟩

abbrev nBuf : Space → Nat
  | .hbm => 7
  | .vmem => 8
  | .smem => 0
  | _ => 0

abbrev bufTy : (tb : Table) → Fin (tcTables nBuf tb) → BufTy
  | .hbm, ⟨0, _⟩ => ⟨S8320x4096, .f32⟩
  | .hbm, ⟨1, _⟩ => ⟨S4096, .f32⟩
  | .hbm, ⟨2, _⟩ => ⟨S4096x16, .f32⟩
  | .hbm, ⟨3, _⟩ => ⟨S1x4096, .f32⟩
  | .hbm, ⟨4, _⟩ => ⟨S16x4096, .f32⟩
  | .hbm, ⟨5, _⟩ => ⟨S8320x4096, .f32⟩
  | .hbm, ⟨6, _⟩ => ⟨S16x8320, .f32⟩
  | .local _ .vmem, ⟨0, _⟩ => ⟨S640x4096, .f32⟩
  | .local _ .vmem, ⟨1, _⟩ => ⟨S640x4096, .f32⟩
  | .local _ .vmem, ⟨2, _⟩ => ⟨S1x4096, .f32⟩
  | .local _ .vmem, ⟨3, _⟩ => ⟨S16x4096, .f32⟩
  | .local _ .vmem, ⟨4, _⟩ => ⟨S640x4096, .f32⟩
  | .local _ .vmem, ⟨5, _⟩ => ⟨S640x4096, .f32⟩
  | .local _ .vmem, ⟨6, _⟩ => ⟨S16x640, .f32⟩
  | .local _ .vmem, ⟨7, _⟩ => ⟨S16x640, .f32⟩
  | _, _ => ⟨S8320x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S640x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RouterReferenceIdeal.lean ====
abbrev S8320x4096 : Shape := ⟨2, ![8320, 4096]⟩
abbrev S4096 : Shape := ⟨1, ![4096]⟩
abbrev S4096x16 : Shape := ⟨2, ![4096, 16]⟩
abbrev S_ : Shape := ⟨0, ![]⟩
abbrev S8320 : Shape := ⟨1, ![8320]⟩
abbrev S8320x1 : Shape := ⟨2, ![8320, 1]⟩
abbrev S1x4096 : Shape := ⟨2, ![1, 4096]⟩
abbrev S8320x16 : Shape := ⟨2, ![8320, 16]⟩
abbrev S16x8320 : Shape := ⟨2, ![16, 8320]⟩

abbrev nBuf : Space → Nat
  | .hbm => 21
  | .vmem => 0
  | .smem => 0
  | _ => 0

abbrev bufTy : (tb : Table) → Fin (tcTables nBuf tb) → BufTy
  | .hbm, ⟨0, _⟩ => ⟨S8320x4096, .f32⟩
  | .hbm, ⟨1, _⟩ => ⟨S4096, .f32⟩
  | .hbm, ⟨2, _⟩ => ⟨S4096x16, .f32⟩
  | .hbm, ⟨3, _⟩ => ⟨S8320x4096, .f32⟩
  | .hbm, ⟨4, _⟩ => ⟨S_, .f32⟩
  | .hbm, ⟨5, _⟩ => ⟨S8320, .f32⟩
  | .hbm, ⟨6, _⟩ => ⟨S8320x1, .f32⟩
  | .hbm, ⟨7, _⟩ => ⟨S_, .f32⟩
  | .hbm, ⟨8, _⟩ => ⟨S8320x1, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S8320x1, .f32⟩
  | .hbm, ⟨14, _⟩ => ⟨S8320x4096, .f32⟩
  | .hbm, ⟨15, _⟩ => ⟨S8320x4096, .f32⟩
  | .hbm, ⟨16, _⟩ => ⟨S1x4096, .f32⟩
  | .hbm, ⟨17, _⟩ => ⟨S8320x4096, .f32⟩
  | .hbm, ⟨18, _⟩ => ⟨S8320x4096, .f32⟩
  | .hbm, ⟨19, _⟩ => ⟨S8320x16, .f32⟩
  | .hbm, ⟨20, _⟩ => ⟨S16x8320, .f32⟩
  | _, _ => ⟨S8320x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.AttentionBody.lean ====
/- The window attention: what one grid point stores, one head of it at a time. -/
module

public import proofs.«01_k».proof.Proof.Gen.AttentionIdeal.Value
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.Tactic

@[expose] public section

set_option maxRecDepth 16384

noncomputable section

open Idealize.ShloMosaic Idealize.ShloMosaic.TcCoe Idealize.SL.Sem

namespace Cert.AttentionIdeal.Body

open Cert.AttentionIdeal Cert.AttentionIdeal.Gen

variable {F : FTy → Type} [FloatOps F] [Named F]

/-- The `h`-th 128 columns of a block `n` columns wide. -/
def cols {n : Nat} (x : Vec F ⟨2, ![128, n]⟩ .f32) (h : Nat) (hh : 128 * h + 128 ≤ n) : Vec F S128x128 .f32 :=
  fun z => x (ix2 (z 0) ⟨128 * h + (z 1).val, by have := (z 1).isLt; simp at this; omega⟩)

theorem ld_cols {n : Nat} (x : Vec F ⟨2, ![128, n]⟩ .f32) (h : Nat) (hh : 128 * h + 128 ≤ n)
    (inb : ∀ a, (![0, 128 * h] : Fin 2 → Nat) a + (![128, 128] : Fin 2 → Nat) a ≤ (⟨2, ![128, n]⟩ : Shape).size a) :
    View.ld x (Rect.unit ![0, 128 * h] ![128, 128] inb) = cols x h hh := by
  rw [View.ld_unit]
  funext z
  refine congrArg x (funext fun a => Fin.ext ?_)
  match a with
  | ⟨0, _⟩ => exact Nat.zero_add _
  | ⟨1, _⟩ => rfl

theorem ld_one (x : Vec F S16 .f32) (h : Nat) (hh : h < 16)
    (inb : ∀ a, (![h] : Fin 1 → Nat) a + (![1] : Fin 1 → Nat) a ≤ S16.size a) (p) :
    View.ld x (Rect.unit ![h] ![1] inb) (Shape.Idx.first p) = x (ix1 ⟨h, hh⟩) := by
  rw [View.ld_unit]
  refine congrArg x (funext fun a => Fin.ext ?_)
  match a with
  | ⟨0, _⟩ => rfl

/-- What the kernel's body makes of one head: its query columns, its key and value columns of the four blocks it has, its
    slope and its sink. -/
def head (i : grid0.Coords) (q k₁ k₂ k₃ k₄ v₁ v₂ v₃ v₄ : Vec F S128x128 .f32) (slope sink : F .f32) : Vec F S128x128 .bf16 :=
  k0_pay16 (k0_pay10 (k0_pay2 i) k0_pay3 k0_pay4 (k0_pay5 i) (k0_pay6 i)) (k0_pay11 (k0_pay2 i) k0_pay3 k0_pay4 (k0_pay5 i) (k0_pay6 i))
    (k0_pay12 (k0_pay2 i)) (k0_pay13 k₁ k₂ k₃ k₄) (k0_pay14 v₁ v₂ v₃ v₄) q slope sink

/-- Head `h` of a point's blocks. -/
def headOf (i : grid0.Coords) (x0 x1 : Vec F S16 .f32) (x2 : Vec F S128x2048 .f32)
    (x3 x4 x5 x6 x7 x8 x9 x10 : Vec F S128x512 .f32) (h : Fin 16) : Vec F S128x128 .bf16 :=
  have hq : 128 * h.val + 128 ≤ 2048 := by omega
  have hk : 128 * (h.val / 4) + 128 ≤ 512 := by omega
  head i (cols x2 h.val hq) (cols x3 (h.val / 4) hk) (cols x4 (h.val / 4) hk) (cols x5 (h.val / 4) hk) (cols x6 (h.val / 4) hk)
    (cols x7 (h.val / 4) hk) (cols x8 (h.val / 4) hk) (cols x9 (h.val / 4) hk) (cols x10 (h.val / 4) hk)
    (x0 (ix1 h)) (x1 (ix1 h))

/-- The sixteen heads side by side. -/
def heads (i : grid0.Coords) (x0 x1 : Vec F S16 .f32) (x2 : Vec F S128x2048 .f32)
    (x3 x4 x5 x6 x7 x8 x9 x10 : Vec F S128x512 .f32) : Vec F S128x2048 .bf16 :=
  fun y => headOf i x0 x1 x2 x3 x4 x5 x6 x7 x8 x9 x10 ⟨(y 1).val / 128, by have := (y 1).isLt; simp at this; omega⟩
    (ix2 (y 0) ⟨(y 1).val % 128, Nat.mod_lt _ (by decide)⟩)

/-- Head `h` stands in columns `128 h` to `128 h + 127`. -/
theorem heads_emb (i : grid0.Coords) (x0 x1 : Vec F S16 .f32) (x2 : Vec F S128x2048 .f32)
    (x3 x4 x5 x6 x7 x8 x9 x10 : Vec F S128x512 .f32) (h : Nat) (hh : h < 16)
    (inb : ∀ a, (![0, 128 * h] : Fin 2 → Nat) a + (![128, 128] : Fin 2 → Nat) a ≤ S128x2048.size a)
    (inbk : ∀ a, (![0, 128 * (h / 4)] : Fin 2 → Nat) a + (![128, 128] : Fin 2 → Nat) a ≤ S128x512.size a)
    (inb1 : ∀ a, (![h] : Fin 1 → Nat) a + (![1] : Fin 1 → Nat) a ≤ S16.size a) (p p')
    (x : (Rect.unit (s := S128x2048) ![0, 128 * h] ![128, 128] inb).shape.Idx) :
    head i (View.ld x2 (Rect.unit ![0, 128 * h] ![128, 128] inb))
      (View.ld x3 (Rect.unit ![0, 128 * (h / 4)] ![128, 128] inbk)) (View.ld x4 (Rect.unit ![0, 128 * (h / 4)] ![128, 128] inbk))
      (View.ld x5 (Rect.unit ![0, 128 * (h / 4)] ![128, 128] inbk)) (View.ld x6 (Rect.unit ![0, 128 * (h / 4)] ![128, 128] inbk))
      (View.ld x7 (Rect.unit ![0, 128 * (h / 4)] ![128, 128] inbk)) (View.ld x8 (Rect.unit ![0, 128 * (h / 4)] ![128, 128] inbk))
      (View.ld x9 (Rect.unit ![0, 128 * (h / 4)] ![128, 128] inbk)) (View.ld x10 (Rect.unit ![0, 128 * (h / 4)] ![128, 128] inbk))
      (View.ld x0 (Rect.unit ![h] ![1] inb1) (Shape.Idx.first p)) (View.ld x1 (Rect.unit ![h] ![1] inb1) (Shape.Idx.first p')) x
      = heads i x0 x1 x2 x3 x4 x5 x6 x7 x8 x9 x10 ((Rect.unit (s := S128x2048) ![0, 128 * h] ![128, 128] inb).emb x) := by
  have hq : 128 * h + 128 ≤ 2048 := by omega
  have hk : 128 * (h / 4) + 128 ≤ 512 := by omega
  rw [ld_cols x2 h hq, ld_cols x3 (h / 4) hk, ld_cols x4 (h / 4) hk, ld_cols x5 (h / 4) hk, ld_cols x6 (h / 4) hk,
    ld_cols x7 (h / 4) hk, ld_cols x8 (h / 4) hk, ld_cols x9 (h / 4) hk, ld_cols x10 (h / 4) hk, ld_one x0 h hh, ld_one x1 h hh]
  have hx : (x 1).val < 128 := (x 1).isLt
  have e1 : (((Rect.unit (s := S128x2048) ![0, 128 * h] ![128, 128] inb).emb x : S128x2048.Idx) 1).val = 128 * h + (x 1).val :=
    ValueKit.rect_emb_unit_val _ _ _ x 1
  have e0 : (((Rect.unit (s := S128x2048) ![0, 128 * h] ![128, 128] inb).emb x : S128x2048.Idx) 0).val = (x 0).val :=
    (ValueKit.rect_emb_unit_val _ _ _ x 0).trans (Nat.zero_add _)
  unfold heads
  generalize ((Rect.unit (s := S128x2048) ![0, 128 * h] ![128, 128] inb).emb x : S128x2048.Idx) = y at e0 e1
  have eh : (⟨(y 1).val / 128, by have := (y 1).isLt; simp at this; omega⟩ : Fin 16) = ⟨h, hh⟩ := Fin.ext (by show (y 1).val / 128 = h; omega)
  have ex : (ix2 (y 0) ⟨(y 1).val % 128, Nat.mod_lt _ (by decide)⟩ : S128x128.Idx) = x := funext fun a => Fin.ext (by
    match a with
    | ⟨0, _⟩ => exact e0
    | ⟨1, _⟩ => show (y 1).val % 128 = (x 1).val; omega)
  rw [eh, ex]
  rfl

/-- A point's sixteen stores leave the sixteen heads. -/
theorem out_A (c : Dev nD) (i : grid0.Coords) (a1 : Memref sig .tc .smem S16 .f32) (h1 : a1.IsWhole)
    (a2 : Memref sig .tc .smem S16 .f32) (h2 : a2.IsWhole) (a3 : Memref sig .tc .vmem S128x2048 .f32) (h3 : a3.IsWhole)
    (a4 : Memref sig .tc .vmem S128x512 .f32) (h4 : a4.IsWhole) (a5 : Memref sig .tc .vmem S128x512 .f32) (h5 : a5.IsWhole)
    (a6 : Memref sig .tc .vmem S128x512 .f32) (h6 : a6.IsWhole) (a7 : Memref sig .tc .vmem S128x512 .f32) (h7 : a7.IsWhole)
    (a8 : Memref sig .tc .vmem S128x512 .f32) (h8 : a8.IsWhole) (a9 : Memref sig .tc .vmem S128x512 .f32) (h9 : a9.IsWhole)
    (a10 : Memref sig .tc .vmem S128x512 .f32) (h10 : a10.IsWhole) (a11 : Memref sig .tc .vmem S128x512 .f32) (h11 : a11.IsWhole)
    (a12 : Memref sig .tc .vmem S128x2048 .bf16) (h12 : a12.IsWhole)
    (x0 x1 : Vec F S16 .f32) (x2 : Vec F S128x2048 .f32) (x3 x4 x5 x6 x7 x8 x9 x10 : Vec F S128x512 .f32) :
    out0_A_11 c i a1 h1 a2 h2 a3 h3 a4 h4 a5 h5 a6 h6 a7 h7 a8 h8 a9 h9 a10 h10 a11 h11 a12 h12 x0 x1 x2 x3 x4 x5 x6 x7 x8 x9 x10
      = heads i x0 x1 x2 x3 x4 x5 x6 x7 x8 x9 x10 := by
  have hcov := cover0_A_11 c i a1 h1 a2 h2 a3 h3 a4 h4 a5 h5 a6 h6 a7 h7 a8 h8 a9 h9 a10 h10 a11 h11 a12 h12 x0 x1 x2 x3 x4 x5 x6 x7 x8 x9 x10
  unfold out0_A_11
  rw [View.read_writes_eq_canon _ _ _ hcov]
  funext y
  refine View.canon_apply_of_pieces _ _ ?_ y (hcov y)
  unfold kernelRun0_A
  dsimp only
  sl_unfold_words
  simp only [View.readAt_eq_ld, h1.read_unread, h2.read_unread, h3.read_unread, h4.read_unread, h5.read_unread,
    h6.read_unread, h7.read_unread, h8.read_unread, h9.read_unread, h10.read_unread, h11.read_unread]
  simp only [List.forall_mem_cons]
  refine ⟨fun x => heads_emb _ _ _ _ _ _ _ _ _ _ _ _ 15 (by decide) _ _ _ _ _ x, fun x => heads_emb _ _ _ _ _ _ _ _ _ _ _ _ 14 (by decide) _ _ _ _ _ x,
    fun x => heads_emb _ _ _ _ _ _ _ _ _ _ _ _ 13 (by decide) _ _ _ _ _ x, fun x => heads_emb _ _ _ _ _ _ _ _ _ _ _ _ 12 (by decide) _ _ _ _ _ x,
    fun x => heads_emb _ _ _ _ _ _ _ _ _ _ _ _ 11 (by decide) _ _ _ _ _ x, fun x => heads_emb _ _ _ _ _ _ _ _ _ _ _ _ 10 (by decide) _ _ _ _ _ x,
    fun x => heads_emb _ _ _ _ _ _ _ _ _ _ _ _ 9 (by decide) _ _ _ _ _ x, fun x => heads_emb _ _ _ _ _ _ _ _ _ _ _ _ 8 (by decide) _ _ _ _ _ x,
    fun x => heads_emb _ _ _ _ _ _ _ _ _ _ _ _ 7 (by decide) _ _ _ _ _ x, fun x => heads_emb _ _ _ _ _ _ _ _ _ _ _ _ 6 (by decide) _ _ _ _ _ x,
    fun x => heads_emb _ _ _ _ _ _ _ _ _ _ _ _ 5 (by decide) _ _ _ _ _ x, fun x => heads_emb _ _ _ _ _ _ _ _ _ _ _ _ 4 (by decide) _ _ _ _ _ x,
    fun x => heads_emb _ _ _ _ _ _ _ _ _ _ _ _ 3 (by decide) _ _ _ _ _ x, fun x => heads_emb _ _ _ _ _ _ _ _ _ _ _ _ 2 (by decide) _ _ _ _ _ x,
    fun x => heads_emb _ _ _ _ _ _ _ _ _ _ _ _ 1 (by decide) _ _ _ _ _ x, fun x => heads_emb _ _ _ _ _ _ _ _ _ _ _ _ 0 (by decide) _ _ _ _ _ x, ?_⟩
  simp

end Cert.AttentionIdeal.Body

end
-- ==== Proof.AttentionWords.lean ====
/- The window attention: the positions and masks of one grid point's score block, as integers. -/
module

public import proofs.«01_k».proof.Proof.AttentionBody
public import Idealize.ShloMosaic.Lib.WordCmp

@[expose] public section

set_option maxRecDepth 16384

noncomputable section

open Idealize.ShloMosaic Idealize.ShloMosaic.TcCoe Idealize.SL.Sem Idealize.ShloMosaic.WordCmp

namespace Cert.AttentionIdeal.Words

open Cert.AttentionIdeal Cert.AttentionIdeal.Gen

/-- The 32-bit word of an integer. -/
abbrev word (z : Int) : BitVec 32 := BitVec.ofInt 32 z

theorem word_nat (n : Nat) : BitVec.ofNat 32 n = word n := (BitVec.ofInt_natCast 32 n).symm

theorem word_add (a b : Int) : IntOp.addi (word a) (word b) = word (a + b) := (BitVec.ofInt_add a b).symm

theorem word_mul (a b : Int) : IntOp.muli (word a) (word b) = word (a * b) := (BitVec.ofInt_mul a b).symm

theorem word_sub (a b : Int) : IntOp.subi (word a) (word b) = word (a - b) := by
  show word a - word b = word (a - b)
  rw [BitVec.sub_eq_add_neg, ← BitVec.ofInt_neg, ← BitVec.ofInt_add]; rfl

theorem word_toInt {a : Int} (h : -100000 ≤ a ∧ a ≤ 100000) : (word a).toInt = a :=
  BitVec.toInt_ofInt_eq_self (by decide) (by norm_num; omega) (by norm_num; omega)

theorem word_inj {a b : Int} (ha : -100000 ≤ a ∧ a ≤ 100000) (hb : -100000 ≤ b ∧ b ≤ 100000) : word a = word b ↔ a = b :=
  ⟨fun h => by have := congrArg BitVec.toInt h; rwa [word_toInt ha, word_toInt hb] at this, fun h => h ▸ rfl⟩

theorem word_sge {a b : Int} (ha : -100000 ≤ a ∧ a ≤ 100000) (hb : -100000 ≤ b ∧ b ≤ 100000) :
    IntOp.cmpi .sge (word a) (word b) = BitVec.ofBool (decide (b ≤ a)) := by rw [cmpi_sge_eq, word_toInt ha, word_toInt hb]

theorem word_sgt {a b : Int} (ha : -100000 ≤ a ∧ a ≤ 100000) (hb : -100000 ≤ b ∧ b ≤ 100000) :
    IntOp.cmpi .sgt (word a) (word b) = BitVec.ofBool (decide (b < a)) := by rw [cmpi_sgt_eq, word_toInt ha, word_toInt hb]

theorem word_sle {a b : Int} (ha : -100000 ≤ a ∧ a ≤ 100000) (hb : -100000 ≤ b ∧ b ≤ 100000) :
    IntOp.cmpi .sle (word a) (word b) = BitVec.ofBool (decide (a ≤ b)) := by rw [cmpi_sle_eq, word_toInt ha, word_toInt hb]

theorem word_slt {a b : Int} (ha : -100000 ≤ a ∧ a ≤ 100000) (hb : -100000 ≤ b ∧ b ≤ 100000) :
    IntOp.cmpi .slt (word a) (word b) = BitVec.ofBool (decide (a < b)) := by rw [cmpi_slt_eq, word_toInt ha, word_toInt hb]

theorem word_eq {a b : Int} (ha : -100000 ≤ a ∧ a ≤ 100000) (hb : -100000 ≤ b ∧ b ≤ 100000) :
    IntOp.cmpi .eq (word a) (word b) = BitVec.ofBool (decide (a = b)) := by
  rw [cmpi_eq_eq]; exact congrArg _ (decide_eq_decide.mpr (word_inj ha hb))

theorem word_abs {a : Int} (ha : -100000 ≤ a ∧ a ≤ 100000) : IntOp.absi (word a) = word |a| := by
  have hm : (word a).msb = decide (a < 0) := by rw [BitVec.msb_eq_toInt, word_toInt ha]
  unfold IntOp.absi
  rw [hm]
  by_cases h : a < 0
  · rw [if_pos (by simpa using h), abs_of_neg h, ← BitVec.ofInt_neg]
  · rw [if_neg (by simpa using h), abs_of_nonneg (by omega)]

/-- A selection by a decided bit. -/
theorem select_decide {α : Type} (p : Prop) [Decidable p] (a b : α) :
    Scalar.select (BitVec.ofBool (decide p)) a b = if p then a else b := by
  by_cases h : p <;> simp [h, Scalar.select]

/-! The positions. A point is `b`, a row of its block `r`, a column of its scores `l`. -/

/-- The token a row stands for; negative in the padding. -/
def qpos (b r : Nat) : Int := 128 * b + r - 112

/-- The block of keys a column stands in. -/
def kblk (b l : Nat) : Int := if l / 128 = 0 then 0 else (b : Int) - 2 + (l / 128 : Nat)

/-- The token a column stands for. -/
def kpos (b l : Nat) : Int := kblk b l * 128 - 112 + (l % 128 : Nat)

/-- The columns a row's softmax runs over: the first block for the sixteen global tokens, the three others for the tokens
    at most 128 away. -/
def Ok (b r l : Nat) : Prop :=
  (l / 128 = 0 ∧ 0 ≤ kpos b l)
    ∨ (0 < l / 128 ∧ 1 ≤ kblk b l ∧ kblk b l < 65 ∧ 16 ≤ kpos b l ∧ |qpos b r - kpos b l| ≤ 128)

instance (b r l : Nat) : Decidable (Ok b r l) := inferInstanceAs (Decidable (_ ∨ _))

/-- The columns with a position bias. -/
def Far (b r l : Nat) : Prop :=
  (0 < l / 128 ∧ 1 ≤ kblk b l ∧ kblk b l < 65 ∧ 16 ≤ kpos b l ∧ |qpos b r - kpos b l| ≤ 128) ∧ 16 ≤ qpos b r

instance (b r l : Nat) : Decidable (Far b r l) := inferInstanceAs (Decidable (_ ∧ _))

theorem pay2 (i : grid0.Coords) (r : Fin 128) (l : Fin 512) : k0_pay2 i (ix2 r l) = word (qpos (i 0).val r.val) := by
  pointwise [k0_pay2]
  rw [word_nat, word_nat]
  refine (congrArg (IntOp.addi · _) (congrArg (IntOp.subi · _) (word_mul _ 128))).trans ?_
  refine (congrArg (IntOp.addi · _) (word_sub _ 112)).trans ?_
  refine (word_add _ r.val).trans (congrArg word ?_)
  unfold qpos; omega

theorem pay2' (i : grid0.Coords) (r : Fin 128) (l : Fin 128) (h : l.val < 512) :
    k0_pay2 i (ix2 r ⟨l.val, h⟩) = word (qpos (i 0).val r.val) := pay2 i r ⟨l.val, h⟩

theorem pay3 (r : Fin 128) (l : Fin 512) : k0_pay3 (ix2 r l) = word (l.val / 128 : Nat) := by
  pointwise [k0_pay3]
  revert l
  decide +kernel

theorem pay4 (r : Fin 128) (l : Fin 512) : k0_pay4 (ix2 r l) = word (l.val % 128 : Nat) := by
  pointwise [k0_pay4]
  rw [pay3, word_nat]
  refine (congrArg (IntOp.subi _ ·) (word_mul _ 128)).trans ?_
  rw [word_sub]
  congr 1; omega

theorem pay5 (i : grid0.Coords) (r : Fin 128) (l : Fin 512) : k0_pay5 i (ix2 r l) = word (kblk (i 0).val l.val) := by
  pointwise [k0_pay5]
  rw [pay3]
  have hl := l.isLt
  have e : IntOp.cmpi .eq (word (l.val / 128 : Nat)) 0#32 = BitVec.ofBool (decide (((l.val / 128 : Nat) : Int) = 0)) :=
    word_eq (b := 0) (by omega) (by omega)
  rw [e]
  refine (select_decide _ _ _).trans ?_
  unfold kblk
  by_cases h : l.val / 128 = 0
  · rw [if_pos (by omega), if_pos h]; rfl
  · rw [if_neg (by omega), if_neg h]
    refine (congrArg (IntOp.addi · _) ((congrArg (IntOp.subi · _) (word_nat (i 0).val)).trans (word_sub _ 2))).trans ?_
    exact word_add _ _

theorem pay6 (i : grid0.Coords) (r : Fin 128) (l : Fin 512) :
    k0_pay6 i (ix2 r l) = word (kblk (i 0).val l.val * 128 - 112) := by
  pointwise [k0_pay6]
  rw [pay5]
  refine (congrArg (IntOp.subi · _) (word_mul _ 128)).trans ?_
  exact word_sub _ 112

variable (i : grid0.Coords)

theorem bounds {b r l : Nat} (hb : b < 65) (hr : r < 128) (hl : l < 512) :
    (-1000 ≤ qpos b r ∧ qpos b r ≤ 9000) ∧ (-1 ≤ kblk b l ∧ kblk b l ≤ 66) ∧ (-1000 ≤ kpos b l ∧ kpos b l ≤ 9000) := by
  unfold kpos qpos kblk
  split <;> omega

theorem real_bit (r : Fin 128) (l : Fin 512) :
    k0_pay9 (k0_pay2 i) k0_pay3 k0_pay4 (k0_pay5 i) (k0_pay6 i) (ix2 r l)
      = BitVec.ofBool (decide (0 < l.val / 128 ∧ 1 ≤ kblk (i 0).val l.val ∧ kblk (i 0).val l.val < 65 ∧ 16 ≤ kpos (i 0).val l.val
          ∧ |qpos (i 0).val r.val - kpos (i 0).val l.val| ≤ 128)) := by
  have hl := l.isLt
  obtain ⟨⟨q1, q2⟩, ⟨b1, b2⟩, ⟨k1, k2⟩⟩ := bounds (i 0).isLt r.isLt l.isLt
  pointwise [k0_pay9, k0_pay8, k0_pay7]
  rw [pay2, pay3, pay4, pay5, pay6, word_add, ← kpos, word_sub, word_abs (by omega)]
  have a1 := abs_le.mp (le_refl |qpos (i 0).val r.val - kpos (i 0).val l.val|)
  have a2 : |qpos (i 0).val r.val - kpos (i 0).val l.val| ≤ 20000 := abs_le.mpr ⟨by omega, by omega⟩
  rw [show (0#32) = word 0 from rfl, show (1#32) = word 1 from rfl, show (65#32) = word 65 from rfl,
    show (16#32) = word 16 from rfl, show (128#32) = word 128 from rfl]
  rw [word_sgt (by omega) (by omega), word_sge (by omega) (by omega), word_slt (by omega) (by omega),
    word_sge (by omega) (by omega), word_sle (by omega) (by omega)]
  simp only [andi_ofBool]
  refine congrArg BitVec.ofBool ?_
  rw [Bool.eq_iff_iff]
  simp only [Bool.and_eq_true, decide_eq_true_eq]
  refine ⟨fun h => ⟨?_, h.1.1.1.2, h.1.1.2, h.1.2, h.2⟩, fun h => ⟨⟨⟨⟨?_, h.2.1⟩, h.2.2.1⟩, h.2.2.2.1⟩, h.2.2.2.2⟩⟩
  · have := h.1.1.1.1; omega
  · have := h.1; omega

theorem pay12 (r l : Fin 128) : k0_pay12 (k0_pay2 i) (ix2 r l) = BitVec.ofBool (decide (0 ≤ qpos (i 0).val r.val)) := by
  obtain ⟨⟨q1, q2⟩, -⟩ := bounds (l := 0) (i 0).isLt r.isLt (by decide)
  pointwise [k0_pay12]
  refine (congrArg (IntOp.cmpi .sge · _) (pay2 i r _)).trans ?_
  exact word_sge (b := 0) (by omega) (by omega)

theorem pay10 (r : Fin 128) (l : Fin 512) :
    k0_pay10 (k0_pay2 i) k0_pay3 k0_pay4 (k0_pay5 i) (k0_pay6 i) (ix2 r l) = BitVec.ofBool (decide (Ok (i 0).val r.val l.val)) := by
  have hl := l.isLt
  obtain ⟨⟨q1, q2⟩, ⟨b1, b2⟩, ⟨k1, k2⟩⟩ := bounds (i 0).isLt r.isLt l.isLt
  pointwise [k0_pay10, k0_pay7]
  rw [real_bit, pay3, pay4, pay6, word_add, ← kpos]
  rw [show (0#32) = word 0 from rfl, word_eq (by omega) (by omega), word_sge (by omega) (by omega)]
  simp only [andi_ofBool, ori_ofBool]
  refine congrArg BitVec.ofBool ?_
  rw [Bool.eq_iff_iff]
  simp only [Bool.and_eq_true, Bool.or_eq_true, decide_eq_true_eq]
  refine or_congr_left (and_congr_left fun _ => ?_)
  omega

/-- The position bias of a column, as a real number. -/
def bias (b r l : Nat) : ℝ := if Far b r l then ((|qpos b r - kpos b l| : ℤ) : ℝ) else 0

theorem pay11 (r : Fin 128) (l : Fin 512) :
    k0_pay11 (F := Ideal) (k0_pay2 i) k0_pay3 k0_pay4 (k0_pay5 i) (k0_pay6 i) (ix2 r l)
      = ((bias (i 0).val r.val l.val : ℝ) : EReal) := by
  have hl := l.isLt
  obtain ⟨⟨q1, q2⟩, ⟨b1, b2⟩, ⟨k1, k2⟩⟩ := bounds (i 0).isLt r.isLt l.isLt
  pointwise [k0_pay11, k0_pay8, k0_pay7]
  have a2 : |qpos (i 0).val r.val - kpos (i 0).val l.val| ≤ 20000 := abs_le.mpr ⟨by omega, by omega⟩
  have a1 := abs_nonneg (qpos (i 0).val r.val - kpos (i 0).val l.val)
  rw [real_bit, pay2, pay4, pay6, word_add, ← kpos, word_sub, word_abs (by omega)]
  rw [show (16#32) = word 16 from rfl, word_sge (by omega) (by omega), andi_ofBool]
  rw [← Bool.decide_and, select_decide]
  unfold bias
  by_cases h : Far (i 0).val r.val l.val
  · rw [if_pos h]
    refine (if_pos h).trans ?_
    show (((word _).toInt : ℝ) : EReal) = _
    rw [word_toInt (by omega)]
  · rw [if_neg h]
    exact if_neg h

end Cert.AttentionIdeal.Words

end
-- ==== Proof.AttentionMath.lean ====
/- A softmax with a sink over a few stored keys and the same softmax over every key: what the two have in common. -/
module

public import Idealize.ShloMosaic.Lib.Pointwise
public import Idealize.ShloMosaic.Lib.Claim

@[expose] public section

noncomputable section

open Idealize.ShloMosaic

namespace Cert.SinkSoftmax

variable {C J : Type} [Fintype C] [Fintype J]

/-- A stored key `c` that is attended to is the key `φ c`, each attended key is stored once, and nothing else is attended to. -/
structure Stores (ok : C → Prop) (seen : J → Prop) (φ : C → J) : Prop where
  maps : ∀ c, ok c → seen (φ c)
  inj : ∀ c c', ok c → ok c' → φ c = φ c' → c = c'
  onto : ∀ j, seen j → ∃ c, ok c ∧ φ c = j

variable {ok : C → Prop} {seen : J → Prop} {φ : C → J} [DecidablePred ok] [DecidablePred seen]

/-- A sum over the attended keys, either way. -/
theorem Stores.sum_eq (h : Stores ok seen φ) (f : J → EReal) :
    ∑ c, (if ok c then f (φ c) else 0) = ∑ j, (if seen j then f j else 0) := by
  classical
  rw [← Finset.sum_filter, ← Finset.sum_filter]
  refine Finset.sum_nbij φ (fun c hc => ?_) (fun c hc c' hc' e => ?_) (fun j hj => ?_) (fun _ _ => rfl)
  · simpa using h.maps c (by simpa using hc)
  · exact h.inj c c' (by simpa using hc) (by simpa using hc') e
  · obtain ⟨c, hc, e⟩ := h.onto j (by simpa using hj)
    exact ⟨c, by simpa using hc, e⟩

/-- The greatest attended score, either way. -/
theorem Stores.sup_eq (h : Stores ok seen φ) (t : J → EReal) :
    (Finset.univ.sup fun c => if ok c then t (φ c) else ⊥) = Finset.univ.sup fun j => if seen j then t j else ⊥ := by
  refine le_antisymm (Finset.sup_le fun c _ => ?_) (Finset.sup_le fun j _ => ?_)
  · split
    · next hc =>
      refine le_trans (le_of_eq ?_) (Finset.le_sup (f := fun j => if seen j then t j else ⊥) (Finset.mem_univ (φ c)))
      simp [h.maps c hc]
    · exact bot_le
  · split
    · next hj =>
      obtain ⟨c, hc, rfl⟩ := h.onto j hj
      refine le_trans (le_of_eq ?_) (Finset.le_sup (f := fun c => if ok c then t (φ c) else ⊥) (Finset.mem_univ c))
      simp [hc]
    · exact bot_le

/-- The greatest of real scores, some left out, and of a real sink is real. -/
theorem top_real (t : J → ℝ) (σ : ℝ) :
    ∃ M : ℝ, max (Finset.univ.sup fun j => if seen j then (t j : EReal) else ⊥) (σ : EReal) = M := by
  have hlt : max (Finset.univ.sup fun j => if seen j then (t j : EReal) else ⊥) (σ : EReal) < ⊤ := by
    refine max_lt ((Finset.sup_lt_iff (by simp)).2 fun j _ => ?_) (EReal.coe_lt_top σ)
    split
    · exact EReal.coe_lt_top _
    · exact bot_lt_top
  have hgt : ⊥ < max (Finset.univ.sup fun j => if seen j then (t j : EReal) else ⊥) (σ : EReal) :=
    lt_of_lt_of_le (EReal.bot_lt_coe σ) (le_max_right _ _)
  exact ⟨_, (EReal.coe_toReal hlt.ne hgt.ne').symm⟩

/-- A sum of real terms is real. -/
theorem sum_coe (f : J → ℝ) : ∑ j, (f j : EReal) = ((∑ j, f j : ℝ) : EReal) := by
  classical
  exact (map_sum (⟨⟨fun x : ℝ => (x : EReal), EReal.coe_zero⟩, EReal.coe_add⟩ : ℝ →+ EReal) f Finset.univ).symm

/-- Weights against the greatest attended score, the ones left out being zero. -/
theorem exp_masked (p : Prop) [Decidable p] (t M : ℝ) :
    Ideal.exp ((if p then (t : EReal) else ⊥) - (M : EReal)) = if p then ((Real.exp (t - M) : ℝ) : EReal) else 0 := by
  split
  · rw [← EReal.coe_sub, Ideal.exp_coe]
  · simp

/-- A real factor that is not negative comes out of a sum of extended reals. -/
theorem sum_mul_real (f : J → EReal) (r : ℝ) (hr : 0 ≤ r) : (∑ j, f j) * (r : EReal) = ∑ j, f j * (r : EReal) := by
  classical
  induction (Finset.univ : Finset J) using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- The weighted sum of the stored keys over their total weight and the sink's is the sum over every key, each weighted by its
    share. -/
theorem Stores.softmax_eq (h : Stores ok seen φ) (t : J → ℝ) (σ : ℝ) (S w : C → EReal) (T v : J → EReal)
    (hS : ∀ c, S c = if ok c then ((t (φ c) : ℝ) : EReal) else ⊥) (hT : ∀ j, T j = if seen j then ((t j : ℝ) : EReal) else ⊥)
    (hw : ∀ c, ok c → w c = v (φ c)) :
    Ideal.div (∑ c, Ideal.exp (S c - max (Finset.univ.sup S) σ) * w c)
        (∑ c, Ideal.exp (S c - max (Finset.univ.sup S) σ) + Ideal.exp (σ - max (Finset.univ.sup S) σ))
      = ∑ j, Ideal.div (Ideal.exp (T j - max (Finset.univ.sup T) σ))
          (∑ k, Ideal.exp (T k - max (Finset.univ.sup T) σ) + Ideal.exp (σ - max (Finset.univ.sup T) σ)) * v j := by
  obtain rfl : S = fun c => if ok c then ((t (φ c) : ℝ) : EReal) else ⊥ := funext hS
  obtain rfl : T = fun j => if seen j then ((t j : ℝ) : EReal) else ⊥ := funext hT
  rw [h.sup_eq (fun j => ((t j : ℝ) : EReal))]
  obtain ⟨M, hM⟩ := top_real (seen := seen) t σ
  rw [hM]
  simp only [exp_masked]
  rw [h.sum_eq (fun j => ((Real.exp (t j - M) : ℝ) : EReal))]
  have hnum : ∑ c, (if ok c then ((Real.exp (t (φ c) - M) : ℝ) : EReal) else 0) * w c
      = ∑ j, (if seen j then ((Real.exp (t j - M) : ℝ) : EReal) else 0) * v j := by
    rw [show (∑ j, (if seen j then ((Real.exp (t j - M) : ℝ) : EReal) else 0) * v j)
        = ∑ j, (if seen j then ((Real.exp (t j - M) : ℝ) : EReal) * v j else 0) from
      Finset.sum_congr rfl fun j _ => by split <;> simp, ← h.sum_eq fun j => ((Real.exp (t j - M) : ℝ) : EReal) * v j]
    refine Finset.sum_congr rfl fun c _ => ?_
    split
    · next hc => rw [hw c hc]
    · simp
  rw [hnum]
  obtain ⟨D, hD, hpos⟩ : ∃ D : ℝ, (∑ j, (if seen j then ((Real.exp (t j - M) : ℝ) : EReal) else 0)) + Ideal.exp ((σ : EReal) - (M : EReal))
      = (D : EReal) ∧ 0 < D := by
    refine ⟨(∑ j, if seen j then Real.exp (t j - M) else 0) + Real.exp (σ - M), ?_, ?_⟩
    · rw [← EReal.coe_sub, Ideal.exp_coe, EReal.coe_add, ← sum_coe]
      refine congrArg (· + _) (Finset.sum_congr rfl fun j _ => ?_)
      split <;> simp
    · refine add_pos_of_nonneg_of_pos (Finset.sum_nonneg fun j _ => ?_) (Real.exp_pos _)
      split
      · exact (Real.exp_pos _).le
      · exact le_rfl
  rw [hD]
  simp only [Ideal.div_coe hpos.ne']
  rw [sum_mul_real _ _ (by positivity)]
  exact Finset.sum_congr rfl fun j _ => by rw [mul_right_comm]

end Cert.SinkSoftmax

end
-- ==== Proof.AttentionTokens.lean ====
/- The window attention: the columns a row's softmax runs over are the tokens it sees, each once. -/
module

public import proofs.«01_k».proof.Proof.AttentionWords
public import proofs.«01_k».proof.Proof.AttentionMath

@[expose] public section

noncomputable section

namespace Cert.AttentionIdeal.Words

open Cert.SinkSoftmax

/-- Token `i` sees token `j`: one of the sixteen global tokens, or at most 128 away. -/
def Seen (i : Int) (j : Fin 8208) : Prop := j.val < 16 ∨ |i - (j.val : Int)| ≤ 128

instance (i : Int) (j : Fin 8208) : Decidable (Seen i j) := inferInstanceAs (Decidable (_ ∨ _))

/-- The distance the bias of tokens `i` and `j` is proportional to. -/
def gap (i : Int) (j : Fin 8208) : ℝ := if 16 ≤ i ∧ 16 ≤ (j.val : Int) then ((|i - (j.val : Int)| : ℤ) : ℝ) else 0

/-- The token of a column of the scores. -/
def tok (b l : Nat) : Fin 8208 := ⟨min (kpos b l).toNat 8207, by omega⟩

variable {b r : Nat}

/-- A column in use stands for the token its position says. -/
theorem tok_val {l : Nat} (hl : l < 512) (h : Ok b r l) : ((tok b l).val : Int) = kpos b l := by
  show ((min (kpos b l).toNat 8207 : Nat) : Int) = _
  unfold Ok at h
  unfold kpos kblk at *
  split at h <;> omega

/-- The columns in use are the seen tokens. -/
theorem stores (hb : b < 65) (hr : r < 128) (h0 : 0 ≤ qpos b r) :
    Stores (fun l : Fin 512 => Ok b r l.val) (Seen (qpos b r)) (fun l => tok b l.val) where
  maps := by
    intro l h
    have e := tok_val l.isLt h
    unfold Seen
    rw [e]
    have hl := l.isLt
    rcases h with ⟨h1, h2⟩ | ⟨-, -, -, -, h⟩
    · left
      have : kpos b l.val < 16 := by unfold kpos kblk; rw [if_pos h1]; omega
      omega
    · exact .inr h
  inj := by
    intro l l' h h' e
    have e1 := tok_val l.isLt h
    have e2 := tok_val l'.isLt h'
    rw [e, e2] at e1
    have hl := l.isLt
    have hl' := l'.isLt
    refine Fin.ext ?_
    unfold Ok at h h'
    unfold kpos kblk at *
    split at e1 <;> split at e1 <;> omega
  onto := by
    intro j h
    have hj := j.isLt
    have key : ∃ l : Fin 512, Ok b r l.val ∧ kpos b l.val = j.val := by
      by_cases h16 : j.val < 16
      · refine ⟨⟨112 + j.val, by omega⟩, .inl ⟨by show (112 + j.val) / 128 = 0; omega, ?_⟩, ?_⟩
        · show 0 ≤ kpos b (112 + j.val)
          unfold kpos kblk; rw [if_pos (by omega)]; omega
        · show kpos b (112 + j.val) = _
          unfold kpos kblk; rw [if_pos (by omega)]; omega
      · have h := h.resolve_left h16
        have h' := abs_le.mp h
        unfold qpos at h' h0
        have hc : b ≤ (j.val + 112) / 128 + 1 ∧ (j.val + 112) / 128 ≤ b + 1 := by omega
        have hs : ((j.val + 112) / 128 + 2 - b) * 128 + (j.val + 112) % 128 < 512 := by omega
        have hk : kpos b (((j.val + 112) / 128 + 2 - b) * 128 + (j.val + 112) % 128) = j.val := by
          unfold kpos kblk; rw [if_neg (by omega)]; omega
        refine ⟨⟨_, hs⟩, .inr ⟨?_, ?_, ?_, ?_, ?_⟩, hk⟩
        · show 0 < (((j.val + 112) / 128 + 2 - b) * 128 + (j.val + 112) % 128) / 128; omega
        · show 1 ≤ kblk b (((j.val + 112) / 128 + 2 - b) * 128 + (j.val + 112) % 128)
          unfold kblk; rw [if_neg (by omega)]; omega
        · show kblk b (((j.val + 112) / 128 + 2 - b) * 128 + (j.val + 112) % 128) < 65
          unfold kblk; rw [if_neg (by omega)]; omega
        · show 16 ≤ kpos b (((j.val + 112) / 128 + 2 - b) * 128 + (j.val + 112) % 128)
          rw [hk]; omega
        · show |qpos b r - kpos b (((j.val + 112) / 128 + 2 - b) * 128 + (j.val + 112) % 128)| ≤ 128
          rw [hk]; exact h
    obtain ⟨l, hl, e⟩ := key
    refine ⟨l, hl, Fin.ext ?_⟩
    have := tok_val l.isLt hl
    omega

/-- On the columns in use the bias is the token's. -/
theorem bias_eq {l : Nat} (hl : l < 512) (h : Ok b r l) : bias b r l = gap (qpos b r) (tok b l) := by
  unfold bias gap
  rw [tok_val hl h]
  refine if_congr ?_ rfl rfl
  unfold Far
  rcases h with ⟨h1, h2⟩ | h
  · have : kpos b l < 16 := by unfold kpos kblk; rw [if_pos h1]; omega
    omega
  · constructor
    · rintro ⟨h, hq⟩; exact ⟨hq, h.2.2.2.1⟩
    · rintro ⟨hq, -⟩; exact ⟨h, hq⟩

end Cert.AttentionIdeal.Words

end
-- ==== Proof.AttentionHead.lean ====
/- The window attention: one row of one head is the softmax of the tokens it sees, the sink among them, times their values. -/
module

public import proofs.«01_k».proof.Proof.AttentionTokens

@[expose] public section

set_option maxRecDepth 16384

noncomputable section

open Idealize.ShloMosaic Idealize.ShloMosaic.TcCoe Idealize.SL.Sem

namespace Cert.AttentionIdeal.Body

open Cert.AttentionIdeal Cert.AttentionIdeal.Gen Cert.AttentionIdeal.Words Cert.SinkSoftmax

/-- The scores' scale, 128 to the power -1/2 as a float. -/
def scale : EReal := Ideal.ofBits .f32 1035273459#32

theorem scale_real : ∃ s : ℝ, scale = (s : EReal) := by
  unfold scale Ideal.ofBits Ideal.ieee
  dsimp only
  rw [if_neg (by decide)]
  split
  · exact ⟨_, rfl⟩
  · exact ⟨_, rfl⟩

theorem least : Ideal.ofBits .f32 4286578688#32 = ⊥ := by simp [Ideal.ofBits, Ideal.ieee]

/-- The values `v` weighted by the softmax of the scores `T`, the sink `σ` one more score. -/
def attend (T : Fin 8208 → EReal) (σ : EReal) (v : Fin 8208 → EReal) : EReal :=
  ∑ j, Ideal.div (Ideal.exp (T j - max (Finset.univ.sup T) σ))
    (∑ k, Ideal.exp (T k - max (Finset.univ.sup T) σ) + Ideal.exp (σ - max (Finset.univ.sup T) σ)) * v j

/-- The scores of the token at `p`: `s` the products, `α` the slope of the bias; a token not seen has none. -/
def scores (p : Int) (s : Fin 8208 → EReal) (α : EReal) (j : Fin 8208) : EReal :=
  if Seen p j then s j - α * ((gap p j : ℝ) : EReal) else ⊥

/-- A row of a head, from finite queries, keys, slope and sink. -/
theorem head_eq (i : grid0.Coords) (q k₁ k₂ k₃ k₄ v₁ v₂ v₃ v₄ : Vec Ideal S128x128 .f32) (r l : Fin 128)
    (Q : Fin 128 → ℝ) (K : Fin 8208 → Fin 128 → ℝ) (v : Fin 8208 → EReal) (α σ : ℝ)
    (hq : 0 ≤ qpos (i 0).val r.val → ∀ k, q (ix2 r k) = ((Q k : ℝ) : EReal))
    (hk : ∀ x : Fin 512, Ok (i 0).val r.val x.val → ∀ k, k0_pay13 (F := Ideal) k₁ k₂ k₃ k₄ (ix2 x k) = ((K (tok (i 0).val x.val) k : ℝ) : EReal))
    (hv : ∀ x : Fin 512, Ok (i 0).val r.val x.val → k0_pay14 (F := Ideal) v₁ v₂ v₃ v₄ (ix2 x l) = v (tok (i 0).val x.val)) :
    head (F := Ideal) i q k₁ k₂ k₃ k₄ v₁ v₂ v₃ v₄ (α : EReal) (σ : EReal) (ix2 r l)
      = if 0 ≤ qpos (i 0).val r.val then
          attend (scores (qpos (i 0).val r.val) (fun j => (∑ k, ((K j k : ℝ) : EReal) * ((Q k : ℝ) : EReal)) * scale) α) σ v
        else 0 := by
  unfold head
  generalize hok : k0_pay10 (k0_pay2 i) k0_pay3 k0_pay4 (k0_pay5 i) (k0_pay6 i) = ok
  generalize hal : k0_pay11 (F := Ideal) (k0_pay2 i) k0_pay3 k0_pay4 (k0_pay5 i) (k0_pay6 i) = al
  generalize hqr : k0_pay12 (k0_pay2 i) = qr
  generalize k0_pay13 (F := Ideal) k₁ k₂ k₃ k₄ = KK at hk ⊢
  generalize k0_pay14 (F := Ideal) v₁ v₂ v₃ v₄ = VV at hv ⊢
  have eok : ∀ x : Fin 512, ok (ix2 r x) = BitVec.ofBool (decide (Ok (i 0).val r.val x.val)) := fun x => by rw [← hok]; exact pay10 i r x
  have eal : ∀ x : Fin 512, al (ix2 r x) = ((bias (i 0).val r.val x.val : ℝ) : EReal) := fun x => by rw [← hal]; exact pay11 i r x
  have eqr : qr (ix2 r l) = BitVec.ofBool (decide (0 ≤ qpos (i 0).val r.val)) := by rw [← hqr]; exact pay12 i r l
  clear hok hal hqr
  pointwise [k0_pay16]
  rw [eqr]
  refine (select_decide _ _ _).trans ?_
  by_cases h0 : 0 ≤ qpos (i 0).val r.val
  swap
  · rw [if_neg h0, if_neg h0]
  rw [if_pos h0, if_pos h0]
  have hq := hq h0
  obtain ⟨s, hs⟩ := scale_real
  have hb : (i 0).val < 65 := (i 0).isLt
  have st := stores hb r.isLt h0
  rw [least]
  have hS : ∀ x : Fin 512, Scalar.select (ok (ix2 r x)) (∑ x_1, q (ix2 r x_1) * Ideal.ofBits .f32 1035273459#32 * KK (ix2 x x_1) - (α : EReal) * al (ix2 r x))
      (Named.named (F := Ideal) (φ := .f32) κ "mask" 4048155338#32)
      = if Ok (i 0).val r.val x.val then (((∑ k, K (tok (i 0).val x.val) k * Q k) * s - α * gap (qpos (i 0).val r.val) (tok (i 0).val x.val) : ℝ) : EReal) else ⊥ := by
    intro x
    rw [eok]
    refine (select_decide _ _ _).trans ?_
    by_cases hx : Ok (i 0).val r.val x.val
    · rw [if_pos hx, if_pos hx, eal, bias_eq x.isLt hx]
      simp only [hq, hk x hx]
      rw [← scale, hs]
      simp only [← EReal.coe_mul]
      rw [sum_coe, ← EReal.coe_sub, Finset.sum_mul]
      congr 3
      exact funext fun k => by ring
    · rw [if_neg hx, if_neg hx]; rfl
  simp only [hS]
  have := st.softmax_eq (fun j => (∑ k, K j k * Q k) * s - α * gap (qpos (i 0).val r.val) j) σ _ (fun x => VV (ix2 x l))
    (scores (qpos (i 0).val r.val) (fun j => (∑ k, ((K j k : ℝ) : EReal) * ((Q k : ℝ) : EReal)) * scale) α) v (fun c => rfl)
    (fun j => by
      unfold scores
      refine if_congr Iff.rfl ?_ rfl
      rw [hs]
      simp only [← EReal.coe_mul]
      rw [sum_coe, ← EReal.coe_mul, ← EReal.coe_sub])
    hv
  exact this

end Cert.AttentionIdeal.Body

end
-- ==== Proof.AttentionReference.lean ====
/- The window attention: the reference's result, read at an index, is the softmax of the tokens seen times their values. -/
module

public import proofs.«01_k».proof.Proof.AttentionHead
public import proofs.«01_k».proof.Proof.Gen.AttentionReferenceIdeal.Read
public import Idealize.ShloMosaic.Lib.KernelVsHost

@[expose] public section

set_option maxRecDepth 16384

noncomputable section

open Idealize.ShloMosaic Idealize.ShloMosaic.TcCoe Idealize.SL.Sem Idealize.ShloMosaic.WordCmp

namespace Cert.AttentionReferenceIdeal.Read

open Cert.AttentionReferenceIdeal Cert.AttentionReferenceIdeal.Gen Cert.AttentionIdeal.Words
open Cert.AttentionIdeal.Body (scale scores attend least)

/-- The row of the arrays a token stands in, after the padding. -/
def row (j : Fin 8208) : Fin 8320 := ⟨112 + j.val, by omega⟩

/-- The query, key and value columns of head `h`. -/
def qcol (h : Fin 16) (k : Fin 128) : Fin 3072 := ⟨128 * h.val + k.val, by omega⟩
def kcol (h : Fin 16) (k : Fin 128) : Fin 3072 := ⟨2048 + 128 * (h.val / 4) + k.val, by omega⟩
def vcol (h : Fin 16) (k : Fin 128) : Fin 3072 := ⟨2560 + 128 * (h.val / 4) + k.val, by omega⟩

/-- The products of token `i`'s query with the keys. -/
def dots (x : Vec Ideal S8320x3072 .f32) (h : Fin 16) (i j : Fin 8208) : EReal :=
  (∑ k : Fin 128, x (ix2 (row j) (kcol h k)) * x (ix2 (row i) (qcol h k))) * scale

/-- The attention of head `h` at token `i`, in column `l` of the head. -/
def atToken (x : Vec Ideal S8320x3072 .f32) (slopes sink : Vec Ideal S16 .f32) (h : Fin 16) (i : Fin 8208) (l : Fin 128) : EReal :=
  attend (scores i.val (dots x h i) (slopes (ix1 h))) (sink (ix1 h)) (fun j => x (ix2 (row j) (vcol h l)))

/-- The head of a group and a member of it. -/
def hd (g e : Fin 4) : Fin 16 := ⟨4 * g.val + e.val, by omega⟩

variable (x : Vec Ideal S8320x3072 .f32) (slopes sink : Vec Ideal S16 .f32) (g e : Fin 4) (i j : Fin 8208)

theorem seen_bit : val_main_v19 (F := Ideal) (ix2 i j) = BitVec.ofBool (decide (Seen i.val j)) := by
  have h0 := i.isLt
  have h1 := j.isLt
  rw [val_main_v19_apply, val_main_v16_apply, val_main_v18_apply, val_main_v14_apply, val_main_v13_apply, val_main_v11_apply,
    val_main_v12_apply, val_main_v15_apply, val_main_v17_apply, val_main_c_apply, val_main_c_0_apply]
  show IntOp.ori (IntOp.cmpi .slt (BitVec.ofNat 32 j.val) (word 16))
    (IntOp.cmpi .sle (IntOp.absi (IntOp.subi (BitVec.ofNat 32 i.val) (BitVec.ofNat 32 j.val))) (word 128)) = _
  have a2 : |(i.val : Int) - (j.val : Int)| ≤ 20000 := abs_le.mpr ⟨by omega, by omega⟩
  have a1 := abs_nonneg ((i.val : Int) - (j.val : Int))
  rw [word_nat, word_nat, word_sub, word_abs (by omega), word_slt (by omega) (by omega),
    word_sle (by omega) (by omega), ori_ofBool, ← Bool.decide_or]
  refine congrArg BitVec.ofBool (decide_eq_decide.mpr ?_)
  unfold Seen
  refine or_congr_left ?_
  omega

theorem bias_apply : val_main_v26 (F := Ideal) (ix2 i j) = ((gap i.val j : ℝ) : EReal) := by
  have h0 := i.isLt
  have h1 := j.isLt
  rw [val_main_v26_apply, val_main_v24_apply, val_main_v21_apply, val_main_v23_apply, val_main_v25_apply, val_main_v14_apply,
    val_main_v13_apply, val_main_v11_apply, val_main_v12_apply, val_main_v20_apply, val_main_v22_apply, val_main_c_1_apply,
    val_main_c_2_apply, val_main_call0_v1_apply, val_main_call0_v0_apply, val_main_cst_3_apply]
  show Scalar.select (IntOp.andi (IntOp.cmpi .sge (BitVec.ofNat 32 i.val) (word 16)) (IntOp.cmpi .sge (BitVec.ofNat 32 j.val) (word 16)))
    (FloatOps.sitofp (F := Ideal) .f32 (IntOp.absi (IntOp.subi (BitVec.ofNat 32 i.val) (BitVec.ofNat 32 j.val))))
    (FloatOps.ofBits (F := Ideal) .f32 0#32) = _
  have a2 : |(i.val : Int) - (j.val : Int)| ≤ 20000 := abs_le.mpr ⟨by omega, by omega⟩
  have a1 := abs_nonneg ((i.val : Int) - (j.val : Int))
  rw [word_nat, word_nat, word_sub, word_abs (by omega), word_sge (by omega) (by omega),
    word_sge (by omega) (by omega), andi_ofBool, ← Bool.decide_and]
  refine (WordCmp.select_decide _ _ _).trans ?_
  unfold gap
  by_cases h : 16 ≤ (i.val : Int) ∧ 16 ≤ (j.val : Int)
  · rw [if_pos h]
    refine Eq.trans ?_ (congrArg (fun r : ℝ => (r : EReal)) (if_pos h).symm)
    show (((word _).toInt : ℝ) : EReal) = _
    rw [word_toInt (by omega)]
  · rw [if_neg h]
    refine Eq.trans ?_ (congrArg (fun r : ℝ => (r : EReal)) (if_neg h).symm)
    exact Ideal.ofBits_zero_f32

theorem dots_apply : val_main_v10 (F := Ideal) x (ix4 g e i j) = dots x (hd g e) i j := by
  have hg := g.isLt
  have he := e.isLt
  rw [val_main_v10_apply, val_main_v8_apply, val_main_v9_apply, val_main_v7_apply]
  unfold dots
  refine congrArg (· * scale) (Finset.sum_congr rfl fun k _ => ?_)
  have hk := k.isLt
  rw [val_main_v4_apply, val_main_v3_apply, val_main_v0_apply, val_main_v2_apply, val_main_v1_apply, val_main_v0_apply]
  refine congrArg₂ (· * ·) (congrArg x ((eq_ix2 _).trans (congrArg₂ ix2 (Fin.ext ?_) (Fin.ext ?_))))
    (congrArg x ((eq_ix2 _).trans (congrArg₂ ix2 (Fin.ext ?_) (Fin.ext ?_))))
  · show 112 + ((j.val * 4 + g.val) * 128 + k.val) / 512 = 112 + j.val; omega
  · show 2048 + ((j.val * 4 + g.val) * 128 + k.val) % 512 = 2048 + 128 * ((4 * g.val + e.val) / 4) + k.val; omega
  · show 112 + (((i.val * 4 + g.val) * 4 + e.val) * 128 + k.val) / 2048 = 112 + i.val; omega
  · show (((i.val * 4 + g.val) * 4 + e.val) * 128 + k.val) % 2048 = 128 * (4 * g.val + e.val) + k.val; omega

theorem score_apply : val_main_v33 (F := Ideal) x slopes (ix4 g e i j) = scores i.val (dots x (hd g e) i) (slopes (ix1 (hd g e))) j := by
  have h1 : idx_main_call1_v1 (ix4 g e i j) = ix2 i j := eq_ix2 _
  have h2 : idx_main_v28 (idx_main_v30 (ix4 g e i j)) = ix2 i j := eq_ix2 _
  rw [val_main_v33_apply, val_main_v32_apply, val_main_v31_apply, val_main_v30_apply, val_main_v29_apply, val_main_v28_apply,
    val_main_v27_apply, val_main_call1_v1_apply, val_main_call1_v2_apply, val_main_call1_v0_apply, val_main_cst_4_apply,
    dots_apply, h1, h2, bias_apply, seen_bit]
  refine (WordCmp.select_decide _ _ _).trans ?_
  unfold scores
  refine if_congr Iff.rfl ?_ least
  refine congrArg (fun s : EReal => dots x (hd g e) i j - s * _) (congrArg slopes ((eq_ix1 _).trans (congrArg ix1 (Fin.ext ?_))))
  show ((g.val * 4 + e.val) * 1 + 0) * 1 + 0 = 4 * g.val + e.val
  omega

theorem sink_apply (z : Fin 1) : val_main_v35 (F := Ideal) sink (ix4 g e i z) = sink (ix1 (hd g e)) := by
  rw [val_main_v35_apply, val_main_v34_apply]
  refine congrArg sink ((eq_ix1 _).trans (congrArg ix1 (Fin.ext ?_)))
  show ((g.val * 4 + e.val) * 1 + 0) * 1 + 0 = 4 * g.val + e.val
  omega

/-- The scores with the sink after them. -/
theorem cat_left : val_main_v36 (F := Ideal) x slopes sink (ix4 g e i j.castSucc)
    = scores i.val (dots x (hd g e) i) (slopes (ix1 (hd g e))) j := by
  rw [← score_apply]
  unfold val_main_v36
  exact concatenate_pair_apply_left (t := S4x4x8208x8209) (s₁ := S4x4x8208x8208) (s₂ := S4x4x8208x1) 3 _ _ _ (ix4 g e i j.castSucc) rfl (ix4 g e i j) (fun b => match b with
    | ⟨0, _⟩ => rfl
    | ⟨1, _⟩ => rfl
    | ⟨2, _⟩ => rfl
    | ⟨3, _⟩ => rfl)

theorem cat_right : val_main_v36 (F := Ideal) x slopes sink (ix4 g e i (Fin.last 8208)) = sink (ix1 (hd g e)) := by
  rw [← sink_apply sink g e i 0]
  unfold val_main_v36
  exact concatenate_pair_apply_right (t := S4x4x8208x8209) (s₁ := S4x4x8208x8208) (s₂ := S4x4x8208x1) 3 _ _ _ (ix4 g e i (Fin.last 8208)) rfl rfl (ix4 g e i 0) (fun b hb => match b with
    | ⟨0, _⟩ => rfl
    | ⟨1, _⟩ => rfl
    | ⟨2, _⟩ => rfl
    | ⟨3, _⟩ => absurd rfl hb) rfl

/-- The greatest score of a row, the sink among them. -/
theorem max_apply : val_main_v39 (F := Ideal) x slopes sink (ix3 g e i)
    = max (Finset.univ.sup (scores i.val (dots x (hd g e) i) (slopes (ix1 (hd g e))))) (sink (ix1 (hd g e))) := by
  have hr : S4x4x8208x8209.Reduces [3] S4x4x8208 := by decide
  rw [val_main_v39_apply, val_main_v38_apply, val_main_cst_6_apply]
  unfold val_main_v37
  rw [Host.reduce_eq_fold_single _ _ _ _ hr]
  refine (congrArg (fun b => max b _) least).trans ((max_bot_left _).trans ?_)
  have hl : ∀ k : Fin 8209, hr.lift (ix3 g e i) k = ix4 g e i k := fun k =>
    funext fun a => Fin.ext (match a with
      | ⟨0, _⟩ => rfl
      | ⟨1, _⟩ => rfl
      | ⟨2, _⟩ => rfl
      | ⟨3, _⟩ => rfl)
  have hf : (val_main_v36 (F := Ideal) x slopes sink ∘ hr.lift (ix3 g e i)) = fun k : Fin 8209 => val_main_v36 (F := Ideal) x slopes sink (ix4 g e i k) :=
    funext fun k => congrArg _ (hl k)
  rw [hf]
  refine (congrArg (fun b => Finset.fold max b _ Finset.univ) least).trans ?_
  show Finset.univ.sup (fun k : Fin 8209 => val_main_v36 (F := Ideal) x slopes sink (ix4 g e i k)) = _
  rw [Fin.univ_castSuccEmb, Finset.sup_cons, Finset.sup_map, cat_right]
  refine (sup_comm _ _).trans (congrArg (fun b => max b _) ?_)
  exact congrArg (Finset.sup Finset.univ) (funext fun k => cat_left x slopes sink g e i k)

theorem exp_apply (c : Fin 8209) : val_main_v43 (F := Ideal) x slopes sink (ix4 g e i c)
    = Ideal.exp (val_main_v36 (F := Ideal) x slopes sink (ix4 g e i c)
        - max (Finset.univ.sup (scores i.val (dots x (hd g e) i) (slopes (ix1 (hd g e))))) (sink (ix1 (hd g e)))) := by
  rw [val_main_v43_apply, val_main_v42_apply, val_main_v41_apply, val_main_v40_apply, ← max_apply]
  refine congrArg (fun b => Ideal.exp (_ - val_main_v39 (F := Ideal) x slopes sink b)) (eq_ix3 _)

theorem total_apply : val_main_v44 (F := Ideal) x slopes sink (ix3 g e i)
    = ∑ j, Ideal.exp (scores i.val (dots x (hd g e) i) (slopes (ix1 (hd g e))) j
          - max (Finset.univ.sup (scores i.val (dots x (hd g e) i) (slopes (ix1 (hd g e))))) (sink (ix1 (hd g e))))
        + Ideal.exp (sink (ix1 (hd g e))
          - max (Finset.univ.sup (scores i.val (dots x (hd g e) i) (slopes (ix1 (hd g e))))) (sink (ix1 (hd g e)))) := by
  rw [val_main_v44_apply, val_main_cst_7_apply]
  refine (congrArg (· + _) Ideal.ofBits_zero_f32).trans ((zero_add _).trans ?_)
  have hi : ∀ k : Fin 8209, idx_main_v44 (ix3 g e i) k = ix4 g e i k := fun k => eq_ix4 _
  simp only [hi, exp_apply]
  rw [Fin.sum_univ_castSucc, cat_right]
  simp only [cat_left]

theorem prob_apply : val_main_v48 (F := Ideal) x slopes sink (ix4 g e i j)
    = Ideal.div (Ideal.exp (scores i.val (dots x (hd g e) i) (slopes (ix1 (hd g e))) j
          - max (Finset.univ.sup (scores i.val (dots x (hd g e) i) (slopes (ix1 (hd g e))))) (sink (ix1 (hd g e)))))
        (∑ j, Ideal.exp (scores i.val (dots x (hd g e) i) (slopes (ix1 (hd g e))) j
          - max (Finset.univ.sup (scores i.val (dots x (hd g e) i) (slopes (ix1 (hd g e))))) (sink (ix1 (hd g e))))
        + Ideal.exp (sink (ix1 (hd g e))
          - max (Finset.univ.sup (scores i.val (dots x (hd g e) i) (slopes (ix1 (hd g e))))) (sink (ix1 (hd g e))))) := by
  rw [val_main_v48_apply]
  have hi : idx_main_v48 (ix4 g e i j) = ix4 g e i j.castSucc := eq_ix4 _
  rw [hi, val_main_v47_apply, val_main_v46_apply, val_main_v45_apply, exp_apply, cat_left]
  have h3 : idx_main_v45 (idx_main_v46 (ix4 g e i j.castSucc)) = ix3 g e i := eq_ix3 _
  rw [h3, total_apply]
  rfl

theorem out_apply (l : Fin 128) : val_main_v49 (F := Ideal) x slopes sink (ix4 g l e i) = atToken x slopes sink (hd g e) i l := by
  have hg := g.isLt
  have he := e.isLt
  have hl := l.isLt
  rw [val_main_v49_apply]
  unfold atToken attend
  refine Finset.sum_congr rfl fun k _ => ?_
  have hk := k.isLt
  have hr : ridx_main_v49 (ix4 g l e i) k = ix4 g e i k := eq_ix4 _
  rw [hr, prob_apply, mul_comm, val_main_v6_apply, val_main_v5_apply, val_main_v0_apply]
  refine congrArg (_ * ·) (congrArg x ((eq_ix2 _).trans (congrArg₂ ix2 (Fin.ext ?_) (Fin.ext ?_))))
  · show 112 + ((k.val * 4 + g.val) * 128 + l.val) / 512 = 112 + k.val; omega
  · show 2560 + ((k.val * 4 + g.val) * 128 + l.val) % 512 = 2560 + 128 * ((4 * g.val + e.val) / 4) + l.val; omega

/-- The whole result: 112 rows of zeros, then the tokens. -/
def result : Vec Ideal S8320x2048 .bf16 := fun y =>
  if h : 112 ≤ (y 0).val then
    atToken x slopes sink ⟨(y 1).val / 128, by have := (y 1).isLt; simp at this; omega⟩
      ⟨(y 0).val - 112, by have := (y 0).isLt; simp at this; omega⟩ ⟨(y 1).val % 128, Nat.mod_lt _ (by decide)⟩
  else 0

theorem result_eq : val_main_v53 (F := Ideal) x slopes sink = result x slopes sink := by
  funext y
  have h0 : (y 0).val < 8320 := (y 0).isLt
  have h1 : (y 1).val < 2048 := (y 1).isLt
  rw [val_main_v53_apply]
  show val_main_v52 (F := Ideal) x slopes sink y = _
  unfold val_main_v52 result
  by_cases h : 112 ≤ (y 0).val
  · rw [dif_pos h]
    refine (pad_apply_of_inside _ _ _ _ _ _ _ y (ix2 ⟨(y 0).val - 112, by omega⟩ ⟨(y 1).val, h1⟩) (fun a => match a with
      | ⟨0, _⟩ => by show (y 0).val = 112 + ((y 0).val - 112) * (0 + 1); omega
      | ⟨1, _⟩ => by show (y 1).val = 0 + (y 1).val * (0 + 1); omega)).trans ?_
    rw [val_main_v51_apply, val_main_v50_apply]
    refine Eq.trans (congrArg (val_main_v49 (F := Ideal) x slopes sink) ((eq_ix4 _).trans ?_))
      ((out_apply x slopes sink ⟨(y 1).val / 512, by omega⟩ ⟨(y 1).val / 128 % 4, by omega⟩ ⟨(y 0).val - 112, by omega⟩
        ⟨(y 1).val % 128, Nat.mod_lt _ (by decide)⟩).trans ?_)
    · refine congr (congr (congr (congrArg ix4 (Fin.ext ?_)) (Fin.ext ?_)) (Fin.ext ?_)) (Fin.ext ?_)
      · show (((y 0).val - 112) * 2048 + (y 1).val) / 512 % 4 = (y 1).val / 512; omega
      · show (((y 0).val - 112) * 2048 + (y 1).val) % 128 = (y 1).val % 128; omega
      · show (((y 0).val - 112) * 2048 + (y 1).val) / 128 % 4 = (y 1).val / 128 % 4; omega
      · show (((y 0).val - 112) * 2048 + (y 1).val) / 2048 = (y 0).val - 112; omega
    · refine congrArg (fun h => atToken x slopes sink h _ _) (Fin.ext ?_)
      show 4 * ((y 1).val / 512) + (y 1).val / 128 % 4 = (y 1).val / 128
      omega
  · rw [dif_neg h]
    refine (pad_apply_of_not_inside _ _ _ _ _ _ _ y 0 (fun hh => h hh.1)).trans ?_
    rw [val_main_call2_v0_apply, val_main_c_8_apply]
    show ((((0#32 : BitVec 32).toInt : ℤ) : ℝ) : EReal) = 0
    simp

end Cert.AttentionReferenceIdeal.Read

end
-- ==== Proof.AttentionValue.lean ====
/- The window attention: the array the grid leaves, read at an index, is the reference's there when the scores are finite. -/
module

public import proofs.«01_k».proof.Proof.AttentionReference
public import proofs.«01_k».proof.Pre_finite

@[expose] public section

set_option maxRecDepth 16384

noncomputable section

open Idealize.ShloMosaic Idealize.ShloMosaic.TcCoe Idealize.SL.Sem

namespace Cert.AttentionIdeal.Body

open Cert.AttentionIdeal Cert.AttentionIdeal.Gen Cert.AttentionIdeal.Words
open Cert.AttentionReferenceIdeal.Read (row qcol kcol vcol dots atToken result)
open Idealize.ShloMosaic.Pipeline (Dat)

/-! ## A point's rows -/

/-- A key column a row may look at stands in the array's row of its token. -/
theorem keys_at {b : Nat} {r x : Fin 512} (hb : b < 65) (hx : Ok b r.val x.val) (k : Fin 128) (c : Fin 3072)
    (A : Vec Ideal S8320x3072 .f32) (k₁ k₂ k₃ k₄ : Vec Ideal S128x128 .f32)
    (h₁ : ∀ (s : Fin 128) (p : Fin 8320), p.val = s.val → k₁ (ix2 s k) = A (ix2 p c))
    (h₂ : ∀ (s : Fin 128) (p : Fin 8320), p.val = 128 * (b - 1) + s.val → k₂ (ix2 s k) = A (ix2 p c))
    (h₃ : ∀ (s : Fin 128) (p : Fin 8320), p.val = 128 * b + s.val → k₃ (ix2 s k) = A (ix2 p c))
    (h₄ : ∀ (s : Fin 128) (p : Fin 8320), p.val = 128 * min (b + 1) 64 + s.val → k₄ (ix2 s k) = A (ix2 p c)) :
    k0_pay13 (F := Ideal) k₁ k₂ k₃ k₄ (ix2 x k) = A (ix2 (row (tok b x.val)) c) := by
  have hl := x.isLt
  have hr : (row (tok b x.val)).val = 112 + (tok b x.val).val := rfl
  have ht := tok_val hl hx
  unfold kpos kblk at ht
  have hx' : x.val / 128 = 0 ∨ (0 < x.val / 128 ∧ 1 ≤ (b : Int) - 2 + (x.val / 128 : Nat) ∧ (b : Int) - 2 + (x.val / 128 : Nat) < 65) := by
    rcases hx with ⟨h, -⟩ | ⟨h, h1, h2, -⟩
    · exact .inl h
    · unfold kblk at h1 h2
      rw [if_neg (by omega)] at h1 h2
      exact .inr ⟨h, h1, h2⟩
  pointwise [k0_pay13]
  split_ifs at ht ⊢ with g1 g2 g3 g4 g5 g6 g7
  all_goals first
    | exact h₁ _ _ (by rw [hr]; dsimp only; omega)
    | exact h₂ _ _ (by rw [hr]; dsimp only; omega)
    | exact h₃ _ _ (by rw [hr]; dsimp only; omega)
    | exact h₄ _ _ (by rw [hr]; dsimp only; omega)

/-- The values are laid out as the keys. -/
theorem values_eq (v₁ v₂ v₃ v₄ : Vec Ideal S128x128 .f32) :
    k0_pay14 (F := Ideal) v₁ v₂ v₃ v₄ = k0_pay13 (F := Ideal) v₁ v₂ v₃ v₄ := rfl

/-- Queries and keys of the tokens, slopes and sinks that are real numbers. -/
structure Reals (A : Vec Ideal S8320x3072 .f32) (slopes sink : Vec Ideal S16 .f32) : Prop where
  token : ∀ (j : Fin 8208) (c : Fin 3072), c.val < 2560 → ∃ r : ℝ, A (ix2 (row j) c) = (r : EReal)
  slope : ∀ h : Fin 16, ∃ r : ℝ, slopes (ix1 h) = (r : EReal)
  sinks : ∀ h : Fin 16, ∃ r : ℝ, sink (ix1 h) = (r : EReal)

/-- A point's heads are the reference's rows. -/
theorem heads_apply {A : Vec Ideal S8320x3072 .f32} {slopes sink : Vec Ideal S16 .f32} (R : Reals A slopes sink)
    (i : grid0.Coords) (x0 x1 : Vec Ideal S16 .f32) (x2 : Vec Ideal S128x2048 .f32) (x3 x4 x5 x6 x7 x8 x9 x10 : Vec Ideal S128x512 .f32)
    (h0 : ∀ h : Fin 16, x0 (ix1 h) = slopes (ix1 h)) (h1 : ∀ h : Fin 16, x1 (ix1 h) = sink (ix1 h))
    (h2 : ∀ (s : Fin 128) (n : Fin 2048) (p : Fin 8320) (c : Fin 3072), p.val = 128 * (i 0).val + s.val → c.val = n.val → x2 (ix2 s n) = A (ix2 p c))
    (h3 : ∀ (s : Fin 128) (n : Fin 512) (p : Fin 8320) (c : Fin 3072), p.val = s.val → c.val = 2048 + n.val → x3 (ix2 s n) = A (ix2 p c))
    (h4 : ∀ (s : Fin 128) (n : Fin 512) (p : Fin 8320) (c : Fin 3072), p.val = 128 * ((i 0).val - 1) + s.val → c.val = 2048 + n.val → x4 (ix2 s n) = A (ix2 p c))
    (h5 : ∀ (s : Fin 128) (n : Fin 512) (p : Fin 8320) (c : Fin 3072), p.val = 128 * (i 0).val + s.val → c.val = 2048 + n.val → x5 (ix2 s n) = A (ix2 p c))
    (h6 : ∀ (s : Fin 128) (n : Fin 512) (p : Fin 8320) (c : Fin 3072), p.val = 128 * min ((i 0).val + 1) 64 + s.val → c.val = 2048 + n.val → x6 (ix2 s n) = A (ix2 p c))
    (h7 : ∀ (s : Fin 128) (n : Fin 512) (p : Fin 8320) (c : Fin 3072), p.val = s.val → c.val = 2560 + n.val → x7 (ix2 s n) = A (ix2 p c))
    (h8 : ∀ (s : Fin 128) (n : Fin 512) (p : Fin 8320) (c : Fin 3072), p.val = 128 * ((i 0).val - 1) + s.val → c.val = 2560 + n.val → x8 (ix2 s n) = A (ix2 p c))
    (h9 : ∀ (s : Fin 128) (n : Fin 512) (p : Fin 8320) (c : Fin 3072), p.val = 128 * (i 0).val + s.val → c.val = 2560 + n.val → x9 (ix2 s n) = A (ix2 p c))
    (h10 : ∀ (s : Fin 128) (n : Fin 512) (p : Fin 8320) (c : Fin 3072), p.val = 128 * min ((i 0).val + 1) 64 + s.val → c.val = 2560 + n.val → x10 (ix2 s n) = A (ix2 p c))
    (y : S128x2048.Idx) (z : S8320x2048.Idx) (hz0 : (z 0).val = 128 * (i 0).val + (y 0).val) (hz1 : (z 1).val = (y 1).val) :
    heads i x0 x1 x2 x3 x4 x5 x6 x7 x8 x9 x10 y = result A slopes sink z := by
  have hb : (i 0).val < 65 := (i 0).isLt
  have hy0 : (y 0).val < 128 := (y 0).isLt
  have hy1 : (y 1).val < 2048 := (y 1).isLt
  have hz : (z 0).val < 8320 := (z 0).isLt
  unfold heads headOf
  generalize hh : (⟨(y 1).val / 128, by omega⟩ : Fin 16) = h
  have hhv : (y 1).val / 128 = h.val := congrArg Fin.val hh
  obtain ⟨α, hα⟩ := R.slope h
  obtain ⟨σ, hσ⟩ := R.sinks h
  choose f hf using R.token
  let l : Fin 128 := ⟨(y 1).val % 128, Nat.mod_lt _ (by decide)⟩
  let q : Fin 8208 := ⟨(z 0).val - 112, by omega⟩
  have e := head_eq i (cols x2 h.val (by omega)) (cols x3 (h.val / 4) (by omega)) (cols x4 (h.val / 4) (by omega))
    (cols x5 (h.val / 4) (by omega)) (cols x6 (h.val / 4) (by omega)) (cols x7 (h.val / 4) (by omega)) (cols x8 (h.val / 4) (by omega))
    (cols x9 (h.val / 4) (by omega)) (cols x10 (h.val / 4) (by omega)) ⟨(y 0).val, hy0⟩ l
    (fun k => f q (qcol h k) (by show 128 * h.val + k.val < 2560; omega))
    (fun j k => f j (kcol h k) (by show 2048 + 128 * (h.val / 4) + k.val < 2560; omega))
    (fun j => A (ix2 (row j) (vcol h l))) α σ
    (fun h0 k => by
      rw [← hf]
      have h0 : (0 : Int) ≤ 128 * (i 0).val + (y 0).val - 112 := h0
      exact h2 _ _ _ _ (by show 112 + ((z 0).val - 112) = 128 * (i 0).val + (y 0).val; omega) rfl)
    (fun x hx k => by
      rw [← hf]
      exact keys_at (r := ⟨(y 0).val, by omega⟩) hb hx k (kcol h k) A _ _ _ _
        (fun s p hp => h3 _ _ _ _ hp (by show 2048 + 128 * (h.val / 4) + k.val = 2048 + (128 * (h.val / 4) + k.val); omega))
        (fun s p hp => h4 _ _ _ _ hp (by show 2048 + 128 * (h.val / 4) + k.val = 2048 + (128 * (h.val / 4) + k.val); omega))
        (fun s p hp => h5 _ _ _ _ hp (by show 2048 + 128 * (h.val / 4) + k.val = 2048 + (128 * (h.val / 4) + k.val); omega))
        (fun s p hp => h6 _ _ _ _ hp (by show 2048 + 128 * (h.val / 4) + k.val = 2048 + (128 * (h.val / 4) + k.val); omega)))
    (fun x hx => by
      rw [values_eq]
      exact keys_at (r := ⟨(y 0).val, by omega⟩) hb hx l (vcol h l) A _ _ _ _
        (fun s p hp => h7 _ _ _ _ hp (by show 2560 + 128 * (h.val / 4) + l.val = 2560 + (128 * (h.val / 4) + l.val); omega))
        (fun s p hp => h8 _ _ _ _ hp (by show 2560 + 128 * (h.val / 4) + l.val = 2560 + (128 * (h.val / 4) + l.val); omega))
        (fun s p hp => h9 _ _ _ _ hp (by show 2560 + 128 * (h.val / 4) + l.val = 2560 + (128 * (h.val / 4) + l.val); omega))
        (fun s p hp => h10 _ _ _ _ hp (by show 2560 + 128 * (h.val / 4) + l.val = 2560 + (128 * (h.val / 4) + l.val); omega)))
  have e1 : x0 (ix1 h) = (α : EReal) := (h0 h).trans hα
  have e2 : x1 (ix1 h) = (σ : EReal) := (h1 h).trans hσ
  refine (congrArg₂ (fun a b => head i _ _ _ _ _ _ _ _ _ a b _) e1 e2).trans (e.trans ?_)
  unfold result
  by_cases hq : 112 ≤ (z 0).val
  · have hq' : (0 : Int) ≤ qpos (i 0).val (y 0).val := by unfold qpos; omega
    rw [dif_pos hq]
    refine (if_pos hq').trans ?_
    have hhz : (⟨(z 1).val / 128, by omega⟩ : Fin 16) = h := Fin.ext (by show (z 1).val / 128 = h.val; omega)
    have hlz : (⟨(z 1).val % 128, Nat.mod_lt _ (by decide)⟩ : Fin 128) = l := Fin.ext (by show (z 1).val % 128 = (y 1).val % 128; omega)
    have hqz : qpos (i 0).val (y 0).val = ((q.val : Nat) : Int) := by show 128 * ((i 0).val : Int) + (y 0).val - 112 = (((z 0).val - 112 : Nat) : Int); omega
    refine Eq.trans ?_ (congrArg₂ (fun a b => atToken A slopes sink a q b) hhz hlz).symm
    unfold atToken dots
    rw [hα, hσ]
    show attend (scores (qpos (i 0).val (y 0).val) _ _) _ _ = _
    rw [hqz]
    exact congrArg (fun s => attend (scores q.val s α) σ _) (funext fun j => congrArg (· * scale)
      (Finset.sum_congr rfl fun k _ => (congrArg₂ (· * ·) (hf j (kcol h k) _) (hf q (qcol h k) _)).symm))
  · have hq' : ¬ (0 : Int) ≤ qpos (i 0).val (y 0).val := by unfold qpos; omega
    rw [dif_neg hq]
    exact if_neg hq'

/-! ## The whole array -/

variable (m : (ℓ : Loc nD τ sig) → Buf (Elt Ideal) ℓ)

theorem points : cfg0.N = 65 := by decide

/-- A point is its own coordinate. -/
theorem coord : ∀ t : Fin cfg0.N, ((grid0.coords t) 0).val = t.val := (by decide +kernel : ∀ t : Fin grid0.N, _)

/-- The block indices. -/
theorem idx : ∀ t : Fin cfg0.N, win0_0.index t = ![0] ∧ win0_1.index t = ![0] ∧ win0_2.index t = ![t.val, 0]
    ∧ win0_3.index t = ![0, 4] ∧ win0_4.index t = ![t.val - 1, 4] ∧ win0_5.index t = ![t.val, 4] ∧ win0_6.index t = ![min (t.val + 1) 64, 4]
    ∧ win0_7.index t = ![0, 5] ∧ win0_8.index t = ![t.val - 1, 5] ∧ win0_9.index t = ![t.val, 5] ∧ win0_10.index t = ![min (t.val + 1) 64, 5]
    ∧ win0_11.index t = ![t.val, 0] :=
  (by decide +kernel : ∀ t : Fin grid0.N, _)

/-- The query block at a row and a column. -/
theorem query_apply (c : Dev nD) (t : Fin cfg0.N) (s : Fin 128) (n : Fin 2048) (p : Fin 8320) (d : Fin 3072)
    (hp : p.val = 128 * t.val + s.val) (hd : d.val = n.val) :
    (X0_2 m c t) (ix2 s n) = (m ((c : Thread nD τ).loc main_arg0) : Vec Ideal S8320x3072 .f32) (ix2 p d) := by
  obtain ⟨-, -, e, -⟩ := idx t
  have q0 : win0_2.index t (0 : Fin 2) = t.val := congrFun e 0
  have q1 : win0_2.index t (1 : Fin 2) = 0 := congrFun e 1
  unfold X0_2 Pipeline.Window.fill
  rw [dif_pos (moved0_2 t _)]
  unfold iblk V
  refine congrArg (m ((c : Thread nD τ).loc main_arg0)) (funext fun a => Fin.ext ?_)
  match a with
  | ⟨0, _⟩ => show win0_2.index t (0 : Fin 2) * 128 + 1 * s.val = p.val; omega
  | ⟨1, _⟩ => show win0_2.index t (1 : Fin 2) * 2048 + 1 * n.val = d.val; omega

/-- What a point writes back is its block of the reference's array. -/
theorem flushed_eq (c : Dev nD) (R : Reals (m ((c : Thread nD τ).loc main_arg0)) (m ((c : Thread nD τ).loc main_arg1)) (m ((c : Thread nD τ).loc main_arg2)))
    (t : Fin cfg0.N) (hf : (cfg0.win 11).flush t = true) :
    (dats m 0 c).flushed 11 t = ((cfg0.win 11).blk t).view.read (Elt Ideal) (result (m ((c : Thread nD τ).loc main_arg0))
      (m ((c : Thread nD τ).loc main_arg1)) (m ((c : Thread nD τ).loc main_arg2))) := by
  obtain ⟨e0, e1, -, e3, e4, e5, e6, e7, e8, e9, e10, e11⟩ := idx t
  have q0 : win0_11.index t (0 : Fin 2) = t.val := congrFun e11 0
  have q1 : win0_11.index t (1 : Fin 2) = 0 := congrFun e11 1
  have hN : t.val < 65 := lt_of_lt_of_eq t.isLt points
  have hc := coord t
  rw [Value.flushed11_A, out_A]
  funext y
  show heads _ _ _ _ _ _ _ _ _ _ _ _ ((cfg0.win 11).xinj (grid0.coords t) y) = result _ _ _ (((cfg0.win 11).blk t).view.emb y)
  refine heads_apply R (grid0.coords t) _ _ _ _ _ _ _ _ _ _ _ (fun h => ?_) (fun h => ?_)
    (fun s n p d hp hd => query_apply m c t s n p d (by rw [hp, hc]) hd) (fun s n p d hp hd => ?_) (fun s n p d hp hd => ?_)
    (fun s n p d hp hd => ?_) (fun s n p d hp hd => ?_) (fun s n p d hp hd => ?_) (fun s n p d hp hd => ?_)
    (fun s n p d hp hd => ?_) (fun s n p d hp hd => ?_) _ _ ?_ ?_
  · blk_ext [iblk, V, e0]
  · blk_ext [iblk, V, e1]
  · blk_ext [iblk, V, e3]
  · rw [hc] at hp; blk_ext [iblk, V, e4]
  · rw [hc] at hp; blk_ext [iblk, V, e5]
  · rw [hc] at hp; blk_ext [iblk, V, e6]
  · blk_ext [iblk, V, e7]
  · rw [hc] at hp; blk_ext [iblk, V, e8]
  · rw [hc] at hp; blk_ext [iblk, V, e9]
  · rw [hc] at hp; blk_ext [iblk, V, e10]
  · rw [hc]
    show win0_11.index t (0 : Fin 2) * 128 + 1 * (y 0).val = 128 * t.val + (y 0).val; omega
  · show win0_11.index t (1 : Fin 2) * 2048 + 1 * (y 1).val = (y 1).val; omega

/-- Every index of the array is in a point's block. -/
theorem covered (i : S8320x2048.Idx) : ∃ t : Fin cfg0.N, (cfg0.win 11).flush t = true ∧ i ∈ ((cfg0.win 11).blk t).view.set := by
  have b0 : (i 0).val < 8320 := (i 0).isLt
  have b1 : (i 1).val < 2048 := (i 1).isLt
  have hp : (i 0).val / 128 < cfg0.N := by rw [points]; omega
  refine ⟨⟨_, hp⟩, flush0_11 _, ?_⟩
  obtain ⟨-, -, -, -, -, -, -, -, -, -, -, e⟩ := idx ⟨_, hp⟩
  have q0 : win0_11.index ⟨_, hp⟩ (0 : Fin 2) = (i 0).val / 128 := congrFun e 0
  have q1 : win0_11.index ⟨_, hp⟩ (1 : Fin 2) = 0 := congrFun e 1
  show i ∈ ((View.whole main_v0).slice (win0_11.rect ⟨_, hp⟩)).set
  rw [View.set_slice_whole, Rect.mem_set_unit]
  intro a
  match a with
  | ⟨0, _⟩ => show win0_11.index ⟨_, hp⟩ (0 : Fin 2) * 128 ≤ (i 0).val ∧ (i 0).val < win0_11.index ⟨_, hp⟩ (0 : Fin 2) * 128 + 128; omega
  | ⟨1, _⟩ => show win0_11.index ⟨_, hp⟩ (1 : Fin 2) * 2048 ≤ (i 1).val ∧ (i 1).val < win0_11.index ⟨_, hp⟩ (1 : Fin 2) * 2048 + 2048; omega

theorem array_eq (c : Dev nD) (R : Reals (m ((c : Thread nD τ).loc main_arg0)) (m ((c : Thread nD τ).loc main_arg1)) (m ((c : Thread nD τ).loc main_arg2))) :
    (dats m 0 c).arrAt 11 cfg0.N = result (m ((c : Thread nD τ).loc main_arg0)) (m ((c : Thread nD τ).loc main_arg1)) (m ((c : Thread nD τ).loc main_arg2)) :=
  (dats m 0 c).arrAt_eq_of_cover 11 _ (flushed_eq m c R) covered

/-! ## The precondition -/

/-- The precondition's shape facts. -/
theorem finite_facts : Cert.Pre_finite.Facts where
  slices_S8320x3072_S8208x2560_112_0 := by decide
  bcast_S_S8208x2560 := by decide
  bcast_S_S16 := by decide

/-- A number greater than −∞ and less than ∞ is real. -/
theorem real_of_bit {x : EReal}
    (h : IntOp.andi (FloatOps.cmpf (F := Ideal) (φ := .f32) .ogt x (FloatOps.ofBits (F := Ideal) .f32 0xFF800000#32))
      (FloatOps.cmpf (F := Ideal) (φ := .f32) .olt x (FloatOps.ofBits (F := Ideal) .f32 0x7F800000#32)) = 1#1) : ∃ r : ℝ, x = (r : EReal) := by
  have hb : (FloatOps.ofBits (F := Ideal) .f32 0xFF800000#32) = (⊥ : EReal) := least
  have ht : (FloatOps.ofBits (F := Ideal) .f32 0x7F800000#32) = (⊤ : EReal) := by
    show Ideal.ofBits .f32 0x7F800000#32 = ⊤
    simp [Ideal.ofBits, Ideal.ieee]
  rw [hb, ht] at h
  induction x with
  | bot => exact absurd h (by show ¬ IntOp.andi (BitVec.ofBool (decide ((⊥ : EReal) < ⊥))) _ = 1#1; simp [IntOp.andi])
  | top => exact absurd h (by show ¬ IntOp.andi _ (BitVec.ofBool (decide ((⊤ : EReal) < ⊤))) = 1#1; simp [IntOp.andi])
  | coe r => exact ⟨r, rfl⟩

theorem reals [Cert.Pre_finite.Facts] {A : Vec Ideal S8320x3072 .f32} {slopes sink : Vec Ideal S16 .f32}
    (h : (Cert.Pre_finite.fn (F := Ideal) A slopes sink).1 = (fun _ => 1#1) ∧ (Cert.Pre_finite.fn (F := Ideal) A slopes sink).2.1 = (fun _ => 1#1)
      ∧ (Cert.Pre_finite.fn (F := Ideal) A slopes sink).2.2 = (fun _ => 1#1)) : Reals A slopes sink where
  token j c hc := by
    refine real_of_bit (Eq.trans (congrArg (fun x : EReal => IntOp.andi (FloatOps.cmpf (F := Ideal) (φ := .f32) .ogt x _) (FloatOps.cmpf (F := Ideal) (φ := .f32) .olt x _))
      (congrArg A ?_)) (congrFun h.1 (ix2 j ⟨c.val, hc⟩)))
    exact (funext fun a => Fin.ext (match a with
      | ⟨0, _⟩ => rfl
      | ⟨1, _⟩ => (Nat.zero_add _).symm))
  slope k := real_of_bit (congrFun h.2.1 (ix1 k))
  sinks k := real_of_bit (congrFun h.2.2 (ix1 k))

end Cert.AttentionIdeal.Body

end
-- ==== Proof.OutBody.lean ====
/- The output projection with residual: what a grid point computes, and what the carried scratch holds. -/
module

public import proofs.«01_k».proof.Proof.Gen.OutProjIdeal.Value
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

noncomputable section

open Idealize.ShloMosaic Idealize.ShloMosaic.TcCoe Idealize.SL.Sem

namespace Cert.OutProjIdeal.Body

open Cert.OutProjIdeal Cert.OutProjIdeal.Gen

variable {F : FTy → Type} [FloatOps F]

theorem hz : (![0, 0] : Fin 2 → Nat) = fun _ => 0 := funext fun a => by fin_cases a <;> rfl

/-- What a point stores in its output block: the two operands' row blocks times the upper and the lower half of the
    weight columns held in `w`, plus the residual block. -/
def block (x0 x1 : Vec F S640x2048 .bf16) (w : Vec F S4096x512 .bf16) (x3 : Vec F S640x512 .f32) : Vec F S640x512 .f32 :=
  k0_pay2 x0 (View.ld w (Rect.unit ![0, 0] ![2048, 512] inb_S4096x512_S2048x512_0_0)) x1
    (View.ld w (Rect.unit ![2048, 0] ![2048, 512] inb_S4096x512_S2048x512_2048_0)) x3

/-- At the first row block of a column block the scratch is filled with the weight columns, rounded. -/
theorem scratch_A (c : Dev nD) (i : grid0.Coords) (a2 : Memref sig .tc .vmem S640x2048 .bf16) (h2 : a2.IsWhole)
    (a3 : Memref sig .tc .vmem S640x2048 .bf16) (h3 : a3.IsWhole) (a4 : Memref sig .tc .vmem S4096x512 .f32) (h4 : a4.IsWhole)
    (a5 : Memref sig .tc .vmem S640x512 .f32) (h5 : a5.IsWhole) (a6 : Memref sig .tc .vmem S640x512 .f32) (h6 : a6.IsWhole)
    (a7 : Memref sig .tc .vmem S4096x512 .bf16) (h7 : a7.IsWhole) (hc : cond0_0 i)
    (x0 x1 : Vec F S640x2048 .bf16) (x2 : Vec F S4096x512 .f32) (x3 : Vec F S640x512 .f32) :
    sout0_A_0 c i a2 h2 a3 h3 a4 h4 a5 h5 a6 h6 a7 h7 hc x0 x1 x2 x3 = k0_pay1 x2 := by
  unfold sout0_A_0
  rw [View.read_writes_eq_canon _ _ _ (scover0_A_0 c i a2 h2 a3 h3 a4 h4 a5 h5 a6 h6 a7 h7 hc x0 x1 x2 x3)]
  unfold kernelRun0_A
  dsimp only
  sl_unfold_words
  rw [View.canon_unit_zero hz]
  simp only [View.readAt_eq_ld, h4.read_unread, View.ld_unit_zero (S := S4096x512) hz]

/-- … and the point stores its block, computed with the columns it has just rounded. -/
theorem out_A (c : Dev nD) (i : grid0.Coords) (a2 : Memref sig .tc .vmem S640x2048 .bf16) (h2 : a2.IsWhole)
    (a3 : Memref sig .tc .vmem S640x2048 .bf16) (h3 : a3.IsWhole) (a4 : Memref sig .tc .vmem S4096x512 .f32) (h4 : a4.IsWhole)
    (a5 : Memref sig .tc .vmem S640x512 .f32) (h5 : a5.IsWhole) (a6 : Memref sig .tc .vmem S640x512 .f32) (h6 : a6.IsWhole)
    (a7 : Memref sig .tc .vmem S4096x512 .bf16) (h7 : a7.IsWhole) (hc : cond0_0 i)
    (x0 x1 : Vec F S640x2048 .bf16) (x2 : Vec F S4096x512 .f32) (x3 : Vec F S640x512 .f32) :
    out0_A_4 c i a2 h2 a3 h3 a4 h4 a5 h5 a6 h6 a7 h7 hc x0 x1 x2 x3 = block x0 x1 (k0_pay1 x2) x3 := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_unit_zero hz]
  simp only [View.readAt_eq_ld, h2.read_unread, h3.read_unread, h4.read_unread, h5.read_unread, View.ld_unit_zero (S := S4096x512) hz, View.ld_unit_zero (S := S640x2048) hz, View.ld_unit_zero (S := S640x512) hz,]
  unfold block
  rw [View.readCov_fill (s := S4096x512) _ _ _ _ _ (by decide), View.readCov_fill (s := S4096x512) _ _ _ _ _ (by decide)]

/-- At any other row block the columns are those the scratch already holds. -/
theorem out_B (c : Dev nD) (i : grid0.Coords) (a2 : Memref sig .tc .vmem S640x2048 .bf16) (h2 : a2.IsWhole)
    (a3 : Memref sig .tc .vmem S640x2048 .bf16) (h3 : a3.IsWhole) (a4 : Memref sig .tc .vmem S4096x512 .f32) (h4 : a4.IsWhole)
    (a5 : Memref sig .tc .vmem S640x512 .f32) (h5 : a5.IsWhole) (a6 : Memref sig .tc .vmem S640x512 .f32) (h6 : a6.IsWhole)
    (a7 : Memref sig .tc .vmem S4096x512 .bf16) (h7 : a7.IsWhole) (hc : ¬cond0_0 i)
    (x0 x1 : Vec F S640x2048 .bf16) (x2 : Vec F S4096x512 .f32) (x3 : Vec F S640x512 .f32) (xs : Vec F S4096x512 .bf16) :
    out0_B_4 c i a2 h2 a3 h3 a4 h4 a5 h5 a6 h6 a7 h7 hc x0 x1 x2 x3 xs = block x0 x1 xs x3 := by
  unfold out0_B_4
  rw [View.read_writes_eq_canon _ _ _ (cover0_B_4 c i a2 h2 a3 h3 a4 h4 a5 h5 a6 h6 a7 h7 hc x0 x1 x2 x3 xs)]
  unfold kernelRun0_B
  dsimp only
  sl_unfold_words
  rw [View.canon_unit_zero hz]
  simp only [View.readAt_eq_ld, h2.read_unread, h3.read_unread, h7.read_unread, h5.read_unread, View.ld_unit_zero (S := S4096x512) hz, View.ld_unit_zero (S := S640x2048) hz, View.ld_unit_zero (S := S640x512) hz]
  rfl

/-! ## The grid -/

variable (m : (ℓ : Loc nD τ sig) → Buf (Elt F) ℓ)

/-- The block indices: row block `t % 13`, column block `t / 13`. -/
theorem idx : ∀ t : Fin cfg0.N, win0_0.index t = ![t.val % 13, 0] ∧ win0_1.index t = ![t.val % 13, 0]
    ∧ win0_2.index t = ![0, t.val / 13] ∧ win0_3.index t = ![t.val % 13, t.val / 13] :=
  (by decide +kernel : ∀ t : Fin grid0.N, _)

/-- Points of one column block read the same weight columns. -/
theorem columns_eq (c : Dev nD) (t t' : Fin cfg0.N) (h : t.val / 13 = t'.val / 13) :
    (iblk m c 2 t : Vec F S4096x512 .f32) = iblk m c 2 t' := by
  have e := (idx t).2.2.1
  have e' := (idx t').2.2.1
  funext y
  blk_ext [iblk, V, e, e', h]

/-- The scratch and the output's buffer after a point that starts a column block; -/
theorem outs_A (c : Dev nD) (t : Fin cfg0.N) (h0 : t.val % 13 = 0) : outsAt0 m c t.val t.isLt
    = (block (iblk m c 0 t) (iblk m c 1 t) (k0_pay1 (iblk m c 2 t)) (iblk m c 3 t), k0_pay1 (iblk m c 2 t)) := by
  rw [outsAt0_A m c t h0, out_A, scratch_A]

/-- after any other point. -/
theorem outs_B (c : Dev nD) (t : Fin cfg0.N) (h0 : ¬t.val % 13 = 0) : outsAt0 m c t.val t.isLt
    = (block (iblk m c 0 t) (iblk m c 1 t) (outsAt0 m c (t.val - 1) (Nat.lt_of_le_of_lt (Nat.sub_le _ _) t.isLt)).2 (iblk m c 3 t),
        (outsAt0 m c (t.val - 1) (Nat.lt_of_le_of_lt (Nat.sub_le _ _) t.isLt)).2) := by
  rw [outsAt0_B m c t h0, out_B]
  rfl

/-- After every point the scratch holds the rounded weight columns of the point's column block. -/
theorem scratch_eq (c : Dev nD) : ∀ (n : ℕ) (hn : n < cfg0.N),
    (outsAt0 m c n hn).2 = k0_pay1 (iblk m c 2 ⟨n, hn⟩) := by
  intro n
  induction n with
  | zero => intro hn; exact congrArg Prod.snd (outs_A m c ⟨0, hn⟩ (Nat.zero_mod _))
  | succ n ih =>
    intro hn
    by_cases h0 : (n + 1) % 13 = 0
    · exact congrArg Prod.snd (outs_A m c ⟨n + 1, hn⟩ h0)
    · exact (congrArg Prod.snd (outs_B m c ⟨n + 1, hn⟩ h0)).trans ((ih (Nat.lt_of_succ_lt hn)).trans
        (congrArg k0_pay1 (columns_eq m c ⟨n, _⟩ ⟨n + 1, hn⟩ (by dsimp only; omega))))

/-- What point `t` leaves in the output's buffer. -/
theorem out_eq (c : Dev nD) (t : Fin cfg0.N) : (outsAt0 m c t.val t.isLt).1
    = block (iblk m c 0 t) (iblk m c 1 t) (k0_pay1 (iblk m c 2 t)) (iblk m c 3 t) := by
  by_cases h0 : t.val % 13 = 0
  · exact congrArg Prod.fst (outs_A m c t h0)
  · refine (congrArg Prod.fst (outs_B m c t h0)).trans ?_
    dsimp only
    rw [scratch_eq m c, columns_eq m c ⟨t.val - 1, _⟩ t (by dsimp only; omega)]

/-! ## The ideal reading -/

/-- The stored block at a row and a column: two sums of products and the residual. -/
theorem block_apply (x0 x1 : Vec Ideal S640x2048 .bf16) (w : Vec Ideal S4096x512 .f32) (x3 : Vec Ideal S640x512 .f32)
    (r : Fin 640) (n : Fin 512) : block x0 x1 (k0_pay1 w) x3 (ix2 r n)
    = ((∑ k : Fin 2048, x0 (ix2 r k) * w (ix2 ⟨k.val, by omega⟩ n))
      + ∑ k : Fin 2048, x1 (ix2 r k) * w (ix2 ⟨2048 + k.val, by omega⟩ n)) + x3 (ix2 r n) := by
  unfold block
  unfold_payloads
  pointwise [dot_S640x2048_S2048x512_S640x512_1_0_0_1_n_n]

end Cert.OutProjIdeal.Body

end
-- ==== Proof.OutValue.lean ====
/- The output projection: the array the grid leaves, read at an index, is the reference's sum there. -/
module

public import proofs.«01_k».proof.Proof.OutBody
public import proofs.«01_k».proof.Proof.Gen.OutReferenceIdeal.Read

@[expose] public section

set_option maxRecDepth 16384

noncomputable section

open Idealize.ShloMosaic Idealize.ShloMosaic.TcCoe Idealize.SL.Sem

namespace Cert.OutProjIdeal.Body

open Cert.OutProjIdeal Cert.OutProjIdeal.Gen

variable (m : (ℓ : Loc nD τ sig) → Buf (Elt Ideal) ℓ)

/-- The row `r` of `[y1, y2]` times the column `n` of the weights, plus the residual. -/
def spec (y1 y2 : Vec Ideal S8320x2048 .bf16) (w : Vec Ideal S4096x4096 .f32) (h : Vec Ideal S8320x4096 .f32) :
    Vec Ideal S8320x4096 .f32 := fun i =>
  ((∑ k : Fin 2048, y1 (ix2 (i 0) k) * w (ix2 ⟨k.val, by omega⟩ (i 1)))
      + ∑ k : Fin 2048, y2 (ix2 (i 0) k) * w (ix2 ⟨2048 + k.val, by omega⟩ (i 1))) + h i

/-- The kernel's array. -/
theorem array_eq (c : Dev nD) : Value.G4 m c
    = spec (m ((c : Thread nD τ).loc main_arg0)) (m ((c : Thread nD τ).loc main_arg1))
        (m ((c : Thread nD τ).loc main_arg2)) (m ((c : Thread nD τ).loc main_arg3)) := by
  funext i
  have b0 : (i 0).val < 8320 := (i 0).isLt
  have b1 : (i 1).val < 4096 := (i 1).isLt
  have hp : Value.pt4Of i < cfg0.N := by
    rw [show cfg0.N = 104 from N_0]; show 1 * ((i 0).val / 640 - 0) + 13 * ((i 1).val / 512 - 0) < 104; omega
  have hd : Value.pt4Of i / 13 = (i 1).val / 512 := by
    show (1 * ((i 0).val / 640 - 0) + 13 * ((i 1).val / 512 - 0)) / 13 = _; omega
  have hm : Value.pt4Of i % 13 = (i 0).val / 640 := by
    show (1 * ((i 0).val / 640 - 0) + 13 * ((i 1).val / 512 - 0)) % 13 = _; omega
  obtain ⟨e0, e1, e2, e3⟩ := idx ⟨Value.pt4Of i, hp⟩
  simp only [hd, hm] at e0 e1 e2 e3
  unfold Value.G4
  rw [dif_pos hp, ← Value.outsAt0_sweep m c _ hp, out_eq m c ⟨Value.pt4Of i, hp⟩]
  refine (congrArg (block _ _ _ _) (eq_ix2 (n0 := 640) (n1 := 512) (Value.loc4Of i))).trans ((block_apply _ _ _ _ _ _).trans ?_)
  unfold spec
  congr 1
  · congr 1
    · refine Finset.sum_congr rfl fun k _ => ?_
      congr 1 <;> blk_ext [iblk, V, e0, e2]
    · refine Finset.sum_congr rfl fun k _ => ?_
      congr 1 <;> blk_ext [iblk, V, e1, e2]
  · blk_ext [iblk, V, e3]

end Cert.OutProjIdeal.Body

namespace Cert.OutReferenceIdeal.Read

/-- The reference's result is the same sum: the contraction over the joined columns splits at the join. -/
theorem result_eq (x0 x1 : Vec Ideal S8320x2048 .bf16) (x2 : Vec Ideal S4096x4096 .f32) (x3 : Vec Ideal S8320x4096 .f32) :
    val_main_v3 (F := Ideal) x0 x1 x2 x3 = Cert.OutProjIdeal.Body.spec x0 x1 x2 x3 := by
  funext i
  rw [val_main_v3_apply, val_main_v2_apply]
  unfold Cert.OutProjIdeal.Body.spec
  rw [Fin.sum_univ_add (a := 2048) (b := 2048) (M := EReal)]
  pointwise [val_main_v1, val_main_v0]
  rw [add_comm]
  congr 2
  · refine Finset.sum_congr rfl fun k _ => ?_
    rw [dif_pos (show (Fin.castAdd 2048 k).val < 2048 from k.isLt)]
    congr 2
    exact eq_ix2 (n0 := 4096) (n1 := 4096) _
  · refine Finset.sum_congr rfl fun k _ => ?_
    rw [dif_neg (show ¬(Fin.natAdd 2048 k).val < 2048 by simp)]
    congr 2
    · congr 1
      exact Fin.ext (by simp)
    · exact eq_ix2 (n0 := 4096) (n1 := 4096) _

end Cert.OutReferenceIdeal.Read

end
-- ==== Proof.QkvoBody.lean ====
/- The linear-attention input projection: what a grid point computes, and what the carried scratch holds. -/
module

public import proofs.«01_k».proof.Proof.Gen.QkvoProjIdeal.Value
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.Tactic

@[expose] public section

set_option maxRecDepth 16384

noncomputable section

open Idealize.ShloMosaic Idealize.ShloMosaic.TcCoe Idealize.SL.Sem

namespace Cert.QkvoProjIdeal.Body

open Cert.QkvoProjIdeal Cert.QkvoProjIdeal.Gen

variable {F : FTy → Type} [FloatOps F]

theorem hz : (![0, 0] : Fin 2 → Nat) = fun _ => 0 := funext fun a => by fin_cases a <;> rfl

/-- At the first row block of a column block the scratch is filled with the weight rows, transposed and rounded. -/
theorem scratch_A (c : Dev nD) (i : grid0.Coords) (a2 : Memref sig .tc .vmem S640x4096 .bf16) (h2 : a2.IsWhole)
    (a3 : Memref sig .tc .vmem S512x4096 .f32) (h3 : a3.IsWhole) (a4 : Memref sig .tc .vmem S640x512 .f32) (h4 : a4.IsWhole)
    (a5 : Memref sig .tc .vmem S4096x512 .bf16) (h5 : a5.IsWhole) (hc : cond0_0 i)
    (x0 : Vec F S640x4096 .bf16) (x1 : Vec F S512x4096 .f32) :
    sout0_A_0 c i a2 h2 a3 h3 a4 h4 a5 h5 hc x0 x1 = k0_pay1 x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero hz]
  simp only [View.readAt_eq_ld, h3.read_unread, View.ld_unit_zero (S := S512x4096) hz]

/-- … and the point stores its product with the columns it has just rounded. -/
theorem out_A (c : Dev nD) (i : grid0.Coords) (a2 : Memref sig .tc .vmem S640x4096 .bf16) (h2 : a2.IsWhole)
    (a3 : Memref sig .tc .vmem S512x4096 .f32) (h3 : a3.IsWhole) (a4 : Memref sig .tc .vmem S640x512 .f32) (h4 : a4.IsWhole)
    (a5 : Memref sig .tc .vmem S4096x512 .bf16) (h5 : a5.IsWhole) (hc : cond0_0 i)
    (x0 : Vec F S640x4096 .bf16) (x1 : Vec F S512x4096 .f32) :
    out0_A_2 c i a2 h2 a3 h3 a4 h4 a5 h5 hc x0 x1 = k0_pay2 x0 (k0_pay1 x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz]
  simp only [View.readAt_eq_ld, h2.read_unread, h3.read_unread, View.ld_unit_zero (S := S512x4096) hz,
    View.ld_unit_zero (S := S640x4096) hz]
  rw [View.readCov_fill (s := S4096x512) _ _ _ _ _ (by decide), View.ld_unit_zero (S := S4096x512) hz]

/-- At any other row block the columns are those the scratch already holds. -/
theorem out_B (c : Dev nD) (i : grid0.Coords) (a2 : Memref sig .tc .vmem S640x4096 .bf16) (h2 : a2.IsWhole)
    (a3 : Memref sig .tc .vmem S512x4096 .f32) (h3 : a3.IsWhole) (a4 : Memref sig .tc .vmem S640x512 .f32) (h4 : a4.IsWhole)
    (a5 : Memref sig .tc .vmem S4096x512 .bf16) (h5 : a5.IsWhole) (hc : ¬cond0_0 i)
    (x0 : Vec F S640x4096 .bf16) (x1 : Vec F S512x4096 .f32) (xs : Vec F S4096x512 .bf16) :
    out0_B_2 c i a2 h2 a3 h3 a4 h4 a5 h5 hc x0 x1 xs = k0_pay2 x0 xs := by
  unfold out0_B_2
  rw [View.read_writes_eq_canon _ _ _ (cover0_B_2 c i a2 h2 a3 h3 a4 h4 a5 h5 hc x0 x1 xs)]
  unfold kernelRun0_B
  dsimp only
  sl_unfold_words
  rw [View.canon_unit_zero hz]
  simp only [View.readAt_eq_ld, h2.read_unread, h5.read_unread, View.ld_unit_zero (S := S4096x512) hz,
    View.ld_unit_zero (S := S640x4096) hz]

/-! ## The grid -/

variable (m : (ℓ : Loc nD τ sig) → Buf (Elt F) ℓ)

/-- The block indices: row block `t % 13`, column block `t / 13`. -/
theorem idx : ∀ t : Fin cfg0.N, win0_0.index t = ![t.val % 13, 0] ∧ win0_1.index t = ![t.val / 13, 0]
    ∧ win0_2.index t = ![t.val % 13, t.val / 13] :=
  (by decide +kernel : ∀ t : Fin grid0.N, _)

/-- The weight block staged at a point, at one index: a row of the transposed weights. -/
theorem weights_apply (c : Dev nD) (t : Fin cfg0.N) (n : Fin 512) (k : Fin 4096) (h : t.val / 13 * 512 + n.val < 10264) :
    (X0_1 m c t) (ix2 n k) = (m ((c : Thread nD τ).loc main_arg1) : Vec F S4096x10264 .f32)
      (ix2 k ⟨t.val / 13 * 512 + n.val, h⟩) := by
  have e := (idx t).2.1
  unfold X0_1 Pipeline.Window.fill
  rw [dif_pos (moved0_1 t _)]
  show V m c main_v0 (((cfg0.win 1).blk t).view.emb _) = _
  entry_read
  pointwise
  refine congrArg (m ((c : Thread nD τ).loc main_arg1)) (congrArg₂ (ix2 (n0 := 4096) (n1 := 10264)) (Fin.ext ?_) (Fin.ext ?_))
  · show win0_1.index t (1 : Fin 2) * 4096 + 1 * k.val = k.val
    rw [e]
    show 0 * 4096 + 1 * k.val = k.val
    omega
  · show win0_1.index t (0 : Fin 2) * 512 + 1 * n.val = t.val / 13 * 512 + n.val
    rw [e]
    show t.val / 13 * 512 + 1 * n.val = t.val / 13 * 512 + n.val
    omega

/-- Points of one column block stage the same weights. -/
theorem columns_eq (c : Dev nD) (t t' : Fin cfg0.N) (h : t.val / 13 = t'.val / 13) : X0_1 m c t = X0_1 m c t' := by
  have hN : t.val < 234 := lt_of_lt_of_eq t.isLt N_0
  have hN' : t'.val < 234 := lt_of_lt_of_eq t'.isLt N_0
  funext y
  have hy : (y 0).val < 512 := (y 0).isLt
  have q : ∀ s : Fin cfg0.N, X0_1 m c s y = X0_1 m c s (ix2 (n0 := 512) (n1 := 4096) (y 0) (y 1)) := fun s =>
    congrArg (X0_1 m c s) (eq_ix2 (n0 := 512) (n1 := 4096) y)
  refine (q t).trans (Eq.trans ?_ (q t').symm)
  refine (weights_apply m c t (y 0) (y 1) (by show _ * 512 + (y 0).val < _; omega)).trans
    (Eq.trans ?_ (weights_apply m c t' (y 0) (y 1) (by show _ * 512 + (y 0).val < _; omega)).symm)
  congr 2
  exact Fin.ext (by show _ * 512 + (y 0).val = _ * 512 + (y 0).val; rw [h])

/-- The scratch and the output's buffer after a point that starts a column block; -/
theorem outs_A (c : Dev nD) (t : Fin cfg0.N) (h0 : t.val % 13 = 0) : outsAt0 m c t.val t.isLt
    = (k0_pay2 (iblk m c 0 t) (k0_pay1 (X0_1 m c t)), k0_pay1 (X0_1 m c t)) := by
  rw [outsAt0_A m c t h0, out_A, scratch_A]

/-- after any other point. -/
theorem outs_B (c : Dev nD) (t : Fin cfg0.N) (h0 : ¬t.val % 13 = 0) : outsAt0 m c t.val t.isLt
    = (k0_pay2 (iblk m c 0 t) (outsAt0 m c (t.val - 1) (Nat.lt_of_le_of_lt (Nat.sub_le _ _) t.isLt)).2,
        (outsAt0 m c (t.val - 1) (Nat.lt_of_le_of_lt (Nat.sub_le _ _) t.isLt)).2) := by
  rw [outsAt0_B m c t h0, out_B]
  rfl

/-- After every point the scratch holds the rounded weight columns of the point's column block. -/
theorem scratch_eq (c : Dev nD) : ∀ (n : ℕ) (hn : n < cfg0.N),
    (outsAt0 m c n hn).2 = k0_pay1 (X0_1 m c ⟨n, hn⟩) := by
  intro n
  induction n with
  | zero => intro hn; exact congrArg Prod.snd (outs_A m c ⟨0, hn⟩ (Nat.zero_mod _))
  | succ n ih =>
    intro hn
    by_cases h0 : (n + 1) % 13 = 0
    · exact congrArg Prod.snd (outs_A m c ⟨n + 1, hn⟩ h0)
    · exact (congrArg Prod.snd (outs_B m c ⟨n + 1, hn⟩ h0)).trans ((ih (Nat.lt_of_succ_lt hn)).trans
        (congrArg k0_pay1 (columns_eq m c ⟨n, _⟩ ⟨n + 1, hn⟩ (by dsimp only; omega))))

/-- What point `t` leaves in the output's buffer. -/
theorem out_eq (c : Dev nD) (t : Fin cfg0.N) : (outsAt0 m c t.val t.isLt).1
    = k0_pay2 (iblk m c 0 t) (k0_pay1 (X0_1 m c t)) := by
  by_cases h0 : t.val % 13 = 0
  · exact congrArg Prod.fst (outs_A m c t h0)
  · refine (congrArg Prod.fst (outs_B m c t h0)).trans ?_
    dsimp only
    rw [scratch_eq m c, columns_eq m c ⟨t.val - 1, _⟩ t (by dsimp only; omega)]

/-! ## The ideal reading -/

/-- The stored block at a row and a column: one sum of products. -/
theorem block_apply (x0 : Vec Ideal S640x4096 .bf16) (w : Vec Ideal S512x4096 .f32)
    (r : Fin 640) (n : Fin 512) : k0_pay2 x0 (k0_pay1 w) (ix2 r n)
    = ∑ k : Fin 4096, x0 (ix2 r k) * w (ix2 n k) := by
  unfold_payloads
  pointwise [dot_S640x4096_S4096x512_S640x512_1_0_0_1_n_n]

end Cert.QkvoProjIdeal.Body

end
-- ==== Proof.Columns.lean ====
/- What the column-block projections share: the product they compute, the induction over a carried scratch, and the
   product block itself. -/
module

public import proofs.«01_k».proof.Proof.QkvoBody

@[expose] public section

set_option maxRecDepth 16384

noncomputable section

open Idealize.ShloMosaic

namespace Cert.Columns

/-- `N` columns of the product of `u` with `w`, from column `off` on. -/
def product {C : ℕ} (N off : ℕ) (h : off + N ≤ C) (u : Vec Ideal ⟨2, ![8320, 4096]⟩ .bf16) (w : Vec Ideal ⟨2, ![4096, C]⟩ .f32) :
    Vec Ideal ⟨2, ![8320, N]⟩ .f32 := fun i =>
  ∑ k : Fin 4096, u (ix2 (i 0) k) * w (ix2 k ⟨off + (i 1).val, lt_of_lt_of_le (Nat.add_lt_add_left (i 1).isLt off) h⟩)

/-- A walk in rows of thirteen points whose first point of a row makes the row's carried value from its own block, and
    whose others hand on what they were given: every point has its row's value. -/
theorem carried {N : ℕ} {α β γ δ : Type} (outs : ∀ n, n < N → α × β) (x : Fin N → δ) (w : Fin N → γ) (f : δ → β → α) (g : γ → β)
    (first : ∀ t : Fin N, t.val % 13 = 0 → outs t.val t.isLt = (f (x t) (g (w t)), g (w t)))
    (later : ∀ t : Fin N, ¬t.val % 13 = 0 → outs t.val t.isLt
      = (f (x t) (outs (t.val - 1) (Nat.lt_of_le_of_lt (Nat.sub_le _ _) t.isLt)).2, (outs (t.val - 1) (Nat.lt_of_le_of_lt (Nat.sub_le _ _) t.isLt)).2))
    (same : ∀ t t' : Fin N, t.val / 13 = t'.val / 13 → w t = w t') :
    ∀ (n : ℕ) (hn : n < N), outs n hn = (f (x ⟨n, hn⟩) (g (w ⟨n, hn⟩)), g (w ⟨n, hn⟩)) := by
  intro n
  induction n with
  | zero => exact fun hn => first ⟨0, hn⟩ (Nat.zero_mod _)
  | succ n ih =>
    intro hn
    by_cases h0 : (n + 1) % 13 = 0
    · exact first ⟨n + 1, hn⟩ h0
    · have e : w ⟨n, Nat.lt_of_succ_lt hn⟩ = w ⟨n + 1, hn⟩ := same _ _ (by show n / 13 = (n + 1) / 13; omega)
      have p : (outs n (Nat.lt_of_succ_lt hn)).2 = g (w ⟨n + 1, hn⟩) := (congrArg Prod.snd (ih (Nat.lt_of_succ_lt hn))).trans (congrArg g e)
      refine (later ⟨n + 1, hn⟩ h0).trans ?_
      show (f (x ⟨n + 1, hn⟩) (outs n (Nat.lt_of_succ_lt hn)).2, (outs n (Nat.lt_of_succ_lt hn)).2) = _
      rw [p]

/-- Blocks that agree at every row and column are one. -/
theorem ext_block {F : FTy → Type} {x y : Vec F ⟨2, ![512, 4096]⟩ .f32} (h : ∀ (n : Fin 512) (k : Fin 4096), x (ix2 n k) = y (ix2 n k)) : x = y :=
  funext fun z => ((congrArg x (eq_ix2 (n0 := 512) (n1 := 4096) z)).trans (h (z 0) (z 1))).trans
    (congrArg y (eq_ix2 (n0 := 512) (n1 := 4096) z)).symm

/-- A stored block, known by its local index, is the product's entry once each factor is. -/
theorem entry {C : ℕ} (N off : ℕ) (h : off + N ≤ C) (u : Vec Ideal ⟨2, ![8320, 4096]⟩ .bf16) (w : Vec Ideal ⟨2, ![4096, C]⟩ .f32)
    (x : Vec Ideal ⟨2, ![640, 4096]⟩ .bf16) (y : Vec Ideal ⟨2, ![512, 4096]⟩ .f32) (i : (⟨2, ![8320, N]⟩ : Shape).Idx)
    (l : (⟨2, ![640, 512]⟩ : Shape).Idx) (hx : ∀ k : Fin 4096, x (ix2 (l 0) k) = u (ix2 (i 0) k))
    (hy : ∀ k : Fin 4096, y (ix2 (l 1) k) = w (ix2 k ⟨off + (i 1).val, lt_of_lt_of_le (Nat.add_lt_add_left (i 1).isLt off) h⟩)) :
    Cert.QkvoProjIdeal.Gen.k0_pay2 x (Cert.QkvoProjIdeal.Gen.k0_pay1 y) l = product N off h u w i := by
  refine (congrArg _ (eq_ix2 (n0 := 640) (n1 := 512) l)).trans ((Cert.QkvoProjIdeal.Body.block_apply x y _ _).trans ?_)
  unfold product
  exact Finset.sum_congr rfl fun k _ => congrArg₂ (· * ·) (hx k) (hy k)

end Cert.Columns

end
-- ==== Proof.OutTwoValue.lean ====
/- The second mixer's output projection: the array the grid leaves, read at an index, is the reference's sum there. -/
module

public import proofs.«01_k».proof.Proof.Columns
public import proofs.«01_k».proof.Proof.Gen.OutTwoIdeal.Value
public import proofs.«01_k».proof.Proof.Gen.OutTwoReferenceIdeal.Read

@[expose] public section

set_option maxRecDepth 16384

noncomputable section

open Idealize.ShloMosaic Idealize.ShloMosaic.TcCoe Idealize.SL.Sem

namespace Cert.OutTwoIdeal.Body

open Cert.OutTwoIdeal Cert.OutTwoIdeal.Gen
open Cert.QkvoProjIdeal.Body (hz)

variable {F : FTy → Type} [FloatOps F] (m : (ℓ : Loc nD τ sig) → Buf (Elt F) ℓ)

/-- What a point stores: its blocks of the two operands times the first 3072 and the last 1024 of the weight rows held in
    `w`, plus the residual block. -/
def block (x : Vec F S640x3072 .bf16 × Vec F S640x1024 .bf16 × Vec F S640x512 .f32) (w : Vec F S4096x512 .bf16) : Vec F S640x512 .f32 :=
  k0_pay2 x.1 (View.ld w (Rect.unit ![0, 0] ![3072, 512] inb_S4096x512_S3072x512_0_0)) x.2.1
    (View.ld w (Rect.unit ![3072, 0] ![1024, 512] inb_S4096x512_S1024x512_3072_0)) x.2.2

/-- Row block `t % 13`, column block `t / 13`. -/
theorem idx : ∀ t : Fin cfg0.N, win0_0.index t = ![t.val % 13, 0] ∧ win0_1.index t = ![t.val % 13, 0]
    ∧ win0_2.index t = ![0, t.val / 13] ∧ win0_3.index t = ![t.val % 13, t.val / 13] :=
  (by decide +kernel : ∀ t : Fin grid0.N, _)

/-- The operands' blocks at a point. -/
def operands (c : Dev nD) (t : Fin cfg0.N) : Vec F S640x3072 .bf16 × Vec F S640x1024 .bf16 × Vec F S640x512 .f32 :=
  (iblk m c 0 t, iblk m c 1 t, iblk m c 3 t)

theorem outs_A (c : Dev nD) (t : Fin cfg0.N) (h0 : t.val % 13 = 0) : outsAt0 m c t.val t.isLt
    = (block (operands m c t) (k0_pay1 (iblk m c 2 t)), k0_pay1 (iblk m c 2 t)) := by
  rw [outsAt0_A m c t h0]
  unfold out0_A_4 sout0_A_0
  rw [View.read_writes_eq_canon _ _ _ (cover0_A_4 _ _ _ _ _ _ _ _ _ _ _ _ _ _ _ _ _ _ _),
    View.read_writes_eq_canon _ _ _ (scover0_A_0 _ _ _ _ _ _ _ _ _ _ _ _ _ _ _ _ _ _ _)]
  unfold kernelRun0_A
  dsimp only
  sl_unfold_words
  rw [View.canon_unit_zero hz, View.canon_unit_zero hz]
  simp only [View.readAt_eq_ld, Memref.IsWhole.read_unread, View.ld_unit_zero (S := S4096x512) hz, View.ld_unit_zero (S := S640x3072) hz,
    View.ld_unit_zero (S := S640x1024) hz, View.ld_unit_zero (S := S640x512) hz]
  rw [View.readCov_fill (s := S4096x512) _ _ _ _ _ (by decide), View.readCov_fill (s := S4096x512) _ _ _ _ _ (by decide)]
  rfl

theorem outs_B (c : Dev nD) (t : Fin cfg0.N) (h0 : ¬t.val % 13 = 0) : outsAt0 m c t.val t.isLt
    = (block (operands m c t) (outsAt0 m c (t.val - 1) (Nat.lt_of_le_of_lt (Nat.sub_le _ _) t.isLt)).2,
        (outsAt0 m c (t.val - 1) (Nat.lt_of_le_of_lt (Nat.sub_le _ _) t.isLt)).2) := by
  rw [outsAt0_B m c t h0]
  unfold out0_B_4
  rw [View.read_writes_eq_canon _ _ _ (cover0_B_4 _ _ _ _ _ _ _ _ _ _ _ _ _ _ _ _ _ _ _ _)]
  unfold kernelRun0_B
  dsimp only
  sl_unfold_words
  rw [View.canon_unit_zero hz]
  simp only [View.readAt_eq_ld, Memref.IsWhole.read_unread, View.ld_unit_zero (S := S640x3072) hz,
    View.ld_unit_zero (S := S640x1024) hz, View.ld_unit_zero (S := S640x512) hz]
  refine congrArg₂ Prod.mk (Eq.trans ?_ (congrArg (block (operands m c t)) ((Memref.isWhole_whole cc0_scratch0).read_unread _))) rfl
  rfl

/-- What every point leaves. -/
theorem outs_eq (c : Dev nD) : ∀ (n : ℕ) (hn : n < cfg0.N), outsAt0 m c n hn
    = (block (operands m c ⟨n, hn⟩) (k0_pay1 (iblk m c 2 ⟨n, hn⟩)), k0_pay1 (iblk m c 2 ⟨n, hn⟩)) :=
  Cert.Columns.carried (outsAt0 m c) (operands m c) (iblk m c 2) block k0_pay1 (outs_A m c) (outs_B m c) fun t t' h => by
    have e := (idx t).2.2.1
    have e' := (idx t').2.2.1
    funext y
    blk_ext [iblk, V, e, e', h]

/-- The stored block at a row and a column: two sums of products and the residual. -/
theorem block_apply (x : Vec Ideal S640x3072 .bf16 × Vec Ideal S640x1024 .bf16 × Vec Ideal S640x512 .f32) (w : Vec Ideal S4096x512 .f32)
    (r : Fin 640) (n : Fin 512) : block x (k0_pay1 w) (ix2 r n)
    = ((∑ k : Fin 3072, x.1 (ix2 r k) * w (ix2 ⟨k.val, by omega⟩ n))
      + ∑ k : Fin 1024, x.2.1 (ix2 r k) * w (ix2 ⟨3072 + k.val, by omega⟩ n)) + x.2.2 (ix2 r n) := by
  unfold block
  unfold_payloads
  pointwise [dot_S640x3072_S3072x512_S640x512_1_0_0_1_n_n, dot_S640x1024_S1024x512_S640x512_1_0_0_1_n_n]

/-- The row `i 0` of `[y1, y2]` times the column `i 1` of the weights, plus the residual. -/
def spec (y1 : Vec Ideal S8320x3072 .bf16) (y2 : Vec Ideal S8320x1024 .bf16) (w : Vec Ideal S4096x4096 .f32) (h : Vec Ideal S8320x4096 .f32) :
    Vec Ideal S8320x4096 .f32 := fun i =>
  ((∑ k : Fin 3072, y1 (ix2 (i 0) k) * w (ix2 ⟨k.val, by omega⟩ (i 1)))
      + ∑ k : Fin 1024, y2 (ix2 (i 0) k) * w (ix2 ⟨3072 + k.val, by omega⟩ (i 1))) + h i

/-- The kernel's array. -/
theorem array_eq (m : (ℓ : Loc nD τ sig) → Buf (Elt Ideal) ℓ) (c : Dev nD) : Value.G4 m c
    = spec (m ((c : Thread nD τ).loc main_arg0)) (m ((c : Thread nD τ).loc main_arg1))
        (m ((c : Thread nD τ).loc main_arg2)) (m ((c : Thread nD τ).loc main_arg3)) := by
  funext i
  have b0 : (i 0).val < 8320 := (i 0).isLt
  have b1 : (i 1).val < 4096 := (i 1).isLt
  have hp : Value.pt4Of i < cfg0.N := by
    rw [show cfg0.N = 104 from N_0]; show 1 * ((i 0).val / 640 - 0) + 13 * ((i 1).val / 512 - 0) < 104; omega
  have hd : Value.pt4Of i / 13 = (i 1).val / 512 := by
    show (1 * ((i 0).val / 640 - 0) + 13 * ((i 1).val / 512 - 0)) / 13 = _; omega
  have hm : Value.pt4Of i % 13 = (i 0).val / 640 := by
    show (1 * ((i 0).val / 640 - 0) + 13 * ((i 1).val / 512 - 0)) % 13 = _; omega
  obtain ⟨e0, e1, e2, e3⟩ := idx ⟨Value.pt4Of i, hp⟩
  simp only [hd, hm] at e0 e1 e2 e3
  unfold Value.G4
  rw [dif_pos hp, ← Value.outsAt0_sweep m c _ hp, outs_eq m c _ hp]
  refine (congrArg (block _ _) (eq_ix2 (n0 := 640) (n1 := 512) (Value.loc4Of i))).trans ((block_apply _ _ _ _).trans ?_)
  unfold spec operands
  dsimp only
  refine congrArg₂ (· + ·) (congrArg₂ (· + ·) (Finset.sum_congr rfl fun k _ => ?_) (Finset.sum_congr rfl fun k _ => ?_)) ?_
  · congr 1 <;> blk_ext [iblk, V, e0, e2]
  · congr 1 <;> blk_ext [iblk, V, e1, e2]
  · blk_ext [iblk, V, e3]

end Cert.OutTwoIdeal.Body

namespace Cert.OutTwoReferenceIdeal.Read

/-- The reference's result is the same sum: the contraction over the joined columns splits at the join. -/
theorem result_eq (x0 : Vec Ideal S8320x3072 .bf16) (x1 : Vec Ideal S8320x1024 .bf16) (x2 : Vec Ideal S4096x4096 .f32) (x3 : Vec Ideal S8320x4096 .f32) :
    val_main_v3 (F := Ideal) x0 x1 x2 x3 = Cert.OutTwoIdeal.Body.spec x0 x1 x2 x3 := by
  funext i
  rw [val_main_v3_apply, val_main_v2_apply]
  unfold Cert.OutTwoIdeal.Body.spec
  rw [Fin.sum_univ_add (a := 3072) (b := 1024) (M := EReal)]
  pointwise [val_main_v1, val_main_v0]
  rw [add_comm]
  congr 2
  · refine Finset.sum_congr rfl fun k _ => ?_
    rw [dif_pos (show (Fin.castAdd 1024 k).val < 3072 from k.isLt)]
    congr 2
    exact eq_ix2 (n0 := 4096) (n1 := 4096) _
  · refine Finset.sum_congr rfl fun k _ => ?_
    rw [dif_neg (show ¬(Fin.natAdd 3072 k).val < 3072 by simp)]
    congr 2
    · congr 1
      exact Fin.ext (by simp)
    · exact eq_ix2 (n0 := 4096) (n1 := 4096) _

end Cert.OutTwoReferenceIdeal.Read

end
-- ==== Proof.ZValue.lean ====
/- The gate columns of the first mixer's input projection: the array the grid leaves is the reference's product. -/
module

public import proofs.«01_k».proof.Proof.Columns
public import proofs.«01_k».proof.Proof.Gen.ZProjIdeal.Value
public import proofs.«01_k».proof.Proof.Gen.ZReferenceIdeal.Read

@[expose] public section

set_option maxRecDepth 16384

noncomputable section

open Idealize.ShloMosaic Idealize.ShloMosaic.TcCoe Idealize.SL.Sem

namespace Cert.ZProjIdeal.Body

open Cert.ZProjIdeal Cert.ZProjIdeal.Gen
open Cert.QkvoProjIdeal.Body (hz)

variable {F : FTy → Type} [FloatOps F] (m : (ℓ : Loc nD τ sig) → Buf (Elt F) ℓ)

/-- Row block `t % 13`, column block `t / 13`. -/
theorem idx : ∀ t : Fin cfg0.N, win0_0.index t = ![t.val % 13, 0] ∧ win0_1.index t = ![t.val / 13, 0]
    ∧ win0_2.index t = ![t.val % 13, t.val / 13] :=
  (by decide +kernel : ∀ t : Fin grid0.N, _)

theorem outs_A (c : Dev nD) (t : Fin cfg0.N) (h0 : t.val % 13 = 0) : outsAt0 m c t.val t.isLt
    = (k0_pay2 (iblk m c 0 t) (k0_pay1 (X0_1 m c t)), k0_pay1 (X0_1 m c t)) := by
  rw [outsAt0_A m c t h0]
  unfold out0_A_2 sout0_A_0
  rw [View.read_writes_eq_canon _ _ _ (cover0_A_2 _ _ _ _ _ _ _ _ _ _ _ _ _), View.read_writes_eq_canon _ _ _ (scover0_A_0 _ _ _ _ _ _ _ _ _ _ _ _ _)]
  unfold kernelRun0_A
  dsimp only
  sl_unfold_words
  rw [View.canon_unit_zero hz, View.canon_unit_zero hz]
  simp only [View.readAt_eq_ld, Memref.IsWhole.read_unread, View.ld_unit_zero (S := S512x4096) hz, View.ld_unit_zero (S := S640x4096) hz]
  rw [View.readCov_fill (s := S4096x512) _ _ _ _ _ (by decide), View.ld_unit_zero (S := S4096x512) hz]

theorem outs_B (c : Dev nD) (t : Fin cfg0.N) (h0 : ¬t.val % 13 = 0) : outsAt0 m c t.val t.isLt
    = (k0_pay2 (iblk m c 0 t) (outsAt0 m c (t.val - 1) (Nat.lt_of_le_of_lt (Nat.sub_le _ _) t.isLt)).2,
        (outsAt0 m c (t.val - 1) (Nat.lt_of_le_of_lt (Nat.sub_le _ _) t.isLt)).2) := by
  rw [outsAt0_B m c t h0]
  unfold out0_B_2
  rw [View.read_writes_eq_canon _ _ _ (cover0_B_2 _ _ _ _ _ _ _ _ _ _ _ _ _ _)]
  unfold kernelRun0_B
  dsimp only
  sl_unfold_words
  rw [View.canon_unit_zero hz]
  simp only [View.readAt_eq_ld, Memref.IsWhole.read_unread, View.ld_unit_zero (S := S4096x512) hz, View.ld_unit_zero (S := S640x4096) hz]
  exact congrArg₂ Prod.mk (congrArg (k0_pay2 _) ((Memref.isWhole_whole cc0_scratch0).read_unread _)) rfl

/-- The weight block staged at a point: rows of the transposed weights. -/
theorem weights_apply (c : Dev nD) (t : Fin cfg0.N) (n : Fin 512) (k : Fin 4096) (q : Fin 8256) (hq : q.val = t.val / 13 * 512 + n.val) :
    (X0_1 m c t) (ix2 n k) = (m ((c : Thread nD τ).loc main_arg1) : Vec F S4096x8256 .f32) (ix2 k q) := by
  have e := (idx t).2.1
  unfold X0_1 Pipeline.Window.fill
  rw [dif_pos (moved0_1 t _)]
  show V m c main_v0 (((cfg0.win 1).blk t).view.emb _) = _
  entry_read
  pointwise
  refine congrArg (m ((c : Thread nD τ).loc main_arg1)) (congrArg₂ (ix2 (n0 := 4096) (n1 := 8256)) (Fin.ext ?_) (Fin.ext ?_))
  · show win0_1.index t (1 : Fin 2) * 4096 + 1 * k.val = k.val
    rw [e]
    show 0 * 4096 + 1 * k.val = k.val
    omega
  · show win0_1.index t (0 : Fin 2) * 512 + 1 * n.val = q.val
    rw [e]
    show t.val / 13 * 512 + 1 * n.val = q.val
    omega

/-- What every point leaves. -/
theorem outs_eq (c : Dev nD) : ∀ (n : ℕ) (hn : n < cfg0.N), outsAt0 m c n hn
    = (k0_pay2 (iblk m c 0 ⟨n, hn⟩) (k0_pay1 (X0_1 m c ⟨n, hn⟩)), k0_pay1 (X0_1 m c ⟨n, hn⟩)) :=
  Cert.Columns.carried (outsAt0 m c) (iblk m c 0) (X0_1 m c) k0_pay2 k0_pay1 (outs_A m c) (outs_B m c) fun t t' h => by
    have hN : t.val < 52 := lt_of_lt_of_eq t.isLt N_0
    exact Cert.Columns.ext_block fun n k => (weights_apply m c t n k ⟨t.val / 13 * 512 + n.val, by omega⟩ rfl).trans
      (weights_apply m c t' n k _ (by show t.val / 13 * 512 + n.val = _; omega)).symm

/-- The kernel's array. -/
theorem array_eq (m : (ℓ : Loc nD τ sig) → Buf (Elt Ideal) ℓ) (c : Dev nD) : Value.G2 m c
    = Cert.Columns.product 2048 0 (by decide) (m ((c : Thread nD τ).loc main_arg0)) (m ((c : Thread nD τ).loc main_arg1)) := by
  funext i
  have b0 : (i 0).val < 8320 := (i 0).isLt
  have b1 : (i 1).val < 2048 := (i 1).isLt
  have hp : Value.pt2Of i < cfg0.N := by
    rw [show cfg0.N = 52 from N_0]; show 1 * ((i 0).val / 640 - 0) + 13 * ((i 1).val / 512 - 0) < 52; omega
  have hd : Value.pt2Of i / 13 = (i 1).val / 512 := by
    show (1 * ((i 0).val / 640 - 0) + 13 * ((i 1).val / 512 - 0)) / 13 = _; omega
  have hm : Value.pt2Of i % 13 = (i 0).val / 640 := by
    show (1 * ((i 0).val / 640 - 0) + 13 * ((i 1).val / 512 - 0)) % 13 = _; omega
  obtain ⟨e0, -, -⟩ := idx ⟨Value.pt2Of i, hp⟩
  simp only [hm] at e0
  unfold Value.G2
  rw [dif_pos hp, ← Value.outsAt0_sweep m c _ hp, outs_eq m c _ hp]
  refine Cert.Columns.entry 2048 0 (by decide) _ _ _ _ i (Value.loc2Of i) (fun k => ?_) fun k => ?_
  · blk_ext [iblk, V, e0]
  · exact weights_apply m c ⟨Value.pt2Of i, hp⟩ (Value.loc2Of i 1) k _
      (by show 0 + (i 1).val = Value.pt2Of i / 13 * 512 + (i 1).val % 512; omega)

end Cert.ZProjIdeal.Body

namespace Cert.ZReferenceIdeal.Read

/-- The reference's result is the same product. -/
theorem result_eq (x0 : Vec Ideal S8320x4096 .bf16) (x1 : Vec Ideal S4096x8256 .f32) :
    val_main_v2 (F := Ideal) x0 x1 = Cert.Columns.product 2048 0 (by decide) x0 x1 := by
  funext i
  rw [val_main_v2_apply, val_main_v1_apply]
  unfold Cert.Columns.product
  refine Finset.sum_congr rfl fun k _ => ?_
  pointwise [val_main_v0]
  congr 2
  · exact eq_ix2 (n0 := 8320) (n1 := 4096) _
  · exact eq_ix2 (n0 := 4096) (n1 := 8256) _

end Cert.ZReferenceIdeal.Read

end
-- ==== Proof.XbcValue.lean ====
/- The convolution's columns of the first mixer's input projection: the array the grid leaves is the reference's product. -/
module

public import proofs.«01_k».proof.Proof.Columns
public import proofs.«01_k».proof.Proof.Gen.XbcProjIdeal.Value
public import proofs.«01_k».proof.Proof.Gen.XbcReferenceIdeal.Read

@[expose] public section

set_option maxRecDepth 16384

noncomputable section

open Idealize.ShloMosaic Idealize.ShloMosaic.TcCoe Idealize.SL.Sem

namespace Cert.XbcProjIdeal.Body

open Cert.XbcProjIdeal Cert.XbcProjIdeal.Gen
open Cert.QkvoProjIdeal.Body (hz)

variable {F : FTy → Type} [FloatOps F] (m : (ℓ : Loc nD τ sig) → Buf (Elt F) ℓ)

/-- Row block `t % 13`, column block `t / 13`, the weights' four blocks further on. -/
theorem idx : ∀ t : Fin cfg0.N, win0_0.index t = ![t.val % 13, 0] ∧ win0_1.index t = ![4 + t.val / 13, 0]
    ∧ win0_2.index t = ![t.val % 13, t.val / 13] :=
  (by decide +kernel : ∀ t : Fin grid0.N, _)

theorem outs_A (c : Dev nD) (t : Fin cfg0.N) (h0 : t.val % 13 = 0) : outsAt0 m c t.val t.isLt
    = (k0_pay2 (iblk m c 0 t) (k0_pay1 (X0_1 m c t)), k0_pay1 (X0_1 m c t)) := by
  rw [outsAt0_A m c t h0]
  unfold out0_A_2 sout0_A_0
  rw [View.read_writes_eq_canon _ _ _ (cover0_A_2 _ _ _ _ _ _ _ _ _ _ _ _ _), View.read_writes_eq_canon _ _ _ (scover0_A_0 _ _ _ _ _ _ _ _ _ _ _ _ _)]
  unfold kernelRun0_A
  dsimp only
  sl_unfold_words
  rw [View.canon_unit_zero hz, View.canon_unit_zero hz]
  simp only [View.readAt_eq_ld, Memref.IsWhole.read_unread, View.ld_unit_zero (S := S512x4096) hz, View.ld_unit_zero (S := S640x4096) hz]
  rw [View.readCov_fill (s := S4096x512) _ _ _ _ _ (by decide), View.ld_unit_zero (S := S4096x512) hz]

theorem outs_B (c : Dev nD) (t : Fin cfg0.N) (h0 : ¬t.val % 13 = 0) : outsAt0 m c t.val t.isLt
    = (k0_pay2 (iblk m c 0 t) (outsAt0 m c (t.val - 1) (Nat.lt_of_le_of_lt (Nat.sub_le _ _) t.isLt)).2,
        (outsAt0 m c (t.val - 1) (Nat.lt_of_le_of_lt (Nat.sub_le _ _) t.isLt)).2) := by
  rw [outsAt0_B m c t h0]
  unfold out0_B_2
  rw [View.read_writes_eq_canon _ _ _ (cover0_B_2 _ _ _ _ _ _ _ _ _ _ _ _ _ _)]
  unfold kernelRun0_B
  dsimp only
  sl_unfold_words
  rw [View.canon_unit_zero hz]
  simp only [View.readAt_eq_ld, Memref.IsWhole.read_unread, View.ld_unit_zero (S := S4096x512) hz, View.ld_unit_zero (S := S640x4096) hz]
  exact congrArg₂ Prod.mk (congrArg (k0_pay2 _) ((Memref.isWhole_whole cc0_scratch0).read_unread _)) rfl

/-- The weight block staged at a point: rows of the transposed weights. -/
theorem weights_apply (c : Dev nD) (t : Fin cfg0.N) (n : Fin 512) (k : Fin 4096) (q : Fin 8256) (hq : q.val = (4 + t.val / 13) * 512 + n.val) :
    (X0_1 m c t) (ix2 n k) = (m ((c : Thread nD τ).loc main_arg1) : Vec F S4096x8256 .f32) (ix2 k q) := by
  have e := (idx t).2.1
  unfold X0_1 Pipeline.Window.fill
  rw [dif_pos (moved0_1 t _)]
  show V m c main_v0 (((cfg0.win 1).blk t).view.emb _) = _
  entry_read
  pointwise
  refine congrArg (m ((c : Thread nD τ).loc main_arg1)) (congrArg₂ (ix2 (n0 := 4096) (n1 := 8256)) (Fin.ext ?_) (Fin.ext ?_))
  · show win0_1.index t (1 : Fin 2) * 4096 + 1 * k.val = k.val
    rw [e]
    show 0 * 4096 + 1 * k.val = k.val
    omega
  · show win0_1.index t (0 : Fin 2) * 512 + 1 * n.val = q.val
    rw [e]
    show (4 + t.val / 13) * 512 + 1 * n.val = q.val
    omega

/-- What every point leaves. -/
theorem outs_eq (c : Dev nD) : ∀ (n : ℕ) (hn : n < cfg0.N), outsAt0 m c n hn
    = (k0_pay2 (iblk m c 0 ⟨n, hn⟩) (k0_pay1 (X0_1 m c ⟨n, hn⟩)), k0_pay1 (X0_1 m c ⟨n, hn⟩)) :=
  Cert.Columns.carried (outsAt0 m c) (iblk m c 0) (X0_1 m c) k0_pay2 k0_pay1 (outs_A m c) (outs_B m c) fun t t' h => by
    have hN : t.val < 78 := lt_of_lt_of_eq t.isLt N_0
    exact Cert.Columns.ext_block fun n k => (weights_apply m c t n k ⟨(4 + t.val / 13) * 512 + n.val, by omega⟩ rfl).trans
      (weights_apply m c t' n k _ (by show (4 + t.val / 13) * 512 + n.val = _; omega)).symm

/-- The kernel's array. -/
theorem array_eq (m : (ℓ : Loc nD τ sig) → Buf (Elt Ideal) ℓ) (c : Dev nD) : Value.G2 m c
    = Cert.Columns.product 3072 2048 (by decide) (m ((c : Thread nD τ).loc main_arg0)) (m ((c : Thread nD τ).loc main_arg1)) := by
  funext i
  have b0 : (i 0).val < 8320 := (i 0).isLt
  have b1 : (i 1).val < 3072 := (i 1).isLt
  have hp : Value.pt2Of i < cfg0.N := by
    rw [show cfg0.N = 78 from N_0]; show 1 * ((i 0).val / 640 - 0) + 13 * ((i 1).val / 512 - 0) < 78; omega
  have hd : Value.pt2Of i / 13 = (i 1).val / 512 := by
    show (1 * ((i 0).val / 640 - 0) + 13 * ((i 1).val / 512 - 0)) / 13 = _; omega
  have hm : Value.pt2Of i % 13 = (i 0).val / 640 := by
    show (1 * ((i 0).val / 640 - 0) + 13 * ((i 1).val / 512 - 0)) % 13 = _; omega
  obtain ⟨e0, -, -⟩ := idx ⟨Value.pt2Of i, hp⟩
  simp only [hm] at e0
  unfold Value.G2
  rw [dif_pos hp, ← Value.outsAt0_sweep m c _ hp, outs_eq m c _ hp]
  refine Cert.Columns.entry 3072 2048 (by decide) _ _ _ _ i (Value.loc2Of i) (fun k => ?_) fun k => ?_
  · blk_ext [iblk, V, e0]
  · exact weights_apply m c ⟨Value.pt2Of i, hp⟩ (Value.loc2Of i 1) k _
      (by show 2048 + (i 1).val = (4 + Value.pt2Of i / 13) * 512 + (i 1).val % 512; omega)

end Cert.XbcProjIdeal.Body

namespace Cert.XbcReferenceIdeal.Read

/-- The reference's result is the same product. -/
theorem result_eq (x0 : Vec Ideal S8320x4096 .bf16) (x1 : Vec Ideal S4096x8256 .f32) :
    val_main_v2 (F := Ideal) x0 x1 = Cert.Columns.product 3072 2048 (by decide) x0 x1 := by
  funext i
  rw [val_main_v2_apply, val_main_v1_apply]
  unfold Cert.Columns.product
  refine Finset.sum_congr rfl fun k _ => ?_
  pointwise [val_main_v0]
  congr 2
  · exact eq_ix2 (n0 := 8320) (n1 := 4096) _
  · exact eq_ix2 (n0 := 4096) (n1 := 8256) _

end Cert.XbcReferenceIdeal.Read

end
-- ==== Proof.QkvValue.lean ====
/- The attention's columns of the first mixer's input projection: the array the grid leaves is the reference's product. -/
module

public import proofs.«01_k».proof.Proof.Columns
public import proofs.«01_k».proof.Proof.Gen.QkvProjIdeal.Value
public import proofs.«01_k».proof.Proof.Gen.QkvReferenceIdeal.Read

@[expose] public section

set_option maxRecDepth 16384

noncomputable section

open Idealize.ShloMosaic Idealize.ShloMosaic.TcCoe Idealize.SL.Sem

namespace Cert.QkvProjIdeal.Body

open Cert.QkvProjIdeal Cert.QkvProjIdeal.Gen
open Cert.QkvoProjIdeal.Body (hz)

variable {F : FTy → Type} [FloatOps F] (m : (ℓ : Loc nD τ sig) → Buf (Elt F) ℓ)

/-- Row block `t % 13`, column block `t / 13`. -/
theorem idx : ∀ t : Fin cfg0.N, win0_0.index t = ![t.val % 13, 0] ∧ win0_1.index t = ![t.val / 13, 0]
    ∧ win0_2.index t = ![t.val % 13, t.val / 13] :=
  (by decide +kernel : ∀ t : Fin grid0.N, _)

theorem outs_A (c : Dev nD) (t : Fin cfg0.N) (h0 : t.val % 13 = 0) : outsAt0 m c t.val t.isLt
    = (k0_pay2 (iblk m c 0 t) (k0_pay1 (iblk m c 1 t)), k0_pay1 (iblk m c 1 t)) := by
  rw [outsAt0_A m c t h0]
  unfold out0_A_2 sout0_A_0
  rw [View.read_writes_eq_canon _ _ _ (cover0_A_2 _ _ _ _ _ _ _ _ _ _ _ _ _), View.read_writes_eq_canon _ _ _ (scover0_A_0 _ _ _ _ _ _ _ _ _ _ _ _ _)]
  unfold kernelRun0_A
  dsimp only
  sl_unfold_words
  rw [View.canon_unit_zero hz, View.canon_unit_zero hz]
  simp only [View.readAt_eq_ld, Memref.IsWhole.read_unread, View.ld_unit_zero (S := S512x4096) hz, View.ld_unit_zero (S := S640x4096) hz]
  rw [View.readCov_fill (s := S4096x512) _ _ _ _ _ (by decide), View.ld_unit_zero (S := S4096x512) hz]

theorem outs_B (c : Dev nD) (t : Fin cfg0.N) (h0 : ¬t.val % 13 = 0) : outsAt0 m c t.val t.isLt
    = (k0_pay2 (iblk m c 0 t) (outsAt0 m c (t.val - 1) (Nat.lt_of_le_of_lt (Nat.sub_le _ _) t.isLt)).2,
        (outsAt0 m c (t.val - 1) (Nat.lt_of_le_of_lt (Nat.sub_le _ _) t.isLt)).2) := by
  rw [outsAt0_B m c t h0]
  unfold out0_B_2
  rw [View.read_writes_eq_canon _ _ _ (cover0_B_2 _ _ _ _ _ _ _ _ _ _ _ _ _ _)]
  unfold kernelRun0_B
  dsimp only
  sl_unfold_words
  rw [View.canon_unit_zero hz]
  simp only [View.readAt_eq_ld, Memref.IsWhole.read_unread, View.ld_unit_zero (S := S4096x512) hz, View.ld_unit_zero (S := S640x4096) hz]
  exact congrArg₂ Prod.mk (congrArg (k0_pay2 _) ((Memref.isWhole_whole cc0_scratch0).read_unread _)) rfl

/-- The weight block staged at a point: rows of the transposed weights from 5184 on. -/
theorem weights_apply (c : Dev nD) (t : Fin cfg0.N) (n : Fin 512) (k : Fin 4096) (q : Fin 8256) (hq : q.val = 5184 + (t.val / 13 * 512 + n.val)) :
    (iblk m c 1 t) (ix2 n k) = (m ((c : Thread nD τ).loc main_arg1) : Vec F S4096x8256 .f32) (ix2 k q) := by
  have e := (idx t).2.1
  show V m c main_v1 (((cfg0.win 1).blk t).view.emb _) = _
  entry_read
  pointwise
  refine congrArg (m ((c : Thread nD τ).loc main_arg1)) (congrArg₂ (ix2 (n0 := 4096) (n1 := 8256)) (Fin.ext ?_) (Fin.ext ?_))
  · show win0_1.index t (1 : Fin 2) * 4096 + 1 * k.val = k.val
    rw [e]
    show 0 * 4096 + 1 * k.val = k.val
    omega
  · show 5184 + (win0_1.index t (0 : Fin 2) * 512 + 1 * n.val) = q.val
    rw [e]
    show 5184 + (t.val / 13 * 512 + 1 * n.val) = q.val
    omega

/-- What every point leaves. -/
theorem outs_eq (c : Dev nD) : ∀ (n : ℕ) (hn : n < cfg0.N), outsAt0 m c n hn
    = (k0_pay2 (iblk m c 0 ⟨n, hn⟩) (k0_pay1 (iblk m c 1 ⟨n, hn⟩)), k0_pay1 (iblk m c 1 ⟨n, hn⟩)) :=
  Cert.Columns.carried (outsAt0 m c) (iblk m c 0) (iblk m c 1) k0_pay2 k0_pay1 (outs_A m c) (outs_B m c) fun t t' h => by
    have hN : t.val < 78 := lt_of_lt_of_eq t.isLt N_0
    exact Cert.Columns.ext_block fun n k => (weights_apply m c t n k ⟨5184 + (t.val / 13 * 512 + n.val), by omega⟩ rfl).trans
      (weights_apply m c t' n k _ (by show 5184 + (t.val / 13 * 512 + n.val) = _; omega)).symm

/-- The kernel's array. -/
theorem array_eq (m : (ℓ : Loc nD τ sig) → Buf (Elt Ideal) ℓ) (c : Dev nD) : Value.G2 m c
    = Cert.Columns.product 3072 5184 (by decide) (m ((c : Thread nD τ).loc main_arg0)) (m ((c : Thread nD τ).loc main_arg1)) := by
  funext i
  have b0 : (i 0).val < 8320 := (i 0).isLt
  have b1 : (i 1).val < 3072 := (i 1).isLt
  have hp : Value.pt2Of i < cfg0.N := by
    rw [show cfg0.N = 78 from N_0]; show 1 * ((i 0).val / 640 - 0) + 13 * ((i 1).val / 512 - 0) < 78; omega
  have hd : Value.pt2Of i / 13 = (i 1).val / 512 := by
    show (1 * ((i 0).val / 640 - 0) + 13 * ((i 1).val / 512 - 0)) / 13 = _; omega
  have hm : Value.pt2Of i % 13 = (i 0).val / 640 := by
    show (1 * ((i 0).val / 640 - 0) + 13 * ((i 1).val / 512 - 0)) % 13 = _; omega
  obtain ⟨e0, -, -⟩ := idx ⟨Value.pt2Of i, hp⟩
  simp only [hm] at e0
  unfold Value.G2
  rw [dif_pos hp, ← Value.outsAt0_sweep m c _ hp, outs_eq m c _ hp]
  refine Cert.Columns.entry 3072 5184 (by decide) _ _ _ _ i (Value.loc2Of i) (fun k => ?_) fun k => ?_
  · blk_ext [iblk, V, e0]
  · exact weights_apply m c ⟨Value.pt2Of i, hp⟩ (Value.loc2Of i 1) k _
      (by show 5184 + (i 1).val = 5184 + (Value.pt2Of i / 13 * 512 + (i 1).val % 512); omega)

end Cert.QkvProjIdeal.Body

namespace Cert.QkvReferenceIdeal.Read

/-- The reference's result is the same product. -/
theorem result_eq (x0 : Vec Ideal S8320x4096 .bf16) (x1 : Vec Ideal S4096x8256 .f32) :
    val_main_v2 (F := Ideal) x0 x1 = Cert.Columns.product 3072 5184 (by decide) x0 x1 := by
  funext i
  rw [val_main_v2_apply, val_main_v1_apply]
  unfold Cert.Columns.product
  refine Finset.sum_congr rfl fun k _ => ?_
  pointwise [val_main_v0]
  congr 2
  · exact eq_ix2 (n0 := 8320) (n1 := 4096) _
  · exact eq_ix2 (n0 := 4096) (n1 := 8256) _

end Cert.QkvReferenceIdeal.Read

end
-- ==== Proof.FnValue.lean ====
/- The Fourier part's columns of the second mixer's input projection: the array the grid leaves is the reference's product. -/
module

public import proofs.«01_k».proof.Proof.Columns
public import proofs.«01_k».proof.Proof.Gen.FnProjIdeal.Value
public import proofs.«01_k».proof.Proof.Gen.FnReferenceIdeal.Read

@[expose] public section

set_option maxRecDepth 16384

noncomputable section

open Idealize.ShloMosaic Idealize.ShloMosaic.TcCoe Idealize.SL.Sem

namespace Cert.FnProjIdeal.Body

open Cert.FnProjIdeal Cert.FnProjIdeal.Gen
open Cert.QkvoProjIdeal.Body (hz)

variable {F : FTy → Type} [FloatOps F] (m : (ℓ : Loc nD τ sig) → Buf (Elt F) ℓ)

/-- Row block `t % 13`, column block `t / 13`. -/
theorem idx : ∀ t : Fin cfg0.N, win0_0.index t = ![t.val % 13, 0] ∧ win0_1.index t = ![t.val / 13, 0]
    ∧ win0_2.index t = ![t.val % 13, t.val / 13] :=
  (by decide +kernel : ∀ t : Fin grid0.N, _)

theorem outs_A (c : Dev nD) (t : Fin cfg0.N) (h0 : t.val % 13 = 0) : outsAt0 m c t.val t.isLt
    = (k0_pay2 (iblk m c 0 t) (k0_pay1 (iblk m c 1 t)), k0_pay1 (iblk m c 1 t)) := by
  rw [outsAt0_A m c t h0]
  unfold out0_A_2 sout0_A_0
  rw [View.read_writes_eq_canon _ _ _ (cover0_A_2 _ _ _ _ _ _ _ _ _ _ _ _ _), View.read_writes_eq_canon _ _ _ (scover0_A_0 _ _ _ _ _ _ _ _ _ _ _ _ _)]
  unfold kernelRun0_A
  dsimp only
  sl_unfold_words
  rw [View.canon_unit_zero hz, View.canon_unit_zero hz]
  simp only [View.readAt_eq_ld, Memref.IsWhole.read_unread, View.ld_unit_zero (S := S512x4096) hz, View.ld_unit_zero (S := S640x4096) hz]
  rw [View.readCov_fill (s := S4096x512) _ _ _ _ _ (by decide), View.ld_unit_zero (S := S4096x512) hz]

theorem outs_B (c : Dev nD) (t : Fin cfg0.N) (h0 : ¬t.val % 13 = 0) : outsAt0 m c t.val t.isLt
    = (k0_pay2 (iblk m c 0 t) (outsAt0 m c (t.val - 1) (Nat.lt_of_le_of_lt (Nat.sub_le _ _) t.isLt)).2,
        (outsAt0 m c (t.val - 1) (Nat.lt_of_le_of_lt (Nat.sub_le _ _) t.isLt)).2) := by
  rw [outsAt0_B m c t h0]
  unfold out0_B_2
  rw [View.read_writes_eq_canon _ _ _ (cover0_B_2 _ _ _ _ _ _ _ _ _ _ _ _ _ _)]
  unfold kernelRun0_B
  dsimp only
  sl_unfold_words
  rw [View.canon_unit_zero hz]
  simp only [View.readAt_eq_ld, Memref.IsWhole.read_unread, View.ld_unit_zero (S := S4096x512) hz, View.ld_unit_zero (S := S640x4096) hz]
  exact congrArg₂ Prod.mk (congrArg (k0_pay2 _) ((Memref.isWhole_whole cc0_scratch0).read_unread _)) rfl

/-- The weight block staged at a point: rows of the transposed weights from 9240 on. -/
theorem weights_apply (c : Dev nD) (t : Fin cfg0.N) (n : Fin 512) (k : Fin 4096) (q : Fin 10264) (hq : q.val = 9240 + (t.val / 13 * 512 + n.val)) :
    (iblk m c 1 t) (ix2 n k) = (m ((c : Thread nD τ).loc main_arg1) : Vec F S4096x10264 .f32) (ix2 k q) := by
  have e := (idx t).2.1
  show V m c main_v1 (((cfg0.win 1).blk t).view.emb _) = _
  entry_read
  pointwise
  refine congrArg (m ((c : Thread nD τ).loc main_arg1)) (congrArg₂ (ix2 (n0 := 4096) (n1 := 10264)) (Fin.ext ?_) (Fin.ext ?_))
  · show win0_1.index t (1 : Fin 2) * 4096 + 1 * k.val = k.val
    rw [e]
    show 0 * 4096 + 1 * k.val = k.val
    omega
  · show 9240 + (win0_1.index t (0 : Fin 2) * 512 + 1 * n.val) = q.val
    rw [e]
    show 9240 + (t.val / 13 * 512 + 1 * n.val) = q.val
    omega

/-- What every point leaves. -/
theorem outs_eq (c : Dev nD) : ∀ (n : ℕ) (hn : n < cfg0.N), outsAt0 m c n hn
    = (k0_pay2 (iblk m c 0 ⟨n, hn⟩) (k0_pay1 (iblk m c 1 ⟨n, hn⟩)), k0_pay1 (iblk m c 1 ⟨n, hn⟩)) :=
  Cert.Columns.carried (outsAt0 m c) (iblk m c 0) (iblk m c 1) k0_pay2 k0_pay1 (outs_A m c) (outs_B m c) fun t t' h => by
    have hN : t.val < 26 := lt_of_lt_of_eq t.isLt N_0
    exact Cert.Columns.ext_block fun n k => (weights_apply m c t n k ⟨9240 + (t.val / 13 * 512 + n.val), by omega⟩ rfl).trans
      (weights_apply m c t' n k _ (by show 9240 + (t.val / 13 * 512 + n.val) = _; omega)).symm

/-- The kernel's array. -/
theorem array_eq (m : (ℓ : Loc nD τ sig) → Buf (Elt Ideal) ℓ) (c : Dev nD) : Value.G2 m c
    = Cert.Columns.product 1024 9240 (by decide) (m ((c : Thread nD τ).loc main_arg0)) (m ((c : Thread nD τ).loc main_arg1)) := by
  funext i
  have b0 : (i 0).val < 8320 := (i 0).isLt
  have b1 : (i 1).val < 1024 := (i 1).isLt
  have hp : Value.pt2Of i < cfg0.N := by
    rw [show cfg0.N = 26 from N_0]; show 1 * ((i 0).val / 640 - 0) + 13 * ((i 1).val / 512 - 0) < 26; omega
  have hd : Value.pt2Of i / 13 = (i 1).val / 512 := by
    show (1 * ((i 0).val / 640 - 0) + 13 * ((i 1).val / 512 - 0)) / 13 = _; omega
  have hm : Value.pt2Of i % 13 = (i 0).val / 640 := by
    show (1 * ((i 0).val / 640 - 0) + 13 * ((i 1).val / 512 - 0)) % 13 = _; omega
  obtain ⟨e0, -, -⟩ := idx ⟨Value.pt2Of i, hp⟩
  simp only [hm] at e0
  unfold Value.G2
  rw [dif_pos hp, ← Value.outsAt0_sweep m c _ hp, outs_eq m c _ hp]
  refine Cert.Columns.entry 1024 9240 (by decide) _ _ _ _ i (Value.loc2Of i) (fun k => ?_) fun k => ?_
  · blk_ext [iblk, V, e0]
  · exact weights_apply m c ⟨Value.pt2Of i, hp⟩ (Value.loc2Of i 1) k _
      (by show 9240 + (i 1).val = 9240 + (Value.pt2Of i / 13 * 512 + (i 1).val % 512); omega)

end Cert.FnProjIdeal.Body

namespace Cert.FnReferenceIdeal.Read

/-- The reference's result is the same product. -/
theorem result_eq (x0 : Vec Ideal S8320x4096 .bf16) (x1 : Vec Ideal S4096x10264 .f32) :
    val_main_v2 (F := Ideal) x0 x1 = Cert.Columns.product 1024 9240 (by decide) x0 x1 := by
  funext i
  rw [val_main_v2_apply, val_main_v1_apply]
  unfold Cert.Columns.product
  refine Finset.sum_congr rfl fun k _ => ?_
  pointwise [val_main_v0]
  congr 2
  · exact eq_ix2 (n0 := 8320) (n1 := 4096) _
  · exact eq_ix2 (n0 := 4096) (n1 := 10264) _

end Cert.FnReferenceIdeal.Read

end
-- ==== Proof.QkvoValue.lean ====
/- The linear-attention input projection: the array the grid leaves, read at an index, is the reference's sum there. -/
module

public import proofs.«01_k».proof.Proof.QkvoBody
public import proofs.«01_k».proof.Proof.Gen.QkvoReferenceIdeal.Read

@[expose] public section

set_option maxRecDepth 16384

noncomputable section

open Idealize.ShloMosaic Idealize.ShloMosaic.TcCoe Idealize.SL.Sem

namespace Cert.QkvoProjIdeal.Body

open Cert.QkvoProjIdeal Cert.QkvoProjIdeal.Gen

variable (m : (ℓ : Loc nD τ sig) → Buf (Elt Ideal) ℓ)

/-- The row `i 0` of `u` times the column `i 1` of the weights, for the first 9216 columns. -/
def spec (u : Vec Ideal S8320x4096 .bf16) (w : Vec Ideal S4096x10264 .f32) : Vec Ideal S8320x9216 .f32 := fun i =>
  ∑ k : Fin 4096, u (ix2 (i 0) k) * w (ix2 k ⟨(i 1).val, lt_trans (i 1).isLt (by decide)⟩)

/-- The kernel's array. -/
theorem array_eq (c : Dev nD) : Value.G2 m c
    = spec (m ((c : Thread nD τ).loc main_arg0)) (m ((c : Thread nD τ).loc main_arg1)) := by
  funext i
  have b0 : (i 0).val < 8320 := (i 0).isLt
  have b1 : (i 1).val < 9216 := (i 1).isLt
  have hp : Value.pt2Of i < cfg0.N := by
    rw [show cfg0.N = 234 from N_0]; show 1 * ((i 0).val / 640 - 0) + 13 * ((i 1).val / 512 - 0) < 234; omega
  have hd : Value.pt2Of i / 13 = (i 1).val / 512 := by
    show (1 * ((i 0).val / 640 - 0) + 13 * ((i 1).val / 512 - 0)) / 13 = _; omega
  have hm : Value.pt2Of i % 13 = (i 0).val / 640 := by
    show (1 * ((i 0).val / 640 - 0) + 13 * ((i 1).val / 512 - 0)) % 13 = _; omega
  obtain ⟨e0, e1, e2⟩ := idx ⟨Value.pt2Of i, hp⟩
  simp only [hd, hm] at e0 e1 e2
  unfold Value.G2
  rw [dif_pos hp, ← Value.outsAt0_sweep m c _ hp, out_eq m c ⟨Value.pt2Of i, hp⟩]
  refine (congrArg (k0_pay2 _ _) (eq_ix2 (n0 := 640) (n1 := 512) (Value.loc2Of i))).trans ((block_apply _ _ _ _).trans ?_)
  unfold spec
  refine Finset.sum_congr rfl fun k _ => ?_
  congr 1
  · blk_ext [iblk, V, e0]
  · refine (weights_apply m c ⟨Value.pt2Of i, hp⟩ (Value.loc2Of i 1) k
      (by show Value.pt2Of i / 13 * 512 + (i 1).val % 512 < _; omega)).trans ?_
    congr 2
    exact Fin.ext (by show Value.pt2Of i / 13 * 512 + (i 1).val % 512 = (i 1).val; omega)

end Cert.QkvoProjIdeal.Body

namespace Cert.QkvoReferenceIdeal.Read

/-- The reference's result is the same sum. -/
theorem result_eq (x0 : Vec Ideal S8320x4096 .bf16) (x1 : Vec Ideal S4096x10264 .f32) :
    val_main_v2 (F := Ideal) x0 x1 = Cert.QkvoProjIdeal.Body.spec x0 x1 := by
  funext i
  rw [val_main_v2_apply, val_main_v1_apply]
  unfold Cert.QkvoProjIdeal.Body.spec
  refine Finset.sum_congr rfl fun k _ => ?_
  pointwise [val_main_v0]
  congr 2
  · exact eq_ix2 (n0 := 8320) (n1 := 4096) _
  · exact eq_ix2 (n0 := 4096) (n1 := 10264) _

end Cert.QkvoReferenceIdeal.Read

end
-- ==== Proof.FfnRun.lean ====
/- The expert feed-forward kernel at one grid point: the gated rows put into a slice of the scratch (first six points of
   an expert), or the down projection of all six slices (the other eight). -/
module

public import proofs.«01_k».proof.Proof.Gen.FfnIdeal.Launch
public import proofs.«01_k».proof.Proof.Gen.FfnIdeal.Skeleton
public import proofs.«01_k».proof.Proof.Gen.FfnIdeal.Points
public import proofs.«01_k».proof.Proof.Gen.FfnIdeal.Frame
public import Idealize.ShloMosaic.Lib.Pipeline.FrameBody
public import Idealize.ShloMosaic.Lib.Pipeline.ValueKit
public import Idealize.ShloMosaic.Lib.Pipeline.ReadBack
public import Idealize.ShloMosaic.Lib.Ring
public import Idealize.ShloMosaic.Lib.Tactic
public import Idealize.ShloMosaic.Lib.WordCmp
public import Idealize.ShloMosaic.Lib.WritesUnit

@[expose] public section

set_option maxRecDepth 16384

noncomputable section

namespace Cert.FfnIdeal.Body

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The position of row-and-column `y` in slice `j` of the scratch. -/
def inSlab (j : Fin 6) (y : S1x1040x256.Idx) : S6x1040x256.Idx := fun a => match a with
  | ⟨0, _⟩ => j
  | ⟨1, _⟩ => ⟨(y 1).val, (y 1).isLt⟩
  | ⟨2, _⟩ => ⟨(y 2).val, (y 2).isLt⟩

/-- Slice `j` of the scratch. -/
def slab (d : Vec F S6x1040x256 .bf16) (j : Fin 6) : Vec F S1x1040x256 .bf16 := fun y => d (inSlab j y)

/-- Row and column of a scratch position. -/
def offSlab (z : S6x1040x256.Idx) : S1x1040x256.Idx := fun a => match a with
  | ⟨0, _⟩ => ⟨0, Nat.one_pos⟩
  | ⟨1, _⟩ => ⟨(z 1).val, (z 1).isLt⟩
  | ⟨2, _⟩ => ⟨(z 2).val, (z 2).isLt⟩

/-- The scratch with slice `j` replaced. -/
def put (d : Vec F S6x1040x256 .bf16) (j : Fin 6) (w : Vec F S1x1040x256 .bf16) : Vec F S6x1040x256 .bf16 :=
  fun z => if (z 0).val = j.val then w (offSlab z) else d z

theorem offSlab_inSlab (j : Fin 6) (y : S1x1040x256.Idx) : offSlab (inSlab j y) = y := funext fun a => match a with
  | ⟨0, _⟩ => Fin.ext (by have : (y 0).val < 1 := (y 0).isLt; show 0 = (y 0).val; omega)
  | ⟨1, _⟩ => rfl
  | ⟨2, _⟩ => rfl

theorem slab_put_self (d : Vec F S6x1040x256 .bf16) (j : Fin 6) (w : Vec F S1x1040x256 .bf16) : slab (put d j w) j = w :=
  funext fun y => by
    show (if j.val = j.val then w (offSlab (inSlab j y)) else _) = w y
    rw [if_pos rfl, offSlab_inSlab]

theorem slab_put_other (d : Vec F S6x1040x256 .bf16) (j k : Fin 6) (w : Vec F S1x1040x256 .bf16) (h : k ≠ j) :
    slab (put d j w) k = slab d k :=
  funext fun y => by
    show (if k.val = j.val then w (offSlab (inSlab k y)) else d (inSlab k y)) = d (inSlab k y)
    rw [if_neg fun e => h (Fin.ext e)]

/-- A load of one whole slice. -/
theorem ld_slab (X : Vec F S6x1040x256 .bf16) (j : Fin 6)
    (inb : ∀ a, (![j.val, 0, 0] : Fin 3 → Nat) a + S1x1040x256.size a ≤ S6x1040x256.size a) :
    View.ld X (Rect.unit (s := S6x1040x256) ![j.val, 0, 0] S1x1040x256.size inb) = slab X j :=
  funext fun y => congrArg X (funext fun a => Fin.ext (match a with
    | ⟨0, _⟩ => by
      have : (y 0).val < 1 := (y 0).isLt
      show j.val + 1 * (y 0).val = j.val
      omega
    | ⟨1, _⟩ => by show 0 + 1 * (y 1).val = (y 1).val; omega
    | ⟨2, _⟩ => by show 0 + 1 * (y 2).val = (y 2).val; omega))

/-- A store of one whole slice leaves that slice replaced and the rest of the scratch as it was. -/
theorem read_put (M : Memref sig .tc .vmem S6x1040x256 .bf16) (h : M.IsWhole) (d : Vec F S6x1040x256 .bf16) (j : Fin 6)
    (off : Fin 3 → Nat) (hoff : off = ![j.val, 0, 0])
    (inb : ∀ a, off a + S1x1040x256.size a ≤ S6x1040x256.size a) (w : Vec F S1x1040x256 .bf16) :
    M.view.read (Elt F) (M.view.writes (Elt F) (h.unread d)
      [(⟨Rect.unit (s := S6x1040x256) off S1x1040x256.size inb, w⟩ : View.Piece (Elt F) S6x1040x256 .bf16)]) = put d j w := by
  funext z
  unfold put
  by_cases hj : (z 0).val = j.val
  · rw [if_pos hj]
    exact View.read_writes_cons_unit_of_mem M.view (h.unread d) inb w [] z (offSlab z) hoff fun a => match a with
      | ⟨0, _⟩ => by show (z 0).val = j.val + 0; omega
      | ⟨1, _⟩ => by show (z 1).val = 0 + (z 1).val; omega
      | ⟨2, _⟩ => by show (z 2).val = 0 + (z 2).val; omega
  · rw [if_neg hj]
    refine (View.read_writes_cons_unit_of_not_mem M.view (h.unread d) inb w [] z hoff 0 ?_).trans ?_
    · show (z 0).val < j.val ∨ j.val + 1 ≤ (z 0).val
      omega
    · exact congrFun (h.read_unread d) z

/-- Two conditions of the body: the point is one of the gating points, or one of the down-projection points. -/
abbrev condA (i : grid0.Coords) : Prop := k0_cond1 i = 1#1
abbrev condB (i : grid0.Coords) : Prop := k0_cond2 i = 1#1

/-- The down projection's loads and sums, under any table of kernel labels. -/
def downPart (Λ : Labels) (i : grid0.Coords) (arg2 : Memref sig .tc .vmem S1x1040x4096 .bf16) (harg2 : arg2.IsWhole) (arg3 : Memref sig .tc .vmem S1x1x4096x256 .f32) (harg3 : arg3.IsWhole) (arg4 : Memref sig .tc .vmem S1x1x4096x256 .f32) (harg4 : arg4.IsWhole) (arg5 : Memref sig .tc .vmem S1x1x1536x512 .f32) (harg5 : arg5.IsWhole) (arg6 : Memref sig .tc .vmem S1x1040x512 .f32) (harg6 : arg6.IsWhole) (arg7 : Memref sig .tc .vmem S6x1040x256 .bf16) (harg7 : arg7.IsWhole) :
    Prog (TpuEff nD τ sig (Elt F) Λ .tc) (FVec F S1040x512 .f32) := do
  let v6 : Vec F S1x1x1536x512 .f32 ← Prog.lift (.load arg5 (Rect.unit (s := S1x1x1536x512) ![0, 0, 0, 0] S1x1x1536x512.size inb_S1x1x1536x512_S1x1x1536x512_0_0_0_0).toLoadRect (View.loadsAt_vmem h_S1x1x1536x512))
  let v9 : Vec F S1x1040x256 .bf16 ← Prog.lift (.load arg7 (Rect.unit (s := S6x1040x256) ![0, 0, 0] S1x1040x256.size inb_S6x1040x256_S1x1040x256_0_0_0).toLoadRect (View.loadsAt_vmem h_S1x1040x256))
  let v13 : Vec F S1x1040x256 .bf16 ← Prog.lift (.load arg7 (Rect.unit (s := S6x1040x256) ![1, 0, 0] S1x1040x256.size inb_S6x1040x256_S1x1040x256_1_0_0).toLoadRect (View.loadsAt_vmem h_S1x1040x256))
  let v18 : Vec F S1x1040x256 .bf16 ← Prog.lift (.load arg7 (Rect.unit (s := S6x1040x256) ![2, 0, 0] S1x1040x256.size inb_S6x1040x256_S1x1040x256_2_0_0).toLoadRect (View.loadsAt_vmem h_S1x1040x256))
  let v23 : Vec F S1x1040x256 .bf16 ← Prog.lift (.load arg7 (Rect.unit (s := S6x1040x256) ![3, 0, 0] S1x1040x256.size inb_S6x1040x256_S1x1040x256_3_0_0).toLoadRect (View.loadsAt_vmem h_S1x1040x256))
  let v28 : Vec F S1x1040x256 .bf16 ← Prog.lift (.load arg7 (Rect.unit (s := S6x1040x256) ![4, 0, 0] S1x1040x256.size inb_S6x1040x256_S1x1040x256_4_0_0).toLoadRect (View.loadsAt_vmem h_S1x1040x256))
  let v33 : Vec F S1x1040x256 .bf16 ← Prog.lift (.load arg7 (Rect.unit (s := S6x1040x256) ![5, 0, 0] S1x1040x256.size inb_S6x1040x256_S1x1040x256_5_0_0).toLoadRect (View.loadsAt_vmem h_S1x1040x256))
  pure (k0_pay3 v6 v9 v13 v18 v23 v28 v33)

/-- The kernel, under any table of kernel labels: the two layers' calls are this one program under their own tables. -/
def body (Λ : Labels) (i : grid0.Coords) (arg2 : Memref sig .tc .vmem S1x1040x4096 .bf16) (harg2 : arg2.IsWhole) (arg3 : Memref sig .tc .vmem S1x1x4096x256 .f32) (harg3 : arg3.IsWhole) (arg4 : Memref sig .tc .vmem S1x1x4096x256 .f32) (harg4 : arg4.IsWhole) (arg5 : Memref sig .tc .vmem S1x1x1536x512 .f32) (harg5 : arg5.IsWhole) (arg6 : Memref sig .tc .vmem S1x1040x512 .f32) (harg6 : arg6.IsWhole) (arg7 : Memref sig .tc .vmem S6x1040x256 .bf16) (harg7 : arg7.IsWhole) :
    Prog (TpuEff nD τ sig (Elt F) Λ .tc) PUnit := do

  if k0_h1 : k0_cond1 i = 1#1 then do
    let v6 : Vec F S1x1040x4096 .bf16 ← Prog.lift (.load arg2 (Rect.unit (s := S1x1040x4096) ![0, 0, 0] S1x1040x4096.size inb_S1x1040x4096_S1x1040x4096_0_0_0).toLoadRect (View.loadsAt_vmem h_S1x1040x4096))
    let v8 : Vec F S1x1x4096x256 .f32 ← Prog.lift (.load arg3 (Rect.unit (s := S1x1x4096x256) ![0, 0, 0, 0] S1x1x4096x256.size inb_S1x1x4096x256_S1x1x4096x256_0_0_0_0).toLoadRect (View.loadsAt_vmem h_S1x1x4096x256))
    let v12 : Vec F S1x1x4096x256 .f32 ← Prog.lift (.load arg4 (Rect.unit (s := S1x1x4096x256) ![0, 0, 0, 0] S1x1x4096x256.size inb_S1x1x4096x256_S1x1x4096x256_0_0_0_0).toLoadRect (View.loadsAt_vmem h_S1x1x4096x256))

    let v27 : Vec F S1x1040x256 .bf16 ← Prog.lift (.load arg7 (Rect.unit (s := S6x1040x256) (k0_off1 i) S1x1040x256.size (k0_off1_inb i k0_h1)).toLoadRect (View.loadsAt_vmem h_S1x1040x256))

    Prog.lift (.store arg7 (Rect.unit (s := S6x1040x256) (k0_off1 i) S1x1040x256.size (k0_off1_inb i k0_h1)) (k0_pay1 v6 v8 v12) Finset.univ (View.stores_vmem h_S1x1040x256 (harg7.storeExact_slice rfl _ (k0_off1_packedbf16 i k0_h1)) (fun _ => rfl)) (.inl rfl))
    pure ⟨⟩
  else do
    pure ⟨⟩

  if k0_h2 : k0_cond2 i = 1#1 then do
    let v37 : FVec F S1040x512 .f32 ← downPart Λ i arg2 harg2 arg3 harg3 arg4 harg4 arg5 harg5 arg6 harg6 arg7 harg7
    let v38 : Vec F S1x1040x512 .f32 ← Prog.lift (.load arg6 (Rect.unit (s := S1x1040x512) ![0, 0, 0] S1x1040x512.size inb_S1x1040x512_S1x1040x512_0_0_0).toLoadRect (View.loadsAt_vmem h_S1x1040x512))

    Prog.lift (.store arg6 (Rect.unit (s := S1x1040x512) ![0, 0, 0] S1x1040x512.size inb_S1x1040x512_S1x1040x512_0_0_0) (k0_pay2 v37) Finset.univ (View.stores_vmem_bits_univ h_S1x1040x512 rfl) (.inl rfl))
    pure ⟨⟩
  else do
    pure ⟨⟩
  pure ⟨⟩

/-- The first layer's. -/
theorem body_eq : cc0_expert_ffn (F := F) = body (F := F) Λ₀ := rfl

set_option maxHeartbeats 1000000 in
/-- At a gating point the kernel replaces one slice of the scratch by the gated rows and touches nothing else. -/
theorem run_gate {Λ : Labels} (D : Defs nD τ sig (Elt F) Λ) (c : Dev nD) (i : grid0.Coords) (arg2 : Memref sig .tc .vmem S1x1040x4096 .bf16) (harg2 : arg2.IsWhole) (arg3 : Memref sig .tc .vmem S1x1x4096x256 .f32) (harg3 : arg3.IsWhole) (arg4 : Memref sig .tc .vmem S1x1x4096x256 .f32) (harg4 : arg4.IsWhole) (arg5 : Memref sig .tc .vmem S1x1x1536x512 .f32) (harg5 : arg5.IsWhole) (arg6 : Memref sig .tc .vmem S1x1040x512 .f32) (harg6 : arg6.IsWhole) (arg7 : Memref sig .tc .vmem S6x1040x256 .bf16) (harg7 : arg7.IsWhole)
    (hA : condA i) (hB : ¬condB i) (j : Fin 6) (hoff : k0_off1 i = ![j.val, 0, 0])
    (x0 : Vec F S1x1040x4096 .bf16) (x1 : Vec F S1x1x4096x256 .f32) (x2 : Vec F S1x1x4096x256 .f32) (x3 : Vec F S1x1x1536x512 .f32)
    (x4 : Vec F S1x1040x512 .f32) (d : Vec F S6x1040x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (put d j (k0_pay1 x0 x1 x2))) -∗ K ⟨⟩))
          ⊢ wp frame (wpE D Variants.none c none) E (body Λ i arg2 harg2 arg3 harg3 arg4 harg4 arg5 harg5 arg6 harg6 arg7 harg7) K := by
    intro E K
    unfold body
    unfold owns
    iintro ⟨⟨%f0, %hf0, H0⟩, ⟨%f1, %hf1, H1⟩, ⟨%f2, %hf2, H2⟩, ⟨%f3, %hf3, H3⟩, ⟨%f4, %hf4, H4⟩, ⟨%fs0, %hfs, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs
    sl_exec (disch := first | sl_exact hA | sl_exact hB)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; isplitr; swap; · iexact HS0
    ipureintro
    refine (read_put arg7 harg7 d j _ hoff _ _).trans ?_
    simp only [View.readAt_eq_ld, harg2.read_unread, harg3.read_unread, harg4.read_unread,
      View.ld_unit_zero (S := S1x1040x4096) hz3, View.ld_unit_zero (S := S1x1x4096x256) hz4]

set_option maxHeartbeats 1000000 in
/-- At a down-projection point the kernel fills its output block from the six slices and touches nothing else. -/
theorem run_down {Λ : Labels} (D : Defs nD τ sig (Elt F) Λ) (c : Dev nD) (i : grid0.Coords) (arg2 : Memref sig .tc .vmem S1x1040x4096 .bf16) (harg2 : arg2.IsWhole) (arg3 : Memref sig .tc .vmem S1x1x4096x256 .f32) (harg3 : arg3.IsWhole) (arg4 : Memref sig .tc .vmem S1x1x4096x256 .f32) (harg4 : arg4.IsWhole) (arg5 : Memref sig .tc .vmem S1x1x1536x512 .f32) (harg5 : arg5.IsWhole) (arg6 : Memref sig .tc .vmem S1x1040x512 .f32) (harg6 : arg6.IsWhole) (arg7 : Memref sig .tc .vmem S6x1040x256 .bf16) (harg7 : arg7.IsWhole)
    (hA : ¬condA i) (hB : condB i)
    (x0 : Vec F S1x1040x4096 .bf16) (x1 : Vec F S1x1x4096x256 .f32) (x2 : Vec F S1x1x4096x256 .f32) (x3 : Vec F S1x1x1536x512 .f32)
    (x4 : Vec F S1x1040x512 .f32) (d : Vec F S6x1040x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay2 (k0_pay3 x3 (slab d 0) (slab d 1) (slab d 2) (slab d 3) (slab d 4) (slab d 5))) ∗ owns (c : Thread nD τ) arg7 fullShare d) -∗ K ⟨⟩))
          ⊢ wp frame (wpE D Variants.none c none) E (body Λ i arg2 harg2 arg3 harg3 arg4 harg4 arg5 harg5 arg6 harg6 arg7 harg7) K := by
    intro E K
    unfold body downPart
    unfold owns
    iintro ⟨⟨%f0, %hf0, H0⟩, ⟨%f1, %hf1, H1⟩, ⟨%f2, %hf2, H2⟩, ⟨%f3, %hf3, H3⟩, ⟨%f4, %hf4, H4⟩, ⟨%fs0, %hfs, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs
    sl_exec (disch := first | sl_exact hA | sl_exact hB)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      refine (View.read_writes_eq_canon _ _ _ (fun y => ⟨_, List.mem_singleton.mpr rfl, View.mem_set_unit_zero hz3 inb_S1x1040x512_S1x1040x512_0_0_0 y⟩)).trans ?_
      sl_unfold_words
      rw [View.canon_unit_zero hz3]
      simp only [View.readAt_eq_ld, harg5.read_unread, harg7.read_unread, View.ld_unit_zero (S := S1x1x1536x512) hz4]
      have e0 := ld_slab d 0 inb_S6x1040x256_S1x1040x256_0_0_0
      have e1 := ld_slab d 1 inb_S6x1040x256_S1x1040x256_1_0_0
      have e2 := ld_slab d 2 inb_S6x1040x256_S1x1040x256_2_0_0
      have e3 := ld_slab d 3 inb_S6x1040x256_S1x1040x256_3_0_0
      have e4 := ld_slab d 4 inb_S6x1040x256_S1x1040x256_4_0_0
      have e5 := ld_slab d 5 inb_S6x1040x256_S1x1040x256_5_0_0
      rw [← e0, ← e1, ← e2, ← e3, ← e4, ← e5]
      rfl
    iexists _; isplitr; swap; · iexact HS0
    ipureintro; exact harg7.read_unread _

end Cert.FfnIdeal.Body

end
-- ==== Proof.FfnStep.lean ====
/- One step of the expert feed-forward's walk, for any weight blocks: the scratch's invariant goes one position on, and a
   down-projection point fills its output block. -/
module

public import proofs.«01_k».proof.Proof.FfnRun

@[expose] public section

set_option maxRecDepth 16384

noncomputable section

namespace Cert.FfnIdeal.Body

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The expert a position of the walk belongs to. -/
def expertOf (n : ℕ) : Fin 16 := ⟨n / 14 % 16, Nat.mod_lt _ (by decide)⟩

/-- Before position `n` of the walk: the slices this expert's points have already gated, `G`'s, are in the scratch. -/
def Holds (G : Fin 16 → Fin 6 → Vec F S1x1040x256 .bf16) (n : ℕ) (d : Vec F S6x1040x256 .bf16) : Prop :=
  ∀ j : Fin 6, j.val < n % 14 → slab d j = G (expertOf n) j

/-- The output block of a down-projection point, from its block of the down weights and six slices. -/
def downOf (x3 : Vec F S1x1x1536x512 .f32) (g : Fin 6 → Vec F S1x1040x256 .bf16) : Vec F S1x1040x512 .f32 :=
  k0_pay2 (k0_pay3 x3 (g 0) (g 1) (g 2) (g 3) (g 4) (g 5))

theorem expert_succ (n : ℕ) (h : n % 14 < 13) : expertOf (n + 1) = expertOf n :=
  Fin.ext (by show (n + 1) / 14 % 16 = n / 14 % 16; omega)

theorem Holds_gate (G : Fin 16 → Fin 6 → Vec F S1x1040x256 .bf16) (n : ℕ) (h : n % 14 ≤ 5) (d : Vec F S6x1040x256 .bf16) (hd : Holds G n d)
    (w : Vec F S1x1040x256 .bf16) (hw : G (expertOf n) ⟨n % 14, by omega⟩ = w) : Holds G (n + 1) (put d ⟨n % 14, by omega⟩ w) := by
  intro j hj
  rw [expert_succ n (by omega)]
  by_cases e : j.val = n % 14
  · have ej : j = ⟨n % 14, by omega⟩ := Fin.ext e
    rw [ej, slab_put_self, hw]
  · rw [slab_put_other _ _ _ _ fun ej => e (congrArg Fin.val ej)]
    exact hd j (by omega)

theorem Holds_down (G : Fin 16 → Fin 6 → Vec F S1x1040x256 .bf16) (n : ℕ) (h : 6 ≤ n % 14) (d : Vec F S6x1040x256 .bf16) (hd : Holds G n d) :
    Holds G (n + 1) d := by
  intro j hj
  rw [expert_succ n (by omega)]
  exact hd j (by omega)

theorem down_eq (G : Fin 16 → Fin 6 → Vec F S1x1040x256 .bf16) (n : ℕ) (h : 6 ≤ n % 14) (d : Vec F S6x1040x256 .bf16) (hd : Holds G n d)
    (x3 : Vec F S1x1x1536x512 .f32) : k0_pay2 (k0_pay3 x3 (slab d 0) (slab d 1) (slab d 2) (slab d 3) (slab d 4) (slab d 5)) = downOf x3 (G (expertOf n)) := by
  unfold downOf
  have k : ∀ j : Fin 6, slab d j = G (expertOf n) j := fun j => hd j (by omega)
  rw [k 0, k 1, k 2, k 3, k 4, k 5]

set_option maxHeartbeats 800000 in
/-- The kernel at position `n`, whichever of the two kinds of point it is. -/
theorem step {Λ : Labels} (D : Defs nD τ sig (Elt F) Λ) (c : Dev nD) (i : grid0.Coords) (arg2 : Memref sig .tc .vmem S1x1040x4096 .bf16) (harg2 : arg2.IsWhole) (arg3 : Memref sig .tc .vmem S1x1x4096x256 .f32) (harg3 : arg3.IsWhole) (arg4 : Memref sig .tc .vmem S1x1x4096x256 .f32) (harg4 : arg4.IsWhole) (arg5 : Memref sig .tc .vmem S1x1x1536x512 .f32) (harg5 : arg5.IsWhole) (arg6 : Memref sig .tc .vmem S1x1040x512 .f32) (harg6 : arg6.IsWhole) (arg7 : Memref sig .tc .vmem S6x1040x256 .bf16) (harg7 : arg7.IsWhole)
    (n : ℕ) (hA : condA i ↔ n % 14 ≤ 5) (hB : condB i ↔ 6 ≤ n % 14) (hoff : k0_off1 i = ![n % 14, 0, 0])
    (G : Fin 16 → Fin 6 → Vec F S1x1040x256 .bf16)
    (x0 : Vec F S1x1040x4096 .bf16) (x1 : Vec F S1x1x4096x256 .f32) (x2 : Vec F S1x1x4096x256 .f32) (x3 : Vec F S1x1x1536x512 .f32)
    (x4 : Vec F S1x1040x512 .f32) (hG : ∀ h : n % 14 ≤ 5, G (expertOf n) ⟨n % 14, by omega⟩ = k0_pay1 x0 x1 x2) :
      ∀ (E : Set ℕ) (K : PUnit → sProp 𝕄),
        iprop(iprop(∃ d, ⌜Holds G n d⌝ ∗ owns (c : Thread nD τ) arg7 fullShare d)
            ∗ owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (iprop(iprop(∃ d, ⌜Holds G (n + 1) d⌝ ∗ owns (c : Thread nD τ) arg7 fullShare d)
              ∗ owns (c : Thread nD τ) arg2 fullShare x0 ∗ owns (c : Thread nD τ) arg3 fullShare x1 ∗ owns (c : Thread nD τ) arg4 fullShare x2 ∗ owns (c : Thread nD τ) arg5 fullShare x3
              ∗ owns (c : Thread nD τ) arg6 fullShare (if 6 ≤ n % 14 then downOf x3 (G (expertOf n)) else x4)) -∗ K ⟨⟩))
          ⊢ wp frame (wpE D Variants.none c none) E (body Λ i arg2 harg2 arg3 harg3 arg4 harg4 arg5 harg5 arg6 harg6 arg7 harg7) K := by
  intro E K
  by_cases h : 6 ≤ n % 14
  · rw [if_pos h]
    iintro ⟨⟨%d, %hd, HS⟩, H0, H1, H2, H3, H4, Hk⟩
    rw [← down_eq G n h d hd]
    iapply (run_down D c i arg2 harg2 arg3 harg3 arg4 harg4 arg5 harg5 arg6 harg6 arg7 harg7 (fun e => by have := hA.mp e; omega) (hB.mpr h) x0 x1 x2 x3 x4 d E K)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    iapply Hk
    isplitl [HS]
    · iexists d; isplitr; · ipureintro; exact Holds_down G n h d hd
      iexact HS
    isplitl [H0]; · iexact H0
    isplitl [H1]; · iexact H1
    isplitl [H2]; · iexact H2
    isplitl [H3]; · iexact H3
    iexact H4
  · rw [if_neg h]
    have h5 : n % 14 ≤ 5 := by omega
    iintro ⟨⟨%d, %hd, HS⟩, H0, H1, H2, H3, H4, Hk⟩
    iapply (run_gate D c i arg2 harg2 arg3 harg3 arg4 harg4 arg5 harg5 arg6 harg6 arg7 harg7 (hA.mpr h5) (fun e => h (hB.mp e)) ⟨n % 14, by omega⟩ hoff x0 x1 x2 x3 x4 d E K)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    iapply Hk
    isplitl [HS]
    · iexists _; isplitr; swap; · iexact HS
      ipureintro; exact Holds_gate G n h5 d hd _ (hG h5)
    isplitl [H0]; · iexact H0
    isplitl [H1]; · iexact H1
    isplitl [H2]; · iexact H2
    isplitl [H3]; · iexact H3
    iexact H4

end Cert.FfnIdeal.Body

end
-- ==== Proof.FfnTwoFrame.lean ====
/- The second layer's expert feed-forward call over its whole grid: what the scratch carries from point to point, and that the kernel
   runs, leaves its arguments alone and ends quiescent. -/
module

public import proofs.«01_k».proof.Proof.FfnStep
public import proofs.«01_k».proof.Proof.Gen.FfnTwoIdeal.Launch
public import proofs.«01_k».proof.Proof.Gen.FfnTwoIdeal.Skeleton
public import proofs.«01_k».proof.Proof.Gen.FfnTwoIdeal.Points
public import proofs.«01_k».proof.Proof.Gen.FfnTwoIdeal.Frame
public import Idealize.ShloMosaic.Lib.Claim

@[expose] public section

set_option maxRecDepth 65536

noncomputable section

namespace Cert.FfnTwoIdeal.Body

open Cert.FfnTwoIdeal Cert.FfnTwoIdeal.Gen
open Cert.FfnIdeal.Body (expertOf Holds downOf step condA condB)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid: fourteen points per expert, six that gate and eight that project down -/

theorem points : cfg0.N = 224 := N_0

theorem condA_iff : ∀ t : Fin cfg0.N, condA (grid0.coords t) ↔ t.val % 14 ≤ 5 :=
  (by decide +kernel : ∀ t : Fin grid0.N, condA (grid0.coords t) ↔ t.val % 14 ≤ 5)

theorem condB_iff : ∀ t : Fin cfg0.N, condB (grid0.coords t) ↔ 6 ≤ t.val % 14 :=
  (by decide +kernel : ∀ t : Fin grid0.N, condB (grid0.coords t) ↔ 6 ≤ t.val % 14)

theorem off_eq : ∀ t : Fin cfg0.N, k0_off1 (grid0.coords t) = ![t.val % 14, 0, 0] :=
  (by decide +kernel : ∀ t : Fin grid0.N, k0_off1 (grid0.coords t) = ![t.val % 14, 0, 0])

/-- The output is written back exactly at the down-projection points. -/
theorem flush_iff : ∀ t : Fin cfg0.N, (cfg0.win 4).flush t = true ↔ 6 ≤ t.val % 14 :=
  (by decide +kernel : ∀ t : Fin grid0.N, win0_4.flush t = true ↔ 6 ≤ t.val % 14)

/-- … and untouched exactly at the others. -/
theorem idle_iff : ∀ t : Fin cfg0.N, cfg0.idle 4 (grid0.coords t) = true ↔ ¬ 6 ≤ t.val % 14 :=
  (by decide +kernel : ∀ t : Fin grid0.N, idle0 4 (grid0.coords t) = true ↔ ¬ 6 ≤ t.val % 14)

/-- The gating point of expert `e` that computes slice `j`. -/
def gatePoint (e : Fin 16) (j : Fin 6) : Fin cfg0.N := ⟨e.val * 14 + j.val, by rw [points]; omega⟩

/-! ## What the scratch holds -/

/-- Slice `j` of expert `e`: the gated rows its gating point computes from that point's blocks. -/
def gated (c : Dev nD) (e : Fin 16) (j : Fin 6) : Vec F S1x1040x256 .bf16 :=
  k0_pay1 (iblk m c 0 (gatePoint e j)) (iblk m c 1 (gatePoint e j)) (iblk m c 2 (gatePoint e j))

/-- The gating point of position `t`'s expert and slice is `t`. -/
theorem gated_at (c : Dev nD) (t : Fin cfg0.N) (h : t.val % 14 ≤ 5) :
    gated m c (expertOf t.val) ⟨t.val % 14, by omega⟩ = k0_pay1 (iblk m c 0 t) (iblk m c 1 t) (iblk m c 2 t) := by
  have hN : t.val < 224 := lt_of_lt_of_eq t.isLt points
  have et : gatePoint (expertOf t.val) ⟨t.val % 14, by omega⟩ = t := Fin.ext (by show t.val / 14 % 16 * 14 + t.val % 14 = t.val; omega)
  unfold gated
  rw [et]

/-- The output block of a down-projection point. -/
def downBlock (c : Dev nD) (t : Fin cfg0.N) : Vec F S1x1040x512 .f32 := downOf (iblk m c 3 t) (gated m c (expertOf t.val))

/-! ## The proof data -/

/-- The staging memrefs at a point, and the scratch. -/
abbrev ms0_0 (t : Fin cfg0.N) : Memref sig .tc .vmem S1x1040x4096 .bf16 := win0_0.stage (cfg0.slots t 0)
abbrev ms0_1 (t : Fin cfg0.N) : Memref sig .tc .vmem S1x1x4096x256 .f32 := win0_1.stage (cfg0.slots t 1)
abbrev ms0_2 (t : Fin cfg0.N) : Memref sig .tc .vmem S1x1x4096x256 .f32 := win0_2.stage (cfg0.slots t 2)
abbrev ms0_3 (t : Fin cfg0.N) : Memref sig .tc .vmem S1x1x1536x512 .f32 := win0_3.stage (cfg0.slots t 3)
abbrev ms0_4 (t : Fin cfg0.N) : Memref sig .tc .vmem S1x1040x512 .f32 := win0_4.stage (cfg0.slots t 4)
abbrev scM : Memref sig .tc .vmem S6x1040x256 .bf16 := Memref.whole cc0_scratch0

/-- What the launch hands over: the scratch at anything, and the generator register. -/
theorem launch_rest (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The invariant before position `n`: the scratch, holding the slices gated so far, and the generator register. -/
def Carried (c : Dev nD) (n : ℕ) : sProp 𝕄 :=
  iprop(iprop(∃ d, ⌜Holds (gated m c) n d⌝ ∗ owns (c : Thread nD τ) scM fullShare d) ∗ (∃ r, prngReg c r))

/-- Inputs stay at their blocks, the output at the expert's down-projected block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => downBlock m c t
  Φ n := Carried m c n.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = downBlock m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The inputs are live everywhere, so each is left at its block; -/
theorem leaves0 (c : Dev nD) (t : Fin cfg0.N) : (dats m 0 c).leavesExact 0 t = owns (c : Thread nD τ) (ms0_0 t) fullShare (iblk m c 0 t) := by
  unfold Dat.leavesExact; rw [show cfg0.idle 0 (grid0.coords t) = false from rfl, after0_0]
theorem leaves1 (c : Dev nD) (t : Fin cfg0.N) : (dats m 0 c).leavesExact 1 t = owns (c : Thread nD τ) (ms0_1 t) fullShare (iblk m c 1 t) := by
  unfold Dat.leavesExact; rw [show cfg0.idle 1 (grid0.coords t) = false from rfl, after0_1]
theorem leaves2 (c : Dev nD) (t : Fin cfg0.N) : (dats m 0 c).leavesExact 2 t = owns (c : Thread nD τ) (ms0_2 t) fullShare (iblk m c 2 t) := by
  unfold Dat.leavesExact; rw [show cfg0.idle 2 (grid0.coords t) = false from rfl, after0_2]
theorem leaves3 (c : Dev nD) (t : Fin cfg0.N) : (dats m 0 c).leavesExact 3 t = owns (c : Thread nD τ) (ms0_3 t) fullShare (iblk m c 3 t) := by
  unfold Dat.leavesExact; rw [show cfg0.idle 3 (grid0.coords t) = false from rfl, after0_3]
/-- the output at what it held at a gating point, at its block at a down-projection point. -/
theorem leaves4_gate (c : Dev nD) (t : Fin cfg0.N) (h : ¬ 6 ≤ t.val % 14) :
    (dats m 0 c).leavesExact 4 t = iprop(∃ d, owns (c : Thread nD τ) (ms0_4 t) fullShare ((dats m 0 c).before 4 t d)) :=
  Dat.leavesExact_idle _ 4 t ((idle_iff t).mpr h) (Bool.eq_false_iff.mpr fun e => h ((flush_iff t).mp e))
theorem leaves4_down (c : Dev nD) (t : Fin cfg0.N) (h : 6 ≤ t.val % 14) :
    (dats m 0 c).leavesExact 4 t = owns (c : Thread nD τ) (ms0_4 t) fullShare (downBlock m c t) := by
  have hi : cfg0.idle 4 (grid0.coords t) = false := Bool.eq_false_iff.mpr fun e => (idle_iff t).mp e h
  unfold Dat.leavesExact; rw [hi, after0_4]

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

/-- The second layer's kernel is the first's under its own label table. -/
theorem body_same : @cc0_expert_ffn F _ Cert.FfnTwoIdeal.Gen.facts = @Cert.FfnIdeal.Body.body F _ Λ₀ := rfl

set_option maxHeartbeats 800000 in
/-- The body carries the invariant one position on. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    show (dats m 0 c).Φ t.succ = Carried m c (t.val + 1) from rfl,
    show (dats m 0 c).Φ t.castSucc = Carried m c t.val from rfl,
    leaves0, leaves1, leaves2, leaves3]
  unfold Carried
  rw [body_same]
  iintro ⟨⟨HS, Hg⟩, Ho, ⟨%d0, H0⟩, ⟨%d1, H1⟩, ⟨%d2, H2⟩, ⟨%d3, H3⟩, ⟨%d4, H4⟩⟩
  iapply (step defs₀ c (grid0.coords t) _ _ _ _ _ _ _ _ _ _ _ _ t.val (condA_iff t) (condB_iff t) (off_eq t) (gated m c)
    (iblk m c 0 t) (iblk m c 1 t) (iblk m c 2 t) (iblk m c 3 t) _ (gated_at m c t) Set.univ _)
  isplitl [HS]; · iexact HS
  isplitl [H0]; · iexact H0
  isplitl [H1]; · iexact H1
  isplitl [H2]; · iexact H2
  isplitl [H3]; · iexact H3
  isplitl [H4]; · iexact H4
  iintro ⟨HS, H0, H1, H2, H3, H4⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  by_cases h : 6 ≤ t.val % 14
  · rw [leaves4_down m c t h, if_pos h]
    iexact H4
  · rw [leaves4_gate m c t h, if_neg h]
    iexists d4; iexact H4

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- Before the first point no slice is required. -/
theorem carried_start (c : Dev nD) : Pipeline.ΦA spec0 c ⊢ (dats m 0 c).Φ 0 := by
  rw [show (dats m 0 c).Φ 0 = Carried m c 0 from rfl, launch_rest]
  unfold Carried
  iintro ⟨⟨%d, HS⟩, Hg⟩
  isplitl [HS]
  · iexists d; isplitr; · ipureintro; exact fun j hj => absurd hj (Nat.not_lt_zero _)
    iexact HS
  iexact Hg

/-- After the last the scratch's contents are dropped. -/
theorem carried_end (c : Dev nD) : (dats m 0 c).Φ (Fin.last cfg0.N) ⊢ Pipeline.ΦA spec0 c := by
  rw [show (dats m 0 c).Φ (Fin.last cfg0.N) = Carried m c cfg0.N from rfl, launch_rest]
  unfold Carried
  iintro ⟨⟨%d, %hd, HS⟩, Hg⟩
  isplitl [HS]
  · iexists d; iexact HS
  iexact Hg

/-! ## The run -/

set_option backward.isDefEq.respectTransparency.types false in
/-- The whole launch: every window's array as the walk leaves it, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := carried_start m) (hout := carried_end m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged, the machine quiescent. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.FfnTwoIdeal.Body

end
-- ==== Proof.FfnBits.lean ====
/- The expert feed-forward program and the one read ideally are the same text, so the frame proved for any float values is
   the printed program's too. -/
module

public import proofs.«01_k».proof.Proof.FfnFrame
public import proofs.«01_k».proof.Proof.FfnTwoFrame
public import proofs.«01_k».proof.Proof.Gen.Ffn
public import proofs.«01_k».proof.Proof.Gen.FfnTwo

@[expose] public section

set_option maxRecDepth 65536

noncomputable section

open Idealize.ShloMosaic

namespace Cert.Ffn.Body

/-- The two kernel bodies are one function; -/
theorem body_same : @Cert.Ffn.defs₀ Bits _ Cert.Ffn.Gen.facts = @Cert.FfnIdeal.defs₀ Bits _ Cert.FfnIdeal.Gen.facts := by
  unfold Cert.Ffn.defs₀ Cert.FfnIdeal.defs₀
  refine congrArg Defs.onTc (funext fun l => funext fun p => ?_)
  match l, p with
  | 0, (t, s) => rfl

/-- so are the two body tables. -/
theorem table_same : @Cert.Ffn.defs Bits _ Cert.Ffn.Gen.facts = @Cert.FfnIdeal.defs Bits _ Cert.FfnIdeal.Gen.facts :=
  congrArg (Pipeline.defs (Cert.FfnIdeal.pcfgs (F := Bits))) body_same

end Cert.Ffn.Body

namespace Cert.FfnTwo.Body

/-- The two kernel bodies are one function; -/
theorem body_same : @Cert.FfnTwo.defs₀ Bits _ Cert.FfnTwo.Gen.facts = @Cert.FfnTwoIdeal.defs₀ Bits _ Cert.FfnTwoIdeal.Gen.facts := by
  unfold Cert.FfnTwo.defs₀ Cert.FfnTwoIdeal.defs₀
  refine congrArg Defs.onTc (funext fun l => funext fun p => ?_)
  match l, p with
  | 0, (t, s) => rfl

/-- so are the two body tables. -/
theorem table_same : @Cert.FfnTwo.defs Bits _ Cert.FfnTwo.Gen.facts = @Cert.FfnTwoIdeal.defs Bits _ Cert.FfnTwoIdeal.Gen.facts :=
  congrArg (Pipeline.defs (Cert.FfnTwoIdeal.pcfgs (F := Bits))) body_same

end Cert.FfnTwo.Body

end
-- ==== Proof.FfnValue.lean ====
/- The expert feed-forward call: the array the grid leaves, read at an index, is the reference's sum there. -/
module

public import proofs.«01_k».proof.Proof.FfnFrame
public import proofs.«01_k».proof.Proof.Gen.FfnReferenceIdeal.Read
public import Idealize.ShloMosaic.Lib.Pointwise

@[expose] public section

set_option maxRecDepth 16384

noncomputable section

open Idealize.ShloMosaic Idealize.ShloMosaic.TcCoe Idealize.SL.Sem

namespace Cert.FfnIdeal.Body

open Cert.FfnIdeal Cert.FfnIdeal.Gen
open Idealize.ShloMosaic.Pipeline (Dat)

/-! ## What the call computes -/

/-- The gate: `a` times its logistic, times `b`. -/
def gate (a b : EReal) : EReal := a * Ideal.div 1 (1 + Ideal.exp (-a)) * b

/-- Hidden unit `f` of expert `e` at row `r`: the gate of the row's two products with the unit's weight columns. -/
def hidden (L : Fin 2) (x : Vec Ideal S16x1040x4096 .bf16) (g u : Vec Ideal S2x16x4096x1536 .f32) (e : Fin 16) (r : Fin 1040) (f : Fin 1536) : EReal :=
  gate (∑ k : Fin 4096, x (ix3 e r k) * g (ix4 L e k f)) (∑ k : Fin 4096, x (ix3 e r k) * u (ix4 L e k f))

/-- Every row of every expert: its hidden units times the down weights. -/
def spec (L : Fin 2) (x : Vec Ideal S16x1040x4096 .bf16) (g u : Vec Ideal S2x16x4096x1536 .f32) (w : Vec Ideal S2x16x1536x4096 .f32) :
    Vec Ideal S16x1040x4096 .f32 := fun i =>
  ∑ f : Fin 1536, hidden L x g u (i 0) (i 1) f * w (ix4 L (i 0) f (i 2))

/-- A sum over the hidden units is the six sums over the slices, added from the left. -/
theorem sum_slices (t : Fin 1536 → EReal) :
    (∑ n : Fin 256, t ⟨n.val, by omega⟩) + (∑ n : Fin 256, t ⟨256 + n.val, by omega⟩) + (∑ n : Fin 256, t ⟨512 + n.val, by omega⟩)
      + (∑ n : Fin 256, t ⟨768 + n.val, by omega⟩) + (∑ n : Fin 256, t ⟨1024 + n.val, by omega⟩) + (∑ n : Fin 256, t ⟨1280 + n.val, by omega⟩)
      = ∑ f : Fin 1536, t f := by
  rw [Fin.sum_univ_add (a := 1280) (b := 256) (M := EReal), Fin.sum_univ_add (a := 1024) (b := 256) (M := EReal),
    Fin.sum_univ_add (a := 768) (b := 256) (M := EReal), Fin.sum_univ_add (a := 512) (b := 256) (M := EReal),
    Fin.sum_univ_add (a := 256) (b := 256) (M := EReal)]
  rfl

/-! ## What a block holds, from its operands -/

/-- The gated rows at a row and a column. -/
theorem pay1_apply (x : Vec Ideal S1x1040x4096 .bf16) (g u : Vec Ideal S1x1x4096x256 .f32) (r : Fin 1040) (n : Fin 256) :
    (k0_pay1 x g u : Vec Ideal S1x1040x256 .bf16) (ix3 0 r n)
      = gate (∑ k : Fin 4096, x (ix3 0 r k) * g (ix4 0 0 k n)) (∑ k : Fin 4096, x (ix3 0 r k) * u (ix4 0 0 k n)) := by
  unfold gate
  unfold_payloads
  pointwise [dot_S1040x4096_S4096x256_S1040x256_1_0_0_1_n_n]
  rw [zero_sub]

/-- The down-projected block at a row and a column, slice by slice. -/
theorem pay3_apply (w : Vec Ideal S1x1x1536x512 .f32) (h0 h1 h2 h3 h4 h5 : Vec Ideal S1x1040x256 .bf16) (r : Fin 1040) (n : Fin 512) :
    (k0_pay2 (k0_pay3 w h0 h1 h2 h3 h4 h5) : Vec Ideal S1x1040x512 .f32) (ix3 0 r n)
      = (∑ k : Fin 256, h0 (ix3 0 r k) * w (ix4 0 0 ⟨k.val, by omega⟩ n)) + (∑ k : Fin 256, h1 (ix3 0 r k) * w (ix4 0 0 ⟨256 + k.val, by omega⟩ n))
        + (∑ k : Fin 256, h2 (ix3 0 r k) * w (ix4 0 0 ⟨512 + k.val, by omega⟩ n)) + (∑ k : Fin 256, h3 (ix3 0 r k) * w (ix4 0 0 ⟨768 + k.val, by omega⟩ n))
        + (∑ k : Fin 256, h4 (ix3 0 r k) * w (ix4 0 0 ⟨1024 + k.val, by omega⟩ n)) + (∑ k : Fin 256, h5 (ix3 0 r k) * w (ix4 0 0 ⟨1280 + k.val, by omega⟩ n)) := by
  unfold_payloads
  pointwise [dot_S1040x256_S256x512_S1040x512_1_0_0_1_n_n]

/-- A gated block, once its row block and its two weight blocks are known at a row and a column. -/
theorem pay1_hidden (L : Fin 2) (x : Vec Ideal S16x1040x4096 .bf16) (g u : Vec Ideal S2x16x4096x1536 .f32) (x0 : Vec Ideal S1x1040x4096 .bf16)
    (x1 x2 : Vec Ideal S1x1x4096x256 .f32) (e : Fin 16) (r : Fin 1040) (n : Fin 256) (f : Fin 1536) (h0 : ∀ k : Fin 4096, x0 (ix3 0 r k) = x (ix3 e r k))
    (h1 : ∀ k : Fin 4096, x1 (ix4 0 0 k n) = g (ix4 L e k f)) (h2 : ∀ k : Fin 4096, x2 (ix4 0 0 k n) = u (ix4 L e k f)) :
    (k0_pay1 x0 x1 x2 : Vec Ideal S1x1040x256 .bf16) (ix3 0 r n) = hidden L x g u e r f := by
  refine (pay1_apply _ _ _ r n).trans ?_
  unfold hidden
  exact congrArg₂ gate (Finset.sum_congr rfl fun k _ => congrArg₂ (· * ·) (h0 k) (h1 k)) (Finset.sum_congr rfl fun k _ => congrArg₂ (· * ·) (h0 k) (h2 k))

/-- Six sums whose terms are a slice's each, added from the left, are the sum over the hidden units. -/
theorem sum_slices_of (t : Fin 1536 → EReal) {s0 s1 s2 s3 s4 s5 : Fin 256 → EReal} (h0 : ∀ k, s0 k = t ⟨k.val, by omega⟩)
    (h1 : ∀ k, s1 k = t ⟨256 + k.val, by omega⟩) (h2 : ∀ k, s2 k = t ⟨512 + k.val, by omega⟩) (h3 : ∀ k, s3 k = t ⟨768 + k.val, by omega⟩)
    (h4 : ∀ k, s4 k = t ⟨1024 + k.val, by omega⟩) (h5 : ∀ k, s5 k = t ⟨1280 + k.val, by omega⟩) :
    (∑ n, s0 n) + (∑ n, s1 n) + (∑ n, s2 n) + (∑ n, s3 n) + (∑ n, s4 n) + (∑ n, s5 n) = ∑ f, t f := by
  rw [← sum_slices, funext h0, funext h1, funext h2, funext h3, funext h4, funext h5]

/-- A down-projected block at a row and a column is the call's value, once the slices and the weight block are known. -/
theorem downOf_apply (L : Fin 2) (x : Vec Ideal S16x1040x4096 .bf16) (g u : Vec Ideal S2x16x4096x1536 .f32) (w : Vec Ideal S2x16x1536x4096 .f32)
    (G : Fin 6 → Vec Ideal S1x1040x256 .bf16) (x3 : Vec Ideal S1x1x1536x512 .f32) (i : S16x1040x4096.Idx) (r : Fin 1040) (n : Fin 512) (hr : r = i 1)
    (hG : ∀ (j : Fin 6) (k : Fin 256) (f : Fin 1536), f.val = 256 * j.val + k.val → G j (ix3 0 r k) = hidden L x g u (i 0) r f)
    (h3 : ∀ f : Fin 1536, x3 (ix4 0 0 f n) = w (ix4 L (i 0) f (i 2))) : downOf x3 G (ix3 0 r n) = spec L x g u w i := by
  have term : ∀ (j : Fin 6) (k : Fin 256) (f : Fin 1536), f.val = 256 * j.val + k.val →
      G j (ix3 0 r k) * x3 (ix4 0 0 f n) = hidden L x g u (i 0) (i 1) f * w (ix4 L (i 0) f (i 2)) := fun j k f hf => by
    rw [hG j k f hf, h3 f, hr]
  unfold downOf
  refine (pay3_apply _ _ _ _ _ _ _ r n).trans (sum_slices_of _ (fun k => ?_) (fun k => ?_) (fun k => ?_) (fun k => ?_) (fun k => ?_) fun k => ?_)
  · exact term 0 k _ (Nat.zero_add _).symm
  · exact term 1 k _ rfl
  · exact term 2 k _ rfl
  · exact term 3 k _ rfl
  · exact term 4 k _ rfl
  · exact term 5 k _ rfl

/-! ## A point's blocks -/

variable (m : (ℓ : Loc nD τ sig) → Buf (Elt Ideal) ℓ)

/-- The block indices: expert `t / 14`, hidden slice `t % 14` (the last one held), output columns `t % 14 - 6`. -/
theorem idx : ∀ t : Fin cfg0.N, win0_0.index t = ![t.val / 14, 0, 0] ∧ win0_1.index t = ![0, t.val / 14, 0, min (t.val % 14) 5]
    ∧ win0_2.index t = ![0, t.val / 14, 0, min (t.val % 14) 5] ∧ win0_3.index t = ![0, t.val / 14, 0, t.val % 14 - 6]
    ∧ win0_4.index t = ![t.val / 14, 0, t.val % 14 - 6] :=
  (by decide +kernel : ∀ t : Fin grid0.N, _)

/-- Slice `j` of expert `e` holds hidden units `256 j …`. -/
theorem gated_apply (c : Dev nD) (e : Fin 16) (j : Fin 6) (r : Fin 1040) (n : Fin 256) (f : Fin 1536) (hf : f.val = 256 * j.val + n.val) :
    gated m c e j (ix3 0 r n) = hidden 0 (m ((c : Thread nD τ).loc main_arg0)) (m ((c : Thread nD τ).loc main_arg1))
      (m ((c : Thread nD τ).loc main_arg2)) e r f := by
  have hd : (gatePoint e j).val / 14 = e.val := by show (e.val * 14 + j.val) / 14 = _; omega
  have hm : min ((gatePoint e j).val % 14) 5 = j.val := by show min ((e.val * 14 + j.val) % 14) 5 = _; omega
  obtain ⟨e0, e1, e2, -, -⟩ := idx (gatePoint e j)
  rw [hd] at e0
  rw [hd, hm] at e1 e2
  refine pay1_hidden 0 _ _ _ _ _ _ e r n f (fun k => ?_) (fun k => ?_) fun k => ?_
  · blk_ext [iblk, V, e0]
  · blk_ext [iblk, V, e1]
  · blk_ext [iblk, V, e2]

/-- A down-projection point's block at a row and a column is the call's value there. -/
theorem downBlock_apply (c : Dev nD) (t : Fin cfg0.N) (r : Fin 1040) (n : Fin 512)
    (i : S16x1040x4096.Idx) (hi0 : (i 0).val = t.val / 14) (hi1 : (i 1).val = r.val) (hi2 : (i 2).val = (t.val % 14 - 6) * 512 + n.val) :
    downBlock m c t (ix3 0 r n) = spec 0 (m ((c : Thread nD τ).loc main_arg0)) (m ((c : Thread nD τ).loc main_arg1))
      (m ((c : Thread nD τ).loc main_arg2)) (m ((c : Thread nD τ).loc main_arg3)) i := by
  have hN : t.val < 224 := lt_of_lt_of_eq t.isLt points
  have he : expertOf t.val = i 0 := Fin.ext (by show t.val / 14 % 16 = (i 0).val; omega)
  obtain ⟨-, -, -, e3, -⟩ := idx t
  unfold downBlock
  rw [he]
  refine downOf_apply 0 _ _ _ _ (gated m c (i 0)) (iblk m c 3 t) i r n (Fin.ext hi1.symm) (fun j k f hf => gated_apply m c (i 0) j r k f hf) fun f => ?_
  blk_ext [iblk, V, e3]

/-! ## The whole array -/

/-- What a down-projection point writes back is its block of the call's value. -/
theorem flushed_eq (c : Dev nD) (t : Fin cfg0.N) (hf : (cfg0.win 4).flush t = true) :
    (dats m 0 c).flushed 4 t = ((cfg0.win 4).blk t).view.read (Elt Ideal) (spec 0 (m ((c : Thread nD τ).loc main_arg0))
      (m ((c : Thread nD τ).loc main_arg1)) (m ((c : Thread nD τ).loc main_arg2)) (m ((c : Thread nD τ).loc main_arg3))) := by
  have h := (flush_iff t).mp hf
  have e := (idx t).2.2.2.2
  have q0 : win0_4.index t (0 : Fin 3) = t.val / 14 := congrFun e 0
  have q1 : win0_4.index t (1 : Fin 3) = 0 := congrFun e 1
  have q2 : win0_4.index t (2 : Fin 3) = t.val % 14 - 6 := congrFun e 2
  show (cfg0.win 4).cut (grid0.coords t) ((dats m 0 c).after 4 t) = _
  rw [after0_4]
  funext y
  have hy0 : (y 0).val < 1 := (y 0).isLt
  have hx : (cfg0.win 4).xinj (grid0.coords t) y = ix3 (0 : Fin 1) (⟨(y 1).val, (y 1).isLt⟩ : Fin 1040) (⟨(y 2).val, (y 2).isLt⟩ : Fin 512) :=
    funext fun a => Fin.ext (match a with
      | ⟨0, _⟩ => by show (y 0).val = 0; omega
      | ⟨1, _⟩ => rfl
      | ⟨2, _⟩ => rfl)
  show downBlock m c t ((cfg0.win 4).xinj (grid0.coords t) y) = spec 0 _ _ _ _ (((cfg0.win 4).blk t).view.emb y)
  refine (congrArg (downBlock m c t) hx).trans (downBlock_apply m c t _ _ _ ?_ ?_ ?_)
  · show win0_4.index t (0 : Fin 3) * 1 + 1 * (y 0).val = _; omega
  · show win0_4.index t (1 : Fin 3) * 1040 + 1 * (y 1).val = (y 1).val; omega
  · show win0_4.index t (2 : Fin 3) * 512 + 1 * (y 2).val = (t.val % 14 - 6) * 512 + (y 2).val; omega

/-- Every index of the array is in the block some down-projection point writes back. -/
theorem covered (i : S16x1040x4096.Idx) : ∃ t : Fin cfg0.N, (cfg0.win 4).flush t = true ∧ i ∈ ((cfg0.win 4).blk t).view.set := by
  have b0 : (i 0).val < 16 := (i 0).isLt
  have b1 : (i 1).val < 1040 := (i 1).isLt
  have b2 : (i 2).val < 4096 := (i 2).isLt
  have hp : (i 0).val * 14 + (6 + (i 2).val / 512) < cfg0.N := by rw [points]; omega
  refine ⟨⟨_, hp⟩, (flush_iff _).mpr ?_, ?_⟩
  · show 6 ≤ ((i 0).val * 14 + (6 + (i 2).val / 512)) % 14; omega
  have e := (idx ⟨_, hp⟩).2.2.2.2
  have q0 : win0_4.index ⟨_, hp⟩ (0 : Fin 3) = ((i 0).val * 14 + (6 + (i 2).val / 512)) / 14 := congrFun e 0
  have q1 : win0_4.index ⟨_, hp⟩ (1 : Fin 3) = 0 := congrFun e 1
  have q2 : win0_4.index ⟨_, hp⟩ (2 : Fin 3) = ((i 0).val * 14 + (6 + (i 2).val / 512)) % 14 - 6 := congrFun e 2
  show i ∈ ((View.whole main_v0).slice (win0_4.rect ⟨_, hp⟩)).set
  rw [View.set_slice_whole, Rect.mem_set_unit]
  intro a
  match a with
  | ⟨0, _⟩ => show win0_4.index ⟨_, hp⟩ (0 : Fin 3) * 1 ≤ (i 0).val ∧ (i 0).val < win0_4.index ⟨_, hp⟩ (0 : Fin 3) * 1 + 1; omega
  | ⟨1, _⟩ => show win0_4.index ⟨_, hp⟩ (1 : Fin 3) * 1040 ≤ (i 1).val ∧ (i 1).val < win0_4.index ⟨_, hp⟩ (1 : Fin 3) * 1040 + 1040; omega
  | ⟨2, _⟩ => show win0_4.index ⟨_, hp⟩ (2 : Fin 3) * 512 ≤ (i 2).val ∧ (i 2).val < win0_4.index ⟨_, hp⟩ (2 : Fin 3) * 512 + 512; omega

theorem array_eq (c : Dev nD) : (dats m 0 c).arrAt 4 cfg0.N = spec 0 (m ((c : Thread nD τ).loc main_arg0))
    (m ((c : Thread nD τ).loc main_arg1)) (m ((c : Thread nD τ).loc main_arg2)) (m ((c : Thread nD τ).loc main_arg3)) :=
  (dats m 0 c).arrAt_eq_of_cover 4 _ (flushed_eq m c) covered

/-- The launch, its result named. -/
theorem run (ρ : Dev nD → PrngReg) : θ_run defs (onTc (τ := τ) (main (F := Ideal))) ⟨m, fun _ => 0, ρ⟩ fun r => ∀ c : Dev nD,
      r.2.mem ((c : Thread nD τ).loc main_v0) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h.1 c).1 4, h.2.1 c⟩) (θ_run_and (run_main m ρ) (frame m ρ))

end Cert.FfnIdeal.Body

namespace Cert.FfnReferenceIdeal.Read

/-- The reference's result is the same sum. -/
theorem result_eq (x0 : Vec Ideal S16x1040x4096 .bf16) (x1 x2 : Vec Ideal S2x16x4096x1536 .f32) (x3 : Vec Ideal S2x16x1536x4096 .f32) :
    val_main_v11 (F := Ideal) x0 x1 x2 x3 = Cert.FfnIdeal.Body.spec 0 x0 x1 x2 x3 := by
  funext i
  rw [val_main_v11_apply]
  unfold Cert.FfnIdeal.Body.spec Cert.FfnIdeal.Body.hidden Cert.FfnIdeal.Body.gate
  refine Finset.sum_congr rfl fun f _ => ?_
  have el : ∀ k : Fin 4096, lidx_main_v7 (lidx_main_v11 i f) k = ix3 (i 0) (i 1) k := fun k => eq_ix3 _
  have er : ∀ k : Fin 4096, lidx_main_v9 (lidx_main_v11 i f) k = ix3 (i 0) (i 1) k := fun k => eq_ix3 _
  pointwise [val_main_v10, val_main_v8, val_main_v7_apply, val_main_v9_apply, val_main_call0_v5, val_main_call0_v4,
    val_main_call0_v3, val_main_call0_v2, val_main_call0_v1, val_main_call0_v0, val_main_v6, val_main_v5, val_main_v4,
    val_main_v3, val_main_v2, val_main_v1, val_main_v0, val_main_call0_cst, val_main_call0_cst_0]
  simp only [el, er]
  rfl

end Cert.FfnReferenceIdeal.Read

end
-- ==== Proof.FfnTwoValue.lean ====
/- The second layer's expert feed-forward call: the array the grid leaves, read at an index, is the reference's sum there. -/
module

public import proofs.«01_k».proof.Proof.FfnTwoFrame
public import proofs.«01_k».proof.Proof.FfnValue
public import proofs.«01_k».proof.Proof.Gen.FfnTwoReferenceIdeal.Read

@[expose] public section

set_option maxRecDepth 16384

noncomputable section

open Idealize.ShloMosaic Idealize.ShloMosaic.TcCoe Idealize.SL.Sem

namespace Cert.FfnTwoIdeal.Body

open Cert.FfnTwoIdeal Cert.FfnTwoIdeal.Gen
open Cert.FfnIdeal.Body (expertOf spec hidden pay1_hidden downOf_apply)
open Idealize.ShloMosaic.Pipeline (Dat)

/-! ## A point's blocks -/

variable (m : (ℓ : Loc nD τ sig) → Buf (Elt Ideal) ℓ)

/-- The block indices: expert `t / 14`, hidden slice `t % 14` (the last one held), output columns `t % 14 - 6`. -/
theorem idx : ∀ t : Fin cfg0.N, win0_0.index t = ![t.val / 14, 0, 0] ∧ win0_1.index t = ![1, t.val / 14, 0, min (t.val % 14) 5]
    ∧ win0_2.index t = ![1, t.val / 14, 0, min (t.val % 14) 5] ∧ win0_3.index t = ![1, t.val / 14, 0, t.val % 14 - 6]
    ∧ win0_4.index t = ![t.val / 14, 0, t.val % 14 - 6] :=
  (by decide +kernel : ∀ t : Fin grid0.N, _)

/-- Slice `j` of expert `e` holds hidden units `256 j …`. -/
theorem gated_apply (c : Dev nD) (e : Fin 16) (j : Fin 6) (r : Fin 1040) (n : Fin 256) (f : Fin 1536) (hf : f.val = 256 * j.val + n.val) :
    gated m c e j (ix3 0 r n) = hidden 1 (m ((c : Thread nD τ).loc main_arg0)) (m ((c : Thread nD τ).loc main_arg1))
      (m ((c : Thread nD τ).loc main_arg2)) e r f := by
  have hd : (gatePoint e j).val / 14 = e.val := by show (e.val * 14 + j.val) / 14 = _; omega
  have hm : min ((gatePoint e j).val % 14) 5 = j.val := by show min ((e.val * 14 + j.val) % 14) 5 = _; omega
  obtain ⟨e0, e1, e2, -, -⟩ := idx (gatePoint e j)
  rw [hd] at e0
  rw [hd, hm] at e1 e2
  refine pay1_hidden 1 _ _ _ _ _ _ e r n f (fun k => ?_) (fun k => ?_) fun k => ?_
  · blk_ext [iblk, V, e0]
  · blk_ext [iblk, V, e1]
  · blk_ext [iblk, V, e2]

/-- A down-projection point's block at a row and a column is the call's value there. -/
theorem downBlock_apply (c : Dev nD) (t : Fin cfg0.N) (r : Fin 1040) (n : Fin 512)
    (i : S16x1040x4096.Idx) (hi0 : (i 0).val = t.val / 14) (hi1 : (i 1).val = r.val) (hi2 : (i 2).val = (t.val % 14 - 6) * 512 + n.val) :
    downBlock m c t (ix3 0 r n) = spec 1 (m ((c : Thread nD τ).loc main_arg0)) (m ((c : Thread nD τ).loc main_arg1))
      (m ((c : Thread nD τ).loc main_arg2)) (m ((c : Thread nD τ).loc main_arg3)) i := by
  have hN : t.val < 224 := lt_of_lt_of_eq t.isLt points
  have he : expertOf t.val = i 0 := Fin.ext (by show t.val / 14 % 16 = (i 0).val; omega)
  obtain ⟨-, -, -, e3, -⟩ := idx t
  unfold downBlock
  rw [he]
  refine downOf_apply 1 _ _ _ _ (gated m c (i 0)) (iblk m c 3 t) i r n (Fin.ext hi1.symm) (fun j k f hf => gated_apply m c (i 0) j r k f hf) fun f => ?_
  blk_ext [iblk, V, e3]

/-! ## The whole array -/

/-- What a down-projection point writes back is its block of the call's value. -/
theorem flushed_eq (c : Dev nD) (t : Fin cfg0.N) (hf : (cfg0.win 4).flush t = true) :
    (dats m 0 c).flushed 4 t = ((cfg0.win 4).blk t).view.read (Elt Ideal) (spec 1 (m ((c : Thread nD τ).loc main_arg0))
      (m ((c : Thread nD τ).loc main_arg1)) (m ((c : Thread nD τ).loc main_arg2)) (m ((c : Thread nD τ).loc main_arg3))) := by
  have h := (flush_iff t).mp hf
  have e := (idx t).2.2.2.2
  have q0 : win0_4.index t (0 : Fin 3) = t.val / 14 := congrFun e 0
  have q1 : win0_4.index t (1 : Fin 3) = 0 := congrFun e 1
  have q2 : win0_4.index t (2 : Fin 3) = t.val % 14 - 6 := congrFun e 2
  show (cfg0.win 4).cut (grid0.coords t) ((dats m 0 c).after 4 t) = _
  rw [after0_4]
  funext y
  have hy0 : (y 0).val < 1 := (y 0).isLt
  have hx : (cfg0.win 4).xinj (grid0.coords t) y = ix3 (0 : Fin 1) (⟨(y 1).val, (y 1).isLt⟩ : Fin 1040) (⟨(y 2).val, (y 2).isLt⟩ : Fin 512) :=
    funext fun a => Fin.ext (match a with
      | ⟨0, _⟩ => by show (y 0).val = 0; omega
      | ⟨1, _⟩ => rfl
      | ⟨2, _⟩ => rfl)
  show downBlock m c t ((cfg0.win 4).xinj (grid0.coords t) y) = spec 1 _ _ _ _ (((cfg0.win 4).blk t).view.emb y)
  refine (congrArg (downBlock m c t) hx).trans (downBlock_apply m c t _ _ _ ?_ ?_ ?_)
  · show win0_4.index t (0 : Fin 3) * 1 + 1 * (y 0).val = _; omega
  · show win0_4.index t (1 : Fin 3) * 1040 + 1 * (y 1).val = (y 1).val; omega
  · show win0_4.index t (2 : Fin 3) * 512 + 1 * (y 2).val = (t.val % 14 - 6) * 512 + (y 2).val; omega

/-- Every index of the array is in the block some down-projection point writes back. -/
theorem covered (i : S16x1040x4096.Idx) : ∃ t : Fin cfg0.N, (cfg0.win 4).flush t = true ∧ i ∈ ((cfg0.win 4).blk t).view.set := by
  have b0 : (i 0).val < 16 := (i 0).isLt
  have b1 : (i 1).val < 1040 := (i 1).isLt
  have b2 : (i 2).val < 4096 := (i 2).isLt
  have hp : (i 0).val * 14 + (6 + (i 2).val / 512) < cfg0.N := by rw [points]; omega
  refine ⟨⟨_, hp⟩, (flush_iff _).mpr ?_, ?_⟩
  · show 6 ≤ ((i 0).val * 14 + (6 + (i 2).val / 512)) % 14; omega
  have e := (idx ⟨_, hp⟩).2.2.2.2
  have q0 : win0_4.index ⟨_, hp⟩ (0 : Fin 3) = ((i 0).val * 14 + (6 + (i 2).val / 512)) / 14 := congrFun e 0
  have q1 : win0_4.index ⟨_, hp⟩ (1 : Fin 3) = 0 := congrFun e 1
  have q2 : win0_4.index ⟨_, hp⟩ (2 : Fin 3) = ((i 0).val * 14 + (6 + (i 2).val / 512)) % 14 - 6 := congrFun e 2
  show i ∈ ((View.whole main_v0).slice (win0_4.rect ⟨_, hp⟩)).set
  rw [View.set_slice_whole, Rect.mem_set_unit]
  intro a
  match a with
  | ⟨0, _⟩ => show win0_4.index ⟨_, hp⟩ (0 : Fin 3) * 1 ≤ (i 0).val ∧ (i 0).val < win0_4.index ⟨_, hp⟩ (0 : Fin 3) * 1 + 1; omega
  | ⟨1, _⟩ => show win0_4.index ⟨_, hp⟩ (1 : Fin 3) * 1040 ≤ (i 1).val ∧ (i 1).val < win0_4.index ⟨_, hp⟩ (1 : Fin 3) * 1040 + 1040; omega
  | ⟨2, _⟩ => show win0_4.index ⟨_, hp⟩ (2 : Fin 3) * 512 ≤ (i 2).val ∧ (i 2).val < win0_4.index ⟨_, hp⟩ (2 : Fin 3) * 512 + 512; omega

theorem array_eq (c : Dev nD) : (dats m 0 c).arrAt 4 cfg0.N = spec 1 (m ((c : Thread nD τ).loc main_arg0))
    (m ((c : Thread nD τ).loc main_arg1)) (m ((c : Thread nD τ).loc main_arg2)) (m ((c : Thread nD τ).loc main_arg3)) :=
  (dats m 0 c).arrAt_eq_of_cover 4 _ (flushed_eq m c) covered

/-- The launch, its result named. -/
theorem run (ρ : Dev nD → PrngReg) : θ_run defs (onTc (τ := τ) (main (F := Ideal))) ⟨m, fun _ => 0, ρ⟩ fun r => ∀ c : Dev nD,
      r.2.mem ((c : Thread nD τ).loc main_v0) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h.1 c).1 4, h.2.1 c⟩) (θ_run_and (run_main m ρ) (frame m ρ))

end Cert.FfnTwoIdeal.Body

namespace Cert.FfnTwoReferenceIdeal.Read

/-- The reference's result is the same sum. -/
theorem result_eq (x0 : Vec Ideal S16x1040x4096 .bf16) (x1 x2 : Vec Ideal S2x16x4096x1536 .f32) (x3 : Vec Ideal S2x16x1536x4096 .f32) :
    val_main_v11 (F := Ideal) x0 x1 x2 x3 = Cert.FfnIdeal.Body.spec 1 x0 x1 x2 x3 := by
  funext i
  rw [val_main_v11_apply]
  unfold Cert.FfnIdeal.Body.spec Cert.FfnIdeal.Body.hidden Cert.FfnIdeal.Body.gate
  refine Finset.sum_congr rfl fun f _ => ?_
  have el : ∀ k : Fin 4096, lidx_main_v7 (lidx_main_v11 i f) k = ix3 (i 0) (i 1) k := fun k => eq_ix3 _
  have er : ∀ k : Fin 4096, lidx_main_v9 (lidx_main_v11 i f) k = ix3 (i 0) (i 1) k := fun k => eq_ix3 _
  pointwise [val_main_v10, val_main_v8, val_main_v7_apply, val_main_v9_apply, val_main_call0_v5, val_main_call0_v4,
    val_main_call0_v3, val_main_call0_v2, val_main_call0_v1, val_main_call0_v0, val_main_v6, val_main_v5, val_main_v4,
    val_main_v3, val_main_v2, val_main_v1, val_main_v0, val_main_call0_cst, val_main_call0_cst_0]
  simp only [el, er]
  rfl

end Cert.FfnTwoReferenceIdeal.Read

end
-- ==== Proof.RootMean.lean ====
/- Root-mean-square scaling: of one row, of a row's 512-column groups, and of a 128-row block of one group as the
   kernels compute it. -/
module

public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.Tactic
public import Idealize.ShloMosaic.PureOps.Ideal.Laws

@[expose] public section

set_option maxRecDepth 16384

noncomputable section

open Idealize.ShloMosaic

namespace Cert.RootMean

/-- One over the root mean square of `n` numbers, `n` and the small constant added given as words. -/
def scaleOf {n : ℕ} (count : BitVec 32) (x : Fin n → EReal) : EReal :=
  Ideal.rsqrt (Ideal.div (∑ k : Fin n, x k * x k) (FloatOps.ofBits (F := Ideal) .f32 count)
    + FloatOps.ofBits (F := Ideal) .f32 0x358637BD#32)

/-- Column `k` of the 512-column group column `q` is in. -/
def groupCol {C : ℕ} (hC : 512 ∣ C) (q : Fin C) (k : Fin 512) : Fin C :=
  ⟨512 * (q.val / 512) + k.val, by have := q.isLt; have := k.isLt; omega⟩

/-- An entry over the root mean square of its group, times its column's weight. -/
def grouped {R C : ℕ} (hC : 512 ∣ C) (h : Fin R → Fin C → EReal) (w : Fin C → EReal) (r : Fin R) (q : Fin C) : EReal :=
  h r q * scaleOf 0x44000000#32 (fun k : Fin 512 => h r (groupCol hC q k)) * w q

/-- The grouped value reads its own row and its own weight alone. -/
theorem grouped_congr {R R' C : ℕ} (hC : 512 ∣ C) {h : Fin R → Fin C → EReal} {h' : Fin R' → Fin C → EReal} {w w' : Fin C → EReal}
    {r : Fin R} {r' : Fin R'} (q : Fin C) (e : ∀ k, h r k = h' r' k) (f : w q = w' q) : grouped hC h w r q = grouped hC h' w' r' q := by
  unfold grouped
  rw [e q, f, funext fun k => e (groupCol hC q k)]

/-- The logistic function. -/
def sigmoid (a : EReal) : EReal := Ideal.div 1 (1 + Ideal.exp (-a))

variable {F : FTy → Type} [FloatOps F]

/-- A block's rows over their root mean squares, times the weights: the kernels' sequence of operations. -/
def normed (h1 : Shape.Reduces ⟨2, ![128, 512]⟩ [1] ⟨1, ![128]⟩) (h2 : Shape.ShapeCasts ⟨1, ![128]⟩ ⟨2, ![128, 1]⟩)
    (h3 : Shape.Broadcasts ⟨2, ![128, 1]⟩ ⟨2, ![128, 512]⟩) (h4 : Shape.ShapeCasts ⟨2, ![1, 512]⟩ ⟨2, ![1, 512]⟩)
    (h5 : Shape.Broadcasts ⟨2, ![1, 512]⟩ ⟨2, ![128, 512]⟩) (v : FVec F ⟨2, ![128, 512]⟩ .f32) (w : FVec F ⟨2, ![1, 512]⟩ .f32) :
    FVec F ⟨2, ![128, 512]⟩ .f32 :=
  mulf (mulf v (broadcastTo ⟨2, ![128, 512]⟩ (rsqrt (addf (divf (shapeCast ⟨2, ![128, 1]⟩
    (multiReduction .add [1] ⟨1, ![128]⟩ (mulf v v) 0x00000000#32 h1 (.inl rfl) rfl) h2)
    (broadcast ⟨2, ![128, 1]⟩ (Scalar.ofBits .f32 0x44000000#32))) (broadcast ⟨2, ![128, 1]⟩ (Scalar.ofBits .f32 0x358637BD#32)))) h3))
    (broadcastTo ⟨2, ![128, 512]⟩ (shapeCast ⟨2, ![1, 512]⟩ w h4) h5)

theorem normed_apply (h1 h2 h3 h4 h5) (v : FVec Ideal ⟨2, ![128, 512]⟩ .f32) (w : FVec Ideal ⟨2, ![1, 512]⟩ .f32) (r : Fin 128) (n : Fin 512) :
    normed h1 h2 h3 h4 h5 v w (ix2 r n) = v (ix2 r n) * scaleOf 0x44000000#32 (fun k : Fin 512 => v (ix2 r k)) * w (ix2 0 n) := by
  unfold scaleOf
  pointwise [normed]

/-- A group's columns of a wide block, so normalised, are the wide block's grouped values. -/
theorem normed_slice {C : ℕ} (hC : 512 ∣ C) (g : ℕ) (hg : 512 * g + 512 ≤ C) (h1 h2 h3 h4 h5)
    (s : Shape.Slices ⟨2, ![128, C]⟩ ![0, 512 * g] ⟨2, ![128, 512]⟩) (v : FVec Ideal ⟨2, ![128, C]⟩ .f32) (w : FVec Ideal ⟨2, ![1, 512]⟩ .f32)
    (w' : Fin C → EReal) (r : Fin 128) (n : Fin 512) (q : Fin C) (hq : q.val = 512 * g + n.val) (hw : w (ix2 0 n) = w' q) :
    normed h1 h2 h3 h4 h5 (extractStridedSlice ⟨2, ![128, 512]⟩ ![0, 512 * g] v s) w (ix2 r n) = grouped hC (fun r q => v (ix2 r q)) w' r q := by
  have e : ∀ (k : Fin 512) (p : Fin C), p.val = 512 * g + k.val →
      extractStridedSlice ⟨2, ![128, 512]⟩ ![0, 512 * g] v s (ix2 r k) = v (ix2 r p) := fun k p hp =>
    congrArg v (funext fun a => Fin.ext (match a with
      | ⟨0, _⟩ => Nat.zero_add _
      | ⟨1, _⟩ => hp.symm))
  rw [normed_apply, e n q hq, hw]
  unfold grouped
  refine congrArg (fun x => v (ix2 r q) * scaleOf 0x44000000#32 x * w' q) (funext fun k => e k _ ?_)
  have := n.isLt
  show 512 * (q.val / 512) + k.val = 512 * g + k.val
  omega

end Cert.RootMean

end
-- ==== Proof.NormValue.lean ====
/- The row normalisation: the array the grid leaves, read at an index, is the reference's there. -/
module

public import proofs.«01_k».proof.Proof.Gen.NormIdeal.Value
public import proofs.«01_k».proof.Proof.Gen.NormReferenceIdeal.Read
public import proofs.«01_k».proof.Proof.RootMean

@[expose] public section

set_option maxRecDepth 16384

noncomputable section

open Idealize.ShloMosaic Idealize.ShloMosaic.TcCoe Idealize.SL.Sem

namespace Cert.Norm

open Cert.RootMean (scaleOf)

/-- A row over its root mean square, times a weight of each column. -/
def rows (h : Vec Ideal ⟨2, ![8320, 4096]⟩ .f32) (w : Vec Ideal ⟨1, ![4096]⟩ .f32) : Vec Ideal ⟨2, ![8320, 4096]⟩ .bf16 := fun i =>
  h i * scaleOf 0x45800000#32 (fun k : Fin 4096 => h (ix2 (i 0) k)) * w (ix1 (i 1))

end Cert.Norm

namespace Cert.NormIdeal.Body

open Cert.NormIdeal Cert.NormIdeal.Gen
open Cert.RootMean (scaleOf)
open Cert.Norm (rows)

/-- A block's row over its root mean square, times the weights. -/
theorem block_apply (x : Vec Ideal S640x4096 .f32) (w : Vec Ideal S1x4096 .f32) (r : Fin 640) (n : Fin 4096) :
    k0_pay1 (F := Ideal) x w (ix2 r n) = x (ix2 r n) * scaleOf 0x45800000#32 (fun k : Fin 4096 => x (ix2 r k)) * w (ix2 0 n) := by
  unfold scaleOf
  pointwise [k0_pay1]

variable (m : (ℓ : Loc nD τ sig) → Buf (Elt Ideal) ℓ)

theorem points : cfg0.N = 13 := by decide

/-- The block indices: 640 rows a point. -/
theorem idx : ∀ t : Fin cfg0.N, win0_0.index t = ![t.val, 0] ∧ win0_1.index t = ![0, 0] ∧ win0_2.index t = ![t.val, 0] :=
  (by decide +kernel : ∀ t : Fin grid0.N, _)

/-- What a point writes back is its block of the reference's array. -/
theorem flushed_eq (c : Dev nD) (t : Fin cfg0.N) (hf : (cfg0.win 2).flush t = true) :
    (dats m 0 c).flushed 2 t = ((cfg0.win 2).blk t).view.read (Elt Ideal)
      (rows (m ((c : Thread nD τ).loc main_arg0)) (m ((c : Thread nD τ).loc main_arg1))) := by
  obtain ⟨e0, e1, e2⟩ := idx t
  have q0 : win0_2.index t (0 : Fin 2) = t.val := congrFun e2 0
  have q1 : win0_2.index t (1 : Fin 2) = 0 := congrFun e2 1
  have q2 : win0_1.index t (1 : Fin 2) = 0 := congrFun e1 1
  rw [Value.flushed2]
  funext y
  show out0_2 (iblk m c 0 t) (iblk m c 1 t) ((cfg0.win 2).xinj (grid0.coords t) y) = rows _ _ (((cfg0.win 2).blk t).view.emb y)
  have hz : (![0, 0] : Fin 2 → Nat) = fun _ => 0 := funext fun a => match a with | ⟨0, _⟩ => rfl | ⟨1, _⟩ => rfl
  unfold out0_2
  rw [View.canon_unit_zero hz, View.ld_unit_zero (S := S640x4096) hz, View.ld_unit_zero (S := S1x4096) hz]
  have hx : (cfg0.win 2).xinj (grid0.coords t) y = ix2 (⟨(y 0).val, (y 0).isLt⟩ : Fin 640) (⟨(y 1).val, (y 1).isLt⟩ : Fin 4096) :=
    funext fun a => match a with
      | ⟨0, _⟩ => rfl
      | ⟨1, _⟩ => rfl
  refine (congrArg _ hx).trans ((block_apply _ _ _ _).trans ?_)
  have h0 : ∀ (r : Fin 640) (k : Fin 4096) (p : Fin 8320), p.val = t.val * 640 + r.val →
      iblk m c 0 t (ix2 r k) = (m ((c : Thread nD τ).loc main_arg0) : Vec Ideal S8320x4096 .f32) (ix2 p k) := fun r k p hp => by
    blk_ext [iblk, V, e0]
  have h1 : ∀ k : Fin 4096, iblk m c 1 t (ix2 0 k) = (m ((c : Thread nD τ).loc main_arg1) : Vec Ideal S4096 .f32) (ix1 k) := fun k => by
    show V m c main_v0 (((cfg0.win 1).blk t).view.emb _) = _
    entry_read
    pointwise
    refine congrArg (m ((c : Thread nD τ).loc main_arg1)) (congrArg (ix1 (n0 := 4096)) (Fin.ext ?_))
    show win0_1.index t (1 : Fin 2) * 4096 + 1 * k.val = k.val
    omega
  have hN : t.val < 13 := lt_of_lt_of_eq t.isLt points
  have b0 : (y 0).val < 640 := (y 0).isLt
  have he : ((cfg0.win 2).blk t).view.emb y = ix2 (⟨t.val * 640 + (y 0).val, by omega⟩ : Fin 8320) (⟨(y 1).val, (y 1).isLt⟩ : Fin 4096) :=
    funext fun a => Fin.ext (match a with
      | ⟨0, _⟩ => by show win0_2.index t (0 : Fin 2) * 640 + 1 * (y 0).val = t.val * 640 + (y 0).val; omega
      | ⟨1, _⟩ => by show win0_2.index t (1 : Fin 2) * 4096 + 1 * (y 1).val = (y 1).val; omega)
  refine Eq.trans ?_ (congrArg (rows _ _) he).symm
  unfold rows
  exact congrArg₂ (· * ·) (congrArg₂ (· * ·) (h0 _ _ _ rfl) (congrArg _ (funext fun k => h0 _ _ _ rfl))) (h1 _)

/-- Every index of the array is in a point's block. -/
theorem covered (i : S8320x4096.Idx) : ∃ t : Fin cfg0.N, (cfg0.win 2).flush t = true ∧ i ∈ ((cfg0.win 2).blk t).view.set := by
  have b0 : (i 0).val < 8320 := (i 0).isLt
  have b1 : (i 1).val < 4096 := (i 1).isLt
  have hp : (i 0).val / 640 < cfg0.N := by rw [points]; omega
  refine ⟨⟨_, hp⟩, flush0_2 _, ?_⟩
  obtain ⟨-, -, e⟩ := idx ⟨_, hp⟩
  have q0 : win0_2.index ⟨_, hp⟩ (0 : Fin 2) = (i 0).val / 640 := congrFun e 0
  have q1 : win0_2.index ⟨_, hp⟩ (1 : Fin 2) = 0 := congrFun e 1
  show i ∈ ((View.whole main_v1).slice (win0_2.rect ⟨_, hp⟩)).set
  rw [View.set_slice_whole, Rect.mem_set_unit]
  intro a
  match a with
  | ⟨0, _⟩ => show win0_2.index ⟨_, hp⟩ (0 : Fin 2) * 640 ≤ (i 0).val ∧ (i 0).val < win0_2.index ⟨_, hp⟩ (0 : Fin 2) * 640 + 640; omega
  | ⟨1, _⟩ => show win0_2.index ⟨_, hp⟩ (1 : Fin 2) * 4096 ≤ (i 1).val ∧ (i 1).val < win0_2.index ⟨_, hp⟩ (1 : Fin 2) * 4096 + 4096; omega

theorem array_eq (c : Dev nD) : (dats m 0 c).arrAt 2 cfg0.N
    = rows (m ((c : Thread nD τ).loc main_arg0)) (m ((c : Thread nD τ).loc main_arg1)) :=
  (dats m 0 c).arrAt_eq_of_cover 2 _ (flushed_eq m c) covered

end Cert.NormIdeal.Body

namespace Cert.NormReferenceIdeal.Read

/-- The reference's result is the normalised rows. -/
theorem result_eq (x0 : Vec Ideal S8320x4096 .f32) (x1 : Vec Ideal S4096 .f32) :
    val_main_v13 (F := Ideal) x0 x1 = Cert.Norm.rows x0 x1 := by
  funext i
  simp only [val_main_v13_apply, val_main_v12_apply, val_main_v11_apply, val_main_v10_apply, val_main_v9_apply, val_main_v8_apply,
    val_main_v7_apply, val_main_v6_apply, val_main_v5_apply, val_main_v4_apply, val_main_v3_apply, val_main_v2_apply, val_main_v1_apply,
    val_main_v0_apply, val_main_cst_apply, val_main_cst_0_apply, val_main_cst_1_apply]
  have e : ∀ k : Fin 4096, idx_main_v1 (idx_main_v2 (idx_main_v8 i)) k = ix2 (i 0) k := fun k => eq_ix2 _
  have z : FloatOps.ofBits (F := Ideal) .f32 0x00000000#32 = (0 : EReal) := Ideal.ofBits_zero_f32
  have f : idx_main_v10 (idx_main_v11 i) = ix1 (i 1) := eq_ix1 _
  unfold Cert.Norm.rows Cert.RootMean.scaleOf
  simp only [e, f, z, zero_add, pointwise]

end Cert.NormReferenceIdeal.Read

end
-- ==== Proof.MlFinalValue.lean ====
/- The end of the linear attention: the array the grid leaves, read at an index, is the reference's there. -/
module

public import proofs.«01_k».proof.Proof.RootMean
public import proofs.«01_k».proof.Proof.Gen.MlFinalIdeal.Value
public import proofs.«01_k».proof.Proof.Gen.MlFinalReferenceIdeal.Read

@[expose] public section

set_option maxRecDepth 16384

noncomputable section

open Idealize.ShloMosaic Idealize.ShloMosaic.TcCoe Idealize.SL.Sem
open Cert.RootMean

namespace Cert.MlFinal

theorem heads : 512 ∣ 3072 := ⟨6, rfl⟩

/-- The two directions' sum, each head's columns over their root mean square, weighted, under the logistic of the output gate. -/
def result (hf hb : Vec Ideal ⟨2, ![8320, 3072]⟩ .f32) (qkvo : Vec Ideal ⟨2, ![8320, 9216]⟩ .f32) (w : Vec Ideal ⟨1, ![3072]⟩ .f32) :
    Vec Ideal ⟨2, ![8320, 3072]⟩ .bf16 := fun i =>
  sigmoid (qkvo (ix2 (i 0) ⟨6144 + (i 1).val, Nat.add_lt_add_left (i 1).isLt 6144⟩))
    * grouped heads (fun r q => hf (ix2 r q) + hb (ix2 r q)) (fun q => w (ix1 q)) (i 0) (i 1)

end Cert.MlFinal

namespace Cert.MlFinalIdeal.Body

open Cert.MlFinalIdeal Cert.MlFinalIdeal.Gen
open Cert.MlFinal (heads result)

section Piece
variable {F : FTy → Type} [FloatOps F]

/-- What a point stores for the head whose columns start at `o`. -/
def piece (o : ℕ) (s : Shape.Slices S128x3072 ![0, o] S128x512) (x0 x1 x2 : Vec F S128x3072 .f32) (w : Vec F S1x512 .f32) : FVec F S128x512 .bf16 :=
  truncf .bf16 (mulf (divf (broadcast S128x512 (Scalar.ofBits .f32 0x3F800000#32)) (addf (broadcast S128x512 (Scalar.ofBits .f32 0x3F800000#32))
    (exp (subf (broadcast S128x512 (Scalar.ofBits .f32 0x00000000#32)) (extractStridedSlice S128x512 ![0, o] x2 s)))))
    (normed reduces_S128x512_S128 shapeCasts_S128_S128x1 broadcasts_S128x1_S128x512 shapeCasts_S1x512_S1x512 broadcasts_S1x512_S128x512
      (extractStridedSlice S128x512 ![0, o] (addf x0 x1) s) w)) bitsLt_bf16_f32

end Piece

/-- A point's block of the result, from its blocks of the arguments. -/
def block (x0 x1 x2 : Vec Ideal S128x3072 .f32) (x3 : Vec Ideal S1x3072 .f32) : Vec Ideal S128x3072 .bf16 := fun y =>
  sigmoid (x2 y) * grouped heads (fun r q => x0 (ix2 r q) + x1 (ix2 r q)) (fun q => x3 (ix2 0 q)) (y 0) (y 1)

/-- A head's store is the block's at the head's columns. -/
theorem piece_emb (g : ℕ) (hg : 512 * g + 512 ≤ 3072) (s : Shape.Slices S128x3072 ![0, 512 * g] S128x512)
    (inb : ∀ a, (![0, 512 * g] : Fin 2 → Nat) a + (![128, 512] : Fin 2 → Nat) a ≤ S128x3072.size a)
    (inbw : ∀ a, (![0, 512 * g] : Fin 2 → Nat) a + (![1, 512] : Fin 2 → Nat) a ≤ S1x3072.size a)
    (x0 x1 x2 : Vec Ideal S128x3072 .f32) (x3 : Vec Ideal S1x3072 .f32) (x : (Rect.unit (s := S128x3072) ![0, 512 * g] ![128, 512] inb).shape.Idx) :
    piece (512 * g) s x0 x1 x2 (View.ld x3 (Rect.unit ![0, 512 * g] ![1, 512] inbw)) x
      = block x0 x1 x2 x3 ((Rect.unit (s := S128x3072) ![0, 512 * g] ![128, 512] inb).emb x) := by
  have b1 : (x 1).val < 512 := (x 1).isLt
  have hx : x = ix2 (⟨(x 0).val, (x 0).isLt⟩ : Fin 128) (⟨(x 1).val, b1⟩ : Fin 512) := funext fun a => match a with
    | ⟨0, _⟩ => rfl
    | ⟨1, _⟩ => rfl
  have he : (Rect.unit (s := S128x3072) ![0, 512 * g] ![128, 512] inb).emb x
      = ix2 (⟨(x 0).val, (x 0).isLt⟩ : Fin 128) (⟨512 * g + (x 1).val, by omega⟩ : Fin 3072) := funext fun a => Fin.ext (match a with
    | ⟨0, _⟩ => (ValueKit.rect_emb_unit_val _ _ _ x 0).trans (Nat.zero_add _)
    | ⟨1, _⟩ => ValueKit.rect_emb_unit_val _ _ _ x 1)
  rw [he]
  refine (congrArg _ hx).trans ?_
  unfold block
  generalize (⟨(x 0).val, (x 0).isLt⟩ : Fin 128) = r
  have hn := normed_slice heads g hg reduces_S128x512_S128 shapeCasts_S128_S128x1 broadcasts_S128x1_S128x512 shapeCasts_S1x512_S1x512
    broadcasts_S1x512_S128x512 s (addf x0 x1) (View.ld x3 (Rect.unit ![0, 512 * g] ![1, 512] inbw)) (fun q => x3 (ix2 0 q)) r ⟨(x 1).val, b1⟩
    ⟨512 * g + (x 1).val, by omega⟩ rfl (congrArg x3 (funext fun a => Fin.ext (match a with
      | ⟨0, _⟩ => (ValueKit.rect_emb_unit_val _ _ _ _ 0).trans (Nat.zero_add _)
      | ⟨1, _⟩ => ValueKit.rect_emb_unit_val _ _ _ _ 1)))
  have hs : extractStridedSlice S128x512 ![0, 512 * g] x2 s (ix2 r ⟨(x 1).val, b1⟩) = x2 (ix2 r ⟨512 * g + (x 1).val, by omega⟩) :=
    congrArg x2 (funext fun a => Fin.ext (match a with
      | ⟨0, _⟩ => Nat.zero_add _
      | ⟨1, _⟩ => rfl))
  refine Eq.trans ?_ (congrArg₂ (fun a b => sigmoid a * b) hs hn)
  unfold piece sigmoid
  pointwise
  rw [zero_sub]

/-- A point's six stores leave its block. -/
theorem out_eq (x0 x1 x2 : Vec Ideal S128x3072 .f32) (x3 : Vec Ideal S1x3072 .f32) : out0_4 x0 x1 x2 x3 = block x0 x1 x2 x3 := by
  have hz : (![0, 0] : Fin 2 → Nat) = fun _ => 0 := funext fun a => match a with | ⟨0, _⟩ => rfl | ⟨1, _⟩ => rfl
  funext y
  unfold out0_4
  refine View.canon_apply_of_pieces _ _ ?_ y (cover0_4 _ _ _ _ _ _ y)
  unfold k0_pay12
  simp only [View.ld_unit_zero (S := S128x3072) hz]
  simp only [List.forall_mem_cons]
  refine ⟨fun x => piece_emb 5 (by decide) _ _ _ _ _ _ _ x, fun x => piece_emb 4 (by decide) _ _ _ _ _ _ _ x, fun x => piece_emb 3 (by decide) _ _ _ _ _ _ _ x,
    fun x => piece_emb 2 (by decide) _ _ _ _ _ _ _ x, fun x => piece_emb 1 (by decide) _ _ _ _ _ _ _ x, fun x => piece_emb 0 (by decide) _ _ _ _ _ _ _ x, ?_⟩
  simp

variable (m : (ℓ : Loc nD τ sig) → Buf (Elt Ideal) ℓ)

theorem points : cfg0.N = 65 := by decide

/-- The block indices: 128 rows a point, the gate's the third third of the projection's columns. -/
theorem idx : ∀ t : Fin cfg0.N, win0_0.index t = ![t.val, 0] ∧ win0_1.index t = ![t.val, 0] ∧ win0_2.index t = ![t.val, 2]
    ∧ win0_3.index t = ![0, 0] ∧ win0_4.index t = ![t.val, 0] :=
  (by decide +kernel : ∀ t : Fin grid0.N, _)

/-- What a point writes back is its block of the reference's array. -/
theorem flushed_eq (c : Dev nD) (t : Fin cfg0.N) (hf : (cfg0.win 4).flush t = true) :
    (dats m 0 c).flushed 4 t = ((cfg0.win 4).blk t).view.read (Elt Ideal) (result (m ((c : Thread nD τ).loc main_arg0))
      (m ((c : Thread nD τ).loc main_arg1)) (m ((c : Thread nD τ).loc main_arg2)) (m ((c : Thread nD τ).loc main_arg3))) := by
  obtain ⟨e0, e1, e2, e3, e4⟩ := idx t
  have q0 : win0_4.index t (0 : Fin 2) = t.val := congrFun e4 0
  have q1 : win0_4.index t (1 : Fin 2) = 0 := congrFun e4 1
  have q3 : win0_3.index t (1 : Fin 2) = 0 := congrFun e3 1
  rw [Value.flushed4, out_eq]
  funext y
  show block _ _ _ _ ((cfg0.win 4).xinj (grid0.coords t) y) = result _ _ _ _ (((cfg0.win 4).blk t).view.emb y)
  have hN : t.val < 65 := lt_of_lt_of_eq t.isLt points
  have b0 : (y 0).val < 128 := (y 0).isLt
  have hx : (cfg0.win 4).xinj (grid0.coords t) y = ix2 (⟨(y 0).val, (y 0).isLt⟩ : Fin 128) (⟨(y 1).val, (y 1).isLt⟩ : Fin 3072) :=
    funext fun a => match a with
      | ⟨0, _⟩ => rfl
      | ⟨1, _⟩ => rfl
  have he : ((cfg0.win 4).blk t).view.emb y = ix2 (⟨t.val * 128 + (y 0).val, by omega⟩ : Fin 8320) (⟨(y 1).val, (y 1).isLt⟩ : Fin 3072) :=
    funext fun a => Fin.ext (match a with
      | ⟨0, _⟩ => by show win0_4.index t (0 : Fin 2) * 128 + 1 * (y 0).val = t.val * 128 + (y 0).val; omega
      | ⟨1, _⟩ => by show win0_4.index t (1 : Fin 2) * 3072 + 1 * (y 1).val = (y 1).val; omega)
  have h0 : ∀ (r : Fin 128) (k : Fin 3072) (p : Fin 8320), p.val = t.val * 128 + r.val →
      iblk m c 0 t (ix2 r k) = (m ((c : Thread nD τ).loc main_arg0) : Vec Ideal S8320x3072 .f32) (ix2 p k) := fun r k p hp => by
    blk_ext [iblk, V, e0]
  have h1 : ∀ (r : Fin 128) (k : Fin 3072) (p : Fin 8320), p.val = t.val * 128 + r.val →
      iblk m c 1 t (ix2 r k) = (m ((c : Thread nD τ).loc main_arg1) : Vec Ideal S8320x3072 .f32) (ix2 p k) := fun r k p hp => by
    blk_ext [iblk, V, e1]
  have h2 : ∀ (r : Fin 128) (k : Fin 3072) (p : Fin 8320) (q : Fin 9216), p.val = t.val * 128 + r.val → q.val = 6144 + k.val →
      iblk m c 2 t (ix2 r k) = (m ((c : Thread nD τ).loc main_arg2) : Vec Ideal S8320x9216 .f32) (ix2 p q) := fun r k p q hp hq => by
    blk_ext [iblk, V, e2]
  have h3 : ∀ k : Fin 3072, iblk m c 3 t (ix2 0 k) = (m ((c : Thread nD τ).loc main_arg3) : Vec Ideal S3072 .f32) (ix1 k) := fun k => by
    show V m c main_v0 (((cfg0.win 3).blk t).view.emb _) = _
    entry_read
    pointwise
    refine congrArg (m ((c : Thread nD τ).loc main_arg3)) (congrArg (ix1 (n0 := 3072)) (Fin.ext ?_))
    show win0_3.index t (1 : Fin 2) * 3072 + 1 * k.val = k.val
    omega
  refine ((congrArg (block _ _ _ _) hx).trans ?_).trans (congrArg (result _ _ _ _) he).symm
  unfold block result
  exact congrArg₂ (fun a b => sigmoid a * b) (h2 _ _ _ _ rfl rfl)
    (grouped_congr heads _ (fun k => congrArg₂ (· + ·) (h0 _ k _ rfl) (h1 _ k _ rfl)) (h3 _))

/-- Every index of the array is in a point's block. -/
theorem covered (i : S8320x3072.Idx) : ∃ t : Fin cfg0.N, (cfg0.win 4).flush t = true ∧ i ∈ ((cfg0.win 4).blk t).view.set := by
  have b0 : (i 0).val < 8320 := (i 0).isLt
  have b1 : (i 1).val < 3072 := (i 1).isLt
  have hp : (i 0).val / 128 < cfg0.N := by rw [points]; omega
  refine ⟨⟨_, hp⟩, flush0_4 _, ?_⟩
  obtain ⟨-, -, -, -, e⟩ := idx ⟨_, hp⟩
  have q0 : win0_4.index ⟨_, hp⟩ (0 : Fin 2) = (i 0).val / 128 := congrFun e 0
  have q1 : win0_4.index ⟨_, hp⟩ (1 : Fin 2) = 0 := congrFun e 1
  show i ∈ ((View.whole main_v1).slice (win0_4.rect ⟨_, hp⟩)).set
  rw [View.set_slice_whole, Rect.mem_set_unit]
  intro a
  match a with
  | ⟨0, _⟩ => show win0_4.index ⟨_, hp⟩ (0 : Fin 2) * 128 ≤ (i 0).val ∧ (i 0).val < win0_4.index ⟨_, hp⟩ (0 : Fin 2) * 128 + 128; omega
  | ⟨1, _⟩ => show win0_4.index ⟨_, hp⟩ (1 : Fin 2) * 3072 ≤ (i 1).val ∧ (i 1).val < win0_4.index ⟨_, hp⟩ (1 : Fin 2) * 3072 + 3072; omega

theorem array_eq (c : Dev nD) : (dats m 0 c).arrAt 4 cfg0.N = result (m ((c : Thread nD τ).loc main_arg0))
    (m ((c : Thread nD τ).loc main_arg1)) (m ((c : Thread nD τ).loc main_arg2)) (m ((c : Thread nD τ).loc main_arg3)) :=
  (dats m 0 c).arrAt_eq_of_cover 4 _ (flushed_eq m c) covered

end Cert.MlFinalIdeal.Body

namespace Cert.MlFinalReferenceIdeal.Read

/-- The reference's result. -/
theorem result_eq (x0 x1 : Vec Ideal S8320x3072 .f32) (x2 : Vec Ideal S8320x9216 .f32) (x3 : Vec Ideal S3072 .f32) :
    val_main_v24 (F := Ideal) x0 x1 x2 x3 = Cert.MlFinal.result x0 x1 x2 x3 := by
  funext i
  have b0 : (i 0).val < 8320 := (i 0).isLt
  have b1 : (i 1).val < 3072 := (i 1).isLt
  simp only [val_main_v24_apply, val_main_v23_apply, val_main_v22_apply, val_main_v21_apply, val_main_v20_apply, val_main_v19_apply,
    val_main_v18_apply, val_main_v17_apply, val_main_v16_apply, val_main_v15_apply, val_main_v14_apply, val_main_v13_apply,
    val_main_v12_apply, val_main_v11_apply, val_main_v10_apply, val_main_v9_apply, val_main_v8_apply, val_main_v7_apply, val_main_v6_apply,
    val_main_v5_apply, val_main_v4_apply, val_main_v3_apply, val_main_v2_apply, val_main_v1_apply, val_main_v0_apply, val_main_cst_apply,
    val_main_cst_0_apply, val_main_cst_1_apply, val_main_cst_2_apply, val_main_cst_3_apply]
  have e : ∀ k : Fin 512, idx_main_v1 (idx_main_v3 (idx_main_v4 (idx_main_v10 (idx_main_v12 i))) k) = ix2 (i 0) (groupCol Cert.MlFinal.heads (i 1) k) :=
    fun k => funext fun a => Fin.ext (match a with
      | ⟨0, _⟩ => by
        show ((((i 0).val * 3072 + (i 1).val) / 3072 * 6 + ((i 0).val * 3072 + (i 1).val) / 512 % 6) * 512 + k.val) / 3072 = (i 0).val; omega
      | ⟨1, _⟩ => by
        show ((((i 0).val * 3072 + (i 1).val) / 3072 * 6 + ((i 0).val * 3072 + (i 1).val) / 512 % 6) * 512 + k.val) % 3072
          = 512 * ((i 1).val / 512) + k.val
        omega)
  have f : idx_main_v1 (idx_main_v12 i) = ix2 (i 0) (i 1) := funext fun a => Fin.ext (match a with
      | ⟨0, _⟩ => by
        show ((((i 0).val * 3072 + (i 1).val) / 3072 * 6 + ((i 0).val * 3072 + (i 1).val) / 512 % 6) * 512 + ((i 0).val * 3072 + (i 1).val) % 512) / 3072 = (i 0).val
        omega
      | ⟨1, _⟩ => by
        show ((((i 0).val * 3072 + (i 1).val) / 3072 * 6 + ((i 0).val * 3072 + (i 1).val) / 512 % 6) * 512 + ((i 0).val * 3072 + (i 1).val) % 512) % 3072 = (i 1).val
        omega)
  have w : idx_main_v13 (idx_main_v14 i) = ix1 (i 1) := eq_ix1 _
  have u : idx_main_v16 i = ix2 (i 0) ⟨6144 + (i 1).val, Nat.add_lt_add_left (i 1).isLt 6144⟩ := eq_ix2 _
  have z : FloatOps.ofBits (F := Ideal) .f32 0x00000000#32 = (0 : EReal) := Ideal.ofBits_zero_f32
  unfold Cert.MlFinal.result grouped scaleOf sigmoid
  simp only [e, f, w, u, z, zero_add, pointwise]

end Cert.MlFinalReferenceIdeal.Read

end
-- ==== Proof.SsdFinalValue.lean ====
/- The end of the scan: the array the grid leaves, read at an index, is the reference's there. -/
module

public import proofs.«01_k».proof.Proof.RootMean
public import proofs.«01_k».proof.Proof.Gen.SsdFinalIdeal.Value
public import proofs.«01_k».proof.Proof.Gen.SsdFinalReferenceIdeal.Read

@[expose] public section

set_option maxRecDepth 16384

noncomputable section

open Idealize.ShloMosaic Idealize.ShloMosaic.TcCoe Idealize.SL.Sem
open Cert.RootMean

namespace Cert.SsdFinal

theorem groups : 512 ∣ 2048 := ⟨4, rfl⟩

/-- The two directions' sum and the weighted skip, under the gate's `z · logistic z`. -/
def gated (yf yb d xs z : EReal) : EReal := (yf + yb + d * xs) * (z * sigmoid z)

/-- The gated sum, each group's columns over their root mean square, weighted. -/
def result (yf yb : Vec Ideal ⟨2, ![8320, 2048]⟩ .f32) (xbc : Vec Ideal ⟨2, ![8320, 3072]⟩ .f32) (z : Vec Ideal ⟨2, ![8320, 2048]⟩ .f32)
    (d : Vec Ideal ⟨2, ![1, 2048]⟩ .f32) (w : Vec Ideal ⟨1, ![2048]⟩ .f32) : Vec Ideal ⟨2, ![8320, 2048]⟩ .bf16 := fun i =>
  grouped groups (fun r q => gated (yf (ix2 r q)) (yb (ix2 r q)) (d (ix2 0 q)) (xbc (ix2 r ⟨q.val, Nat.lt_of_lt_of_le q.isLt (by decide)⟩))
    (z (ix2 r q))) (fun q => w (ix1 q)) (i 0) (i 1)

end Cert.SsdFinal

namespace Cert.SsdFinalIdeal.Body

open Cert.SsdFinalIdeal Cert.SsdFinalIdeal.Gen
open Cert.SsdFinal (groups gated result)

/-- A point's block of the gated sum, as the kernel computes it. -/
theorem pay2_apply (x0 x1 x2 x3 : Vec Ideal S128x2048 .f32) (x4 : Vec Ideal S1x2048 .f32) (r : Fin 128) (q : Fin 2048) :
    k0_pay2 x0 x1 x4 x2 x3 (ix2 r q) = gated (x0 (ix2 r q)) (x1 (ix2 r q)) (x4 (ix2 0 q)) (x2 (ix2 r q)) (x3 (ix2 r q)) := by
  unfold gated sigmoid
  pointwise [k0_pay2]
  rw [zero_sub]

section Piece
variable {F : FTy → Type} [FloatOps F]

/-- What a point stores for the group whose columns start at `o`. -/
def piece (o : ℕ) (s : Shape.Slices S128x2048 ![0, o] S128x512) (v : FVec F S128x2048 .f32) (w : Vec F S1x512 .f32) : FVec F S128x512 .bf16 :=
  truncf .bf16 (normed reduces_S128x512_S128 shapeCasts_S128_S128x1 broadcasts_S128x1_S128x512 shapeCasts_S1x512_S1x512 broadcasts_S1x512_S128x512
      (extractStridedSlice S128x512 ![0, o] v s) w) bitsLt_bf16_f32

end Piece

/-- A point's block of the result, from its blocks of the arguments. -/
def block (x0 x1 x2 x3 : Vec Ideal S128x2048 .f32) (x4 x5 : Vec Ideal S1x2048 .f32) : Vec Ideal S128x2048 .bf16 := fun y =>
  grouped groups (fun r q => gated (x0 (ix2 r q)) (x1 (ix2 r q)) (x4 (ix2 0 q)) (x2 (ix2 r q)) (x3 (ix2 r q))) (fun q => x5 (ix2 0 q)) (y 0) (y 1)

/-- A group's store is the block's at the group's columns. -/
theorem piece_emb (g : ℕ) (hg : 512 * g + 512 ≤ 2048) (s : Shape.Slices S128x2048 ![0, 512 * g] S128x512)
    (inb : ∀ a, (![0, 512 * g] : Fin 2 → Nat) a + (![128, 512] : Fin 2 → Nat) a ≤ S128x2048.size a)
    (inbw : ∀ a, (![0, 512 * g] : Fin 2 → Nat) a + (![1, 512] : Fin 2 → Nat) a ≤ S1x2048.size a)
    (x0 x1 x2 x3 : Vec Ideal S128x2048 .f32) (x4 x5 : Vec Ideal S1x2048 .f32)
    (x : (Rect.unit (s := S128x2048) ![0, 512 * g] ![128, 512] inb).shape.Idx) :
    piece (512 * g) s (k0_pay2 x0 x1 x4 x2 x3) (View.ld x5 (Rect.unit ![0, 512 * g] ![1, 512] inbw)) x
      = block x0 x1 x2 x3 x4 x5 ((Rect.unit (s := S128x2048) ![0, 512 * g] ![128, 512] inb).emb x) := by
  have b1 : (x 1).val < 512 := (x 1).isLt
  have hx : x = ix2 (⟨(x 0).val, (x 0).isLt⟩ : Fin 128) (⟨(x 1).val, b1⟩ : Fin 512) := funext fun a => match a with
    | ⟨0, _⟩ => rfl
    | ⟨1, _⟩ => rfl
  have he : (Rect.unit (s := S128x2048) ![0, 512 * g] ![128, 512] inb).emb x
      = ix2 (⟨(x 0).val, (x 0).isLt⟩ : Fin 128) (⟨512 * g + (x 1).val, by omega⟩ : Fin 2048) := funext fun a => Fin.ext (match a with
    | ⟨0, _⟩ => (ValueKit.rect_emb_unit_val _ _ _ x 0).trans (Nat.zero_add _)
    | ⟨1, _⟩ => ValueKit.rect_emb_unit_val _ _ _ x 1)
  rw [he]
  refine (congrArg _ hx).trans ?_
  unfold block
  generalize (⟨(x 0).val, (x 0).isLt⟩ : Fin 128) = r
  have hn := normed_slice groups g hg reduces_S128x512_S128 shapeCasts_S128_S128x1 broadcasts_S128x1_S128x512 shapeCasts_S1x512_S1x512
    broadcasts_S1x512_S128x512 s (k0_pay2 x0 x1 x4 x2 x3) (View.ld x5 (Rect.unit ![0, 512 * g] ![1, 512] inbw)) (fun q => x5 (ix2 0 q)) r ⟨(x 1).val, b1⟩
    ⟨512 * g + (x 1).val, by omega⟩ rfl (congrArg x5 (funext fun a => Fin.ext (match a with
      | ⟨0, _⟩ => (ValueKit.rect_emb_unit_val _ _ _ _ 0).trans (Nat.zero_add _)
      | ⟨1, _⟩ => ValueKit.rect_emb_unit_val _ _ _ _ 1)))
  exact hn.trans (grouped_congr groups _ (fun k => pay2_apply x0 x1 x2 x3 x4 r k) rfl)

/-- A point's four stores leave its block. -/
theorem out_A (c : Dev nD) (i : grid0.Coords) (a1 : Memref sig .tc .vmem S128x2048 .f32) (h1 : a1.IsWhole)
    (a2 : Memref sig .tc .vmem S128x2048 .f32) (h2 : a2.IsWhole) (a3 : Memref sig .tc .vmem S128x2048 .f32) (h3 : a3.IsWhole)
    (a4 : Memref sig .tc .vmem S128x2048 .f32) (h4 : a4.IsWhole) (a5 : Memref sig .tc .vmem S1x2048 .f32) (h5 : a5.IsWhole)
    (a6 : Memref sig .tc .vmem S1x2048 .f32) (h6 : a6.IsWhole) (a7 : Memref sig .tc .vmem S128x2048 .bf16) (h7 : a7.IsWhole)
    (x0 x1 x2 x3 : Vec Ideal S128x2048 .f32) (x4 x5 : Vec Ideal S1x2048 .f32) :
    out0_A_6 c i a1 h1 a2 h2 a3 h3 a4 h4 a5 h5 a6 h6 a7 h7 x0 x1 x2 x3 x4 x5 = block x0 x1 x2 x3 x4 x5 := by
  have hcov := cover0_A_6 c i a1 h1 a2 h2 a3 h3 a4 h4 a5 h5 a6 h6 a7 h7 x0 x1 x2 x3 x4 x5
  have hz : (![0, 0] : Fin 2 → Nat) = fun _ => 0 := funext fun a => match a with | ⟨0, _⟩ => rfl | ⟨1, _⟩ => rfl
  unfold out0_A_6
  rw [View.read_writes_eq_canon _ _ _ hcov]
  funext y
  refine View.canon_apply_of_pieces _ _ ?_ y (hcov y)
  unfold kernelRun0_A
  dsimp only
  sl_unfold_words
  simp only [View.readAt_eq_ld, h1.read_unread, h2.read_unread, h3.read_unread, h4.read_unread, h5.read_unread, h6.read_unread]
  simp only [View.ld_unit_zero (S := S128x2048) hz, View.ld_unit_zero (S := S1x2048) hz]
  simp only [List.forall_mem_cons]
  refine ⟨fun x => piece_emb 3 (by decide) slices_S128x2048_o0_1536_S128x512 _ _ _ _ _ _ _ _ x, fun x => piece_emb 2 (by decide) slices_S128x2048_o0_1024_S128x512 _ _ _ _ _ _ _ _ x,
    fun x => piece_emb 1 (by decide) slices_S128x2048_o0_512_S128x512 _ _ _ _ _ _ _ _ x, fun x => piece_emb 0 (by decide) slices_S128x2048_o0_0_S128x512 _ _ _ _ _ _ _ _ x, ?_⟩
  simp

variable (m : (ℓ : Loc nD τ sig) → Buf (Elt Ideal) ℓ)

theorem points : cfg0.N = 65 := by decide

/-- The block indices: 128 rows a point, the skip's the first columns of the convolution's output. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0] :=
  (by decide +kernel : ∀ t : Fin grid0.N, _)

/-- What a point writes back is its block of the reference's array. -/
theorem flushed_eq (c : Dev nD) (t : Fin cfg0.N) (hf : (cfg0.win 6).flush t = true) :
    (dats m 0 c).flushed 6 t = ((cfg0.win 6).blk t).view.read (Elt Ideal) (result (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5))) := by
  obtain ⟨e0, e1, e2, e3, e4, e5, e6⟩ := idx t
  have q0 : win0_6.index t (0 : Fin 2) = t.val := congrFun e6 0
  have q1 : win0_6.index t (1 : Fin 2) = 0 := congrFun e6 1
  have q2 : win0_2.index t (0 : Fin 2) = t.val := congrFun e2 0
  have q3 : win0_2.index t (1 : Fin 2) = 0 := congrFun e2 1
  have q5 : win0_5.index t (1 : Fin 2) = 0 := congrFun e5 1
  rw [Value.flushed6_A, out_A]
  funext y
  show block _ _ _ _ _ _ ((cfg0.win 6).xinj (grid0.coords t) y) = result _ _ _ _ _ _ (((cfg0.win 6).blk t).view.emb y)
  have hN : t.val < 65 := lt_of_lt_of_eq t.isLt points
  have b0 : (y 0).val < 128 := (y 0).isLt
  have hx : (cfg0.win 6).xinj (grid0.coords t) y = ix2 (⟨(y 0).val, (y 0).isLt⟩ : Fin 128) (⟨(y 1).val, (y 1).isLt⟩ : Fin 2048) :=
    funext fun a => match a with
      | ⟨0, _⟩ => rfl
      | ⟨1, _⟩ => rfl
  have he : ((cfg0.win 6).blk t).view.emb y = ix2 (⟨t.val * 128 + (y 0).val, by omega⟩ : Fin 8320) (⟨(y 1).val, (y 1).isLt⟩ : Fin 2048) :=
    funext fun a => Fin.ext (match a with
      | ⟨0, _⟩ => by show win0_6.index t (0 : Fin 2) * 128 + 1 * (y 0).val = t.val * 128 + (y 0).val; omega
      | ⟨1, _⟩ => by show win0_6.index t (1 : Fin 2) * 2048 + 1 * (y 1).val = (y 1).val; omega)
  have h0 : ∀ (r : Fin 128) (k : Fin 2048) (p : Fin 8320), p.val = t.val * 128 + r.val →
      iblk m c 0 t (ix2 r k) = (m ((c : Thread nD τ).loc main_arg0) : Vec Ideal S8320x2048 .f32) (ix2 p k) := fun r k p hp => by
    blk_ext [iblk, V, e0]
  have h1 : ∀ (r : Fin 128) (k : Fin 2048) (p : Fin 8320), p.val = t.val * 128 + r.val →
      iblk m c 1 t (ix2 r k) = (m ((c : Thread nD τ).loc main_arg1) : Vec Ideal S8320x2048 .f32) (ix2 p k) := fun r k p hp => by
    blk_ext [iblk, V, e1]
  have h2 : ∀ (r : Fin 128) (k : Fin 2048) (p : Fin 8320) (q : Fin 3072), p.val = t.val * 128 + r.val → q.val = k.val →
      X0_2 m c t (ix2 r k) = (m ((c : Thread nD τ).loc main_arg2) : Vec Ideal S8320x3072 .f32) (ix2 p q) := fun r k p q hp hq => by
    unfold X0_2 Pipeline.Window.fill
    rw [dif_pos (moved0_2 t _)]
    blk_ext [iblk, V, e2]
  have h3 : ∀ (r : Fin 128) (k : Fin 2048) (p : Fin 8320), p.val = t.val * 128 + r.val →
      iblk m c 3 t (ix2 r k) = (m ((c : Thread nD τ).loc main_arg3) : Vec Ideal S8320x2048 .f32) (ix2 p k) := fun r k p hp => by
    blk_ext [iblk, V, e3]
  have h4 : ∀ k : Fin 2048, iblk m c 4 t (ix2 0 k) = (m ((c : Thread nD τ).loc main_arg4) : Vec Ideal S1x2048 .f32) (ix2 0 k) := fun k => by
    blk_ext [iblk, V, e4]
  have h5 : ∀ k : Fin 2048, iblk m c 5 t (ix2 0 k) = (m ((c : Thread nD τ).loc main_arg5) : Vec Ideal S2048 .f32) (ix1 k) := fun k => by
    show V m c main_v0 (((cfg0.win 5).blk t).view.emb _) = _
    entry_read
    pointwise
    refine congrArg (m ((c : Thread nD τ).loc main_arg5)) (congrArg (ix1 (n0 := 2048)) (Fin.ext ?_))
    show win0_5.index t (1 : Fin 2) * 2048 + 1 * k.val = k.val
    omega
  refine ((congrArg (block _ _ _ _ _ _) hx).trans ?_).trans (congrArg (result _ _ _ _ _ _) he).symm
  unfold block result
  refine grouped_congr groups _ (fun k => ?_) (h5 _)
  show gated _ _ _ _ _ = gated _ _ _ _ _
  congr 1
  · exact h0 _ k _ rfl
  · exact h1 _ k _ rfl
  · exact h4 k
  · exact h2 _ k _ _ rfl rfl
  · exact h3 _ k _ rfl

/-- Every index of the array is in a point's block. -/
theorem covered (i : S8320x2048.Idx) : ∃ t : Fin cfg0.N, (cfg0.win 6).flush t = true ∧ i ∈ ((cfg0.win 6).blk t).view.set := by
  have b0 : (i 0).val < 8320 := (i 0).isLt
  have b1 : (i 1).val < 2048 := (i 1).isLt
  have hp : (i 0).val / 128 < cfg0.N := by rw [points]; omega
  refine ⟨⟨_, hp⟩, flush0_6 _, ?_⟩
  obtain ⟨-, -, -, -, -, -, e⟩ := idx ⟨_, hp⟩
  have q0 : win0_6.index ⟨_, hp⟩ (0 : Fin 2) = (i 0).val / 128 := congrFun e 0
  have q1 : win0_6.index ⟨_, hp⟩ (1 : Fin 2) = 0 := congrFun e 1
  show i ∈ ((View.whole main_v1).slice (win0_6.rect ⟨_, hp⟩)).set
  rw [View.set_slice_whole, Rect.mem_set_unit]
  intro a
  match a with
  | ⟨0, _⟩ => show win0_6.index ⟨_, hp⟩ (0 : Fin 2) * 128 ≤ (i 0).val ∧ (i 0).val < win0_6.index ⟨_, hp⟩ (0 : Fin 2) * 128 + 128; omega
  | ⟨1, _⟩ => show win0_6.index ⟨_, hp⟩ (1 : Fin 2) * 2048 ≤ (i 1).val ∧ (i 1).val < win0_6.index ⟨_, hp⟩ (1 : Fin 2) * 2048 + 2048; omega

theorem array_eq (c : Dev nD) : (dats m 0 c).arrAt 6 cfg0.N = result (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) :=
  (dats m 0 c).arrAt_eq_of_cover 6 _ (flushed_eq m c) covered

end Cert.SsdFinalIdeal.Body

namespace Cert.SsdFinalReferenceIdeal.Read

/-- The reference's result. -/
theorem result_eq (x0 x1 : Vec Ideal S8320x2048 .f32) (x2 : Vec Ideal S8320x3072 .f32) (x3 : Vec Ideal S8320x2048 .f32)
    (x4 : Vec Ideal S1x2048 .f32) (x5 : Vec Ideal S2048 .f32) :
    val_main_v22 (F := Ideal) x0 x1 x2 x3 x4 x5 = Cert.SsdFinal.result x0 x1 x2 x3 x4 x5 := by
  funext i
  have b0 : (i 0).val < 8320 := (i 0).isLt
  have b1 : (i 1).val < 2048 := (i 1).isLt
  simp only [val_main_v22_apply, val_main_v21_apply, val_main_v20_apply, val_main_v19_apply, val_main_v18_apply, val_main_v17_apply,
    val_main_v16_apply, val_main_v15_apply, val_main_v14_apply, val_main_v13_apply, val_main_v12_apply, val_main_v11_apply,
    val_main_v10_apply, val_main_v9_apply, val_main_v8_apply, val_main_v7_apply, val_main_v6_apply, val_main_v5_apply, val_main_v4_apply,
    val_main_v3_apply, val_main_v2_apply, val_main_v1_apply, val_main_v0_apply, val_main_call0_v5_apply, val_main_call0_v4_apply,
    val_main_call0_v3_apply, val_main_call0_v2_apply, val_main_call0_v1_apply, val_main_call0_v0_apply, val_main_call0_cst_apply,
    val_main_call0_cst_0_apply, val_main_cst_apply, val_main_cst_0_apply, val_main_cst_1_apply]
  have e : ∀ k : Fin 512, idx_main_v7 (idx_main_v9 (idx_main_v10 (idx_main_v16 (idx_main_v18 i))) k) = ix2 (i 0) (groupCol Cert.SsdFinal.groups (i 1) k) :=
    fun k => funext fun a => Fin.ext (match a with
      | ⟨0, _⟩ => by
        show ((((i 0).val * 2048 + (i 1).val) / 2048 * 4 + ((i 0).val * 2048 + (i 1).val) / 512 % 4) * 512 + k.val) / 2048 = (i 0).val; omega
      | ⟨1, _⟩ => by
        show ((((i 0).val * 2048 + (i 1).val) / 2048 * 4 + ((i 0).val * 2048 + (i 1).val) / 512 % 4) * 512 + k.val) % 2048
          = 512 * ((i 1).val / 512) + k.val
        omega)
  have f : idx_main_v7 (idx_main_v18 i) = ix2 (i 0) (i 1) := funext fun a => Fin.ext (match a with
      | ⟨0, _⟩ => by
        show ((((i 0).val * 2048 + (i 1).val) / 2048 * 4 + ((i 0).val * 2048 + (i 1).val) / 512 % 4) * 512 + ((i 0).val * 2048 + (i 1).val) % 512) / 2048 = (i 0).val
        omega
      | ⟨1, _⟩ => by
        show ((((i 0).val * 2048 + (i 1).val) / 2048 * 4 + ((i 0).val * 2048 + (i 1).val) / 512 % 4) * 512 + ((i 0).val * 2048 + (i 1).val) % 512) % 2048 = (i 1).val
        omega)
  have w : idx_main_v19 (idx_main_v20 i) = ix1 (i 1) := eq_ix1 _
  have d : ∀ j : S8320x2048.Idx, x4 (idx_main_v2 j) = x4 (ix2 0 (j 1)) := fun j => congrArg x4 (eq_ix2 _)
  have u : ∀ j : S8320x2048.Idx, x2 (idx_main_v1 j) = x2 (ix2 (j 0) ⟨(j 1).val, Nat.lt_of_lt_of_le (j 1).isLt (by decide)⟩) := fun j =>
    congrArg x2 (eq_ix2 _)
  have z : FloatOps.ofBits (F := Ideal) .f32 0x00000000#32 = (0 : EReal) := Ideal.ofBits_zero_f32
  unfold Cert.SsdFinal.result grouped scaleOf Cert.SsdFinal.gated sigmoid
  simp only [e, f, w, d, u, z, zero_add, pointwise]

end Cert.SsdFinalReferenceIdeal.Read

end
-- ==== Proof.DtValue.lean ====
/- The step columns of the first mixer's input projection: the array the grid leaves is the reference's. -/
module

public import proofs.«01_k».proof.Proof.Columns
public import proofs.«01_k».proof.Proof.Gen.DtProjIdeal.Value
public import proofs.«01_k».proof.Proof.Gen.DtReferenceIdeal.Read

@[expose] public section

set_option maxRecDepth 16384

noncomputable section

open Idealize.ShloMosaic Idealize.ShloMosaic.TcCoe Idealize.SL.Sem

namespace Cert.Dt

/-- Sixty-four values laid out over 256 places: the first half at the start of the first 128, the second half at the start
    of the second 128, nought elsewhere. -/
def laid (f : Fin 64 → EReal) (n : ℕ) : EReal :=
  if h : n < 32 then f ⟨n, by omega⟩ else if h : 128 ≤ n ∧ n < 160 then f ⟨n - 96, by omega⟩ else 0

/-- Multiplying and summing before laying out is doing so after. -/
theorem sum_laid (u : Fin 4096 → EReal) (f : Fin 4096 → Fin 64 → EReal) (n : ℕ) :
    ∑ k : Fin 4096, u k * laid (f k) n = laid (fun j => ∑ k : Fin 4096, u k * f k j) n := by
  unfold laid
  split
  · rfl
  · split
    · rfl
    · simp

/-- A row against the step columns of the weights, laid out. -/
def result (u : Vec Ideal ⟨2, ![8320, 4096]⟩ .bf16) (w : Vec Ideal ⟨2, ![4096, 8256]⟩ .f32) : Vec Ideal ⟨2, ![8320, 256]⟩ .f32 := fun i =>
  laid (fun j => ∑ k : Fin 4096, u (ix2 (i 0) k) * w (ix2 k ⟨5120 + j.val, by omega⟩)) (i 1).val

end Cert.Dt

namespace Cert.DtProjIdeal.Body

open Cert.DtProjIdeal Cert.DtProjIdeal.Gen
open Cert.Dt (laid result)
open Cert.QkvoProjIdeal.Body (hz)

/-- The stored block at a row and a column: one sum of products. -/
theorem block_apply (x0 : Vec Ideal S640x4096 .bf16) (w : Vec Ideal S256x4096 .f32) (r : Fin 640) (n : Fin 256) :
    k0_pay2 x0 (k0_pay1 w) (ix2 r n) = ∑ k : Fin 4096, x0 (ix2 r k) * w (ix2 n k) := by
  unfold_payloads
  pointwise [dot_S640x4096_S4096x256_S640x256_1_0_0_1_n_n]

section Walk
variable {F : FTy → Type} [FloatOps F] (m : (ℓ : Loc nD τ sig) → Buf (Elt F) ℓ)

/-- One column block, thirteen row blocks. -/
theorem idx : ∀ t : Fin cfg0.N, win0_0.index t = ![t.val, 0] ∧ win0_1.index t = ![0, 0] ∧ win0_2.index t = ![t.val, 0] :=
  (by decide +kernel : ∀ t : Fin grid0.N, _)

theorem outs_A (c : Dev nD) (t : Fin cfg0.N) (h0 : t.val % 13 = 0) : outsAt0 m c t.val t.isLt
    = (k0_pay2 (iblk m c 0 t) (k0_pay1 (iblk m c 1 t)), k0_pay1 (iblk m c 1 t)) := by
  rw [outsAt0_A m c t h0]
  unfold out0_A_2 sout0_A_0
  rw [View.read_writes_eq_canon _ _ _ (cover0_A_2 _ _ _ _ _ _ _ _ _ _ _ _ _), View.read_writes_eq_canon _ _ _ (scover0_A_0 _ _ _ _ _ _ _ _ _ _ _ _ _)]
  unfold kernelRun0_A
  dsimp only
  sl_unfold_words
  rw [View.canon_unit_zero hz, View.canon_unit_zero hz]
  simp only [View.readAt_eq_ld, Memref.IsWhole.read_unread, View.ld_unit_zero (S := S256x4096) hz, View.ld_unit_zero (S := S640x4096) hz]
  rw [View.readCov_fill (s := S4096x256) _ _ _ _ _ (by decide), View.ld_unit_zero (S := S4096x256) hz]

theorem outs_B (c : Dev nD) (t : Fin cfg0.N) (h0 : ¬t.val % 13 = 0) : outsAt0 m c t.val t.isLt
    = (k0_pay2 (iblk m c 0 t) (outsAt0 m c (t.val - 1) (Nat.lt_of_le_of_lt (Nat.sub_le _ _) t.isLt)).2,
        (outsAt0 m c (t.val - 1) (Nat.lt_of_le_of_lt (Nat.sub_le _ _) t.isLt)).2) := by
  rw [outsAt0_B m c t h0]
  unfold out0_B_2
  rw [View.read_writes_eq_canon _ _ _ (cover0_B_2 _ _ _ _ _ _ _ _ _ _ _ _ _ _)]
  unfold kernelRun0_B
  dsimp only
  sl_unfold_words
  rw [View.canon_unit_zero hz]
  simp only [View.readAt_eq_ld, Memref.IsWhole.read_unread, View.ld_unit_zero (S := S4096x256) hz, View.ld_unit_zero (S := S640x4096) hz]
  exact congrArg₂ Prod.mk (congrArg (k0_pay2 _) ((Memref.isWhole_whole cc0_scratch0).read_unread _)) rfl

/-- Every point stages the same weights. -/
theorem weights_same (c : Dev nD) (t t' : Fin cfg0.N) : iblk m c 1 t = iblk m c 1 t' := by
  have e := (idx t).2.1
  have e' := (idx t').2.1
  funext y
  show V m c main_v5 (((cfg0.win 1).blk t).view.emb y) = V m c main_v5 (((cfg0.win 1).blk t').view.emb y)
  refine congrArg _ (funext fun a => Fin.ext ?_)
  match a with
  | ⟨0, _⟩ =>
    show win0_1.index t (0 : Fin 2) * 256 + 1 * (y 0).val = win0_1.index t' (0 : Fin 2) * 256 + 1 * (y 0).val
    rw [e, e']
  | ⟨1, _⟩ =>
    show win0_1.index t (1 : Fin 2) * 4096 + 1 * (y 1).val = win0_1.index t' (1 : Fin 2) * 4096 + 1 * (y 1).val
    rw [e, e']

/-- What every point leaves. -/
theorem outs_eq (c : Dev nD) : ∀ (n : ℕ) (hn : n < cfg0.N), outsAt0 m c n hn
    = (k0_pay2 (iblk m c 0 ⟨n, hn⟩) (k0_pay1 (iblk m c 1 ⟨n, hn⟩)), k0_pay1 (iblk m c 1 ⟨n, hn⟩)) :=
  Cert.Columns.carried (outsAt0 m c) (iblk m c 0) (iblk m c 1) k0_pay2 k0_pay1 (outs_A m c) (outs_B m c) fun t t' _ => weights_same m c t t'

end Walk

variable (m : (ℓ : Loc nD τ sig) → Buf (Elt Ideal) ℓ)

/-- Thirty-two rows padded to 128 with the integer nought. -/
theorem padded (x : Vec Ideal S32x4096 .f32) (n : Fin 128) (k : Fin 4096) :
    (pad S128x4096 ![0, 0] ![96, 0] ![0, 0] x (sitofp (F := Ideal) .f32 (constantI S_ 32 0#32)) pads_S32x4096_S128x4096_0960_000 h_S_ : Vec Ideal S128x4096 .f32)
      (ix2 n k) = if h : n.val < 32 then x (ix2 ⟨n.val, h⟩ k) else 0 := by
  have z : ((((0#32 : BitVec 32).toInt : ℤ) : ℝ) : EReal) = 0 := by simp
  pointwise
  split_ifs
  · rfl
  · exact z

/-- The staged weights: rows of the transposed weights, laid out. -/
theorem weights_apply (c : Dev nD) (t : Fin cfg0.N) (n : Fin 256) (k : Fin 4096) : iblk m c 1 t (ix2 n k)
    = laid (fun j => (m ((c : Thread nD τ).loc main_arg1) : Vec Ideal S4096x8256 .f32) (ix2 k ⟨5120 + j.val, by omega⟩)) n.val := by
  have e := (idx t).2.1
  have he : ((cfg0.win 1).blk t).view.emb (ix2 n k : S256x4096.Idx) = (ix2 n k : S256x4096.Idx) := funext fun a => Fin.ext (match a with
    | ⟨0, _⟩ => by
      show win0_1.index t (0 : Fin 2) * 256 + 1 * n.val = n.val
      rw [e]
      show 0 * 256 + 1 * n.val = n.val
      omega
    | ⟨1, _⟩ => by
      show win0_1.index t (1 : Fin 2) * 4096 + 1 * k.val = k.val
      rw [e]
      show 0 * 4096 + 1 * k.val = k.val
      omega)
  show V m c main_v5 (((cfg0.win 1).blk t).view.emb (ix2 n k)) = _
  refine (congrArg (V m c main_v5) he).trans ?_
  unfold V
  simp only [hostOps0, hostOps0_1, hostOps0_2, hostOps0_3, hostOps0_4, List.flatten_cons, List.flatten_nil, List.cons_append, List.nil_append]
  entry_read
  pointwise
  refine (dite_congr rfl (fun h => padded _ ⟨n.val, h⟩ k) (fun h => padded _ ⟨n.val - 128, _⟩ k)).trans ?_
  unfold laid
  have low : ∀ (w : Vec Ideal S4096x8256 .f32) (j : Fin 32), (extractStridedSlice S32x4096 ![5120, 0] (transpose S8256x4096 [1, 0] w transposes_S4096x8256_S8256x4096_1_0)
      slices_S8256x4096_S32x4096_5120_0 : Vec Ideal S32x4096 .f32) (ix2 j k) = w (ix2 k ⟨5120 + j.val, by omega⟩) := fun w j => by pointwise
  have high : ∀ (w : Vec Ideal S4096x8256 .f32) (j : Fin 32), (extractStridedSlice S32x4096 ![5152, 0] (transpose S8256x4096 [1, 0] w transposes_S4096x8256_S8256x4096_1_0)
      slices_S8256x4096_S32x4096_5152_0 : Vec Ideal S32x4096 .f32) (ix2 j k) = w (ix2 k ⟨5152 + j.val, by omega⟩) := fun w j => by pointwise
  by_cases h0 : n.val < 128
  · rw [dif_pos h0]
    by_cases h1 : n.val < 32
    · rw [dif_pos h1, dif_pos h1]; exact low _ ⟨n.val, h1⟩
    · rw [dif_neg h1, dif_neg h1, dif_neg (by omega)]
  · rw [dif_neg h0, dif_neg (show ¬ n.val < 32 by omega)]
    by_cases h1 : n.val - 128 < 32
    · rw [dif_pos h1, dif_pos (show 128 ≤ n.val ∧ n.val < 160 by omega)]
      exact (high _ ⟨n.val - 128, h1⟩).trans (congrArg _ (congrArg (ix2 k) (Fin.ext (by show 5152 + (n.val - 128) = 5120 + (n.val - 96); omega))))
    · rw [dif_neg h1, dif_neg (by omega)]

/-- The kernel's array. -/
theorem array_eq (c : Dev nD) : Value.G2 m c = result (m ((c : Thread nD τ).loc main_arg0)) (m ((c : Thread nD τ).loc main_arg1)) := by
  funext i
  have b0 : (i 0).val < 8320 := (i 0).isLt
  have b1 : (i 1).val < 256 := (i 1).isLt
  have hr : Value.pt2Of i = (i 0).val / 640 := by
    show 1 * ((i 0).val / 640 - 0) + 1 * ((i 1).val / 256 - 0) = _; omega
  have hp : Value.pt2Of i < cfg0.N := by
    rw [hr, show cfg0.N = 13 from N_0]; omega
  have e0 : win0_0.index ⟨Value.pt2Of i, hp⟩ = ![(i 0).val / 640, 0] := (idx ⟨_, hp⟩).1.trans (congrArg (fun x => ![x, 0]) hr)
  unfold Value.G2
  rw [dif_pos hp, ← Value.outsAt0_sweep m c _ hp, outs_eq m c _ hp]
  refine (congrArg _ (eq_ix2 (n0 := 640) (n1 := 256) (Value.loc2Of i))).trans ((block_apply _ _ _ _).trans ?_)
  have hu : ∀ k : Fin 4096, iblk m c 0 ⟨Value.pt2Of i, hp⟩ (ix2 (Value.loc2Of i 0) k)
      = (m ((c : Thread nD τ).loc main_arg0) : Vec Ideal S8320x4096 .bf16) (ix2 (i 0) k) := fun k => by
    blk_ext [iblk, V, e0]
  refine Eq.trans (Finset.sum_congr rfl fun k _ => congrArg₂ (· * ·) (hu k) (weights_apply m c _ _ k)) ((Cert.Dt.sum_laid _ _ _).trans ?_)
  · exact congrArg (laid _) (Nat.mod_eq_of_lt b1)

end Cert.DtProjIdeal.Body

namespace Cert.DtReferenceIdeal.Read

/-- The reference's result is the same. -/
theorem result_eq (x0 : Vec Ideal S8320x4096 .bf16) (x1 : Vec Ideal S4096x8256 .f32) :
    val_main_v7 (F := Ideal) x0 x1 = Cert.Dt.result x0 x1 := by
  have h : ∀ (r : Fin 8320) (j : Fin 64), val_main_v2 (F := Ideal) x0 x1 (ix2 r j)
      = ∑ k : Fin 4096, x0 (ix2 r k) * x1 (ix2 k ⟨5120 + j.val, by omega⟩) := fun r j => by
    rw [val_main_v2_apply, val_main_v1_apply]
    refine Finset.sum_congr rfl fun k _ => ?_
    pointwise [val_main_v0]
    congr 2
    · exact eq_ix2 (n0 := 8320) (n1 := 4096) _
    · exact eq_ix2 (n0 := 4096) (n1 := 8256) _
  funext i
  refine (congrArg _ (eq_ix2 (n0 := 8320) (n1 := 256) i)).trans ?_
  unfold Cert.Dt.result
  generalize i 0 = r
  generalize i 1 = q
  unfold Cert.Dt.laid val_main_v7 val_main_v6 val_main_v5 val_main_v4 val_main_v3 val_main_call0_v0 val_main_call1_v0 val_main_c val_main_c_0
  generalize val_main_v2 (F := Ideal) x0 x1 = p at h
  have b : q.val < 256 := q.isLt
  have z : ((((0#32 : BitVec 32).toInt : ℤ) : ℝ) : EReal) = 0 := by simp
  pointwise
  have e : ∀ (n n' : ℕ) (hn : n < 64) (hn' : n' < 64), n = n' →
      p (ix2 r ⟨n, hn⟩) = ∑ k : Fin 4096, x0 (ix2 r k) * x1 (ix2 k ⟨5120 + n', by omega⟩) := fun n n' hn hn' hnn => by
    subst hnn; exact h r ⟨n, hn⟩
  by_cases h0 : q.val < 128
  · rw [dif_pos h0]
    by_cases h1 : q.val < 32
    · rw [dif_pos h1, dif_pos h1]; exact e _ _ (by omega) (by omega) rfl
    · rw [dif_neg h1, dif_neg h1, dif_neg (by omega)]; exact z
  · rw [dif_neg h0, dif_neg (show ¬ q.val < 32 by omega)]
    by_cases h1 : q.val - 128 < 32
    · rw [dif_pos h1, dif_pos (show 128 ≤ q.val ∧ q.val < 160 by omega)]; exact e _ _ (by omega) (by omega) (by omega)
    · rw [dif_neg h1, dif_neg (by omega)]; exact z

end Cert.DtReferenceIdeal.Read

end
-- ==== Proof.GatesValue.lean ====
/- The gate columns of the second mixer's input projection: the array the grid leaves is the reference's. -/
module

public import proofs.«01_k».proof.Proof.DtValue
public import proofs.«01_k».proof.Proof.Gen.GatesProjIdeal.Value
public import proofs.«01_k».proof.Proof.Gen.GatesReferenceIdeal.Read

@[expose] public section

set_option maxRecDepth 16384

noncomputable section

open Idealize.ShloMosaic Idealize.ShloMosaic.TcCoe Idealize.SL.Sem

namespace Cert.Gates

/-- Which of the twenty-four gate columns stands at a place of the 256: per direction, six input gates at 0 and six forget
    gates at 8 of its 128 places. The columns have the input gates of both directions first. 24 is none. -/
def place (n : ℕ) : ℕ :=
  if n < 6 then n else if 8 ≤ n ∧ n < 14 then n + 4 else if 128 ≤ n ∧ n < 134 then n - 122 else if 136 ≤ n ∧ n < 142 then n - 118 else 24

/-- Twenty-four values laid out over 256 places, nought elsewhere. -/
def laid (f : Fin 24 → EReal) (n : ℕ) : EReal := if h : place n < 24 then f ⟨place n, h⟩ else 0

theorem laid_at (f : Fin 24 → EReal) (n j : ℕ) (hj : j < 24) (h : place n = j) : laid f n = f ⟨j, hj⟩ := by
  subst h; exact dif_pos hj

theorem laid_none (f : Fin 24 → EReal) (n : ℕ) (h : place n = 24) : laid f n = 0 := dif_neg (by omega)

/-- Multiplying and summing before laying out is doing so after. -/
theorem sum_laid (u : Fin 4096 → EReal) (f : Fin 4096 → Fin 24 → EReal) (n : ℕ) :
    ∑ k : Fin 4096, u k * laid (f k) n = laid (fun j => ∑ k : Fin 4096, u k * f k j) n := by
  unfold laid
  split
  · rfl
  · simp

/-- A value that is read direction by direction, gate by gate, is the value laid out. -/
theorem laid_eq (f : Fin 24 → EReal) (n : ℕ) (hn : n < 256) : laid f n =
    if n < 128 then
      if h : n < 6 then f ⟨n, by omega⟩ else if h : 8 ≤ n ∧ n < 14 then f ⟨12 + (n - 8), by omega⟩ else 0
    else
      if h : n - 128 < 6 then f ⟨6 + (n - 128), by omega⟩ else if h : 8 ≤ n - 128 ∧ n - 128 < 14 then f ⟨18 + (n - 128 - 8), by omega⟩ else 0 := by
  by_cases h0 : n < 128
  · rw [if_pos h0]
    by_cases h1 : n < 6
    · rw [dif_pos h1]; exact laid_at f n _ _ (by unfold place; split_ifs <;> omega)
    · rw [dif_neg h1]
      by_cases h2 : 8 ≤ n ∧ n < 14
      · rw [dif_pos h2]; exact laid_at f n _ _ (by unfold place; split_ifs <;> omega)
      · rw [dif_neg h2]; exact laid_none f n (by unfold place; split_ifs <;> omega)
  · rw [if_neg h0]
    by_cases h1 : n - 128 < 6
    · rw [dif_pos h1]; exact laid_at f n _ _ (by unfold place; split_ifs <;> omega)
    · rw [dif_neg h1]
      by_cases h2 : 8 ≤ n - 128 ∧ n - 128 < 14
      · rw [dif_pos h2]; exact laid_at f n _ _ (by unfold place; split_ifs <;> omega)
      · rw [dif_neg h2]; exact laid_none f n (by unfold place; split_ifs <;> omega)

/-- A row against the gate columns of the weights, laid out. -/
def result (u : Vec Ideal ⟨2, ![8320, 4096]⟩ .bf16) (w : Vec Ideal ⟨2, ![4096, 10264]⟩ .f32) : Vec Ideal ⟨2, ![8320, 256]⟩ .f32 := fun i =>
  laid (fun j => ∑ k : Fin 4096, u (ix2 (i 0) k) * w (ix2 k ⟨9216 + j.val, by omega⟩)) (i 1).val

end Cert.Gates

namespace Cert.GatesProjIdeal.Body

open Cert.GatesProjIdeal Cert.GatesProjIdeal.Gen
open Cert.Gates (laid result)
open Cert.QkvoProjIdeal.Body (hz)

/-- The stored block at a row and a column: the step projection's. -/
theorem block_apply (x0 : Vec Ideal S640x4096 .bf16) (w : Vec Ideal S256x4096 .f32) (r : Fin 640) (n : Fin 256) :
    k0_pay2 x0 (k0_pay1 w) (ix2 r n) = ∑ k : Fin 4096, x0 (ix2 r k) * w (ix2 n k) := Cert.DtProjIdeal.Body.block_apply x0 w r n

section Walk
variable {F : FTy → Type} [FloatOps F] (m : (ℓ : Loc nD τ sig) → Buf (Elt F) ℓ)

/-- One column block, thirteen row blocks. -/
theorem idx : ∀ t : Fin cfg0.N, win0_0.index t = ![t.val, 0] ∧ win0_1.index t = ![0, 0] ∧ win0_2.index t = ![t.val, 0] :=
  (by decide +kernel : ∀ t : Fin grid0.N, _)

theorem outs_A (c : Dev nD) (t : Fin cfg0.N) (h0 : t.val % 13 = 0) : outsAt0 m c t.val t.isLt
    = (k0_pay2 (iblk m c 0 t) (k0_pay1 (iblk m c 1 t)), k0_pay1 (iblk m c 1 t)) := by
  rw [outsAt0_A m c t h0]
  unfold out0_A_2 sout0_A_0
  rw [View.read_writes_eq_canon _ _ _ (cover0_A_2 _ _ _ _ _ _ _ _ _ _ _ _ _), View.read_writes_eq_canon _ _ _ (scover0_A_0 _ _ _ _ _ _ _ _ _ _ _ _ _)]
  unfold kernelRun0_A
  dsimp only
  sl_unfold_words
  rw [View.canon_unit_zero hz, View.canon_unit_zero hz]
  simp only [View.readAt_eq_ld, Memref.IsWhole.read_unread, View.ld_unit_zero (S := S256x4096) hz, View.ld_unit_zero (S := S640x4096) hz]
  rw [View.readCov_fill (s := S4096x256) _ _ _ _ _ (by decide), View.ld_unit_zero (S := S4096x256) hz]

theorem outs_B (c : Dev nD) (t : Fin cfg0.N) (h0 : ¬t.val % 13 = 0) : outsAt0 m c t.val t.isLt
    = (k0_pay2 (iblk m c 0 t) (outsAt0 m c (t.val - 1) (Nat.lt_of_le_of_lt (Nat.sub_le _ _) t.isLt)).2,
        (outsAt0 m c (t.val - 1) (Nat.lt_of_le_of_lt (Nat.sub_le _ _) t.isLt)).2) := by
  rw [outsAt0_B m c t h0]
  unfold out0_B_2
  rw [View.read_writes_eq_canon _ _ _ (cover0_B_2 _ _ _ _ _ _ _ _ _ _ _ _ _ _)]
  unfold kernelRun0_B
  dsimp only
  sl_unfold_words
  rw [View.canon_unit_zero hz]
  simp only [View.readAt_eq_ld, Memref.IsWhole.read_unread, View.ld_unit_zero (S := S4096x256) hz, View.ld_unit_zero (S := S640x4096) hz]
  exact congrArg₂ Prod.mk (congrArg (k0_pay2 _) ((Memref.isWhole_whole cc0_scratch0).read_unread _)) rfl

/-- Every point stages the same weights. -/
theorem weights_same (c : Dev nD) (t t' : Fin cfg0.N) : iblk m c 1 t = iblk m c 1 t' := by
  have e := (idx t).2.1
  have e' := (idx t').2.1
  funext y
  show V m c main_v11 (((cfg0.win 1).blk t).view.emb y) = V m c main_v11 (((cfg0.win 1).blk t').view.emb y)
  refine congrArg _ (funext fun a => Fin.ext ?_)
  match a with
  | ⟨0, _⟩ =>
    show win0_1.index t (0 : Fin 2) * 256 + 1 * (y 0).val = win0_1.index t' (0 : Fin 2) * 256 + 1 * (y 0).val
    rw [e, e']
  | ⟨1, _⟩ =>
    show win0_1.index t (1 : Fin 2) * 4096 + 1 * (y 1).val = win0_1.index t' (1 : Fin 2) * 4096 + 1 * (y 1).val
    rw [e, e']

/-- What every point leaves. -/
theorem outs_eq (c : Dev nD) : ∀ (n : ℕ) (hn : n < cfg0.N), outsAt0 m c n hn
    = (k0_pay2 (iblk m c 0 ⟨n, hn⟩) (k0_pay1 (iblk m c 1 ⟨n, hn⟩)), k0_pay1 (iblk m c 1 ⟨n, hn⟩)) :=
  Cert.Columns.carried (outsAt0 m c) (iblk m c 0) (iblk m c 1) k0_pay2 k0_pay1 (outs_A m c) (outs_B m c) fun t t' _ => weights_same m c t t'

end Walk

variable (m : (ℓ : Loc nD τ sig) → Buf (Elt Ideal) ℓ)

/-- One direction's rows: six padded to eight, six more, the rest padded, all with the integer nought. -/
theorem direction (a b : Vec Ideal S6x4096 .f32) (n : Fin 128) (k : Fin 4096) :
    (pad S128x4096 ![0, 0] ![114, 0] ![0, 0]
      (concatenate S14x4096 0 [⟨S8x4096, (pad S8x4096 ![0, 0] ![2, 0] ![0, 0] a (sitofp (F := Ideal) .f32 (constantI S_ 32 0#32)) pads_S6x4096_S8x4096_020_000 h_S_ : Vec Ideal S8x4096 .f32)⟩,
        ⟨S6x4096, b⟩] concatenates_S8x4096_S6x4096_S14x4096_d0 : Vec Ideal S14x4096 .f32)
      (sitofp (F := Ideal) .f32 (constantI S_ 32 0#32)) pads_S14x4096_S128x4096_01140_000 h_S_ : Vec Ideal S128x4096 .f32) (ix2 n k)
    = if h : n.val < 6 then a (ix2 ⟨n.val, h⟩ k) else if h : 8 ≤ n.val ∧ n.val < 14 then b (ix2 ⟨n.val - 8, by omega⟩ k) else 0 := by
  have z : ((((0#32 : BitVec 32).toInt : ℤ) : ℝ) : EReal) = 0 := by simp
  pointwise
  by_cases h1 : n.val < 6
  · rw [dif_pos (show n.val < 14 by omega), dif_pos (show n.val < 8 by omega), dif_pos h1, dif_pos h1]
  · rw [dif_neg h1]
    by_cases h2 : 8 ≤ n.val ∧ n.val < 14
    · rw [dif_pos h2.2, dif_neg (show ¬ n.val < 8 by omega), dif_pos h2]
    · rw [dif_neg h2]
      by_cases h3 : n.val < 14
      · rw [dif_pos h3, dif_pos (show n.val < 8 by omega), dif_neg h1]; exact z
      · rw [dif_neg h3]; exact z

/-- Six rows of the transposed weights. -/
theorem rows (w : Vec Ideal S4096x10264 .f32) (o : ℕ) (ho : o + 6 ≤ 10264) (hs : S10264x4096.Slices ![o, 0] S6x4096) (j : Fin 6) (k : Fin 4096) :
    (extractStridedSlice S6x4096 ![o, 0] (transpose S10264x4096 [1, 0] w transposes_S4096x10264_S10264x4096_1_0) hs : Vec Ideal S6x4096 .f32) (ix2 j k)
      = w (ix2 k ⟨o + j.val, by omega⟩) := by
  pointwise

set_option maxHeartbeats 4000000 in
/-- The staged weights: rows of the transposed weights, laid out. -/
theorem weights_apply (c : Dev nD) (t : Fin cfg0.N) (n : Fin 256) (k : Fin 4096) : iblk m c 1 t (ix2 n k)
    = laid (fun j => (m ((c : Thread nD τ).loc main_arg1) : Vec Ideal S4096x10264 .f32) (ix2 k ⟨9216 + j.val, by omega⟩)) n.val := by
  have e := (idx t).2.1
  have he : ((cfg0.win 1).blk t).view.emb (ix2 n k : S256x4096.Idx) = (ix2 n k : S256x4096.Idx) := funext fun a => Fin.ext (match a with
    | ⟨0, _⟩ => by
      show win0_1.index t (0 : Fin 2) * 256 + 1 * n.val = n.val
      rw [e]
      show 0 * 256 + 1 * n.val = n.val
      omega
    | ⟨1, _⟩ => by
      show win0_1.index t (1 : Fin 2) * 4096 + 1 * k.val = k.val
      rw [e]
      show 0 * 4096 + 1 * k.val = k.val
      omega)
  show V m c main_v11 (((cfg0.win 1).blk t).view.emb (ix2 n k)) = _
  refine (congrArg (V m c main_v11) he).trans ?_
  unfold V
  simp only [hostOps0, hostOps0_1, hostOps0_2, hostOps0_3, hostOps0_4, hostOps0_5, hostOps0_6, hostOps0_7, hostOps0_8, List.flatten_cons, List.flatten_nil, List.cons_append, List.nil_append]
  entry_read
  pointwise
  refine (dite_congr rfl (fun h => direction _ _ ⟨n.val, h⟩ k) (fun h => direction _ _ ⟨n.val - 128, _⟩ k)).trans ?_
  rw [Cert.Gates.laid_eq _ _ n.isLt]
  by_cases h0 : n.val < 128
  · rw [if_pos h0]
    refine (dif_pos h0).trans ?_
    by_cases h1 : n.val < 6
    · refine (dif_pos h1).trans (Eq.trans ?_ (dif_pos h1).symm)
      after_results_simp; after_results_loop
      exact (rows (m ((c : Thread nD τ).loc main_arg1)) 9216 (by omega) slices_S10264x4096_S6x4096_9216_0 _ k).trans
        (congrArg _ (congrArg (ix2 k) (Fin.ext (by show 9216 + (n.val) = 9216 + (n.val); omega))))
    · refine (dif_neg h1).trans (Eq.trans ?_ (dif_neg h1).symm)
      by_cases h2 : 8 ≤ n.val ∧ n.val < 14
      · refine (dif_pos h2).trans (Eq.trans ?_ (dif_pos h2).symm)
        after_results_simp; after_results_loop
        exact (rows (m ((c : Thread nD τ).loc main_arg1)) 9228 (by omega) slices_S10264x4096_S6x4096_9228_0 _ k).trans
          (congrArg _ (congrArg (ix2 k) (Fin.ext (by show 9228 + (n.val - 8) = 9216 + (12 + (n.val - 8)); omega))))
      · refine (dif_neg h2).trans ?_
        rw [dif_neg h2]
  · rw [if_neg h0]
    refine (dif_neg h0).trans ?_
    by_cases h1 : n.val - 128 < 6
    · refine (dif_pos h1).trans (Eq.trans ?_ (dif_pos h1).symm)
      after_results_simp; after_results_loop
      exact (rows (m ((c : Thread nD τ).loc main_arg1)) 9222 (by omega) slices_S10264x4096_S6x4096_9222_0 _ k).trans
        (congrArg _ (congrArg (ix2 k) (Fin.ext (by show 9222 + (n.val - 128) = 9216 + (6 + (n.val - 128)); omega))))
    · refine (dif_neg h1).trans (Eq.trans ?_ (dif_neg h1).symm)
      by_cases h2 : 8 ≤ n.val - 128 ∧ n.val - 128 < 14
      · refine (dif_pos h2).trans (Eq.trans ?_ (dif_pos h2).symm)
        after_results_simp; after_results_loop
        exact (rows (m ((c : Thread nD τ).loc main_arg1)) 9234 (by omega) slices_S10264x4096_S6x4096_9234_0 _ k).trans
          (congrArg _ (congrArg (ix2 k) (Fin.ext (by show 9234 + (n.val - 128 - 8) = 9216 + (18 + (n.val - 128 - 8)); omega))))
      · refine (dif_neg h2).trans ?_
        rw [dif_neg h2]

/-- The kernel's array. -/
theorem array_eq (c : Dev nD) : Value.G2 m c = result (m ((c : Thread nD τ).loc main_arg0)) (m ((c : Thread nD τ).loc main_arg1)) := by
  funext i
  have b0 : (i 0).val < 8320 := (i 0).isLt
  have b1 : (i 1).val < 256 := (i 1).isLt
  have hr : Value.pt2Of i = (i 0).val / 640 := by
    show 1 * ((i 0).val / 640 - 0) + 1 * ((i 1).val / 256 - 0) = _; omega
  have hp : Value.pt2Of i < cfg0.N := by
    rw [hr, show cfg0.N = 13 from N_0]; omega
  have e0 : win0_0.index ⟨Value.pt2Of i, hp⟩ = ![(i 0).val / 640, 0] := (idx ⟨_, hp⟩).1.trans (congrArg (fun x => ![x, 0]) hr)
  unfold Value.G2
  rw [dif_pos hp, ← Value.outsAt0_sweep m c _ hp, outs_eq m c _ hp]
  refine (congrArg _ (eq_ix2 (n0 := 640) (n1 := 256) (Value.loc2Of i))).trans ((block_apply _ _ _ _).trans ?_)
  have hu : ∀ k : Fin 4096, iblk m c 0 ⟨Value.pt2Of i, hp⟩ (ix2 (Value.loc2Of i 0) k)
      = (m ((c : Thread nD τ).loc main_arg0) : Vec Ideal S8320x4096 .bf16) (ix2 (i 0) k) := fun k => by
    blk_ext [iblk, V, e0]
  refine Eq.trans (Finset.sum_congr rfl fun k _ => congrArg₂ (· * ·) (hu k) (weights_apply m c _ _ k)) ((Cert.Gates.sum_laid _ _ _).trans ?_)
  · exact congrArg (laid _) (Nat.mod_eq_of_lt b1)

end Cert.GatesProjIdeal.Body

namespace Cert.GatesReferenceIdeal.Read

open Cert.GatesReferenceIdeal.Gen

/-- One direction's columns: six padded to eight, six more, the rest padded, all with the integer nought. -/
theorem direction (a b : Vec Ideal S8320x6 .f32) (r : Fin 8320) (n : Fin 128) :
    (pad S8320x128 ![0, 0] ![0, 114] ![0, 0]
      (concatenate S8320x14 1 [⟨S8320x8, (pad S8320x8 ![0, 0] ![0, 2] ![0, 0] a (sitofp (F := Ideal) .f32 (constantI S_ 32 0#32)) pads_S8320x6_S8320x8_000_020 h_S_ : Vec Ideal S8320x8 .f32)⟩,
        ⟨S8320x6, b⟩] concatenates_S8320x8_S8320x6_S8320x14_d1 : Vec Ideal S8320x14 .f32)
      (sitofp (F := Ideal) .f32 (constantI S_ 32 0#32)) pads_S8320x14_S8320x128_000_01140 h_S_ : Vec Ideal S8320x128 .f32) (ix2 r n)
    = if h : n.val < 6 then a (ix2 r ⟨n.val, h⟩) else if h : 8 ≤ n.val ∧ n.val < 14 then b (ix2 r ⟨n.val - 8, by omega⟩) else 0 := by
  have z : ((((0#32 : BitVec 32).toInt : ℤ) : ℝ) : EReal) = 0 := by simp
  pointwise
  by_cases h1 : n.val < 6
  · rw [dif_pos (show n.val < 14 by omega), dif_pos (show n.val < 8 by omega), dif_pos h1, dif_pos h1]
  · rw [dif_neg h1]
    by_cases h2 : 8 ≤ n.val ∧ n.val < 14
    · rw [dif_pos h2.2, dif_neg (show ¬ n.val < 8 by omega), dif_pos h2]
    · rw [dif_neg h2]
      by_cases h3 : n.val < 14
      · rw [dif_pos h3, dif_pos (show n.val < 8 by omega), dif_neg h1]; exact z
      · rw [dif_neg h3]; exact z

/-- The reference's result is the same. -/
theorem result_eq (x0 : Vec Ideal S8320x4096 .bf16) (x1 : Vec Ideal S4096x10264 .f32) :
    val_main_v15 (F := Ideal) x0 x1 = Cert.Gates.result x0 x1 := by
  have h : ∀ (r : Fin 8320) (j : Fin 24), val_main_v2 (F := Ideal) x0 x1 (ix2 r j)
      = ∑ k : Fin 4096, x0 (ix2 r k) * x1 (ix2 k ⟨9216 + j.val, by omega⟩) := fun r j => by
    rw [val_main_v2_apply, val_main_v1_apply]
    refine Finset.sum_congr rfl fun k _ => ?_
    pointwise [val_main_v0]
    congr 2
    · exact eq_ix2 (n0 := 8320) (n1 := 4096) _
    · exact eq_ix2 (n0 := 4096) (n1 := 10264) _
  have e : ∀ (r : Fin 8320) (n n' : ℕ) (hn : n < 24) (hn' : n' < 24), n = n' → val_main_v2 (F := Ideal) x0 x1 (ix2 r ⟨n, hn⟩)
      = ∑ k : Fin 4096, x0 (ix2 r k) * x1 (ix2 k ⟨9216 + n', by omega⟩) := fun r n n' hn hn' hnn => by
    subst hnn; exact h r ⟨n, hn⟩
  funext i
  refine (congrArg _ (eq_ix2 (n0 := 8320) (n1 := 256) i)).trans ?_
  unfold Cert.Gates.result
  generalize i 0 = r
  generalize i 1 = q
  have b : q.val < 256 := q.isLt
  rw [Cert.Gates.laid_eq _ _ b]
  unfold val_main_v15
  have e9 := direction (val_main_v5 (F := Ideal) x0 x1) (val_main_v7 (F := Ideal) x0 x1) r
  have e14 := direction (val_main_v10 (F := Ideal) x0 x1) (val_main_v12 (F := Ideal) x0 x1) r
  refine Eq.trans (b := if h : q.val < 128 then val_main_v9 (F := Ideal) x0 x1 (ix2 r ⟨q.val, h⟩) else val_main_v14 (F := Ideal) x0 x1 (ix2 r ⟨q.val - 128, by omega⟩)) ?_ ?_
  · generalize val_main_v9 (F := Ideal) x0 x1 = y
    generalize val_main_v14 (F := Ideal) x0 x1 = y'
    pointwise
  refine (dite_congr rfl (fun h => e9 ⟨q.val, h⟩) (fun h => e14 ⟨q.val - 128, _⟩)).trans ?_
  unfold val_main_v5 val_main_v7 val_main_v10 val_main_v12 val_main_v3 val_main_v4
  generalize val_main_v2 (F := Ideal) x0 x1 = p at e
  pointwise
  by_cases h0 : q.val < 128
  · rw [dif_pos h0, if_pos h0]
    exact dite_congr rfl (fun h1 => e r _ _ (by omega) (by omega) rfl) (fun _ => dite_congr rfl (fun h2 => e r _ _ (by omega) (by omega) rfl) fun _ => rfl)
  · rw [dif_neg h0, if_neg h0]
    exact dite_congr rfl (fun h1 => e r _ _ (by omega) (by omega) rfl) (fun _ => dite_congr rfl (fun h2 => e r _ _ (by omega) (by omega) (by omega)) fun _ => rfl)

end Cert.GatesReferenceIdeal.Read

end
-- ==== Proof.ConvValue.lean ====
/- The convolution: the array the grid leaves, read at an index, is the reference's there. -/
module

public import proofs.«01_k».proof.Proof.RootMean
public import proofs.«01_k».proof.Proof.AttentionWords
public import proofs.«01_k».proof.Proof.Gen.ConvIdeal.Value
public import proofs.«01_k».proof.Proof.Gen.ConvReferenceIdeal.Read

@[expose] public section

set_option maxRecDepth 16384

noncomputable section

open Idealize.ShloMosaic Idealize.ShloMosaic.TcCoe Idealize.SL.Sem
open Cert.RootMean (sigmoid)

namespace Cert.Conv

/-- Five products and the bias. -/
def taps (b : EReal) (w p : Fin 5 → EReal) : EReal := b + w 0 * p 0 + w 1 * p 1 + w 2 * p 2 + w 3 * p 3 + w 4 * p 4

/-- `y · logistic y`, nought in the first 112 rows. -/
def act (r : ℕ) (y : EReal) : EReal := if 112 ≤ r then y * sigmoid y else 0

/-- The rows with two rows of nought before and after. -/
def padded (x : Vec Ideal ⟨2, ![8320, 3072]⟩ .f32) (p : ℕ) (q : Fin 3072) : EReal :=
  if h : 2 ≤ p ∧ p < 8322 then x (ix2 ⟨p - 2, by omega⟩ q) else 0

/-- The convolution along the rows, each column by its own five weights. -/
def result (x : Vec Ideal ⟨2, ![8320, 3072]⟩ .f32) (w : Vec Ideal ⟨2, ![5, 3072]⟩ .f32) (b : Vec Ideal ⟨1, ![3072]⟩ .f32) :
    Vec Ideal ⟨2, ![8320, 3072]⟩ .f32 := fun i =>
  act (i 0).val (taps (b (ix1 (i 1))) (fun j => w (ix2 j (i 1))) (fun j => padded x ((i 0).val + j.val) (i 1)))

end Cert.Conv

namespace Cert.ConvIdeal.Body

open Cert.ConvIdeal Cert.ConvIdeal.Gen
open Cert.Conv (taps act padded result)
open Cert.AttentionIdeal.Words (word word_nat word_add word_mul word_sge word_sgt word_slt)

/-- The block's place among the rows, as a word. -/
theorem row_word (t r : ℕ) (ht : t < 65) (hr : r < 128) :
    IntOp.cmpi .sge (IntOp.addi (IntOp.muli (BitVec.ofNat 32 t) 128#32) (BitVec.ofNat 32 r)) 112#32 = BitVec.ofBool (decide (112 ≤ t * 128 + r)) := by
  rw [word_nat t, word_nat r, show (128#32) = word 128 from rfl, show (112#32) = word 112 from rfl, word_mul, word_add, word_sge (by omega) (by omega)]
  exact congrArg _ (decide_eq_decide.mpr (by omega))

theorem select_bit (P : Prop) [Decidable P] (a b : EReal) : Scalar.select (BitVec.ofBool (decide P)) a b = if P then a else b := by
  by_cases h : P
  · rw [if_pos h, decide_eq_true h]; rfl
  · rw [if_neg h, decide_eq_false h]; rfl

/-- A point's stored block at a row and a column. -/
theorem block_apply (t : ℕ) (ht : t < 65) (w : Vec Ideal S5x3072 .f32) (b : Vec Ideal S1x3072 .f32) (p0 p1 p2 p3 p4 : Vec Ideal S128x3072 .f32)
    (r : Fin 128) (q : Fin 3072) :
    k0_pay1 (F := Ideal) (BitVec.ofNat 32 t) w (k0_pay5 w b p0) (k0_pay6 w) p1 p2 p3 p4 (ix2 r q)
      = act (t * 128 + r.val) (taps (b (ix2 0 q)) (fun j => w (ix2 j q))
        (fun j => (match j with | 0 => p0 | 1 => p1 | 2 => p2 | 3 => p3 | 4 => p4 : Vec Ideal S128x3072 .f32) (ix2 r q))) := by
  unfold act taps sigmoid
  pointwise [k0_pay1, k0_pay5, k0_pay6]
  rw [zero_sub]
  exact (congrArg (Scalar.select · _ _) (row_word t r.val ht r.isLt)).trans (select_bit _ _ _)

/-- The rows a point sees: the last eight of the block before, its own, and the first eight of the block after. -/
def ext (t : ℕ) (x0 : Vec Ideal S128x3072 .f32) (x1 x2 : Vec Ideal S8x3072 .f32) : Vec Ideal S144x3072 .f32 := fun y =>
  if h : (y 0).val < 8 then (if 0 < t then x1 (ix2 ⟨(y 0).val, h⟩ (y 1)) else 0)
  else if h' : (y 0).val < 136 then x0 (ix2 ⟨(y 0).val - 8, by omega⟩ (y 1))
  else (if t < 64 then x2 (ix2 ⟨(y 0).val - 136, by have : (y 0).val < 144 := (y 0).isLt; omega⟩ (y 1)) else 0)

theorem ext_before (i : grid0.Coords) (x0 : Vec Ideal S128x3072 .f32) (x1 x2 : Vec Ideal S8x3072 .f32)
    (inb : ∀ a, (![0, 0] : Fin 2 → Nat) a + S8x3072.size a ≤ S144x3072.size a) (x : (Rect.unit (s := S144x3072) ![0, 0] S8x3072.size inb).shape.Idx) :
    k0_pay2 i x1 x = ext (i 0).val x0 x1 x2 ((Rect.unit (s := S144x3072) ![0, 0] S8x3072.size inb).emb x) := by
  have b0 : (x 0).val < 8 := (x 0).isLt
  have hi : (i 0).val < 65 := (i 0).isLt
  have hx : x = ix2 (⟨(x 0).val, b0⟩ : Fin 8) (⟨(x 1).val, (x 1).isLt⟩ : Fin 3072) := funext fun a => match a with
    | ⟨0, _⟩ => rfl
    | ⟨1, _⟩ => rfl
  have he : (Rect.unit (s := S144x3072) ![0, 0] S8x3072.size inb).emb x
      = ix2 (⟨(x 0).val, by omega⟩ : Fin 144) (⟨(x 1).val, (x 1).isLt⟩ : Fin 3072) := funext fun a => Fin.ext (match a with
    | ⟨0, _⟩ => (ValueKit.rect_emb_unit_val _ _ _ x 0).trans (Nat.zero_add _)
    | ⟨1, _⟩ => (ValueKit.rect_emb_unit_val _ _ _ x 1).trans (Nat.zero_add _))
  rw [he]
  refine (congrArg _ hx).trans ?_
  refine Eq.trans ?_ (dif_pos b0).symm
  pointwise [k0_pay2]
  have e : IntOp.cmpi .sgt (BitVec.ofNat 32 (i 0).val) 0#32 = BitVec.ofBool (decide (0 < (i 0).val)) := by
    rw [word_nat, show (0#32) = word 0 from rfl, word_sgt (by omega) (by omega)]
    exact congrArg _ (decide_eq_decide.mpr (by omega))
  exact (congrArg (Scalar.select · _ _) e).trans (select_bit _ _ _)

theorem ext_own (t : ℕ) (x0 : Vec Ideal S128x3072 .f32) (x1 x2 : Vec Ideal S8x3072 .f32)
    (inb : ∀ a, (![8, 0] : Fin 2 → Nat) a + S128x3072.size a ≤ S144x3072.size a) (x : (Rect.unit (s := S144x3072) ![8, 0] S128x3072.size inb).shape.Idx) :
    k0_pay3 x0 x = ext t x0 x1 x2 ((Rect.unit (s := S144x3072) ![8, 0] S128x3072.size inb).emb x) := by
  have b0 : (x 0).val < 128 := (x 0).isLt
  have hx : x = ix2 (⟨(x 0).val, b0⟩ : Fin 128) (⟨(x 1).val, (x 1).isLt⟩ : Fin 3072) := funext fun a => match a with
    | ⟨0, _⟩ => rfl
    | ⟨1, _⟩ => rfl
  have he : (Rect.unit (s := S144x3072) ![8, 0] S128x3072.size inb).emb x
      = ix2 (⟨8 + (x 0).val, by omega⟩ : Fin 144) (⟨(x 1).val, (x 1).isLt⟩ : Fin 3072) := funext fun a => Fin.ext (match a with
    | ⟨0, _⟩ => ValueKit.rect_emb_unit_val _ _ _ x 0
    | ⟨1, _⟩ => (ValueKit.rect_emb_unit_val _ _ _ x 1).trans (Nat.zero_add _))
  rw [he]
  refine (congrArg _ hx).trans ?_
  have n1 : ¬ 8 + (x 0).val < 8 := by omega
  have n2 : 8 + (x 0).val < 136 := by omega
  refine Eq.trans ?_ ((dif_neg n1).trans (dif_pos n2)).symm
  pointwise [k0_pay3]

theorem ext_after (i : grid0.Coords) (x0 : Vec Ideal S128x3072 .f32) (x1 x2 : Vec Ideal S8x3072 .f32)
    (inb : ∀ a, (![136, 0] : Fin 2 → Nat) a + S8x3072.size a ≤ S144x3072.size a) (x : (Rect.unit (s := S144x3072) ![136, 0] S8x3072.size inb).shape.Idx) :
    k0_pay4 i x2 x = ext (i 0).val x0 x1 x2 ((Rect.unit (s := S144x3072) ![136, 0] S8x3072.size inb).emb x) := by
  have b0 : (x 0).val < 8 := (x 0).isLt
  have hi : (i 0).val < 65 := (i 0).isLt
  have hx : x = ix2 (⟨(x 0).val, b0⟩ : Fin 8) (⟨(x 1).val, (x 1).isLt⟩ : Fin 3072) := funext fun a => match a with
    | ⟨0, _⟩ => rfl
    | ⟨1, _⟩ => rfl
  have he : (Rect.unit (s := S144x3072) ![136, 0] S8x3072.size inb).emb x
      = ix2 (⟨136 + (x 0).val, by omega⟩ : Fin 144) (⟨(x 1).val, (x 1).isLt⟩ : Fin 3072) := funext fun a => Fin.ext (match a with
    | ⟨0, _⟩ => ValueKit.rect_emb_unit_val _ _ _ x 0
    | ⟨1, _⟩ => (ValueKit.rect_emb_unit_val _ _ _ x 1).trans (Nat.zero_add _))
  rw [he]
  refine (congrArg _ hx).trans ?_
  have n1 : ¬ 136 + (x 0).val < 8 := by omega
  have n2 : ¬ 136 + (x 0).val < 136 := by omega
  refine Eq.trans ?_ ((dif_neg n1).trans (dif_neg n2)).symm
  pointwise [k0_pay4]
  have e : IntOp.cmpi .slt (BitVec.ofNat 32 (i 0).val) 64#32 = BitVec.ofBool (decide ((i 0).val < 64)) := by
    rw [word_nat, show (64#32) = word 64 from rfl, word_slt (by omega) (by omega)]
    exact congrArg _ (decide_eq_decide.mpr (by omega))
  refine (congrArg (Scalar.select · _ _) e).trans ((select_bit _ _ _).trans (if_congr Iff.rfl ?_ rfl))
  rfl

/-- The scratch after the three stores. -/
theorem scratch_eq (i : grid0.Coords) (x0 : Vec Ideal S128x3072 .f32) (x1 x2 : Vec Ideal S8x3072 .f32) (y : S144x3072.Idx) :
    View.canon (Val := Elt Ideal) (s := S144x3072) (e := .f32)
      [⟨Rect.unit ![136, 0] ![8, 3072] inb_S144x3072_S8x3072_136_0, k0_pay4 i x2⟩,
        ⟨Rect.unit ![8, 0] ![128, 3072] inb_S144x3072_S128x3072_8_0, k0_pay3 x0⟩,
        ⟨Rect.unit ![0, 0] ![8, 3072] inb_S144x3072_S8x3072_0_0, k0_pay2 i x1⟩] y = ext (i 0).val x0 x1 x2 y := by
  refine View.canon_apply_of_pieces _ _ ?_ y ?_
  · simp only [List.forall_mem_cons]
    refine ⟨fun x => ext_after i x0 x1 x2 _ x, fun x => ext_own _ x0 x1 x2 _ x, fun x => ext_before i x0 x1 x2 _ x, ?_⟩
    simp
  · have b0 : (y 0).val < 144 := (y 0).isLt
    have b1 : (y 1).val < 3072 := (y 1).isLt
    by_cases h : (y 0).val < 8
    · refine ⟨_, List.mem_cons_of_mem _ (List.mem_cons_of_mem _ List.mem_cons_self), ?_⟩
      rw [Rect.mem_set_unit]
      intro a
      match a with
      | ⟨0, _⟩ => exact ⟨Nat.zero_le _, by show (y 0).val < 0 + 8; omega⟩
      | ⟨1, _⟩ => exact ⟨Nat.zero_le _, by show (y 1).val < 0 + 3072; omega⟩
    · by_cases h' : (y 0).val < 136
      · refine ⟨_, List.mem_cons_of_mem _ List.mem_cons_self, ?_⟩
        rw [Rect.mem_set_unit]
        intro a
        match a with
        | ⟨0, _⟩ => exact ⟨by show 8 ≤ (y 0).val; omega, by show (y 0).val < 8 + 128; omega⟩
        | ⟨1, _⟩ => exact ⟨Nat.zero_le _, by show (y 1).val < 0 + 3072; omega⟩
      · refine ⟨_, List.mem_cons_self, ?_⟩
        rw [Rect.mem_set_unit]
        intro a
        match a with
        | ⟨0, _⟩ => exact ⟨by show 136 ≤ (y 0).val; omega, by show (y 0).val < 136 + 8; omega⟩
        | ⟨1, _⟩ => exact ⟨Nat.zero_le _, by show (y 1).val < 0 + 3072; omega⟩

/-- A load of 128 rows of the scratch, at a row. -/
theorem place (o : ℕ) (inb : ∀ a, (![o, 0] : Fin 2 → Nat) a + (![128, 3072] : Fin 2 → Nat) a ≤ S144x3072.size a) (r : Fin 128) (q : Fin 3072)
    (s : Fin 144) (hs : s.val = o + r.val) : (Rect.unit (s := S144x3072) ![o, 0] ![128, 3072] inb).emb (ix2 r q) = ix2 s q :=
  funext fun a => Fin.ext (match a with
    | ⟨0, _⟩ => (ValueKit.rect_emb_unit_val _ _ _ _ 0).trans hs.symm
    | ⟨1, _⟩ => (ValueKit.rect_emb_unit_val _ _ _ _ 1).trans (Nat.zero_add _))

/-- A point's block. -/
theorem out_A (c : Dev nD) (i : grid0.Coords) (a1 : Memref sig .tc .vmem S128x3072 .f32) (h1 : a1.IsWhole)
    (a2 : Memref sig .tc .vmem S8x3072 .f32) (h2 : a2.IsWhole) (a3 : Memref sig .tc .vmem S8x3072 .f32) (h3 : a3.IsWhole)
    (a4 : Memref sig .tc .vmem S5x3072 .f32) (h4 : a4.IsWhole) (a5 : Memref sig .tc .vmem S1x3072 .f32) (h5 : a5.IsWhole)
    (a6 : Memref sig .tc .vmem S128x3072 .f32) (h6 : a6.IsWhole) (a7 : Memref sig .tc .vmem S144x3072 .f32) (h7 : a7.IsWhole)
    (x0 : Vec Ideal S128x3072 .f32) (x1 x2 : Vec Ideal S8x3072 .f32) (x3 : Vec Ideal S5x3072 .f32) (x4 : Vec Ideal S1x3072 .f32) (r : Fin 128) (q : Fin 3072) :
    out0_A_5 c i a1 h1 a2 h2 a3 h3 a4 h4 a5 h5 a6 h6 a7 h7 x0 x1 x2 x3 x4 (ix2 r q)
      = act ((i 0).val * 128 + r.val) (taps (x4 (ix2 0 q)) (fun j => x3 (ix2 j q))
        (fun j => ext (i 0).val x0 x1 x2 (ix2 ⟨6 + r.val + j.val, by omega⟩ q))) := by
  have hcov := cover0_A_5 c i a1 h1 a2 h2 a3 h3 a4 h4 a5 h5 a6 h6 a7 h7 x0 x1 x2 x3 x4
  have hz : (![0, 0] : Fin 2 → Nat) = fun _ => 0 := funext fun a => match a with | ⟨0, _⟩ => rfl | ⟨1, _⟩ => rfl
  unfold out0_A_5
  rw [View.read_writes_eq_canon _ _ _ hcov]
  unfold kernelRun0_A
  dsimp only
  sl_unfold_words
  rw [View.canon_unit_zero hz]
  simp only [View.readAt_eq_ld, h1.read_unread, h2.read_unread, h3.read_unread, h4.read_unread, h5.read_unread]
  simp only [View.ld_unit_zero (S := S128x3072) hz, View.ld_unit_zero (S := S8x3072) hz, View.ld_unit_zero (S := S5x3072) hz, View.ld_unit_zero (S := S1x3072) hz]
  simp only [View.readCov_eq_canon', scratch_eq]
  refine (block_apply (i 0).val (i 0).isLt _ _ _ _ _ _ _ r q).trans ?_
  refine congrArg (act _) (congrArg (taps _ _) (funext fun j => ?_))
  have hr := r.isLt
  match j with
  | 0 => exact congrArg (ext (i 0).val x0 x1 x2) (place 6 _ r q ⟨6 + r.val + 0, by omega⟩ (by show 6 + r.val + 0 = 6 + r.val; omega))
  | 1 => exact congrArg (ext (i 0).val x0 x1 x2) (place 7 _ r q ⟨6 + r.val + 1, by omega⟩ (by show 6 + r.val + 1 = 7 + r.val; omega))
  | 2 => exact congrArg (ext (i 0).val x0 x1 x2) (place 8 _ r q ⟨6 + r.val + 2, by omega⟩ (by show 6 + r.val + 2 = 8 + r.val; omega))
  | 3 => exact congrArg (ext (i 0).val x0 x1 x2) (place 9 _ r q ⟨6 + r.val + 3, by omega⟩ (by show 6 + r.val + 3 = 9 + r.val; omega))
  | 4 => exact congrArg (ext (i 0).val x0 x1 x2) (place 10 _ r q ⟨6 + r.val + 4, by omega⟩ (by show 6 + r.val + 4 = 10 + r.val; omega))

variable (m : (ℓ : Loc nD τ sig) → Buf (Elt Ideal) ℓ)

theorem points : cfg0.N = 65 := by decide

/-- The block indices: a point's own 128 rows, the eight before them and the eight after them. -/
theorem idx : ∀ t : Fin cfg0.N, win0_0.index t = ![t.val, 0] ∧ win0_1.index t = ![16 * t.val - 1, 0] ∧ win0_2.index t = ![min (16 * (t.val + 1)) 1039, 0]
    ∧ win0_3.index t = ![0, 0] ∧ win0_4.index t = ![0, 0] ∧ win0_5.index t = ![t.val, 0] ∧ (grid0.coords t 0).val = t.val :=
  (by decide +kernel : ∀ t : Fin grid0.N, _)

/-- The rows a point sees are the padded rows. -/
theorem ext_eq (c : Dev nD) (t : Fin cfg0.N) (s : Fin 144) (q : Fin 3072) (hs : 6 ≤ s.val ∧ s.val < 138) :
    ext t.val (iblk m c 0 t) (iblk m c 1 t) (iblk m c 2 t) (ix2 s q)
      = padded (m ((c : Thread nD τ).loc main_arg0)) (t.val * 128 + (s.val - 6)) q := by
  obtain ⟨e0, e1, e2, -⟩ := idx t
  have hN : t.val < 65 := lt_of_lt_of_eq t.isLt points
  have h0 : ∀ (r : Fin 128) (p : Fin 8320), p.val = t.val * 128 + r.val →
      iblk m c 0 t (ix2 r q) = (m ((c : Thread nD τ).loc main_arg0) : Vec Ideal S8320x3072 .f32) (ix2 p q) := fun r p hp => by
    blk_ext [iblk, V, e0]
  have h1 : ∀ (r : Fin 8) (p : Fin 8320), p.val = (16 * t.val - 1) * 8 + r.val →
      iblk m c 1 t (ix2 r q) = (m ((c : Thread nD τ).loc main_arg0) : Vec Ideal S8320x3072 .f32) (ix2 p q) := fun r p hp => by
    blk_ext [iblk, V, e1]
  have h2 : ∀ (r : Fin 8) (p : Fin 8320), p.val = min (16 * (t.val + 1)) 1039 * 8 + r.val →
      iblk m c 2 t (ix2 r q) = (m ((c : Thread nD τ).loc main_arg0) : Vec Ideal S8320x3072 .f32) (ix2 p q) := fun r p hp => by
    blk_ext [iblk, V, e2]
  by_cases g : s.val < 8
  · refine (dif_pos g).trans ?_
    by_cases g0 : 0 < t.val
    · refine (if_pos g0).trans ?_
      refine Eq.trans ?_ (dif_pos (by omega)).symm
      exact h1 _ _ (by show t.val * 128 + (s.val - 6) - 2 = (16 * t.val - 1) * 8 + s.val; omega)
    · refine (if_neg g0).trans ?_
      unfold padded
      rw [dif_neg (by omega)]
  · refine (dif_neg g).trans ?_
    by_cases g' : s.val < 136
    · refine (dif_pos g').trans ?_
      refine Eq.trans ?_ (dif_pos (by omega)).symm
      exact h0 _ _ (by show t.val * 128 + (s.val - 6) - 2 = t.val * 128 + (s.val - 8); omega)
    · refine (dif_neg g').trans ?_
      by_cases g1 : t.val < 64
      · refine (if_pos g1).trans ?_
        refine Eq.trans ?_ (dif_pos (by omega)).symm
        exact h2 _ _ (by show t.val * 128 + (s.val - 6) - 2 = min (16 * (t.val + 1)) 1039 * 8 + (s.val - 136); omega)
      · refine (if_neg g1).trans ?_
        unfold padded
        rw [dif_neg (by omega)]

/-- What a point writes back is its block of the reference's array. -/
theorem flushed_eq (c : Dev nD) (t : Fin cfg0.N) (hf : (cfg0.win 5).flush t = true) :
    (dats m 0 c).flushed 5 t = ((cfg0.win 5).blk t).view.read (Elt Ideal) (result (m ((c : Thread nD τ).loc main_arg0))
      (m ((c : Thread nD τ).loc main_arg1)) (m ((c : Thread nD τ).loc main_arg2))) := by
  obtain ⟨-, -, -, e3, e4, e5, e6⟩ := idx t
  have q0 : win0_5.index t (0 : Fin 2) = t.val := congrFun e5 0
  have q1 : win0_5.index t (1 : Fin 2) = 0 := congrFun e5 1
  have q4 : win0_4.index t (1 : Fin 2) = 0 := congrFun e4 1
  rw [Value.flushed5_A]
  funext y
  have hN : t.val < 65 := lt_of_lt_of_eq t.isLt points
  have b0 : (y 0).val < 128 := (y 0).isLt
  have hx : (cfg0.win 5).xinj (grid0.coords t) y = ix2 (⟨(y 0).val, (y 0).isLt⟩ : Fin 128) (⟨(y 1).val, (y 1).isLt⟩ : Fin 3072) :=
    funext fun a => match a with
      | ⟨0, _⟩ => rfl
      | ⟨1, _⟩ => rfl
  have he : ((cfg0.win 5).blk t).view.emb y = ix2 (⟨t.val * 128 + (y 0).val, by omega⟩ : Fin 8320) (⟨(y 1).val, (y 1).isLt⟩ : Fin 3072) :=
    funext fun a => Fin.ext (match a with
      | ⟨0, _⟩ => by show win0_5.index t (0 : Fin 2) * 128 + 1 * (y 0).val = t.val * 128 + (y 0).val; omega
      | ⟨1, _⟩ => by show win0_5.index t (1 : Fin 2) * 3072 + 1 * (y 1).val = (y 1).val; omega)
  have h3 : ∀ (j : Fin 5) (k : Fin 3072), iblk m c 3 t (ix2 j k) = (m ((c : Thread nD τ).loc main_arg1) : Vec Ideal S5x3072 .f32) (ix2 j k) := fun j k => by
    blk_ext [iblk, V, e3]
  have h4 : ∀ k : Fin 3072, iblk m c 4 t (ix2 0 k) = (m ((c : Thread nD τ).loc main_arg2) : Vec Ideal S3072 .f32) (ix1 k) := fun k => by
    show V m c main_v0 (((cfg0.win 4).blk t).view.emb _) = _
    entry_read
    pointwise
    refine congrArg (m ((c : Thread nD τ).loc main_arg2)) (congrArg (ix1 (n0 := 3072)) (Fin.ext ?_))
    show win0_4.index t (1 : Fin 2) * 3072 + 1 * k.val = k.val
    omega
  refine ((congrArg (out0_A_5 _ _ _ _ _ _ _ _ _ _ _ _ _ _ _ _ _ _ _ _ _) hx).trans ?_).trans (congrArg (result _ _ _) he).symm
  rw [out_A, e6]
  unfold result
  refine congrArg (act _) ?_
  rw [h4]
  refine congrArg₂ (taps _) (funext fun j => h3 j _) (funext fun j => ?_)
  have hj := j.isLt
  refine (ext_eq m c t _ _ ⟨by show 6 ≤ 6 + (y 0).val + j.val; omega, by show 6 + (y 0).val + j.val < 138; omega⟩).trans ?_
  refine congrArg (padded _ · _) ?_
  show t.val * 128 + (6 + (y 0).val + j.val - 6) = t.val * 128 + (y 0).val + j.val
  omega

/-- Every index of the array is in a point's block. -/
theorem covered (i : S8320x3072.Idx) : ∃ t : Fin cfg0.N, (cfg0.win 5).flush t = true ∧ i ∈ ((cfg0.win 5).blk t).view.set := by
  have b0 : (i 0).val < 8320 := (i 0).isLt
  have b1 : (i 1).val < 3072 := (i 1).isLt
  have hp : (i 0).val / 128 < cfg0.N := by rw [points]; omega
  refine ⟨⟨_, hp⟩, flush0_5 _, ?_⟩
  obtain ⟨-, -, -, -, -, e, -⟩ := idx ⟨_, hp⟩
  have q0 : win0_5.index ⟨_, hp⟩ (0 : Fin 2) = (i 0).val / 128 := congrFun e 0
  have q1 : win0_5.index ⟨_, hp⟩ (1 : Fin 2) = 0 := congrFun e 1
  show i ∈ ((View.whole main_v1).slice (win0_5.rect ⟨_, hp⟩)).set
  rw [View.set_slice_whole, Rect.mem_set_unit]
  intro a
  match a with
  | ⟨0, _⟩ => show win0_5.index ⟨_, hp⟩ (0 : Fin 2) * 128 ≤ (i 0).val ∧ (i 0).val < win0_5.index ⟨_, hp⟩ (0 : Fin 2) * 128 + 128; omega
  | ⟨1, _⟩ => show win0_5.index ⟨_, hp⟩ (1 : Fin 2) * 3072 ≤ (i 1).val ∧ (i 1).val < win0_5.index ⟨_, hp⟩ (1 : Fin 2) * 3072 + 3072; omega

theorem array_eq (c : Dev nD) : (dats m 0 c).arrAt 5 cfg0.N = result (m ((c : Thread nD τ).loc main_arg0))
    (m ((c : Thread nD τ).loc main_arg1)) (m ((c : Thread nD τ).loc main_arg2)) :=
  (dats m 0 c).arrAt_eq_of_cover 5 _ (flushed_eq m c) covered

end Cert.ConvIdeal.Body

namespace Cert.ConvReferenceIdeal.Read

open Cert.ConvReferenceIdeal Cert.ConvReferenceIdeal.Gen
open Cert.Conv (taps act padded result)
open Cert.ConvIdeal.Body (select_bit)
open Cert.AttentionIdeal.Words (word word_nat word_sge)

/-- The padded rows, read at a row and a column. -/
theorem padded_eq (x : Vec Ideal S8320x3072 .f32) (p : Fin 8324) (q : Fin 3072) : val_main_v0 (F := Ideal) x (ix2 p q) = padded x p.val q := by
  have z : ((((0#32 : BitVec 32).toInt : ℤ) : ℝ) : EReal) = 0 := by simp
  unfold val_main_v0 val_main_call0_v0 val_main_c padded
  pointwise
  by_cases h : 2 ≤ p.val ∧ p.val < 8322
  · rw [dif_pos h, dif_pos (by omega)]
  · rw [dif_neg h, dif_neg (by omega)]
    exact z

/-- The row's place, as a bit. -/
theorem row_word (r : ℕ) (hr : r < 8320) : IntOp.cmpi .sge (BitVec.ofNat 32 r) 112#32 = BitVec.ofBool (decide (112 ≤ r)) := by
  rw [word_nat r, show (112#32) = word 112 from rfl, word_sge (by omega) (by omega)]
  exact congrArg _ (decide_eq_decide.mpr (by omega))

theorem col (j : S5x3072.Idx) (r : Fin 5) (q : Fin 3072) (h0 : (j 0).val = r.val) (h1 : (j 1).val = q.val) : j = ix2 r q :=
  funext fun a => Fin.ext (match a with
    | ⟨0, _⟩ => h0
    | ⟨1, _⟩ => h1)

theorem at_row (j : S8324x3072.Idx) (r : Fin 8324) (q : Fin 3072) (h0 : (j 0).val = r.val) (h1 : (j 1).val = q.val) : j = ix2 r q :=
  funext fun a => Fin.ext (match a with
    | ⟨0, _⟩ => h0
    | ⟨1, _⟩ => h1)

/-- The reference's result. -/
theorem result_eq (x0 : Vec Ideal S8320x3072 .f32) (x1 : Vec Ideal S5x3072 .f32) (x2 : Vec Ideal S3072 .f32) :
    val_main_v44 (F := Ideal) x0 x1 x2 = result x0 x1 x2 := by
  funext i
  have b0 : (i 0).val < 8320 := (i 0).isLt
  have b1 : (i 1).val < 3072 := (i 1).isLt
  simp only [val_main_v44_apply, val_main_call2_v1_apply, val_main_call2_v0_apply, val_main_cst_1_apply, val_main_v43_apply,
    val_main_call1_v5_apply, val_main_call1_v4_apply, val_main_call1_cst_0_apply, val_main_call1_v3_apply,
    val_main_call1_v2_apply, val_main_call1_cst_apply, val_main_call1_v1_apply, val_main_call1_v0_apply, val_main_v42_apply,
    val_main_v41_apply, val_main_c_0_apply, val_main_v40_apply, val_main_v39_apply, val_main_v38_apply, val_main_v37_apply,
    val_main_v36_apply, val_main_v35_apply, val_main_v34_apply, val_main_v33_apply, val_main_v32_apply, val_main_v31_apply,
    val_main_v30_apply, val_main_v29_apply, val_main_v28_apply, val_main_v27_apply, val_main_v26_apply, val_main_v25_apply,
    val_main_v24_apply, val_main_v23_apply, val_main_v22_apply, val_main_v21_apply, val_main_v20_apply, val_main_v19_apply,
    val_main_v18_apply, val_main_v17_apply, val_main_v16_apply, val_main_v15_apply, val_main_v14_apply, val_main_v13_apply,
    val_main_v12_apply, val_main_v11_apply, val_main_v10_apply, val_main_v9_apply, val_main_v8_apply, val_main_v7_apply,
    val_main_cst_apply, val_main_v6_apply, val_main_v5_apply, val_main_v4_apply, val_main_v3_apply, val_main_v2_apply,
    val_main_v1_apply, val_main_call0_v0_apply, val_main_c_apply]
  have w0 : idx_main_v1 (idx_main_v2 (idx_main_v4 (idx_main_v5 i))) = ix2 (n0 := 5) 0 (i 1) := col _ _ _ rfl (Nat.mod_eq_of_lt b1)
  have w1 : idx_main_v9 (idx_main_v10 (idx_main_v12 (idx_main_v13 i))) = ix2 (n0 := 5) 1 (i 1) := col _ _ _ rfl (Nat.mod_eq_of_lt b1)
  have w2 : idx_main_v16 (idx_main_v17 (idx_main_v19 (idx_main_v20 i))) = ix2 (n0 := 5) 2 (i 1) := col _ _ _ rfl (Nat.mod_eq_of_lt b1)
  have w3 : idx_main_v23 (idx_main_v24 (idx_main_v26 (idx_main_v27 i))) = ix2 (n0 := 5) 3 (i 1) := col _ _ _ rfl (Nat.mod_eq_of_lt b1)
  have w4 : idx_main_v30 (idx_main_v31 (idx_main_v33 (idx_main_v34 i))) = ix2 (n0 := 5) 4 (i 1) := col _ _ _ rfl (Nat.mod_eq_of_lt b1)
  have p0 : val_main_v0 (F := Ideal) x0 (idx_main_v3 i) = padded x0 ((i 0).val + 0) (i 1) :=
    (congrArg _ (at_row _ ⟨(i 0).val + 0, by omega⟩ (i 1) (by show _ = _; rfl) rfl)).trans (padded_eq x0 _ _)
  have p1 : val_main_v0 (F := Ideal) x0 (idx_main_v11 i) = padded x0 ((i 0).val + 1) (i 1) :=
    (congrArg _ (at_row _ ⟨(i 0).val + 1, by omega⟩ (i 1) (by show 1 + (i 0).val = (i 0).val + 1; omega) rfl)).trans (padded_eq x0 _ _)
  have p2 : val_main_v0 (F := Ideal) x0 (idx_main_v18 i) = padded x0 ((i 0).val + 2) (i 1) :=
    (congrArg _ (at_row _ ⟨(i 0).val + 2, by omega⟩ (i 1) (by show 2 + (i 0).val = (i 0).val + 2; omega) rfl)).trans (padded_eq x0 _ _)
  have p3 : val_main_v0 (F := Ideal) x0 (idx_main_v25 i) = padded x0 ((i 0).val + 3) (i 1) :=
    (congrArg _ (at_row _ ⟨(i 0).val + 3, by omega⟩ (i 1) (by show 3 + (i 0).val = (i 0).val + 3; omega) rfl)).trans (padded_eq x0 _ _)
  have p4 : val_main_v0 (F := Ideal) x0 (idx_main_v32 i) = padded x0 ((i 0).val + 4) (i 1) :=
    (congrArg _ (at_row _ ⟨(i 0).val + 4, by omega⟩ (i 1) (by show 4 + (i 0).val = (i 0).val + 4; omega) rfl)).trans (padded_eq x0 _ _)
  have hb : idx_main_v37 (idx_main_v38 i) = ix1 (i 1) := eq_ix1 _
  rw [row_word _ b0, w0, w1, w2, w3, w4, p0, p1, p2, p3, p4, hb]
  have o : ∀ a0 a1 a2 a3 a4 b : EReal, 0 + a0 + a1 + a2 + a3 + a4 + b = b + a0 + a1 + a2 + a3 + a4 := fun a0 a1 a2 a3 a4 b => by
    rw [zero_add]; abel
  unfold result act taps sigmoid
  simp only [pointwise, o]
  rfl

end Cert.ConvReferenceIdeal.Read

end
-- ==== Proof.RouterValue.lean ====
/- The norm joined with the router: the two arrays the grid leaves, read at an index, are the reference's there when the
   weights are real numbers. -/
module

public import proofs.«01_k».proof.Proof.RootMean
public import proofs.«01_k».proof.Proof.AttentionValue
public import proofs.«01_k».proof.Pre_finite_weights
public import proofs.«01_k».proof.Proof.Gen.RouterIdeal.Value
public import proofs.«01_k».proof.Proof.Gen.RouterReferenceIdeal.Read

@[expose] public section

set_option maxRecDepth 16384

noncomputable section

open Idealize.ShloMosaic Idealize.ShloMosaic.TcCoe Idealize.SL.Sem

namespace Cert.Router

open Cert.RootMean (scaleOf)

/-- A row over its root mean square, times a weight of each column. -/
def rows (h : Vec Ideal ⟨2, ![8320, 4096]⟩ .f32) (w : Vec Ideal ⟨1, ![4096]⟩ .f32) : Vec Ideal ⟨2, ![8320, 4096]⟩ .f32 := fun i =>
  h i * scaleOf 0x45800000#32 (fun k : Fin 4096 => h (ix2 (i 0) k)) * w (ix1 (i 1))

/-- A row's logit at an expert, the experts first. -/
def logits (h : Vec Ideal ⟨2, ![8320, 4096]⟩ .f32) (w : Vec Ideal ⟨1, ![4096]⟩ .f32) (g : Vec Ideal ⟨2, ![4096, 16]⟩ .f32) :
    Vec Ideal ⟨2, ![16, 8320]⟩ .f32 := fun i => ∑ k : Fin 4096, rows h w (ix2 (i 1) k) * g (ix2 k (i 0))

theorem square_nonneg (a : EReal) : 0 ≤ a * a := by
  induction a with
  | bot => simp
  | top => simp
  | coe r => rw [← EReal.coe_mul]; exact_mod_cast mul_self_nonneg r

theorem count_eq : FloatOps.ofBits (F := Ideal) .f32 0x45800000#32 = ((4096 : ℝ) : EReal) := by
  show Ideal.ofBits .f32 0x45800000#32 = _
  simp [Ideal.ofBits, Ideal.ieee]
  rw [← EReal.coe_mul]
  norm_num

theorem small_pos : ∃ e : ℝ, 0 < e ∧ FloatOps.ofBits (F := Ideal) .f32 0x358637BD#32 = (e : EReal) := by
  refine ⟨_, ?_, show Ideal.ofBits .f32 0x358637BD#32 = ((8796093 / 8796093022208 : ℝ) : EReal) from ?_⟩
  · norm_num
  · simp [Ideal.ofBits, Ideal.ieee]
    rw [← EReal.coe_mul]
    norm_num

/-- An entry over its row's root mean square is a real number, an infinite row being scaled by nought. -/
theorem scaled_real (x : Fin 4096 → EReal) (k : Fin 4096) : ∃ r : ℝ, x k * scaleOf 0x45800000#32 x = (r : EReal) := by
  obtain ⟨e, he, hs⟩ := small_pos
  unfold scaleOf
  rw [count_eq, hs, Ideal.div_coe (by norm_num)]
  have hle : x k * x k ≤ ∑ j : Fin 4096, x j * x j :=
    Finset.single_le_sum (f := fun j => x j * x j) (fun j _ => square_nonneg (x j)) (Finset.mem_univ k)
  have h0 : 0 ≤ ∑ j : Fin 4096, x j * x j := (square_nonneg _).trans hle
  generalize (∑ j : Fin 4096, x j * x j) = s at hle h0
  induction s with
  | bot => exact absurd h0 (by simp)
  | top =>
    rw [EReal.top_mul_coe_of_pos (by norm_num), EReal.top_add_coe, Ideal.rsqrt_top, mul_zero]
    exact ⟨0, rfl⟩
  | coe s =>
    have hs0 : 0 ≤ s := by exact_mod_cast h0
    have hp : 0 < s * (1 / 4096) + e := by positivity
    rw [← EReal.coe_mul, ← EReal.coe_add, Ideal.rsqrt_coe, if_neg hp.le.not_gt, if_neg hp.ne']
    generalize x k = a at hle ⊢
    induction a with
    | bot => exact absurd hle (by simp)
    | top => exact absurd hle (by simp)
    | coe a => exact ⟨_, (EReal.coe_mul _ _).symm⟩

/-- A real number less itself is nought. -/
theorem sub_self_real {a : EReal} (h : ∃ r : ℝ, a = (r : EReal)) : a - a = 0 := by
  obtain ⟨r, rfl⟩ := h
  rw [← EReal.coe_sub, sub_self, EReal.coe_zero]

/-- Weights that are real numbers. -/
structure Reals (w : Vec Ideal ⟨1, ![4096]⟩ .f32) (g : Vec Ideal ⟨2, ![4096, 16]⟩ .f32) : Prop where
  norm : ∀ k : Fin 4096, ∃ r : ℝ, w (ix1 k) = (r : EReal)
  gate : ∀ (k : Fin 4096) (e : Fin 16), ∃ r : ℝ, g (ix2 k e) = (r : EReal)

end Cert.Router

namespace Cert.RouterIdeal.Body

open Cert.RouterIdeal Cert.RouterIdeal.Gen
open Cert.RootMean (scaleOf)
open Cert.Router (rows logits Reals scaled_real sub_self_real)

/-- A block's row over its root mean square, times the weights. -/
theorem block_apply (x : Vec Ideal S640x4096 .f32) (w : Vec Ideal S1x4096 .f32) (r : Fin 640) (n : Fin 4096) :
    k0_pay1 (F := Ideal) x w (ix2 r n) = x (ix2 r n) * scaleOf 0x45800000#32 (fun k : Fin 4096 => x (ix2 r k)) * w (ix2 0 n) := by
  unfold scaleOf
  pointwise [k0_pay1]

/-- The stored logits: the product of the leading halves and the two with a remainder. -/
theorem halves_apply (x : Vec Ideal S640x4096 .f32) (w : Vec Ideal S1x4096 .f32) (g : Vec Ideal S16x4096 .f32) (e : Fin 16) (r : Fin 640) :
    k0_pay2 (F := Ideal) x w g (ix2 e r) = (∑ k : Fin 4096, g (ix2 e k) * k0_pay1 (F := Ideal) x w (ix2 r k))
      + (∑ k : Fin 4096, (g (ix2 e k) - g (ix2 e k)) * k0_pay1 (F := Ideal) x w (ix2 r k))
      + ∑ k : Fin 4096, g (ix2 e k) * (k0_pay1 (F := Ideal) x w (ix2 r k) - k0_pay1 (F := Ideal) x w (ix2 r k)) := by
  unfold k0_pay2
  generalize k0_pay1 (F := Ideal) x w = y
  pointwise [dot_S16x4096_S640x4096_S16x640_1_1_0_0_n_n]

/-- Of real weights the remainders are nought. -/
theorem logits_apply (x : Vec Ideal S640x4096 .f32) (w : Vec Ideal S1x4096 .f32) (g : Vec Ideal S16x4096 .f32) (e : Fin 16) (r : Fin 640)
    (hw : ∀ k : Fin 4096, ∃ a : ℝ, w (ix2 0 k) = (a : EReal)) (hg : ∀ k : Fin 4096, ∃ a : ℝ, g (ix2 e k) = (a : EReal)) :
    k0_pay2 (F := Ideal) x w g (ix2 e r) = ∑ k : Fin 4096, k0_pay1 (F := Ideal) x w (ix2 r k) * g (ix2 e k) := by
  have hy : ∀ k : Fin 4096, ∃ a : ℝ, k0_pay1 (F := Ideal) x w (ix2 r k) = (a : EReal) := fun k => by
    obtain ⟨a, ha⟩ := scaled_real (fun k : Fin 4096 => x (ix2 r k)) k
    obtain ⟨b, hb⟩ := hw k
    refine ⟨a * b, (block_apply x w r k).trans ?_⟩
    rw [EReal.coe_mul, ← ha, hb]
  have z1 : (∑ k : Fin 4096, (g (ix2 e k) - g (ix2 e k)) * k0_pay1 (F := Ideal) x w (ix2 r k)) = 0 :=
    Finset.sum_eq_zero fun k _ => by rw [sub_self_real (hg k), zero_mul]
  have z2 : (∑ k : Fin 4096, g (ix2 e k) * (k0_pay1 (F := Ideal) x w (ix2 r k) - k0_pay1 (F := Ideal) x w (ix2 r k))) = 0 :=
    Finset.sum_eq_zero fun k _ => by rw [sub_self_real (hy k), mul_zero]
  rw [halves_apply, z1, z2, add_zero, add_zero]
  exact Finset.sum_congr rfl fun k _ => mul_comm _ _

variable (m : (ℓ : Loc nD τ sig) → Buf (Elt Ideal) ℓ)

theorem points : cfg0.N = 13 := by decide

/-- The block indices: 640 rows a point. -/
theorem idx : ∀ t : Fin cfg0.N, win0_0.index t = ![t.val, 0] ∧ win0_1.index t = ![0, 0] ∧ win0_2.index t = ![0, 0]
    ∧ win0_3.index t = ![t.val, 0] ∧ win0_4.index t = ![0, t.val] :=
  (by decide +kernel : ∀ t : Fin grid0.N, _)

/-! ## A point's blocks -/

theorem row_apply (c : Dev nD) (t : Fin cfg0.N) (r : Fin 640) (k : Fin 4096) (p : Fin 8320) (hp : p.val = t.val * 640 + r.val) :
    iblk m c 0 t (ix2 r k) = (m ((c : Thread nD τ).loc main_arg0) : Vec Ideal S8320x4096 .f32) (ix2 p k) := by
  have e0 := (idx t).1
  blk_ext [iblk, V, e0]

theorem weight_apply (c : Dev nD) (t : Fin cfg0.N) (k : Fin 4096) :
    iblk m c 1 t (ix2 0 k) = (m ((c : Thread nD τ).loc main_arg1) : Vec Ideal S4096 .f32) (ix1 k) := by
  have q : win0_1.index t (1 : Fin 2) = 0 := congrFun (idx t).2.1 1
  show V m c main_v0 (((cfg0.win 1).blk t).view.emb _) = _
  entry_read
  pointwise
  refine congrArg (m ((c : Thread nD τ).loc main_arg1)) (congrArg (ix1 (n0 := 4096)) (Fin.ext ?_))
  show win0_1.index t (1 : Fin 2) * 4096 + 1 * k.val = k.val
  omega

theorem gate_apply (c : Dev nD) (t : Fin cfg0.N) (e : Fin 16) (k : Fin 4096) :
    iblk m c 2 t (ix2 e k) = (m ((c : Thread nD τ).loc main_arg2) : Vec Ideal S4096x16 .f32) (ix2 k e) := by
  have q0 : win0_2.index t (0 : Fin 2) = 0 := congrFun (idx t).2.2.1 0
  have q1 : win0_2.index t (1 : Fin 2) = 0 := congrFun (idx t).2.2.1 1
  show V m c main_v1 (((cfg0.win 2).blk t).view.emb _) = _
  entry_read
  pointwise
  refine congrArg (m ((c : Thread nD τ).loc main_arg2)) (congrArg₂ (ix2 (n0 := 4096) (n1 := 16)) (Fin.ext ?_) (Fin.ext ?_))
  · show win0_2.index t (1 : Fin 2) * 4096 + 1 * k.val = k.val
    omega
  · show win0_2.index t (0 : Fin 2) * 16 + 1 * e.val = e.val
    omega

/-- A point's normed row is the array's. -/
theorem normed_apply (c : Dev nD) (t : Fin cfg0.N) (r : Fin 640) (n : Fin 4096) (p : Fin 8320) (hp : p.val = t.val * 640 + r.val) :
    k0_pay1 (F := Ideal) (iblk m c 0 t) (iblk m c 1 t) (ix2 r n)
      = rows (m ((c : Thread nD τ).loc main_arg0)) (m ((c : Thread nD τ).loc main_arg1)) (ix2 p n) := by
  refine (block_apply _ _ _ _).trans ?_
  unfold rows
  exact congrArg₂ (· * ·) (congrArg₂ (· * ·) (row_apply m c t r n p hp)
    (congrArg _ (funext fun k => row_apply m c t r k p hp))) (weight_apply m c t n)

theorem hz : (![0, 0] : Fin 2 → Nat) = fun _ => 0 := funext fun a => match a with | ⟨0, _⟩ => rfl | ⟨1, _⟩ => rfl

/-- What a point writes back is its block of the normed rows; -/
theorem flushed_rows (c : Dev nD) (t : Fin cfg0.N) (hf : (cfg0.win 3).flush t = true) :
    (dats m 0 c).flushed 3 t = ((cfg0.win 3).blk t).view.read (Elt Ideal)
      (rows (m ((c : Thread nD τ).loc main_arg0)) (m ((c : Thread nD τ).loc main_arg1))) := by
  obtain ⟨-, -, -, e3, -⟩ := idx t
  have q0 : win0_3.index t (0 : Fin 2) = t.val := congrFun e3 0
  have q1 : win0_3.index t (1 : Fin 2) = 0 := congrFun e3 1
  rw [Value.flushed3]
  funext y
  show out0_3 (iblk m c 0 t) (iblk m c 1 t) (iblk m c 2 t) ((cfg0.win 3).xinj (grid0.coords t) y) = rows _ _ (((cfg0.win 3).blk t).view.emb y)
  unfold out0_3
  rw [View.canon_unit_zero hz, View.ld_unit_zero (S := S640x4096) hz, View.ld_unit_zero (S := S1x4096) hz]
  have hx : (cfg0.win 3).xinj (grid0.coords t) y = ix2 (⟨(y 0).val, (y 0).isLt⟩ : Fin 640) (⟨(y 1).val, (y 1).isLt⟩ : Fin 4096) :=
    funext fun a => match a with
      | ⟨0, _⟩ => rfl
      | ⟨1, _⟩ => rfl
  have hN : t.val < 13 := lt_of_lt_of_eq t.isLt points
  have b0 : (y 0).val < 640 := (y 0).isLt
  have he : ((cfg0.win 3).blk t).view.emb y = ix2 (⟨t.val * 640 + (y 0).val, by omega⟩ : Fin 8320) (⟨(y 1).val, (y 1).isLt⟩ : Fin 4096) :=
    funext fun a => Fin.ext (match a with
      | ⟨0, _⟩ => by show win0_3.index t (0 : Fin 2) * 640 + 1 * (y 0).val = t.val * 640 + (y 0).val; omega
      | ⟨1, _⟩ => by show win0_3.index t (1 : Fin 2) * 4096 + 1 * (y 1).val = (y 1).val; omega)
  exact (congrArg _ hx).trans ((normed_apply m c t _ _ _ rfl).trans (congrArg (rows _ _) he).symm)

/-- and its block of the logits. -/
theorem flushed_logits (c : Dev nD) (R : Reals (m ((c : Thread nD τ).loc main_arg1)) (m ((c : Thread nD τ).loc main_arg2)))
    (t : Fin cfg0.N) (hf : (cfg0.win 4).flush t = true) :
    (dats m 0 c).flushed 4 t = ((cfg0.win 4).blk t).view.read (Elt Ideal)
      (logits (m ((c : Thread nD τ).loc main_arg0)) (m ((c : Thread nD τ).loc main_arg1)) (m ((c : Thread nD τ).loc main_arg2))) := by
  obtain ⟨-, -, -, -, e4⟩ := idx t
  have q0 : win0_4.index t (0 : Fin 2) = 0 := congrFun e4 0
  have q1 : win0_4.index t (1 : Fin 2) = t.val := congrFun e4 1
  rw [Value.flushed4]
  funext y
  show out0_4 (iblk m c 0 t) (iblk m c 1 t) (iblk m c 2 t) ((cfg0.win 4).xinj (grid0.coords t) y) = logits _ _ _ (((cfg0.win 4).blk t).view.emb y)
  unfold out0_4
  rw [View.canon_unit_zero hz, View.ld_unit_zero (S := S640x4096) hz, View.ld_unit_zero (S := S1x4096) hz, View.ld_unit_zero (S := S16x4096) hz]
  have hx : (cfg0.win 4).xinj (grid0.coords t) y = ix2 (⟨(y 0).val, (y 0).isLt⟩ : Fin 16) (⟨(y 1).val, (y 1).isLt⟩ : Fin 640) :=
    funext fun a => match a with
      | ⟨0, _⟩ => rfl
      | ⟨1, _⟩ => rfl
  have hN : t.val < 13 := lt_of_lt_of_eq t.isLt points
  have b1 : (y 1).val < 640 := (y 1).isLt
  have he : ((cfg0.win 4).blk t).view.emb y = ix2 (⟨(y 0).val, (y 0).isLt⟩ : Fin 16) (⟨t.val * 640 + (y 1).val, by omega⟩ : Fin 8320) :=
    funext fun a => Fin.ext (match a with
      | ⟨0, _⟩ => by show win0_4.index t (0 : Fin 2) * 16 + 1 * (y 0).val = (y 0).val; omega
      | ⟨1, _⟩ => by show win0_4.index t (1 : Fin 2) * 640 + 1 * (y 1).val = t.val * 640 + (y 1).val; omega)
  refine (congrArg _ hx).trans ((logits_apply _ _ _ _ _ (fun k => ?_) (fun k => ?_)).trans (Eq.trans ?_ (congrArg (logits _ _ _) he).symm))
  · exact (weight_apply m c t k).symm ▸ R.norm k
  · exact (gate_apply m c t _ k).symm ▸ R.gate k _
  · unfold logits
    exact Finset.sum_congr rfl fun k _ => congrArg₂ (· * ·) (normed_apply m c t _ k _ rfl) (gate_apply m c t _ k)

/-! ## The arrays -/

/-- Every index of the rows is in a point's block; -/
theorem covered_rows (i : S8320x4096.Idx) : ∃ t : Fin cfg0.N, (cfg0.win 3).flush t = true ∧ i ∈ ((cfg0.win 3).blk t).view.set := by
  have b0 : (i 0).val < 8320 := (i 0).isLt
  have b1 : (i 1).val < 4096 := (i 1).isLt
  have hp : (i 0).val / 640 < cfg0.N := by rw [points]; omega
  refine ⟨⟨_, hp⟩, flush0_3 _, ?_⟩
  obtain ⟨-, -, -, e, -⟩ := idx ⟨_, hp⟩
  have q0 : win0_3.index ⟨_, hp⟩ (0 : Fin 2) = (i 0).val / 640 := congrFun e 0
  have q1 : win0_3.index ⟨_, hp⟩ (1 : Fin 2) = 0 := congrFun e 1
  show i ∈ ((View.whole main_v2_0).slice (win0_3.rect ⟨_, hp⟩)).set
  rw [View.set_slice_whole, Rect.mem_set_unit]
  intro a
  match a with
  | ⟨0, _⟩ => show win0_3.index ⟨_, hp⟩ (0 : Fin 2) * 640 ≤ (i 0).val ∧ (i 0).val < win0_3.index ⟨_, hp⟩ (0 : Fin 2) * 640 + 640; omega
  | ⟨1, _⟩ => show win0_3.index ⟨_, hp⟩ (1 : Fin 2) * 4096 ≤ (i 1).val ∧ (i 1).val < win0_3.index ⟨_, hp⟩ (1 : Fin 2) * 4096 + 4096; omega

/-- and every index of the logits. -/
theorem covered_logits (i : S16x8320.Idx) : ∃ t : Fin cfg0.N, (cfg0.win 4).flush t = true ∧ i ∈ ((cfg0.win 4).blk t).view.set := by
  have b0 : (i 0).val < 16 := (i 0).isLt
  have b1 : (i 1).val < 8320 := (i 1).isLt
  have hp : (i 1).val / 640 < cfg0.N := by rw [points]; omega
  refine ⟨⟨_, hp⟩, flush0_4 _, ?_⟩
  obtain ⟨-, -, -, -, e⟩ := idx ⟨_, hp⟩
  have q0 : win0_4.index ⟨_, hp⟩ (0 : Fin 2) = 0 := congrFun e 0
  have q1 : win0_4.index ⟨_, hp⟩ (1 : Fin 2) = (i 1).val / 640 := congrFun e 1
  show i ∈ ((View.whole main_v2_1).slice (win0_4.rect ⟨_, hp⟩)).set
  rw [View.set_slice_whole, Rect.mem_set_unit]
  intro a
  match a with
  | ⟨0, _⟩ => show win0_4.index ⟨_, hp⟩ (0 : Fin 2) * 16 ≤ (i 0).val ∧ (i 0).val < win0_4.index ⟨_, hp⟩ (0 : Fin 2) * 16 + 16; omega
  | ⟨1, _⟩ => show win0_4.index ⟨_, hp⟩ (1 : Fin 2) * 640 ≤ (i 1).val ∧ (i 1).val < win0_4.index ⟨_, hp⟩ (1 : Fin 2) * 640 + 640; omega

theorem rows_eq (c : Dev nD) : (dats m 0 c).arrAt 3 cfg0.N
    = rows (m ((c : Thread nD τ).loc main_arg0)) (m ((c : Thread nD τ).loc main_arg1)) :=
  (dats m 0 c).arrAt_eq_of_cover 3 _ (flushed_rows m c) covered_rows

theorem logits_eq (c : Dev nD) (R : Reals (m ((c : Thread nD τ).loc main_arg1)) (m ((c : Thread nD τ).loc main_arg2))) :
    (dats m 0 c).arrAt 4 cfg0.N
      = logits (m ((c : Thread nD τ).loc main_arg0)) (m ((c : Thread nD τ).loc main_arg1)) (m ((c : Thread nD τ).loc main_arg2)) :=
  (dats m 0 c).arrAt_eq_of_cover 4 _ (flushed_logits m c R) covered_logits

/-! ## The precondition -/

/-- The precondition's shape facts. -/
theorem weights_facts : Cert.Pre_finite_weights.Facts where
  bcast_S_S4096 := by decide
  bcast_S_S4096x16 := by decide

theorem reals [Cert.Pre_finite_weights.Facts] {h : Vec Ideal S8320x4096 .f32} {w : Vec Ideal S4096 .f32} {g : Vec Ideal S4096x16 .f32}
    (H : (Cert.Pre_finite_weights.fn (F := Ideal) h w g).1 = (fun _ => 1#1) ∧ (Cert.Pre_finite_weights.fn (F := Ideal) h w g).2 = (fun _ => 1#1)) :
    Reals w g where
  norm k := Cert.AttentionIdeal.Body.real_of_bit (congrFun H.1 (ix1 k))
  gate k e := Cert.AttentionIdeal.Body.real_of_bit (congrFun H.2 (ix2 k e))

end Cert.RouterIdeal.Body

namespace Cert.RouterReferenceIdeal.Read

/-- The reference's first result is the normed rows; -/
theorem rows_eq (x0 : Vec Ideal S8320x4096 .f32) (x1 : Vec Ideal S4096 .f32) :
    val_main_v12 (F := Ideal) x0 x1 = Cert.Router.rows x0 x1 := by
  funext i
  simp only [val_main_v12_apply, val_main_v11_apply, val_main_v10_apply, val_main_v9_apply, val_main_v8_apply,
    val_main_v7_apply, val_main_v6_apply, val_main_v5_apply, val_main_v4_apply, val_main_v3_apply, val_main_v2_apply, val_main_v1_apply,
    val_main_v0_apply, val_main_cst_apply, val_main_cst_0_apply, val_main_cst_1_apply]
  have e : ∀ k : Fin 4096, idx_main_v1 (idx_main_v2 (idx_main_v8 i)) k = ix2 (i 0) k := fun k => eq_ix2 _
  have z : FloatOps.ofBits (F := Ideal) .f32 0x00000000#32 = (0 : EReal) := Ideal.ofBits_zero_f32
  have f : idx_main_v10 (idx_main_v11 i) = ix1 (i 1) := eq_ix1 _
  unfold Cert.Router.rows Cert.RootMean.scaleOf
  simp only [e, f, z, zero_add, pointwise]

/-- its second, the logits. -/
theorem logits_eq (x0 : Vec Ideal S8320x4096 .f32) (x1 : Vec Ideal S4096 .f32) (x2 : Vec Ideal S4096x16 .f32) :
    val_main_v14 (F := Ideal) x0 x1 x2 = Cert.Router.logits x0 x1 x2 := by
  funext i
  rw [val_main_v14_apply, val_main_v13_apply, rows_eq]
  unfold Cert.Router.logits
  exact Finset.sum_congr rfl fun k _ => congrArg₂ (· * ·) (congrArg _ (eq_ix2 _)) (congrArg x2 (eq_ix2 _))

end Cert.RouterReferenceIdeal.Read

end
-- ==== Proof.lean ====
module

public import proofs.«01_k».proof.Defs
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.QkvoProj
public import proofs.«01_k».proof.Proof.Gen.QkvoProj.Skeleton
public import proofs.«01_k».proof.Proof.Gen.QkvoProj.Launch
public import proofs.«01_k».proof.Proof.Gen.QkvoProj.Points
public import proofs.«01_k».proof.Proof.Gen.QkvoProj.Frame
public import proofs.«01_k».proof.Proof.Gen.QkvoProjIdeal
public import proofs.«01_k».proof.Proof.Gen.QkvoProjIdeal.Skeleton
public import proofs.«01_k».proof.Proof.Gen.QkvoProjIdeal.Launch
public import proofs.«01_k».proof.Proof.Gen.QkvoProjIdeal.Points
public import proofs.«01_k».proof.Proof.Gen.QkvoProjIdeal.Frame
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.QkvoReferenceIdeal
public import proofs.«01_k».proof.Proof.Gen.QkvoReferenceIdeal.Run
public import proofs.«01_k».proof.Proof.Gen.QkvoReferenceIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.FfnTwo
public import proofs.«01_k».proof.Proof.Gen.FfnTwo.Skeleton
public import proofs.«01_k».proof.Proof.Gen.FfnTwo.Launch
public import proofs.«01_k».proof.Proof.Gen.FfnTwo.Points
public import proofs.«01_k».proof.Proof.Gen.FfnTwo.Frame
public import proofs.«01_k».proof.Proof.Gen.FfnTwoIdeal
public import proofs.«01_k».proof.Proof.Gen.FfnTwoIdeal.Skeleton
public import proofs.«01_k».proof.Proof.Gen.FfnTwoIdeal.Launch
public import proofs.«01_k».proof.Proof.Gen.FfnTwoIdeal.Points
public import proofs.«01_k».proof.Proof.Gen.FfnTwoIdeal.Frame
public import proofs.«01_k».proof.Proof.Gen.ZProj
public import proofs.«01_k».proof.Proof.Gen.ZProj.Skeleton
public import proofs.«01_k».proof.Proof.Gen.ZProj.Launch
public import proofs.«01_k».proof.Proof.Gen.ZProj.Points
public import proofs.«01_k».proof.Proof.Gen.ZProj.Frame
public import proofs.«01_k».proof.Proof.Gen.ZProjIdeal
public import proofs.«01_k».proof.Proof.Gen.ZProjIdeal.Skeleton
public import proofs.«01_k».proof.Proof.Gen.ZProjIdeal.Launch
public import proofs.«01_k».proof.Proof.Gen.ZProjIdeal.Points
public import proofs.«01_k».proof.Proof.Gen.ZProjIdeal.Frame
public import proofs.«01_k».proof.Proof.Gen.XbcProj
public import proofs.«01_k».proof.Proof.Gen.XbcProj.Skeleton
public import proofs.«01_k».proof.Proof.Gen.XbcProj.Launch
public import proofs.«01_k».proof.Proof.Gen.XbcProj.Points
public import proofs.«01_k».proof.Proof.Gen.XbcProj.Frame
public import proofs.«01_k».proof.Proof.Gen.XbcProjIdeal
public import proofs.«01_k».proof.Proof.Gen.XbcProjIdeal.Skeleton
public import proofs.«01_k».proof.Proof.Gen.XbcProjIdeal.Launch
public import proofs.«01_k».proof.Proof.Gen.XbcProjIdeal.Points
public import proofs.«01_k».proof.Proof.Gen.XbcProjIdeal.Frame
public import proofs.«01_k».proof.Proof.Gen.QkvProj
public import proofs.«01_k».proof.Proof.Gen.QkvProj.Skeleton
public import proofs.«01_k».proof.Proof.Gen.QkvProj.Launch
public import proofs.«01_k».proof.Proof.Gen.QkvProj.Points
public import proofs.«01_k».proof.Proof.Gen.QkvProj.Frame
public import proofs.«01_k».proof.Proof.Gen.QkvProjIdeal
public import proofs.«01_k».proof.Proof.Gen.QkvProjIdeal.Skeleton
public import proofs.«01_k».proof.Proof.Gen.QkvProjIdeal.Launch
public import proofs.«01_k».proof.Proof.Gen.QkvProjIdeal.Points
public import proofs.«01_k».proof.Proof.Gen.QkvProjIdeal.Frame
public import proofs.«01_k».proof.Proof.Gen.FnProj
public import proofs.«01_k».proof.Proof.Gen.FnProj.Skeleton
public import proofs.«01_k».proof.Proof.Gen.FnProj.Launch
public import proofs.«01_k».proof.Proof.Gen.FnProj.Points
public import proofs.«01_k».proof.Proof.Gen.FnProj.Frame
public import proofs.«01_k».proof.Proof.Gen.FnProjIdeal
public import proofs.«01_k».proof.Proof.Gen.FnProjIdeal.Skeleton
public import proofs.«01_k».proof.Proof.Gen.FnProjIdeal.Launch
public import proofs.«01_k».proof.Proof.Gen.FnProjIdeal.Points
public import proofs.«01_k».proof.Proof.Gen.FnProjIdeal.Frame
public import proofs.«01_k».proof.Proof.Gen.FfnTwoReferenceIdeal
public import proofs.«01_k».proof.Proof.Gen.FfnTwoReferenceIdeal.Run
public import proofs.«01_k».proof.Proof.Gen.FfnTwoReferenceIdeal.Read
public import proofs.«01_k».proof.Proof.Gen.ZReferenceIdeal
public import proofs.«01_k».proof.Proof.Gen.ZReferenceIdeal.Run
public import proofs.«01_k».proof.Proof.Gen.ZReferenceIdeal.Read
public import proofs.«01_k».proof.Proof.Gen.XbcReferenceIdeal
public import proofs.«01_k».proof.Proof.Gen.XbcReferenceIdeal.Run
public import proofs.«01_k».proof.Proof.Gen.XbcReferenceIdeal.Read
public import proofs.«01_k».proof.Proof.Gen.QkvReferenceIdeal
public import proofs.«01_k».proof.Proof.Gen.QkvReferenceIdeal.Run
public import proofs.«01_k».proof.Proof.Gen.QkvReferenceIdeal.Read
public import proofs.«01_k».proof.Proof.Gen.FnReferenceIdeal
public import proofs.«01_k».proof.Proof.Gen.FnReferenceIdeal.Run
public import proofs.«01_k».proof.Proof.Gen.FnReferenceIdeal.Read
public import proofs.«01_k».proof.Proof.Gen.OutTwo
public import proofs.«01_k».proof.Proof.Gen.OutTwo.Skeleton
public import proofs.«01_k».proof.Proof.Gen.OutTwo.Launch
public import proofs.«01_k».proof.Proof.Gen.OutTwo.Points
public import proofs.«01_k».proof.Proof.Gen.OutTwo.Frame
public import proofs.«01_k».proof.Proof.Gen.OutTwoIdeal
public import proofs.«01_k».proof.Proof.Gen.OutTwoIdeal.Skeleton
public import proofs.«01_k».proof.Proof.Gen.OutTwoIdeal.Launch
public import proofs.«01_k».proof.Proof.Gen.OutTwoIdeal.Points
public import proofs.«01_k».proof.Proof.Gen.OutTwoIdeal.Frame
public import proofs.«01_k».proof.Proof.Gen.OutTwoReferenceIdeal
public import proofs.«01_k».proof.Proof.Gen.OutTwoReferenceIdeal.Run
public import proofs.«01_k».proof.Proof.Gen.OutTwoReferenceIdeal.Read
public import proofs.«01_k».proof.Proof.Gen.Attention
public import proofs.«01_k».proof.Proof.Gen.Attention.Skeleton
public import proofs.«01_k».proof.Proof.Gen.Attention.Launch
public import proofs.«01_k».proof.Proof.Gen.Attention.Points
public import proofs.«01_k».proof.Proof.Gen.Attention.Frame
public import proofs.«01_k».proof.Proof.Gen.AttentionIdeal
public import proofs.«01_k».proof.Proof.Gen.AttentionIdeal.Skeleton
public import proofs.«01_k».proof.Proof.Gen.AttentionIdeal.Launch
public import proofs.«01_k».proof.Proof.Gen.AttentionIdeal.Points
public import proofs.«01_k».proof.Proof.Gen.AttentionIdeal.Frame
public import proofs.«01_k».proof.Proof.Gen.AttentionIdeal.Value
public import proofs.«01_k».proof.Proof.Gen.AttentionReferenceIdeal
public import proofs.«01_k».proof.Proof.Gen.AttentionReferenceIdeal.Run
public import proofs.«01_k».proof.Proof.Gen.AttentionReferenceIdeal.Read
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormReferenceIdeal
public import proofs.«01_k».proof.Proof.Gen.NormReferenceIdeal.Run
public import proofs.«01_k».proof.Proof.Gen.NormReferenceIdeal.Read
public import proofs.«01_k».proof.Proof.Gen.MlFinal
public import proofs.«01_k».proof.Proof.Gen.MlFinal.Skeleton
public import proofs.«01_k».proof.Proof.Gen.MlFinal.Launch
public import proofs.«01_k».proof.Proof.Gen.MlFinal.Points
public import proofs.«01_k».proof.Proof.Gen.MlFinal.Frame
public import proofs.«01_k».proof.Proof.Gen.MlFinalIdeal
public import proofs.«01_k».proof.Proof.Gen.MlFinalIdeal.Skeleton
public import proofs.«01_k».proof.Proof.Gen.MlFinalIdeal.Launch
public import proofs.«01_k».proof.Proof.Gen.MlFinalIdeal.Points
public import proofs.«01_k».proof.Proof.Gen.MlFinalIdeal.Frame
public import proofs.«01_k».proof.Proof.Gen.MlFinalIdeal.Value
public import proofs.«01_k».proof.Proof.Gen.MlFinalReferenceIdeal
public import proofs.«01_k».proof.Proof.Gen.MlFinalReferenceIdeal.Run
public import proofs.«01_k».proof.Proof.Gen.MlFinalReferenceIdeal.Read
public import proofs.«01_k».proof.Proof.Gen.SsdFinal
public import proofs.«01_k».proof.Proof.Gen.SsdFinal.Skeleton
public import proofs.«01_k».proof.Proof.Gen.SsdFinal.Launch
public import proofs.«01_k».proof.Proof.Gen.SsdFinal.Points
public import proofs.«01_k».proof.Proof.Gen.SsdFinal.Frame
public import proofs.«01_k».proof.Proof.Gen.SsdFinalIdeal
public import proofs.«01_k».proof.Proof.Gen.SsdFinalIdeal.Skeleton
public import proofs.«01_k».proof.Proof.Gen.SsdFinalIdeal.Launch
public import proofs.«01_k».proof.Proof.Gen.SsdFinalIdeal.Points
public import proofs.«01_k».proof.Proof.Gen.SsdFinalIdeal.Frame
public import proofs.«01_k».proof.Proof.Gen.SsdFinalIdeal.Value
public import proofs.«01_k».proof.Proof.Gen.SsdFinalReferenceIdeal
public import proofs.«01_k».proof.Proof.Gen.SsdFinalReferenceIdeal.Run
public import proofs.«01_k».proof.Proof.Gen.SsdFinalReferenceIdeal.Read
public import proofs.«01_k».proof.Proof.Gen.DtProj
public import proofs.«01_k».proof.Proof.Gen.DtProj.Skeleton
public import proofs.«01_k».proof.Proof.Gen.DtProj.Launch
public import proofs.«01_k».proof.Proof.Gen.DtProj.Points
public import proofs.«01_k».proof.Proof.Gen.DtProj.Frame
public import proofs.«01_k».proof.Proof.Gen.DtProjIdeal
public import proofs.«01_k».proof.Proof.Gen.DtProjIdeal.Skeleton
public import proofs.«01_k».proof.Proof.Gen.DtProjIdeal.Launch
public import proofs.«01_k».proof.Proof.Gen.DtProjIdeal.Points
public import proofs.«01_k».proof.Proof.Gen.DtProjIdeal.Frame
public import proofs.«01_k».proof.Proof.Gen.DtProjIdeal.Value
public import proofs.«01_k».proof.Proof.Gen.DtReferenceIdeal
public import proofs.«01_k».proof.Proof.Gen.DtReferenceIdeal.Run
public import proofs.«01_k».proof.Proof.Gen.DtReferenceIdeal.Read
public import proofs.«01_k».proof.Proof.Gen.GatesProj
public import proofs.«01_k».proof.Proof.Gen.GatesProj.Skeleton
public import proofs.«01_k».proof.Proof.Gen.GatesProj.Launch
public import proofs.«01_k».proof.Proof.Gen.GatesProj.Points
public import proofs.«01_k».proof.Proof.Gen.GatesProj.Frame
public import proofs.«01_k».proof.Proof.Gen.GatesProjIdeal
public import proofs.«01_k».proof.Proof.Gen.GatesProjIdeal.Skeleton
public import proofs.«01_k».proof.Proof.Gen.GatesProjIdeal.Launch
public import proofs.«01_k».proof.Proof.Gen.GatesProjIdeal.Points
public import proofs.«01_k».proof.Proof.Gen.GatesProjIdeal.Frame
public import proofs.«01_k».proof.Proof.Gen.GatesProjIdeal.Value
public import proofs.«01_k».proof.Proof.Gen.GatesReferenceIdeal
public import proofs.«01_k».proof.Proof.Gen.GatesReferenceIdeal.Run
public import proofs.«01_k».proof.Proof.Gen.GatesReferenceIdeal.Read
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.ConvReferenceIdeal
public import proofs.«01_k».proof.Proof.Gen.ConvReferenceIdeal.Run
public import proofs.«01_k».proof.Proof.Gen.ConvReferenceIdeal.Read
public import proofs.«01_k».proof.Proof.Gen.Router
public import proofs.«01_k».proof.Proof.Gen.Router.Skeleton
public import proofs.«01_k».proof.Proof.Gen.Router.Launch
public import proofs.«01_k».proof.Proof.Gen.Router.Points
public import proofs.«01_k».proof.Proof.Gen.Router.Frame
public import proofs.«01_k».proof.Proof.Gen.RouterIdeal
public import proofs.«01_k».proof.Proof.Gen.RouterIdeal.Skeleton
public import proofs.«01_k».proof.Proof.Gen.RouterIdeal.Launch
public import proofs.«01_k».proof.Proof.Gen.RouterIdeal.Points
public import proofs.«01_k».proof.Proof.Gen.RouterIdeal.Frame
public import proofs.«01_k».proof.Proof.Gen.RouterIdeal.Value
public import proofs.«01_k».proof.Proof.Gen.RouterReferenceIdeal
public import proofs.«01_k».proof.Proof.Gen.RouterReferenceIdeal.Run
public import proofs.«01_k».proof.Proof.Gen.RouterReferenceIdeal.Read
public import proofs.«01_k».proof.Proof.AttentionValue
public import proofs.«01_k».proof.Proof.OutValue
public import proofs.«01_k».proof.Proof.OutTwoValue
public import proofs.«01_k».proof.Proof.ZValue
public import proofs.«01_k».proof.Proof.XbcValue
public import proofs.«01_k».proof.Proof.QkvValue
public import proofs.«01_k».proof.Proof.FnValue
public import proofs.«01_k».proof.Proof.QkvoValue
public import proofs.«01_k».proof.Proof.FfnBits
public import proofs.«01_k».proof.Proof.FfnValue
public import proofs.«01_k».proof.Proof.FfnTwoValue
public import proofs.«01_k».proof.Proof.NormValue
public import proofs.«01_k».proof.Proof.MlFinalValue
public import proofs.«01_k».proof.Proof.SsdFinalValue
public import proofs.«01_k».proof.Proof.DtValue
public import proofs.«01_k».proof.Proof.GatesValue
public import proofs.«01_k».proof.Proof.ConvValue
public import proofs.«01_k».proof.Proof.RouterValue
public import Idealize.ShloMosaic.Lib.Quiescent
public import Idealize.ShloMosaic.Adequacy
public import Idealize.ShloMosaic.Init

@[expose] public section

set_option maxRecDepth 65536

noncomputable section

namespace Cert.Proof

open Idealize.ShloMosaic Idealize.SL.Sem

/-- The output projection against its reference. -/
theorem out_algebraic : Cert.algebraic_OutProjIdeal_OutReferenceIdeal (hOutProjIdeal := Cert.OutProjIdeal.Gen.facts)
    (hOutReferenceIdeal := Cert.OutReferenceIdeal.Gen.facts) := by
  intro m g m' g' _ hag
  refine ⟨Cert.OutProjIdeal.Value.G4 m, Cert.OutProjIdeal.Value.run m g, ?_⟩
  refine (θ_run _ _ _).mono (fun r h c => ⟨(h c).1.trans ?_, (h c).2⟩) (Cert.OutReferenceIdeal.Value.run m' g')
  obtain ⟨e0, e1, e2, e3⟩ := hag c
  rw [Cert.OutReferenceIdeal.Read.val_main_v3_eq, Cert.OutReferenceIdeal.Read.result_eq,
    Cert.OutProjIdeal.Body.array_eq, e0, e1, e2, e3]

/-- The linear-attention input projection against its reference. -/
theorem qkvo_algebraic : Cert.algebraic_QkvoProjIdeal_QkvoReferenceIdeal (hQkvoProjIdeal := Cert.QkvoProjIdeal.Gen.facts)
    (hQkvoReferenceIdeal := Cert.QkvoReferenceIdeal.Gen.facts) := by
  intro m g m' g' _ hag
  refine ⟨Cert.QkvoProjIdeal.Value.G2 m, Cert.QkvoProjIdeal.Value.run m g, ?_⟩
  refine (θ_run _ _ _).mono (fun r h c => ⟨(h c).1.trans ?_, (h c).2⟩) (Cert.QkvoReferenceIdeal.Value.run m' g')
  obtain ⟨e0, e1⟩ := hag c
  rw [Cert.QkvoReferenceIdeal.Read.val_main_v2_eq, Cert.QkvoReferenceIdeal.Read.result_eq,
    Cert.QkvoProjIdeal.Body.array_eq, e0, e1]

/-- The experts' feed-forward against its reference. -/
theorem ffn_algebraic : Cert.algebraic_FfnIdeal_FfnReferenceIdeal (hFfnIdeal := Cert.FfnIdeal.Gen.facts)
    (hFfnReferenceIdeal := Cert.FfnReferenceIdeal.Gen.facts) := by
  intro m g m' g' _ hag
  refine ⟨fun c => (Cert.FfnIdeal.Body.dats m 0 c).arrAt 4 Cert.FfnIdeal.cfg0.N, Cert.FfnIdeal.Body.run m g, ?_⟩
  refine (θ_run _ _ _).mono (fun r h c => ⟨(h c).1.trans ?_, (h c).2⟩) (Cert.FfnReferenceIdeal.Value.run m' g')
  obtain ⟨e0, e1, e2, e3⟩ := hag c
  rw [Cert.FfnReferenceIdeal.Read.val_main_v11_eq, Cert.FfnReferenceIdeal.Read.result_eq, e0, e1, e2, e3]
  exact (Cert.FfnIdeal.Body.array_eq m c).symm

/-- The feed-forward's frame on the chip's numbers: the ideal reading's, its text being the same. -/
theorem ffn_frame : Cert.quiescent_Ffn (hFfn := Cert.Ffn.Gen.facts) := fun m g _ => by
  rw [Cert.Ffn.Body.table_same]
  exact Cert.FfnIdeal.Body.frame (F := Bits) m g

/-- The second layer's experts' feed-forward against its reference. -/
theorem ffn_two_algebraic : Cert.algebraic_FfnTwoIdeal_FfnTwoReferenceIdeal (hFfnTwoIdeal := Cert.FfnTwoIdeal.Gen.facts)
    (hFfnTwoReferenceIdeal := Cert.FfnTwoReferenceIdeal.Gen.facts) := by
  intro m g m' g' _ hag
  refine ⟨fun c => (Cert.FfnTwoIdeal.Body.dats m 0 c).arrAt 4 Cert.FfnTwoIdeal.cfg0.N, Cert.FfnTwoIdeal.Body.run m g, ?_⟩
  refine (θ_run _ _ _).mono (fun r h c => ⟨(h c).1.trans ?_, (h c).2⟩) (Cert.FfnTwoReferenceIdeal.Value.run m' g')
  obtain ⟨e0, e1, e2, e3⟩ := hag c
  rw [Cert.FfnTwoReferenceIdeal.Read.val_main_v11_eq, Cert.FfnTwoReferenceIdeal.Read.result_eq, e0, e1, e2, e3]
  exact (Cert.FfnTwoIdeal.Body.array_eq m c).symm

/-- The second layer's frame on the chip's numbers: the ideal reading's, its text being the same. -/
theorem ffn_two_frame : Cert.quiescent_FfnTwo (hFfnTwo := Cert.FfnTwo.Gen.facts) := fun m g _ => by
  rw [Cert.FfnTwo.Body.table_same]
  exact Cert.FfnTwoIdeal.Body.frame (F := Bits) m g

/-- The gate input projection against its reference. -/
theorem z_algebraic : Cert.algebraic_ZProjIdeal_ZReferenceIdeal (hZProjIdeal := Cert.ZProjIdeal.Gen.facts)
    (hZReferenceIdeal := Cert.ZReferenceIdeal.Gen.facts) := by
  intro m g m' g' _ hag
  refine ⟨Cert.ZProjIdeal.Value.G2 m, Cert.ZProjIdeal.Value.run m g, ?_⟩
  refine (θ_run _ _ _).mono (fun r h c => ⟨(h c).1.trans ?_, (h c).2⟩) (Cert.ZReferenceIdeal.Value.run m' g')
  obtain ⟨e0, e1⟩ := hag c
  rw [Cert.ZReferenceIdeal.Read.val_main_v2_eq, Cert.ZReferenceIdeal.Read.result_eq,
    Cert.ZProjIdeal.Body.array_eq, e0, e1]

/-- The state-space input projection against its reference. -/
theorem xbc_algebraic : Cert.algebraic_XbcProjIdeal_XbcReferenceIdeal (hXbcProjIdeal := Cert.XbcProjIdeal.Gen.facts)
    (hXbcReferenceIdeal := Cert.XbcReferenceIdeal.Gen.facts) := by
  intro m g m' g' _ hag
  refine ⟨Cert.XbcProjIdeal.Value.G2 m, Cert.XbcProjIdeal.Value.run m g, ?_⟩
  refine (θ_run _ _ _).mono (fun r h c => ⟨(h c).1.trans ?_, (h c).2⟩) (Cert.XbcReferenceIdeal.Value.run m' g')
  obtain ⟨e0, e1⟩ := hag c
  rw [Cert.XbcReferenceIdeal.Read.val_main_v2_eq, Cert.XbcReferenceIdeal.Read.result_eq,
    Cert.XbcProjIdeal.Body.array_eq, e0, e1]

/-- The attention input projection against its reference. -/
theorem qkv_algebraic : Cert.algebraic_QkvProjIdeal_QkvReferenceIdeal (hQkvProjIdeal := Cert.QkvProjIdeal.Gen.facts)
    (hQkvReferenceIdeal := Cert.QkvReferenceIdeal.Gen.facts) := by
  intro m g m' g' _ hag
  refine ⟨Cert.QkvProjIdeal.Value.G2 m, Cert.QkvProjIdeal.Value.run m g, ?_⟩
  refine (θ_run _ _ _).mono (fun r h c => ⟨(h c).1.trans ?_, (h c).2⟩) (Cert.QkvReferenceIdeal.Value.run m' g')
  obtain ⟨e0, e1⟩ := hag c
  rw [Cert.QkvReferenceIdeal.Read.val_main_v2_eq, Cert.QkvReferenceIdeal.Read.result_eq,
    Cert.QkvProjIdeal.Body.array_eq, e0, e1]

/-- The Fourier-mixer input projection against its reference. -/
theorem fn_algebraic : Cert.algebraic_FnProjIdeal_FnReferenceIdeal (hFnProjIdeal := Cert.FnProjIdeal.Gen.facts)
    (hFnReferenceIdeal := Cert.FnReferenceIdeal.Gen.facts) := by
  intro m g m' g' _ hag
  refine ⟨Cert.FnProjIdeal.Value.G2 m, Cert.FnProjIdeal.Value.run m g, ?_⟩
  refine (θ_run _ _ _).mono (fun r h c => ⟨(h c).1.trans ?_, (h c).2⟩) (Cert.FnReferenceIdeal.Value.run m' g')
  obtain ⟨e0, e1⟩ := hag c
  rw [Cert.FnReferenceIdeal.Read.val_main_v2_eq, Cert.FnReferenceIdeal.Read.result_eq,
    Cert.FnProjIdeal.Body.array_eq, e0, e1]

/-- The second mixer's output projection against its reference. -/
theorem out_two_algebraic : Cert.algebraic_OutTwoIdeal_OutTwoReferenceIdeal (hOutTwoIdeal := Cert.OutTwoIdeal.Gen.facts)
    (hOutTwoReferenceIdeal := Cert.OutTwoReferenceIdeal.Gen.facts) := by
  intro m g m' g' _ hag
  refine ⟨Cert.OutTwoIdeal.Value.G4 m, Cert.OutTwoIdeal.Value.run m g, ?_⟩
  refine (θ_run _ _ _).mono (fun r h c => ⟨(h c).1.trans ?_, (h c).2⟩) (Cert.OutTwoReferenceIdeal.Value.run m' g')
  obtain ⟨e0, e1, e2, e3⟩ := hag c
  rw [Cert.OutTwoReferenceIdeal.Read.val_main_v3_eq, Cert.OutTwoReferenceIdeal.Read.result_eq,
    Cert.OutTwoIdeal.Body.array_eq, e0, e1, e2, e3]

/-- The window attention against the attention over every token, for finite queries, keys, slopes and sinks. -/
theorem attention_algebraic : Cert.algebraic_AttentionIdeal_AttentionReferenceIdeal_pre_finite (hAttentionIdeal := Cert.AttentionIdeal.Gen.facts)
    (hAttentionReferenceIdeal := Cert.AttentionReferenceIdeal.Gen.facts) (hPre_finite := Cert.AttentionIdeal.Body.finite_facts) := by
  intro m g m' g' hpre hag
  refine ⟨fun c => (Cert.AttentionIdeal.Gen.dats m 0 c).arrAt 11 Cert.AttentionIdeal.cfg0.N, Cert.AttentionIdeal.Value.run_blocks m g, ?_⟩
  refine (θ_run _ _ _).mono (fun r h c => ⟨(h c).1.trans ?_, (h c).2⟩) (Cert.AttentionReferenceIdeal.Value.run m' g')
  obtain ⟨e0, e1, e2⟩ := hag c
  rw [Cert.AttentionReferenceIdeal.Read.val_main_v53_eq, Cert.AttentionReferenceIdeal.Read.result_eq, e0, e1, e2]
  exact (Cert.AttentionIdeal.Body.array_eq m c (@Cert.AttentionIdeal.Body.reals Cert.AttentionIdeal.Body.finite_facts _ _ _ (hpre c))).symm

/-- The root-mean-square norm against its reference. -/
theorem norm_algebraic : Cert.algebraic_NormIdeal_NormReferenceIdeal (hNormIdeal := Cert.NormIdeal.Gen.facts)
    (hNormReferenceIdeal := Cert.NormReferenceIdeal.Gen.facts) := by
  intro m g m' g' _ hag
  refine ⟨fun c => (Cert.NormIdeal.Gen.dats m 0 c).arrAt 2 Cert.NormIdeal.cfg0.N, Cert.NormIdeal.Value.run_blocks m g, ?_⟩
  refine (θ_run _ _ _).mono (fun r h c => ⟨(h c).1.trans ?_, (h c).2⟩) (Cert.NormReferenceIdeal.Value.run m' g')
  obtain ⟨e0, e1⟩ := hag c
  rw [Cert.NormReferenceIdeal.Read.val_main_v13_eq, Cert.NormReferenceIdeal.Read.result_eq, e0, e1]
  exact (Cert.NormIdeal.Body.array_eq m c).symm

/-- The second mixer's head norm and output gate against their reference. -/
theorem ml_final_algebraic : Cert.algebraic_MlFinalIdeal_MlFinalReferenceIdeal (hMlFinalIdeal := Cert.MlFinalIdeal.Gen.facts)
    (hMlFinalReferenceIdeal := Cert.MlFinalReferenceIdeal.Gen.facts) := by
  intro m g m' g' _ hag
  refine ⟨fun c => (Cert.MlFinalIdeal.Gen.dats m 0 c).arrAt 4 Cert.MlFinalIdeal.cfg0.N, Cert.MlFinalIdeal.Value.run_blocks m g, ?_⟩
  refine (θ_run _ _ _).mono (fun r h c => ⟨(h c).1.trans ?_, (h c).2⟩) (Cert.MlFinalReferenceIdeal.Value.run m' g')
  obtain ⟨e0, e1, e2, e3⟩ := hag c
  rw [Cert.MlFinalReferenceIdeal.Read.val_main_v24_eq, Cert.MlFinalReferenceIdeal.Read.result_eq, e0, e1, e2, e3]
  exact (Cert.MlFinalIdeal.Body.array_eq m c).symm

/-- The scan's skip, gate and group norm against their reference. -/
theorem ssd_final_algebraic : Cert.algebraic_SsdFinalIdeal_SsdFinalReferenceIdeal (hSsdFinalIdeal := Cert.SsdFinalIdeal.Gen.facts)
    (hSsdFinalReferenceIdeal := Cert.SsdFinalReferenceIdeal.Gen.facts) := by
  intro m g m' g' _ hag
  refine ⟨fun c => (Cert.SsdFinalIdeal.Gen.dats m 0 c).arrAt 6 Cert.SsdFinalIdeal.cfg0.N, Cert.SsdFinalIdeal.Value.run_blocks m g, ?_⟩
  refine (θ_run _ _ _).mono (fun r h c => ⟨(h c).1.trans ?_, (h c).2⟩) (Cert.SsdFinalReferenceIdeal.Value.run m' g')
  obtain ⟨e0, e1, e2, e3, e4, e5⟩ := hag c
  rw [Cert.SsdFinalReferenceIdeal.Read.val_main_v22_eq, Cert.SsdFinalReferenceIdeal.Read.result_eq, e0, e1, e2, e3, e4, e5]
  exact (Cert.SsdFinalIdeal.Body.array_eq m c).symm

/-- The step columns of the first mixer's input projection against their reference. -/
theorem dt_algebraic : Cert.algebraic_DtProjIdeal_DtReferenceIdeal (hDtProjIdeal := Cert.DtProjIdeal.Gen.facts)
    (hDtReferenceIdeal := Cert.DtReferenceIdeal.Gen.facts) := by
  intro m g m' g' _ hag
  refine ⟨Cert.DtProjIdeal.Value.G2 m, Cert.DtProjIdeal.Value.run m g, ?_⟩
  refine (θ_run _ _ _).mono (fun r h c => ⟨(h c).1.trans ?_, (h c).2⟩) (Cert.DtReferenceIdeal.Value.run m' g')
  obtain ⟨e0, e1⟩ := hag c
  rw [Cert.DtReferenceIdeal.Read.val_main_v7_eq, Cert.DtReferenceIdeal.Read.result_eq,
    Cert.DtProjIdeal.Body.array_eq, e0, e1]

/-- The gates' columns of the second mixer's input projection against their reference. -/
theorem gates_algebraic : Cert.algebraic_GatesProjIdeal_GatesReferenceIdeal
    (hGatesProjIdeal := Cert.GatesProjIdeal.Gen.facts)
    (hGatesReferenceIdeal := Cert.GatesReferenceIdeal.Gen.facts) := by
  intro m g m' g' _ hag
  refine ⟨Cert.GatesProjIdeal.Value.G2 m, Cert.GatesProjIdeal.Value.run m g, ?_⟩
  refine (θ_run _ _ _).mono (fun r h c => ⟨(h c).1.trans ?_, (h c).2⟩) (Cert.GatesReferenceIdeal.Value.run m' g')
  obtain ⟨e0, e1⟩ := hag c
  rw [Cert.GatesReferenceIdeal.Read.val_main_v15_eq, Cert.GatesReferenceIdeal.Read.result_eq,
    Cert.GatesProjIdeal.Body.array_eq, e0, e1]

/-- The first mixer's convolution against its reference. -/
theorem conv_algebraic : Cert.algebraic_ConvIdeal_ConvReferenceIdeal (hConvIdeal := Cert.ConvIdeal.Gen.facts)
    (hConvReferenceIdeal := Cert.ConvReferenceIdeal.Gen.facts) := by
  intro m g m' g' _ hag
  refine ⟨fun c => (Cert.ConvIdeal.Gen.dats m 0 c).arrAt 5 Cert.ConvIdeal.cfg0.N, Cert.ConvIdeal.Value.run_blocks m g, ?_⟩
  refine (θ_run _ _ _).mono (fun r h c => ⟨(h c).1.trans ?_, (h c).2⟩) (Cert.ConvReferenceIdeal.Value.run m' g')
  obtain ⟨e0, e1, e2⟩ := hag c
  rw [Cert.ConvReferenceIdeal.Read.val_main_v44_eq, Cert.ConvReferenceIdeal.Read.result_eq, e0, e1, e2]
  exact (Cert.ConvIdeal.Body.array_eq m c).symm

/-- The norm joined with the router against its reference, for real weights. -/
theorem router_algebraic : Cert.algebraic_RouterIdeal_RouterReferenceIdeal_pre_finite_weights (hRouterIdeal := Cert.RouterIdeal.Gen.facts)
    (hRouterReferenceIdeal := Cert.RouterReferenceIdeal.Gen.facts) (hPre_finite_weights := Cert.RouterIdeal.Body.weights_facts) := by
  intro m g m' g' hpre hag
  refine ⟨fun c => (Cert.RouterIdeal.Gen.dats m 0 c).arrAt 3 Cert.RouterIdeal.cfg0.N,
    fun c => (Cert.RouterIdeal.Gen.dats m 0 c).arrAt 4 Cert.RouterIdeal.cfg0.N, Cert.RouterIdeal.Value.run_blocks m g, ?_⟩
  refine (θ_run _ _ _).mono (fun r h c => ⟨(h c).1.trans ?_, (h c).2.1.trans ?_, (h c).2.2⟩) (Cert.RouterReferenceIdeal.Value.run m' g')
  · obtain ⟨e0, e1, -⟩ := hag c
    rw [Cert.RouterReferenceIdeal.Read.val_main_v12_eq, Cert.RouterReferenceIdeal.Read.rows_eq, e0, e1]
    exact (Cert.RouterIdeal.Body.rows_eq m c).symm
  · obtain ⟨e0, e1, e2⟩ := hag c
    rw [Cert.RouterReferenceIdeal.Read.val_main_v14_eq, Cert.RouterReferenceIdeal.Read.logits_eq, e0, e1, e2]
    exact (Cert.RouterIdeal.Body.logits_eq m c (@Cert.RouterIdeal.Body.reals Cert.RouterIdeal.Body.weights_facts _ _ _ (hpre c))).symm

theorem claim : Cert.Claim := ⟨Cert.OutProj.Gen.facts, Cert.OutProjIdeal.Gen.facts, Cert.OutReferenceIdeal.Gen.facts,
  Cert.QkvoProj.Gen.facts, Cert.QkvoProjIdeal.Gen.facts, Cert.QkvoReferenceIdeal.Gen.facts,
  Cert.Ffn.Gen.facts, Cert.FfnIdeal.Gen.facts, Cert.FfnReferenceIdeal.Gen.facts,
  Cert.FfnTwo.Gen.facts, Cert.FfnTwoIdeal.Gen.facts, Cert.FfnTwoReferenceIdeal.Gen.facts,
  Cert.ZProj.Gen.facts, Cert.ZProjIdeal.Gen.facts, Cert.ZReferenceIdeal.Gen.facts,
  Cert.XbcProj.Gen.facts, Cert.XbcProjIdeal.Gen.facts, Cert.XbcReferenceIdeal.Gen.facts,
  Cert.QkvProj.Gen.facts, Cert.QkvProjIdeal.Gen.facts, Cert.QkvReferenceIdeal.Gen.facts,
  Cert.FnProj.Gen.facts, Cert.FnProjIdeal.Gen.facts, Cert.FnReferenceIdeal.Gen.facts,
  Cert.OutTwo.Gen.facts, Cert.OutTwoIdeal.Gen.facts, Cert.OutTwoReferenceIdeal.Gen.facts,
  Cert.Attention.Gen.facts, Cert.AttentionIdeal.Gen.facts, Cert.AttentionReferenceIdeal.Gen.facts,
  Cert.Norm.Gen.facts, Cert.NormIdeal.Gen.facts, Cert.NormReferenceIdeal.Gen.facts,
  Cert.MlFinal.Gen.facts, Cert.MlFinalIdeal.Gen.facts, Cert.MlFinalReferenceIdeal.Gen.facts,
  Cert.SsdFinal.Gen.facts, Cert.SsdFinalIdeal.Gen.facts, Cert.SsdFinalReferenceIdeal.Gen.facts,
  Cert.DtProj.Gen.facts, Cert.DtProjIdeal.Gen.facts, Cert.DtReferenceIdeal.Gen.facts,
  Cert.GatesProj.Gen.facts, Cert.GatesProjIdeal.Gen.facts, Cert.GatesReferenceIdeal.Gen.facts,
  Cert.Conv.Gen.facts, Cert.ConvIdeal.Gen.facts, Cert.ConvReferenceIdeal.Gen.facts,
  Cert.Router.Gen.facts, Cert.RouterIdeal.Gen.facts, Cert.RouterReferenceIdeal.Gen.facts,
  Cert.AttentionIdeal.Body.finite_facts, Cert.RouterIdeal.Body.weights_facts,
  fun m g _ => Cert.OutProj.Gen.frame m g,
  fun m g _ => Cert.OutProjIdeal.Gen.frame m g,
  fun m g _ => (θ_run _ _ _).mono (fun r h => ⟨fun c => (h c).2, sem_eq_zero_of_no_sems (by decide) _⟩) (Cert.OutReferenceIdeal.Value.run m g),
  fun m g _ => Cert.QkvoProj.Gen.frame m g,
  fun m g _ => Cert.QkvoProjIdeal.Gen.frame m g,
  fun m g _ => (θ_run _ _ _).mono (fun r h => ⟨fun c => (h c).2, sem_eq_zero_of_no_sems (by decide) _⟩) (Cert.QkvoReferenceIdeal.Value.run m g),
  ffn_frame,
  fun m g _ => Cert.FfnIdeal.Body.frame m g,
  fun m g _ => (θ_run _ _ _).mono (fun r h => ⟨fun c => (h c).2, sem_eq_zero_of_no_sems (by decide) _⟩) (Cert.FfnReferenceIdeal.Value.run m g),
  ffn_two_frame,
  fun m g _ => Cert.FfnTwoIdeal.Body.frame m g,
  fun m g _ => (θ_run _ _ _).mono (fun r h => ⟨fun c => (h c).2, sem_eq_zero_of_no_sems (by decide) _⟩) (Cert.FfnTwoReferenceIdeal.Value.run m g),
  fun m g _ => Cert.ZProj.Gen.frame m g,
  fun m g _ => Cert.ZProjIdeal.Gen.frame m g,
  fun m g _ => (θ_run _ _ _).mono (fun r h => ⟨fun c => (h c).2, sem_eq_zero_of_no_sems (by decide) _⟩) (Cert.ZReferenceIdeal.Value.run m g),
  fun m g _ => Cert.XbcProj.Gen.frame m g,
  fun m g _ => Cert.XbcProjIdeal.Gen.frame m g,
  fun m g _ => (θ_run _ _ _).mono (fun r h => ⟨fun c => (h c).2, sem_eq_zero_of_no_sems (by decide) _⟩) (Cert.XbcReferenceIdeal.Value.run m g),
  fun m g _ => Cert.QkvProj.Gen.frame m g,
  fun m g _ => Cert.QkvProjIdeal.Gen.frame m g,
  fun m g _ => (θ_run _ _ _).mono (fun r h => ⟨fun c => (h c).2, sem_eq_zero_of_no_sems (by decide) _⟩) (Cert.QkvReferenceIdeal.Value.run m g),
  fun m g _ => Cert.FnProj.Gen.frame m g,
  fun m g _ => Cert.FnProjIdeal.Gen.frame m g,
  fun m g _ => (θ_run _ _ _).mono (fun r h => ⟨fun c => (h c).2, sem_eq_zero_of_no_sems (by decide) _⟩) (Cert.FnReferenceIdeal.Value.run m g),
  fun m g _ => Cert.OutTwo.Gen.frame m g,
  fun m g _ => Cert.OutTwoIdeal.Gen.frame m g,
  fun m g _ => (θ_run _ _ _).mono (fun r h => ⟨fun c => (h c).2, sem_eq_zero_of_no_sems (by decide) _⟩) (Cert.OutTwoReferenceIdeal.Value.run m g),
  fun m g _ => Cert.Attention.Gen.frame m g,
  fun m g _ => Cert.AttentionIdeal.Gen.frame m g,
  fun m g _ => Cert.AttentionIdeal.Gen.frame m g,
  fun m g _ => (θ_run _ _ _).mono (fun r h => ⟨fun c => (h c).2, sem_eq_zero_of_no_sems (by decide) _⟩) (Cert.AttentionReferenceIdeal.Value.run m g),
  fun m g _ => (θ_run _ _ _).mono (fun r h => ⟨fun c => (h c).2, sem_eq_zero_of_no_sems (by decide) _⟩) (Cert.AttentionReferenceIdeal.Value.run m g),
  fun m g _ => Cert.Norm.Gen.frame m g,
  fun m g _ => Cert.NormIdeal.Gen.frame m g,
  fun m g _ => (θ_run _ _ _).mono (fun r h => ⟨fun c => (h c).2, sem_eq_zero_of_no_sems (by decide) _⟩) (Cert.NormReferenceIdeal.Value.run m g),
  fun m g _ => Cert.MlFinal.Gen.frame m g,
  fun m g _ => Cert.MlFinalIdeal.Gen.frame m g,
  fun m g _ => (θ_run _ _ _).mono (fun r h => ⟨fun c => (h c).2, sem_eq_zero_of_no_sems (by decide) _⟩) (Cert.MlFinalReferenceIdeal.Value.run m g),
  fun m g _ => Cert.SsdFinal.Gen.frame m g,
  fun m g _ => Cert.SsdFinalIdeal.Gen.frame m g,
  fun m g _ => (θ_run _ _ _).mono (fun r h => ⟨fun c => (h c).2, sem_eq_zero_of_no_sems (by decide) _⟩) (Cert.SsdFinalReferenceIdeal.Value.run m g),
  fun m g _ => Cert.DtProj.Gen.frame m g,
  fun m g _ => Cert.DtProjIdeal.Gen.frame m g,
  fun m g _ => (θ_run _ _ _).mono (fun r h => ⟨fun c => (h c).2, sem_eq_zero_of_no_sems (by decide) _⟩) (Cert.DtReferenceIdeal.Value.run m g),
  fun m g _ => Cert.GatesProj.Gen.frame m g,
  fun m g _ => Cert.GatesProjIdeal.Gen.frame m g,
  fun m g _ => (θ_run _ _ _).mono (fun r h => ⟨fun c => (h c).2, sem_eq_zero_of_no_sems (by decide) _⟩) (Cert.GatesReferenceIdeal.Value.run m g),
  fun m g _ => Cert.Conv.Gen.frame m g,
  fun m g _ => Cert.ConvIdeal.Gen.frame m g,
  fun m g _ => (θ_run _ _ _).mono (fun r h => ⟨fun c => (h c).2, sem_eq_zero_of_no_sems (by decide) _⟩) (Cert.ConvReferenceIdeal.Value.run m g),
  fun m g _ => Cert.Router.Gen.frame m g,
  fun m g _ => Cert.RouterIdeal.Gen.frame m g,
  fun m g _ => Cert.RouterIdeal.Gen.frame m g,
  fun m g _ => (θ_run _ _ _).mono (fun r h => ⟨fun c => (h c).2.2, sem_eq_zero_of_no_sems (by decide) _⟩) (Cert.RouterReferenceIdeal.Value.run m g),
  fun m g _ => (θ_run _ _ _).mono (fun r h => ⟨fun c => (h c).2.2, sem_eq_zero_of_no_sems (by decide) _⟩) (Cert.RouterReferenceIdeal.Value.run m g),
  trivial, out_algebraic, trivial, qkvo_algebraic, trivial, ffn_algebraic, trivial, ffn_two_algebraic, trivial, z_algebraic, trivial, xbc_algebraic, trivial, qkv_algebraic, trivial, fn_algebraic,
  trivial, out_two_algebraic,
  IdealRules.named_const.statement Cert.AttentionIdeal.κ "mask" .f32 0xF149F2CA#32 ⊥ rfl, attention_algebraic,
  trivial, norm_algebraic, trivial, ml_final_algebraic, trivial, ssd_final_algebraic, trivial, dt_algebraic,
  trivial, gates_algebraic, trivial, conv_algebraic, trivial, router_algebraic⟩

end Cert.Proof

end
